-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "clamp" .f32 0x42A00000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_v28) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v49) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S32x2048x1024 : Shape := ⟨3, ![32, 2048, 1024]⟩
abbrev S_ : Shape := ⟨0, ![]⟩
abbrev S32x1024x2048 : Shape := ⟨3, ![32, 1024, 2048]⟩
abbrev S65536x1024 : Shape := ⟨2, ![65536, 1024]⟩
abbrev S1x256x2048 : Shape := ⟨3, ![1, 256, 2048]⟩
abbrev S2048x256 : Shape := ⟨2, ![2048, 256]⟩
abbrev S256x256 : Shape := ⟨2, ![256, 256]⟩
abbrev S2x8x128x256 : Shape := ⟨4, ![2, 8, 128, 256]⟩
abbrev S128x256 : Shape := ⟨2, ![128, 256]⟩
abbrev S128x128 : Shape := ⟨2, ![128, 128]⟩
abbrev S256x128 : Shape := ⟨2, ![256, 128]⟩
abbrev S1x128x256 : Shape := ⟨3, ![1, 128, 256]⟩
abbrev S1x1x128x256 : Shape := ⟨4, ![1, 1, 128, 256]⟩
abbrev S1x256 : Shape := ⟨2, ![1, 256]⟩
abbrev S1x1x128x128 : Shape := ⟨4, ![1, 1, 128, 128]⟩
abbrev S1x128 : Shape := ⟨2, ![1, 128]⟩
abbrev S64x256 : Shape := ⟨2, ![64, 256]⟩
abbrev S1x64x128 : Shape := ⟨3, ![1, 64, 128]⟩
abbrev S64x128 : Shape := ⟨2, ![64, 128]⟩

abbrev nBuf : Space → Nat
  | .hbm => 13
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S_, .f32⟩
  | .hbm, ⟨4, _⟩ => ⟨S32x2048x1024, .f32⟩
  | .hbm, ⟨5, _⟩ => ⟨S32x2048x1024, .f32⟩
  | .hbm, ⟨6, _⟩ => ⟨S32x2048x1024, .bf16⟩
  | .hbm, ⟨7, _⟩ => ⟨S32x1024x2048, .bf16⟩
  | .hbm, ⟨8, _⟩ => ⟨S32x2048x1024, .bf16⟩
  | .hbm, ⟨9, _⟩ => ⟨S65536x1024, .bf16⟩
  | .hbm, ⟨10, _⟩ => ⟨S32x2048x1024, .bf16⟩
  | .hbm, ⟨11, _⟩ => ⟨S32x1024x2048, .bf16⟩
  | .hbm, ⟨12, _⟩ => ⟨S65536x1024, .bf16⟩
  | .local _ .vmem, ⟨0, _⟩ => ⟨S1x256x2048, .bf16⟩
  | .local _ .vmem, ⟨1, _⟩ => ⟨S1x256x2048, .bf16⟩
  | .local _ .vmem, ⟨2, _⟩ => ⟨S2048x256, .bf16⟩
  | .local _ .vmem, ⟨3, _⟩ => ⟨S2048x256, .bf16⟩
  | .local _ .vmem, ⟨4, _⟩ => ⟨S1x256x2048, .bf16⟩
  | .local _ .vmem, ⟨5, _⟩ => ⟨S1x256x2048, .bf16⟩
  | .local _ .vmem, ⟨6, _⟩ => ⟨S2048x256, .bf16⟩
  | .local _ .vmem, ⟨7, _⟩ => ⟨S2048x256, .bf16⟩
  | .local _ .vmem, ⟨8, _⟩ => ⟨S256x256, .f32⟩
  | .local _ .vmem, ⟨9, _⟩ => ⟨S2x8x128x256, .f32⟩
  | .local _ .vmem, ⟨10, _⟩ => ⟨S2x8x128x256, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_mult1 : BitVec 32 :=
  let c128_i32 : BitVec 32 := 128#32
  c128_i32
def k0_mult2 : BitVec 32 :=
  let c0_i32 : BitVec 32 := 0#32
  c0_i32
def k0_mult3 : BitVec 32 :=
  let c128_i32_12 : BitVec 32 := 128#32
  c128_i32_12
def k0_mult4 : BitVec 32 :=
  let c0_i32_14 : BitVec 32 := 0#32
  c0_i32_14
def k0_mult5 : BitVec 32 :=
  let c0_i32_24 : BitVec 32 := 0#32
  c0_i32_24
def k0_mult6 : BitVec 32 :=
  let c0_i32_27 : BitVec 32 := 0#32
  c0_i32_27
def k0_mult7 : BitVec 32 :=
  let c0_i32_37 : BitVec 32 := 0#32
  c0_i32_37
def k0_mult8 : BitVec 32 :=
  let c0_i32_40 : BitVec 32 := 0#32
  c0_i32_40
@[reducible] def k0_t1_loop : Scf.Loop 32 :=
  let c0_i32_50 : BitVec 32 := 0#32
  let c8_i32 : BitVec 32 := 8#32
  let v96 : BitVec 32 := Scalar.addi c0_i32_50 c8_i32
  let c1_i32 : BitVec 32 := 1#32
  ⟨c0_i32_50, v96, c1_i32⟩
def k0_mult9 (k0_t1 : Fin k0_t1_loop.trips) : BitVec 32 :=
  let c2_i32 : BitVec 32 := 2#32
  let c0_i32_50 : BitVec 32 := 0#32
  let c1_i32 : BitVec 32 := 1#32
  let arg9 : BitVec 32 := Scf.iv c0_i32_50 c1_i32 k0_t1
  let c1_i32_55 : BitVec 32 := 1#32
  let v101 : BitVec 32 := Scalar.minsi c1_i32_55 arg9
  let v102 : BitVec 32 := Scalar.subi arg9 v101
  let v103 : BitVec 32 := Scalar.muli c2_i32 v102
  let c1_i32_56 : BitVec 32 := 1#32
  let v104 : BitVec 32 := Scalar.addi v103 c1_i32_56
  let c0_i32_57 : BitVec 32 := 0#32
  let v105 : BitVec 32 := Scalar.subi v104 c0_i32_57
  let c128_i32_58 : BitVec 32 := 128#32
  let v106 : BitVec 32 := Scalar.muli v105 c128_i32_58
  v106
def k0_off1 (k0_t1 : Fin k0_t1_loop.trips) (c0_i32_57 : BitVec 32) : Fin 2 → Nat :=
  let c2_i32 : BitVec 32 := 2#32
  let c0_i32_50 : BitVec 32 := 0#32
  let c1_i32 : BitVec 32 := 1#32
  let arg9 : BitVec 32 := Scf.iv c0_i32_50 c1_i32 k0_t1
  let c1_i32_55 : BitVec 32 := 1#32
  let v101 : BitVec 32 := Scalar.minsi c1_i32_55 arg9
  let v102 : BitVec 32 := Scalar.subi arg9 v101
  let v103 : BitVec 32 := Scalar.muli c2_i32 v102
  let c1_i32_56 : BitVec 32 := 1#32
  let v104 : BitVec 32 := Scalar.addi v103 c1_i32_56
  let v105 : BitVec 32 := Scalar.subi v104 c0_i32_57
  let c128_i32_58 : BitVec 32 := 128#32
  let v106 : BitVec 32 := Scalar.muli v105 c128_i32_58
  let v107 : BitVec 32 := v106
  let v108 : Index := Scalar.indexCast v107
  let c0_59 : Index := 0#32
  ![v108.toNat, 0]
def k0_mult10 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32 : BitVec 32 := 256#32
  let v115 : BitVec 32 := Scalar.muli arg9 c256_i32
  v115
def k0_off2 (k0_t1 : Fin k0_t1_loop.trips) : Fin 3 → Nat :=
  let c0_61 : Index := 0#32
  let c0_62 : Index := 0#32
  let c0_i32_50 : BitVec 32 := 0#32
  let c1_i32 : BitVec 32 := 1#32
  let arg9 : BitVec 32 := Scf.iv c0_i32_50 c1_i32 k0_t1
  let c256_i32 : BitVec 32 := 256#32
  let v115 : BitVec 32 := Scalar.muli arg9 c256_i32
  let v116 : BitVec 32 := v115
  let v117 : Index := Scalar.indexCast v116
  ![0, 0, v117.toNat]
def k0_mult11 (k0_t1 : Fin k0_t1_loop.trips) : BitVec 32 :=
  let c2_i32_72 : BitVec 32 := 2#32
  let c0_i32_50 : BitVec 32 := 0#32
  let c1_i32 : BitVec 32 := 1#32
  let arg9 : BitVec 32 := Scf.iv c0_i32_50 c1_i32 k0_t1
  let c1_i32_55 : BitVec 32 := 1#32
  let v101 : BitVec 32 := Scalar.minsi c1_i32_55 arg9
  let v129 : BitVec 32 := Scalar.subi arg9 v101
  let v130 : BitVec 32 := Scalar.muli c2_i32_72 v129
  let c1_i32_73 : BitVec 32 := 1#32
  let v131 : BitVec 32 := Scalar.addi v130 c1_i32_73
  let c0_i32_74 : BitVec 32 := 0#32
  let v132 : BitVec 32 := Scalar.subi v131 c0_i32_74
  let c128_i32_75 : BitVec 32 := 128#32
  let v133 : BitVec 32 := Scalar.muli v132 c128_i32_75
  v133
def k0_off3 (k0_t1 : Fin k0_t1_loop.trips) (c0_i32_74 : BitVec 32) : Fin 2 → Nat :=
  let c2_i32_72 : BitVec 32 := 2#32
  let c0_i32_50 : BitVec 32 := 0#32
  let c1_i32 : BitVec 32 := 1#32
  let arg9 : BitVec 32 := Scf.iv c0_i32_50 c1_i32 k0_t1
  let c1_i32_55 : BitVec 32 := 1#32
  let v101 : BitVec 32 := Scalar.minsi c1_i32_55 arg9
  let v129 : BitVec 32 := Scalar.subi arg9 v101
  let v130 : BitVec 32 := Scalar.muli c2_i32_72 v129
  let c1_i32_73 : BitVec 32 := 1#32
  let v131 : BitVec 32 := Scalar.addi v130 c1_i32_73
  let v132 : BitVec 32 := Scalar.subi v131 c0_i32_74
  let c128_i32_75 : BitVec 32 := 128#32
  let v133 : BitVec 32 := Scalar.muli v132 c128_i32_75
  let v134 : BitVec 32 := v133
  let v135 : Index := Scalar.indexCast v134
  let c128_76 : Index := 128#32
  ![v135.toNat, 128]
def k0_mult12 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_78 : BitVec 32 := 256#32
  let v142 : BitVec 32 := Scalar.muli arg9 c256_i32_78
  v142
def k0_off4 (k0_t1 : Fin k0_t1_loop.trips) : Fin 3 → Nat :=
  let c0_79 : Index := 0#32
  let c128_80 : Index := 128#32
  let c0_i32_50 : BitVec 32 := 0#32
  let c1_i32 : BitVec 32 := 1#32
  let arg9 : BitVec 32 := Scf.iv c0_i32_50 c1_i32 k0_t1
  let c256_i32_78 : BitVec 32 := 256#32
  let v142 : BitVec 32 := Scalar.muli arg9 c256_i32_78
  let v143 : BitVec 32 := v142
  let v144 : Index := Scalar.indexCast v143
  ![0, 128, v144.toNat]
def k0_mult13 (k0_t1 : Fin k0_t1_loop.trips) : BitVec 32 :=
  let c2_i32_90 : BitVec 32 := 2#32
  let c0_i32_50 : BitVec 32 := 0#32
  let c1_i32 : BitVec 32 := 1#32
  let arg9 : BitVec 32 := Scf.iv c0_i32_50 c1_i32 k0_t1
  let c1_i32_55 : BitVec 32 := 1#32
  let v101 : BitVec 32 := Scalar.minsi c1_i32_55 arg9
  let v156 : BitVec 32 := Scalar.subi arg9 v101
  let v157 : BitVec 32 := Scalar.muli c2_i32_90 v156
  let c1_i32_91 : BitVec 32 := 1#32
  let v158 : BitVec 32 := Scalar.addi v157 c1_i32_91
  let c1_i32_92 : BitVec 32 := 1#32
  let v159 : BitVec 32 := Scalar.subi v158 c1_i32_92
  let c128_i32_93 : BitVec 32 := 128#32
  let v160 : BitVec 32 := Scalar.muli v159 c128_i32_93
  v160
def k0_mult14 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_96 : BitVec 32 := 256#32
  let v169 : BitVec 32 := Scalar.muli arg9 c256_i32_96
  v169
def k0_mult15 (k0_t1 : Fin k0_t1_loop.trips) : BitVec 32 :=
  let c2_i32_108 : BitVec 32 := 2#32
  let c0_i32_50 : BitVec 32 := 0#32
  let c1_i32 : BitVec 32 := 1#32
  let arg9 : BitVec 32 := Scf.iv c0_i32_50 c1_i32 k0_t1
  let c1_i32_55 : BitVec 32 := 1#32
  let v101 : BitVec 32 := Scalar.minsi c1_i32_55 arg9
  let v183 : BitVec 32 := Scalar.subi arg9 v101
  let v184 : BitVec 32 := Scalar.muli c2_i32_108 v183
  let c1_i32_109 : BitVec 32 := 1#32
  let v185 : BitVec 32 := Scalar.addi v184 c1_i32_109
  let c1_i32_110 : BitVec 32 := 1#32
  let v186 : BitVec 32 := Scalar.subi v185 c1_i32_110
  let c128_i32_111 : BitVec 32 := 128#32
  let v187 : BitVec 32 := Scalar.muli v186 c128_i32_111
  v187
def k0_mult16 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_114 : BitVec 32 := 256#32
  let v196 : BitVec 32 := Scalar.muli arg9 c256_i32_114
  v196
@[reducible] def k0_t2_loop (k0_t1 : Fin k0_t1_loop.trips) : Scf.Loop 32 :=
  let c0_i32_330 : BitVec 32 := 0#32
  let c0_i32_50 : BitVec 32 := 0#32
  let c1_i32 : BitVec 32 := 1#32
  let arg9 : BitVec 32 := Scf.iv c0_i32_50 c1_i32 k0_t1
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_332 : BitVec 32 := 1#32
  ⟨c0_i32_330, v544, c1_i32_332⟩
def k0_mult17 (k0_t1 : Fin k0_t1_loop.trips) (k0_t2 : Fin (k0_t2_loop k0_t1).trips) : BitVec 32 :=
  let c2_i32_520 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v806 : BitVec 32 := Scalar.subi arg9 v804
  let v807 : BitVec 32 := Scalar.muli c2_i32_520 v806
  let c1_i32_521 : BitVec 32 := 1#32
  let v808 : BitVec 32 := Scalar.addi v807 c1_i32_521
  let c0_i32_522 : BitVec 32 := 0#32
  let v809 : BitVec 32 := Scalar.subi v808 c0_i32_522
  let c128_i32_523 : BitVec 32 := 128#32
  let v810 : BitVec 32 := Scalar.muli v809 c128_i32_523
  v810
def k0_off5 (k0_t1 : Fin k0_t1_loop.trips) (k0_t2 : Fin (k0_t2_loop k0_t1).trips) (c0_i32_522 : BitVec 32) : Fin 3 → Nat :=
  let c0_524 : Index := 0#32
  let c0_525 : Index := 0#32
  let c2_i32_520 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v806 : BitVec 32 := Scalar.subi arg9 v804
  let v807 : BitVec 32 := Scalar.muli c2_i32_520 v806
  let c1_i32_521 : BitVec 32 := 1#32
  let v808 : BitVec 32 := Scalar.addi v807 c1_i32_521
  let v809 : BitVec 32 := Scalar.subi v808 c0_i32_522
  let c128_i32_523 : BitVec 32 := 128#32
  let v810 : BitVec 32 := Scalar.muli v809 c128_i32_523
  let v811 : BitVec 32 := v810
  let v812 : Index := Scalar.indexCast v811
  ![0, 0, v812.toNat]
def k0_mult18 (k0_t1 : Fin k0_t1_loop.trips) (k0_t2 : Fin (k0_t2_loop k0_t1).trips) : BitVec 32 :=
  let c2_i32_531 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v819 : BitVec 32 := Scalar.subi arg9 v804
  let v820 : BitVec 32 := Scalar.muli c2_i32_531 v819
  let c1_i32_532 : BitVec 32 := 1#32
  let v821 : BitVec 32 := Scalar.addi v820 c1_i32_532
  let c1_i32_533 : BitVec 32 := 1#32
  let v822 : BitVec 32 := Scalar.subi v821 c1_i32_533
  let c128_i32_534 : BitVec 32 := 128#32
  let v823 : BitVec 32 := Scalar.muli v822 c128_i32_534
  v823
def k0_mult19 (k0_t1 : Fin k0_t1_loop.trips) (k0_t2 : Fin (k0_t2_loop k0_t1).trips) : BitVec 32 :=
  let c2_i32_546 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v836 : BitVec 32 := Scalar.subi arg9 v804
  let v837 : BitVec 32 := Scalar.muli c2_i32_546 v836
  let c1_i32_547 : BitVec 32 := 1#32
  let v838 : BitVec 32 := Scalar.addi v837 c1_i32_547
  let c0_i32_548 : BitVec 32 := 0#32
  let v839 : BitVec 32 := Scalar.subi v838 c0_i32_548
  let c128_i32_549 : BitVec 32 := 128#32
  let v840 : BitVec 32 := Scalar.muli v839 c128_i32_549
  v840
def k0_off6 (k0_t1 : Fin k0_t1_loop.trips) (k0_t2 : Fin (k0_t2_loop k0_t1).trips) (c0_i32_548 : BitVec 32) : Fin 3 → Nat :=
  let c0_550 : Index := 0#32
  let c64_551 : Index := 64#32
  let c2_i32_546 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v836 : BitVec 32 := Scalar.subi arg9 v804
  let v837 : BitVec 32 := Scalar.muli c2_i32_546 v836
  let c1_i32_547 : BitVec 32 := 1#32
  let v838 : BitVec 32 := Scalar.addi v837 c1_i32_547
  let v839 : BitVec 32 := Scalar.subi v838 c0_i32_548
  let c128_i32_549 : BitVec 32 := 128#32
  let v840 : BitVec 32 := Scalar.muli v839 c128_i32_549
  let v841 : BitVec 32 := v840
  let v842 : Index := Scalar.indexCast v841
  ![0, 64, v842.toNat]
def k0_mult20 (k0_t1 : Fin k0_t1_loop.trips) (k0_t2 : Fin (k0_t2_loop k0_t1).trips) : BitVec 32 :=
  let c2_i32_557 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v849 : BitVec 32 := Scalar.subi arg9 v804
  let v850 : BitVec 32 := Scalar.muli c2_i32_557 v849
  let c1_i32_558 : BitVec 32 := 1#32
  let v851 : BitVec 32 := Scalar.addi v850 c1_i32_558
  let c1_i32_559 : BitVec 32 := 1#32
  let v852 : BitVec 32 := Scalar.subi v851 c1_i32_559
  let c128_i32_560 : BitVec 32 := 128#32
  let v853 : BitVec 32 := Scalar.muli v852 c128_i32_560
  v853
def k0_mult21 (k0_t1 : Fin k0_t1_loop.trips) (k0_t2 : Fin (k0_t2_loop k0_t1).trips) : BitVec 32 :=
  let c2_i32_572 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v866 : BitVec 32 := Scalar.subi arg9 v804
  let v867 : BitVec 32 := Scalar.muli c2_i32_572 v866
  let c1_i32_573 : BitVec 32 := 1#32
  let v868 : BitVec 32 := Scalar.addi v867 c1_i32_573
  let c0_i32_574 : BitVec 32 := 0#32
  let v869 : BitVec 32 := Scalar.subi v868 c0_i32_574
  let c128_i32_575 : BitVec 32 := 128#32
  let v870 : BitVec 32 := Scalar.muli v869 c128_i32_575
  v870
def k0_off7 (k0_t1 : Fin k0_t1_loop.trips) (k0_t2 : Fin (k0_t2_loop k0_t1).trips) (c0_i32_574 : BitVec 32) : Fin 3 → Nat :=
  let c0_576 : Index := 0#32
  let c128_577 : Index := 128#32
  let c2_i32_572 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v866 : BitVec 32 := Scalar.subi arg9 v804
  let v867 : BitVec 32 := Scalar.muli c2_i32_572 v866
  let c1_i32_573 : BitVec 32 := 1#32
  let v868 : BitVec 32 := Scalar.addi v867 c1_i32_573
  let v869 : BitVec 32 := Scalar.subi v868 c0_i32_574
  let c128_i32_575 : BitVec 32 := 128#32
  let v870 : BitVec 32 := Scalar.muli v869 c128_i32_575
  let v871 : BitVec 32 := v870
  let v872 : Index := Scalar.indexCast v871
  ![0, 128, v872.toNat]
def k0_mult22 (k0_t1 : Fin k0_t1_loop.trips) (k0_t2 : Fin (k0_t2_loop k0_t1).trips) : BitVec 32 :=
  let c2_i32_583 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v879 : BitVec 32 := Scalar.subi arg9 v804
  let v880 : BitVec 32 := Scalar.muli c2_i32_583 v879
  let c1_i32_584 : BitVec 32 := 1#32
  let v881 : BitVec 32 := Scalar.addi v880 c1_i32_584
  let c1_i32_585 : BitVec 32 := 1#32
  let v882 : BitVec 32 := Scalar.subi v881 c1_i32_585
  let c128_i32_586 : BitVec 32 := 128#32
  let v883 : BitVec 32 := Scalar.muli v882 c128_i32_586
  v883
def k0_mult23 (k0_t1 : Fin k0_t1_loop.trips) (k0_t2 : Fin (k0_t2_loop k0_t1).trips) : BitVec 32 :=
  let c2_i32_598 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v896 : BitVec 32 := Scalar.subi arg9 v804
  let v897 : BitVec 32 := Scalar.muli c2_i32_598 v896
  let c1_i32_599 : BitVec 32 := 1#32
  let v898 : BitVec 32 := Scalar.addi v897 c1_i32_599
  let c0_i32_600 : BitVec 32 := 0#32
  let v899 : BitVec 32 := Scalar.subi v898 c0_i32_600
  let c128_i32_601 : BitVec 32 := 128#32
  let v900 : BitVec 32 := Scalar.muli v899 c128_i32_601
  v900
def k0_off8 (k0_t1 : Fin k0_t1_loop.trips) (k0_t2 : Fin (k0_t2_loop k0_t1).trips) (c0_i32_600 : BitVec 32) : Fin 3 → Nat :=
  let c0_602 : Index := 0#32
  let c192_603 : Index := 192#32
  let c2_i32_598 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v896 : BitVec 32 := Scalar.subi arg9 v804
  let v897 : BitVec 32 := Scalar.muli c2_i32_598 v896
  let c1_i32_599 : BitVec 32 := 1#32
  let v898 : BitVec 32 := Scalar.addi v897 c1_i32_599
  let v899 : BitVec 32 := Scalar.subi v898 c0_i32_600
  let c128_i32_601 : BitVec 32 := 128#32
  let v900 : BitVec 32 := Scalar.muli v899 c128_i32_601
  let v901 : BitVec 32 := v900
  let v902 : Index := Scalar.indexCast v901
  ![0, 192, v902.toNat]
def k0_mult24 (k0_t1 : Fin k0_t1_loop.trips) (k0_t2 : Fin (k0_t2_loop k0_t1).trips) : BitVec 32 :=
  let c2_i32_609 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v909 : BitVec 32 := Scalar.subi arg9 v804
  let v910 : BitVec 32 := Scalar.muli c2_i32_609 v909
  let c1_i32_610 : BitVec 32 := 1#32
  let v911 : BitVec 32 := Scalar.addi v910 c1_i32_610
  let c1_i32_611 : BitVec 32 := 1#32
  let v912 : BitVec 32 := Scalar.subi v911 c1_i32_611
  let c128_i32_612 : BitVec 32 := 128#32
  let v913 : BitVec 32 := Scalar.muli v912 c128_i32_612
  v913
def k0_mult25 (k0_t1 : Fin k0_t1_loop.trips) (k0_t2 : Fin (k0_t2_loop k0_t1).trips) : BitVec 32 :=
  let c2_i32_623 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v927 : BitVec 32 := Scalar.subi arg9 v926
  let v928 : BitVec 32 := Scalar.muli c2_i32_623 v927
  let c1_i32_624 : BitVec 32 := 1#32
  let v929 : BitVec 32 := Scalar.addi v928 c1_i32_624
  let c0_i32_625 : BitVec 32 := 0#32
  let v930 : BitVec 32 := Scalar.subi v929 c0_i32_625
  let c128_i32_626 : BitVec 32 := 128#32
  let v931 : BitVec 32 := Scalar.muli v930 c128_i32_626
  v931
def k0_off9 (k0_t1 : Fin k0_t1_loop.trips) (k0_t2 : Fin (k0_t2_loop k0_t1).trips) (c0_i32_625 : BitVec 32) : Fin 2 → Nat :=
  let c2_i32_623 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v927 : BitVec 32 := Scalar.subi arg9 v926
  let v928 : BitVec 32 := Scalar.muli c2_i32_623 v927
  let c1_i32_624 : BitVec 32 := 1#32
  let v929 : BitVec 32 := Scalar.addi v928 c1_i32_624
  let v930 : BitVec 32 := Scalar.subi v929 c0_i32_625
  let c128_i32_626 : BitVec 32 := 128#32
  let v931 : BitVec 32 := Scalar.muli v930 c128_i32_626
  let v932 : BitVec 32 := v931
  let v933 : Index := Scalar.indexCast v932
  let c0_627 : Index := 0#32
  ![v933.toNat, 0]
def k0_mult26 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_629 : BitVec 32 := 256#32
  let v940 : BitVec 32 := Scalar.muli arg9 c256_i32_629
  v940
def k0_off10 (k0_t1 : Fin k0_t1_loop.trips) : Fin 3 → Nat :=
  let c0_630 : Index := 0#32
  let c0_631 : Index := 0#32
  let c0_i32_50 : BitVec 32 := 0#32
  let c1_i32 : BitVec 32 := 1#32
  let arg9 : BitVec 32 := Scf.iv c0_i32_50 c1_i32 k0_t1
  let c256_i32_629 : BitVec 32 := 256#32
  let v940 : BitVec 32 := Scalar.muli arg9 c256_i32_629
  let v941 : BitVec 32 := v940
  let v942 : Index := Scalar.indexCast v941
  ![0, 0, v942.toNat]
def k0_mult27 (k0_t1 : Fin k0_t1_loop.trips) (k0_t2 : Fin (k0_t2_loop k0_t1).trips) : BitVec 32 :=
  let c2_i32_641 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v954 : BitVec 32 := Scalar.subi arg9 v926
  let v955 : BitVec 32 := Scalar.muli c2_i32_641 v954
  let c1_i32_642 : BitVec 32 := 1#32
  let v956 : BitVec 32 := Scalar.addi v955 c1_i32_642
  let c0_i32_643 : BitVec 32 := 0#32
  let v957 : BitVec 32 := Scalar.subi v956 c0_i32_643
  let c128_i32_644 : BitVec 32 := 128#32
  let v958 : BitVec 32 := Scalar.muli v957 c128_i32_644
  v958
def k0_off11 (k0_t1 : Fin k0_t1_loop.trips) (k0_t2 : Fin (k0_t2_loop k0_t1).trips) (c0_i32_643 : BitVec 32) : Fin 2 → Nat :=
  let c2_i32_641 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v954 : BitVec 32 := Scalar.subi arg9 v926
  let v955 : BitVec 32 := Scalar.muli c2_i32_641 v954
  let c1_i32_642 : BitVec 32 := 1#32
  let v956 : BitVec 32 := Scalar.addi v955 c1_i32_642
  let v957 : BitVec 32 := Scalar.subi v956 c0_i32_643
  let c128_i32_644 : BitVec 32 := 128#32
  let v958 : BitVec 32 := Scalar.muli v957 c128_i32_644
  let v959 : BitVec 32 := v958
  let v960 : Index := Scalar.indexCast v959
  let c128_645 : Index := 128#32
  ![v960.toNat, 128]
def k0_mult28 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_647 : BitVec 32 := 256#32
  let v967 : BitVec 32 := Scalar.muli arg9 c256_i32_647
  v967
def k0_off12 (k0_t1 : Fin k0_t1_loop.trips) : Fin 3 → Nat :=
  let c0_648 : Index := 0#32
  let c128_649 : Index := 128#32
  let c0_i32_50 : BitVec 32 := 0#32
  let c1_i32 : BitVec 32 := 1#32
  let arg9 : BitVec 32 := Scf.iv c0_i32_50 c1_i32 k0_t1
  let c256_i32_647 : BitVec 32 := 256#32
  let v967 : BitVec 32 := Scalar.muli arg9 c256_i32_647
  let v968 : BitVec 32 := v967
  let v969 : Index := Scalar.indexCast v968
  ![0, 128, v969.toNat]
def k0_mult29 (k0_t1 : Fin k0_t1_loop.trips) (k0_t2 : Fin (k0_t2_loop k0_t1).trips) : BitVec 32 :=
  let c2_i32_659 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v981 : BitVec 32 := Scalar.subi arg9 v926
  let v982 : BitVec 32 := Scalar.muli c2_i32_659 v981
  let c1_i32_660 : BitVec 32 := 1#32
  let v983 : BitVec 32 := Scalar.addi v982 c1_i32_660
  let c1_i32_661 : BitVec 32 := 1#32
  let v984 : BitVec 32 := Scalar.subi v983 c1_i32_661
  let c128_i32_662 : BitVec 32 := 128#32
  let v985 : BitVec 32 := Scalar.muli v984 c128_i32_662
  v985
def k0_mult30 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_665 : BitVec 32 := 256#32
  let v994 : BitVec 32 := Scalar.muli arg9 c256_i32_665
  v994
def k0_mult31 (k0_t1 : Fin k0_t1_loop.trips) (k0_t2 : Fin (k0_t2_loop k0_t1).trips) : BitVec 32 :=
  let c2_i32_677 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v1008 : BitVec 32 := Scalar.subi arg9 v926
  let v1009 : BitVec 32 := Scalar.muli c2_i32_677 v1008
  let c1_i32_678 : BitVec 32 := 1#32
  let v1010 : BitVec 32 := Scalar.addi v1009 c1_i32_678
  let c1_i32_679 : BitVec 32 := 1#32
  let v1011 : BitVec 32 := Scalar.subi v1010 c1_i32_679
  let c128_i32_680 : BitVec 32 := 128#32
  let v1012 : BitVec 32 := Scalar.muli v1011 c128_i32_680
  v1012
def k0_mult32 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_683 : BitVec 32 := 256#32
  let v1021 : BitVec 32 := Scalar.muli arg9 c256_i32_683
  v1021
def k0_cond1 (k0_t1 : Fin k0_t1_loop.trips) (k0_t2 : Fin (k0_t2_loop k0_t1).trips) : BitVec 1 :=
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c0_i32_50 : BitVec 32 := 0#32
  let c1_i32 : BitVec 32 := 1#32
  let arg9 : BitVec 32 := Scf.iv c0_i32_50 c1_i32 k0_t1
  let v1267 : BitVec 1 := Scalar.cmpi .slt v803 arg9
  let v1268 : BitVec 32 := Scalar.extui v1267
  let c0_i32_847 : BitVec 32 := 0#32
  let v1269 : BitVec 1 := Scalar.cmpi .ne v1268 c0_i32_847
  v1269

def k0_mult33 (k0_t1 : Fin k0_t1_loop.trips) (k0_t2 : Fin (k0_t2_loop k0_t1).trips) : BitVec 32 :=
  let c2_i32_852 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1274 : BitVec 32 := Scalar.subi arg9 v1272
  let v1275 : BitVec 32 := Scalar.muli c2_i32_852 v1274
  let c1_i32_853 : BitVec 32 := 1#32
  let v1276 : BitVec 32 := Scalar.addi v1275 c1_i32_853
  let c0_i32_854 : BitVec 32 := 0#32
  let v1277 : BitVec 32 := Scalar.subi v1276 c0_i32_854
  let c128_i32_855 : BitVec 32 := 128#32
  let v1278 : BitVec 32 := Scalar.muli v1277 c128_i32_855
  v1278
def k0_off13 (k0_t1 : Fin k0_t1_loop.trips) (k0_t2 : Fin (k0_t2_loop k0_t1).trips) (c0_i32_854 : BitVec 32) : Fin 3 → Nat :=
  let c0_856 : Index := 0#32
  let c0_857 : Index := 0#32
  let c2_i32_852 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1274 : BitVec 32 := Scalar.subi arg9 v1272
  let v1275 : BitVec 32 := Scalar.muli c2_i32_852 v1274
  let c1_i32_853 : BitVec 32 := 1#32
  let v1276 : BitVec 32 := Scalar.addi v1275 c1_i32_853
  let v1277 : BitVec 32 := Scalar.subi v1276 c0_i32_854
  let c128_i32_855 : BitVec 32 := 128#32
  let v1278 : BitVec 32 := Scalar.muli v1277 c128_i32_855
  let v1279 : BitVec 32 := v1278
  let v1280 : Index := Scalar.indexCast v1279
  ![0, 0, v1280.toNat]
def k0_mult34 (k0_t1 : Fin k0_t1_loop.trips) (k0_t2 : Fin (k0_t2_loop k0_t1).trips) : BitVec 32 :=
  let c2_i32_863 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1287 : BitVec 32 := Scalar.subi arg9 v1272
  let v1288 : BitVec 32 := Scalar.muli c2_i32_863 v1287
  let c1_i32_864 : BitVec 32 := 1#32
  let v1289 : BitVec 32 := Scalar.addi v1288 c1_i32_864
  let c1_i32_865 : BitVec 32 := 1#32
  let v1290 : BitVec 32 := Scalar.subi v1289 c1_i32_865
  let c128_i32_866 : BitVec 32 := 128#32
  let v1291 : BitVec 32 := Scalar.muli v1290 c128_i32_866
  v1291
def k0_mult35 (k0_t1 : Fin k0_t1_loop.trips) (k0_t2 : Fin (k0_t2_loop k0_t1).trips) : BitVec 32 :=
  let c2_i32_878 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1304 : BitVec 32 := Scalar.subi arg9 v1272
  let v1305 : BitVec 32 := Scalar.muli c2_i32_878 v1304
  let c1_i32_879 : BitVec 32 := 1#32
  let v1306 : BitVec 32 := Scalar.addi v1305 c1_i32_879
  let c0_i32_880 : BitVec 32 := 0#32
  let v1307 : BitVec 32 := Scalar.subi v1306 c0_i32_880
  let c128_i32_881 : BitVec 32 := 128#32
  let v1308 : BitVec 32 := Scalar.muli v1307 c128_i32_881
  v1308
def k0_off14 (k0_t1 : Fin k0_t1_loop.trips) (k0_t2 : Fin (k0_t2_loop k0_t1).trips) (c0_i32_880 : BitVec 32) : Fin 3 → Nat :=
  let c0_882 : Index := 0#32
  let c64_883 : Index := 64#32
  let c2_i32_878 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1304 : BitVec 32 := Scalar.subi arg9 v1272
  let v1305 : BitVec 32 := Scalar.muli c2_i32_878 v1304
  let c1_i32_879 : BitVec 32 := 1#32
  let v1306 : BitVec 32 := Scalar.addi v1305 c1_i32_879
  let v1307 : BitVec 32 := Scalar.subi v1306 c0_i32_880
  let c128_i32_881 : BitVec 32 := 128#32
  let v1308 : BitVec 32 := Scalar.muli v1307 c128_i32_881
  let v1309 : BitVec 32 := v1308
  let v1310 : Index := Scalar.indexCast v1309
  ![0, 64, v1310.toNat]
def k0_mult36 (k0_t1 : Fin k0_t1_loop.trips) (k0_t2 : Fin (k0_t2_loop k0_t1).trips) : BitVec 32 :=
  let c2_i32_889 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1317 : BitVec 32 := Scalar.subi arg9 v1272
  let v1318 : BitVec 32 := Scalar.muli c2_i32_889 v1317
  let c1_i32_890 : BitVec 32 := 1#32
  let v1319 : BitVec 32 := Scalar.addi v1318 c1_i32_890
  let c1_i32_891 : BitVec 32 := 1#32
  let v1320 : BitVec 32 := Scalar.subi v1319 c1_i32_891
  let c128_i32_892 : BitVec 32 := 128#32
  let v1321 : BitVec 32 := Scalar.muli v1320 c128_i32_892
  v1321
def k0_mult37 (k0_t1 : Fin k0_t1_loop.trips) (k0_t2 : Fin (k0_t2_loop k0_t1).trips) : BitVec 32 :=
  let c2_i32_904 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1334 : BitVec 32 := Scalar.subi arg9 v1272
  let v1335 : BitVec 32 := Scalar.muli c2_i32_904 v1334
  let c1_i32_905 : BitVec 32 := 1#32
  let v1336 : BitVec 32 := Scalar.addi v1335 c1_i32_905
  let c0_i32_906 : BitVec 32 := 0#32
  let v1337 : BitVec 32 := Scalar.subi v1336 c0_i32_906
  let c128_i32_907 : BitVec 32 := 128#32
  let v1338 : BitVec 32 := Scalar.muli v1337 c128_i32_907
  v1338
def k0_off15 (k0_t1 : Fin k0_t1_loop.trips) (k0_t2 : Fin (k0_t2_loop k0_t1).trips) (c0_i32_906 : BitVec 32) : Fin 3 → Nat :=
  let c0_908 : Index := 0#32
  let c128_909 : Index := 128#32
  let c2_i32_904 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1334 : BitVec 32 := Scalar.subi arg9 v1272
  let v1335 : BitVec 32 := Scalar.muli c2_i32_904 v1334
  let c1_i32_905 : BitVec 32 := 1#32
  let v1336 : BitVec 32 := Scalar.addi v1335 c1_i32_905
  let v1337 : BitVec 32 := Scalar.subi v1336 c0_i32_906
  let c128_i32_907 : BitVec 32 := 128#32
  let v1338 : BitVec 32 := Scalar.muli v1337 c128_i32_907
  let v1339 : BitVec 32 := v1338
  let v1340 : Index := Scalar.indexCast v1339
  ![0, 128, v1340.toNat]
def k0_mult38 (k0_t1 : Fin k0_t1_loop.trips) (k0_t2 : Fin (k0_t2_loop k0_t1).trips) : BitVec 32 :=
  let c2_i32_915 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1347 : BitVec 32 := Scalar.subi arg9 v1272
  let v1348 : BitVec 32 := Scalar.muli c2_i32_915 v1347
  let c1_i32_916 : BitVec 32 := 1#32
  let v1349 : BitVec 32 := Scalar.addi v1348 c1_i32_916
  let c1_i32_917 : BitVec 32 := 1#32
  let v1350 : BitVec 32 := Scalar.subi v1349 c1_i32_917
  let c128_i32_918 : BitVec 32 := 128#32
  let v1351 : BitVec 32 := Scalar.muli v1350 c128_i32_918
  v1351
def k0_mult39 (k0_t1 : Fin k0_t1_loop.trips) (k0_t2 : Fin (k0_t2_loop k0_t1).trips) : BitVec 32 :=
  let c2_i32_930 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1364 : BitVec 32 := Scalar.subi arg9 v1272
  let v1365 : BitVec 32 := Scalar.muli c2_i32_930 v1364
  let c1_i32_931 : BitVec 32 := 1#32
  let v1366 : BitVec 32 := Scalar.addi v1365 c1_i32_931
  let c0_i32_932 : BitVec 32 := 0#32
  let v1367 : BitVec 32 := Scalar.subi v1366 c0_i32_932
  let c128_i32_933 : BitVec 32 := 128#32
  let v1368 : BitVec 32 := Scalar.muli v1367 c128_i32_933
  v1368
def k0_off16 (k0_t1 : Fin k0_t1_loop.trips) (k0_t2 : Fin (k0_t2_loop k0_t1).trips) (c0_i32_932 : BitVec 32) : Fin 3 → Nat :=
  let c0_934 : Index := 0#32
  let c192_935 : Index := 192#32
  let c2_i32_930 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1364 : BitVec 32 := Scalar.subi arg9 v1272
  let v1365 : BitVec 32 := Scalar.muli c2_i32_930 v1364
  let c1_i32_931 : BitVec 32 := 1#32
  let v1366 : BitVec 32 := Scalar.addi v1365 c1_i32_931
  let v1367 : BitVec 32 := Scalar.subi v1366 c0_i32_932
  let c128_i32_933 : BitVec 32 := 128#32
  let v1368 : BitVec 32 := Scalar.muli v1367 c128_i32_933
  let v1369 : BitVec 32 := v1368
  let v1370 : Index := Scalar.indexCast v1369
  ![0, 192, v1370.toNat]
def k0_mult40 (k0_t1 : Fin k0_t1_loop.trips) (k0_t2 : Fin (k0_t2_loop k0_t1).trips) : BitVec 32 :=
  let c2_i32_941 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1377 : BitVec 32 := Scalar.subi arg9 v1272
  let v1378 : BitVec 32 := Scalar.muli c2_i32_941 v1377
  let c1_i32_942 : BitVec 32 := 1#32
  let v1379 : BitVec 32 := Scalar.addi v1378 c1_i32_942
  let c1_i32_943 : BitVec 32 := 1#32
  let v1380 : BitVec 32 := Scalar.subi v1379 c1_i32_943
  let c128_i32_944 : BitVec 32 := 128#32
  let v1381 : BitVec 32 := Scalar.muli v1380 c128_i32_944
  v1381
def k0_mult41 (k0_t1 : Fin k0_t1_loop.trips) (k0_t2 : Fin (k0_t2_loop k0_t1).trips) : BitVec 32 :=
  let c2_i32_955 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1395 : BitVec 32 := Scalar.subi arg9 v1394
  let v1396 : BitVec 32 := Scalar.muli c2_i32_955 v1395
  let c1_i32_956 : BitVec 32 := 1#32
  let v1397 : BitVec 32 := Scalar.addi v1396 c1_i32_956
  let c0_i32_957 : BitVec 32 := 0#32
  let v1398 : BitVec 32 := Scalar.subi v1397 c0_i32_957
  let c128_i32_958 : BitVec 32 := 128#32
  let v1399 : BitVec 32 := Scalar.muli v1398 c128_i32_958
  v1399
def k0_off17 (k0_t1 : Fin k0_t1_loop.trips) (k0_t2 : Fin (k0_t2_loop k0_t1).trips) (c0_i32_957 : BitVec 32) : Fin 2 → Nat :=
  let c2_i32_955 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1395 : BitVec 32 := Scalar.subi arg9 v1394
  let v1396 : BitVec 32 := Scalar.muli c2_i32_955 v1395
  let c1_i32_956 : BitVec 32 := 1#32
  let v1397 : BitVec 32 := Scalar.addi v1396 c1_i32_956
  let v1398 : BitVec 32 := Scalar.subi v1397 c0_i32_957
  let c128_i32_958 : BitVec 32 := 128#32
  let v1399 : BitVec 32 := Scalar.muli v1398 c128_i32_958
  let v1400 : BitVec 32 := v1399
  let v1401 : Index := Scalar.indexCast v1400
  let c0_959 : Index := 0#32
  ![v1401.toNat, 0]
def k0_mult42 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_961 : BitVec 32 := 256#32
  let v1408 : BitVec 32 := Scalar.muli arg9 c256_i32_961
  v1408
def k0_off18 (k0_t1 : Fin k0_t1_loop.trips) : Fin 3 → Nat :=
  let c0_962 : Index := 0#32
  let c0_963 : Index := 0#32
  let c0_i32_50 : BitVec 32 := 0#32
  let c1_i32 : BitVec 32 := 1#32
  let arg9 : BitVec 32 := Scf.iv c0_i32_50 c1_i32 k0_t1
  let c256_i32_961 : BitVec 32 := 256#32
  let v1408 : BitVec 32 := Scalar.muli arg9 c256_i32_961
  let v1409 : BitVec 32 := v1408
  let v1410 : Index := Scalar.indexCast v1409
  ![0, 0, v1410.toNat]
def k0_mult43 (k0_t1 : Fin k0_t1_loop.trips) (k0_t2 : Fin (k0_t2_loop k0_t1).trips) : BitVec 32 :=
  let c2_i32_973 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1422 : BitVec 32 := Scalar.subi arg9 v1394
  let v1423 : BitVec 32 := Scalar.muli c2_i32_973 v1422
  let c1_i32_974 : BitVec 32 := 1#32
  let v1424 : BitVec 32 := Scalar.addi v1423 c1_i32_974
  let c0_i32_975 : BitVec 32 := 0#32
  let v1425 : BitVec 32 := Scalar.subi v1424 c0_i32_975
  let c128_i32_976 : BitVec 32 := 128#32
  let v1426 : BitVec 32 := Scalar.muli v1425 c128_i32_976
  v1426
def k0_off19 (k0_t1 : Fin k0_t1_loop.trips) (k0_t2 : Fin (k0_t2_loop k0_t1).trips) (c0_i32_975 : BitVec 32) : Fin 2 → Nat :=
  let c2_i32_973 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1422 : BitVec 32 := Scalar.subi arg9 v1394
  let v1423 : BitVec 32 := Scalar.muli c2_i32_973 v1422
  let c1_i32_974 : BitVec 32 := 1#32
  let v1424 : BitVec 32 := Scalar.addi v1423 c1_i32_974
  let v1425 : BitVec 32 := Scalar.subi v1424 c0_i32_975
  let c128_i32_976 : BitVec 32 := 128#32
  let v1426 : BitVec 32 := Scalar.muli v1425 c128_i32_976
  let v1427 : BitVec 32 := v1426
  let v1428 : Index := Scalar.indexCast v1427
  let c128_977 : Index := 128#32
  ![v1428.toNat, 128]
def k0_mult44 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_979 : BitVec 32 := 256#32
  let v1435 : BitVec 32 := Scalar.muli arg9 c256_i32_979
  v1435
def k0_off20 (k0_t1 : Fin k0_t1_loop.trips) : Fin 3 → Nat :=
  let c0_980 : Index := 0#32
  let c128_981 : Index := 128#32
  let c0_i32_50 : BitVec 32 := 0#32
  let c1_i32 : BitVec 32 := 1#32
  let arg9 : BitVec 32 := Scf.iv c0_i32_50 c1_i32 k0_t1
  let c256_i32_979 : BitVec 32 := 256#32
  let v1435 : BitVec 32 := Scalar.muli arg9 c256_i32_979
  let v1436 : BitVec 32 := v1435
  let v1437 : Index := Scalar.indexCast v1436
  ![0, 128, v1437.toNat]
def k0_mult45 (k0_t1 : Fin k0_t1_loop.trips) (k0_t2 : Fin (k0_t2_loop k0_t1).trips) : BitVec 32 :=
  let c2_i32_991 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1449 : BitVec 32 := Scalar.subi arg9 v1394
  let v1450 : BitVec 32 := Scalar.muli c2_i32_991 v1449
  let c1_i32_992 : BitVec 32 := 1#32
  let v1451 : BitVec 32 := Scalar.addi v1450 c1_i32_992
  let c1_i32_993 : BitVec 32 := 1#32
  let v1452 : BitVec 32 := Scalar.subi v1451 c1_i32_993
  let c128_i32_994 : BitVec 32 := 128#32
  let v1453 : BitVec 32 := Scalar.muli v1452 c128_i32_994
  v1453
def k0_mult46 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_997 : BitVec 32 := 256#32
  let v1462 : BitVec 32 := Scalar.muli arg9 c256_i32_997
  v1462
def k0_mult47 (k0_t1 : Fin k0_t1_loop.trips) (k0_t2 : Fin (k0_t2_loop k0_t1).trips) : BitVec 32 :=
  let c2_i32_1009 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_332 : BitVec 32 := 1#32
  let arg10 : BitVec 32 := Scf.iv c0_i32_330 c1_i32_332 k0_t2
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1476 : BitVec 32 := Scalar.subi arg9 v1394
  let v1477 : BitVec 32 := Scalar.muli c2_i32_1009 v1476
  let c1_i32_1010 : BitVec 32 := 1#32
  let v1478 : BitVec 32 := Scalar.addi v1477 c1_i32_1010
  let c1_i32_1011 : BitVec 32 := 1#32
  let v1479 : BitVec 32 := Scalar.subi v1478 c1_i32_1011
  let c128_i32_1012 : BitVec 32 := 128#32
  let v1480 : BitVec 32 := Scalar.muli v1479 c128_i32_1012
  v1480
def k0_mult48 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_1015 : BitVec 32 := 256#32
  let v1489 : BitVec 32 := Scalar.muli arg9 c256_i32_1015
  v1489
@[reducible] def k0_t3_loop (k0_t1 : Fin k0_t1_loop.trips) : Scf.Loop 32 :=
  let c0_i32_330 : BitVec 32 := 0#32
  let c0_i32_50 : BitVec 32 := 0#32
  let c1_i32 : BitVec 32 := 1#32
  let arg9 : BitVec 32 := Scf.iv c0_i32_50 c1_i32 k0_t1
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let v541 : BitVec 32 := Scalar.addi c0_i32_330 v540
  let c1_i32_333 : BitVec 32 := 1#32
  ⟨v544, v541, c1_i32_333⟩
def k0_mult49 (k0_t1 : Fin k0_t1_loop.trips) (k0_t3 : Fin (k0_t3_loop k0_t1).trips) : BitVec 32 :=
  let c2_i32_520 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v806 : BitVec 32 := Scalar.subi arg9 v804
  let v807 : BitVec 32 := Scalar.muli c2_i32_520 v806
  let c1_i32_521 : BitVec 32 := 1#32
  let v808 : BitVec 32 := Scalar.addi v807 c1_i32_521
  let c0_i32_522 : BitVec 32 := 0#32
  let v809 : BitVec 32 := Scalar.subi v808 c0_i32_522
  let c128_i32_523 : BitVec 32 := 128#32
  let v810 : BitVec 32 := Scalar.muli v809 c128_i32_523
  v810
def k0_off21 (k0_t1 : Fin k0_t1_loop.trips) (k0_t3 : Fin (k0_t3_loop k0_t1).trips) (c0_i32_522 : BitVec 32) : Fin 3 → Nat :=
  let c0_524 : Index := 0#32
  let c0_525 : Index := 0#32
  let c2_i32_520 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v806 : BitVec 32 := Scalar.subi arg9 v804
  let v807 : BitVec 32 := Scalar.muli c2_i32_520 v806
  let c1_i32_521 : BitVec 32 := 1#32
  let v808 : BitVec 32 := Scalar.addi v807 c1_i32_521
  let v809 : BitVec 32 := Scalar.subi v808 c0_i32_522
  let c128_i32_523 : BitVec 32 := 128#32
  let v810 : BitVec 32 := Scalar.muli v809 c128_i32_523
  let v811 : BitVec 32 := v810
  let v812 : Index := Scalar.indexCast v811
  ![0, 0, v812.toNat]
def k0_mult50 (k0_t1 : Fin k0_t1_loop.trips) (k0_t3 : Fin (k0_t3_loop k0_t1).trips) : BitVec 32 :=
  let c2_i32_531 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v819 : BitVec 32 := Scalar.subi arg9 v804
  let v820 : BitVec 32 := Scalar.muli c2_i32_531 v819
  let c1_i32_532 : BitVec 32 := 1#32
  let v821 : BitVec 32 := Scalar.addi v820 c1_i32_532
  let c1_i32_533 : BitVec 32 := 1#32
  let v822 : BitVec 32 := Scalar.subi v821 c1_i32_533
  let c128_i32_534 : BitVec 32 := 128#32
  let v823 : BitVec 32 := Scalar.muli v822 c128_i32_534
  v823
def k0_mult51 (k0_t1 : Fin k0_t1_loop.trips) (k0_t3 : Fin (k0_t3_loop k0_t1).trips) : BitVec 32 :=
  let c2_i32_546 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v836 : BitVec 32 := Scalar.subi arg9 v804
  let v837 : BitVec 32 := Scalar.muli c2_i32_546 v836
  let c1_i32_547 : BitVec 32 := 1#32
  let v838 : BitVec 32 := Scalar.addi v837 c1_i32_547
  let c0_i32_548 : BitVec 32 := 0#32
  let v839 : BitVec 32 := Scalar.subi v838 c0_i32_548
  let c128_i32_549 : BitVec 32 := 128#32
  let v840 : BitVec 32 := Scalar.muli v839 c128_i32_549
  v840
def k0_off22 (k0_t1 : Fin k0_t1_loop.trips) (k0_t3 : Fin (k0_t3_loop k0_t1).trips) (c0_i32_548 : BitVec 32) : Fin 3 → Nat :=
  let c0_550 : Index := 0#32
  let c64_551 : Index := 64#32
  let c2_i32_546 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v836 : BitVec 32 := Scalar.subi arg9 v804
  let v837 : BitVec 32 := Scalar.muli c2_i32_546 v836
  let c1_i32_547 : BitVec 32 := 1#32
  let v838 : BitVec 32 := Scalar.addi v837 c1_i32_547
  let v839 : BitVec 32 := Scalar.subi v838 c0_i32_548
  let c128_i32_549 : BitVec 32 := 128#32
  let v840 : BitVec 32 := Scalar.muli v839 c128_i32_549
  let v841 : BitVec 32 := v840
  let v842 : Index := Scalar.indexCast v841
  ![0, 64, v842.toNat]
def k0_mult52 (k0_t1 : Fin k0_t1_loop.trips) (k0_t3 : Fin (k0_t3_loop k0_t1).trips) : BitVec 32 :=
  let c2_i32_557 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v849 : BitVec 32 := Scalar.subi arg9 v804
  let v850 : BitVec 32 := Scalar.muli c2_i32_557 v849
  let c1_i32_558 : BitVec 32 := 1#32
  let v851 : BitVec 32 := Scalar.addi v850 c1_i32_558
  let c1_i32_559 : BitVec 32 := 1#32
  let v852 : BitVec 32 := Scalar.subi v851 c1_i32_559
  let c128_i32_560 : BitVec 32 := 128#32
  let v853 : BitVec 32 := Scalar.muli v852 c128_i32_560
  v853
def k0_mult53 (k0_t1 : Fin k0_t1_loop.trips) (k0_t3 : Fin (k0_t3_loop k0_t1).trips) : BitVec 32 :=
  let c2_i32_572 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v866 : BitVec 32 := Scalar.subi arg9 v804
  let v867 : BitVec 32 := Scalar.muli c2_i32_572 v866
  let c1_i32_573 : BitVec 32 := 1#32
  let v868 : BitVec 32 := Scalar.addi v867 c1_i32_573
  let c0_i32_574 : BitVec 32 := 0#32
  let v869 : BitVec 32 := Scalar.subi v868 c0_i32_574
  let c128_i32_575 : BitVec 32 := 128#32
  let v870 : BitVec 32 := Scalar.muli v869 c128_i32_575
  v870
def k0_off23 (k0_t1 : Fin k0_t1_loop.trips) (k0_t3 : Fin (k0_t3_loop k0_t1).trips) (c0_i32_574 : BitVec 32) : Fin 3 → Nat :=
  let c0_576 : Index := 0#32
  let c128_577 : Index := 128#32
  let c2_i32_572 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v866 : BitVec 32 := Scalar.subi arg9 v804
  let v867 : BitVec 32 := Scalar.muli c2_i32_572 v866
  let c1_i32_573 : BitVec 32 := 1#32
  let v868 : BitVec 32 := Scalar.addi v867 c1_i32_573
  let v869 : BitVec 32 := Scalar.subi v868 c0_i32_574
  let c128_i32_575 : BitVec 32 := 128#32
  let v870 : BitVec 32 := Scalar.muli v869 c128_i32_575
  let v871 : BitVec 32 := v870
  let v872 : Index := Scalar.indexCast v871
  ![0, 128, v872.toNat]
def k0_mult54 (k0_t1 : Fin k0_t1_loop.trips) (k0_t3 : Fin (k0_t3_loop k0_t1).trips) : BitVec 32 :=
  let c2_i32_583 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v879 : BitVec 32 := Scalar.subi arg9 v804
  let v880 : BitVec 32 := Scalar.muli c2_i32_583 v879
  let c1_i32_584 : BitVec 32 := 1#32
  let v881 : BitVec 32 := Scalar.addi v880 c1_i32_584
  let c1_i32_585 : BitVec 32 := 1#32
  let v882 : BitVec 32 := Scalar.subi v881 c1_i32_585
  let c128_i32_586 : BitVec 32 := 128#32
  let v883 : BitVec 32 := Scalar.muli v882 c128_i32_586
  v883
def k0_mult55 (k0_t1 : Fin k0_t1_loop.trips) (k0_t3 : Fin (k0_t3_loop k0_t1).trips) : BitVec 32 :=
  let c2_i32_598 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v896 : BitVec 32 := Scalar.subi arg9 v804
  let v897 : BitVec 32 := Scalar.muli c2_i32_598 v896
  let c1_i32_599 : BitVec 32 := 1#32
  let v898 : BitVec 32 := Scalar.addi v897 c1_i32_599
  let c0_i32_600 : BitVec 32 := 0#32
  let v899 : BitVec 32 := Scalar.subi v898 c0_i32_600
  let c128_i32_601 : BitVec 32 := 128#32
  let v900 : BitVec 32 := Scalar.muli v899 c128_i32_601
  v900
def k0_off24 (k0_t1 : Fin k0_t1_loop.trips) (k0_t3 : Fin (k0_t3_loop k0_t1).trips) (c0_i32_600 : BitVec 32) : Fin 3 → Nat :=
  let c0_602 : Index := 0#32
  let c192_603 : Index := 192#32
  let c2_i32_598 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v896 : BitVec 32 := Scalar.subi arg9 v804
  let v897 : BitVec 32 := Scalar.muli c2_i32_598 v896
  let c1_i32_599 : BitVec 32 := 1#32
  let v898 : BitVec 32 := Scalar.addi v897 c1_i32_599
  let v899 : BitVec 32 := Scalar.subi v898 c0_i32_600
  let c128_i32_601 : BitVec 32 := 128#32
  let v900 : BitVec 32 := Scalar.muli v899 c128_i32_601
  let v901 : BitVec 32 := v900
  let v902 : Index := Scalar.indexCast v901
  ![0, 192, v902.toNat]
def k0_mult56 (k0_t1 : Fin k0_t1_loop.trips) (k0_t3 : Fin (k0_t3_loop k0_t1).trips) : BitVec 32 :=
  let c2_i32_609 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_517 : BitVec 32 := 1#32
  let v804 : BitVec 32 := Scalar.subi v803 c1_i32_517
  let v909 : BitVec 32 := Scalar.subi arg9 v804
  let v910 : BitVec 32 := Scalar.muli c2_i32_609 v909
  let c1_i32_610 : BitVec 32 := 1#32
  let v911 : BitVec 32 := Scalar.addi v910 c1_i32_610
  let c1_i32_611 : BitVec 32 := 1#32
  let v912 : BitVec 32 := Scalar.subi v911 c1_i32_611
  let c128_i32_612 : BitVec 32 := 128#32
  let v913 : BitVec 32 := Scalar.muli v912 c128_i32_612
  v913
def k0_mult57 (k0_t1 : Fin k0_t1_loop.trips) (k0_t3 : Fin (k0_t3_loop k0_t1).trips) : BitVec 32 :=
  let c2_i32_623 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v927 : BitVec 32 := Scalar.subi arg9 v926
  let v928 : BitVec 32 := Scalar.muli c2_i32_623 v927
  let c1_i32_624 : BitVec 32 := 1#32
  let v929 : BitVec 32 := Scalar.addi v928 c1_i32_624
  let c0_i32_625 : BitVec 32 := 0#32
  let v930 : BitVec 32 := Scalar.subi v929 c0_i32_625
  let c128_i32_626 : BitVec 32 := 128#32
  let v931 : BitVec 32 := Scalar.muli v930 c128_i32_626
  v931
def k0_off25 (k0_t1 : Fin k0_t1_loop.trips) (k0_t3 : Fin (k0_t3_loop k0_t1).trips) (c0_i32_625 : BitVec 32) : Fin 2 → Nat :=
  let c2_i32_623 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v927 : BitVec 32 := Scalar.subi arg9 v926
  let v928 : BitVec 32 := Scalar.muli c2_i32_623 v927
  let c1_i32_624 : BitVec 32 := 1#32
  let v929 : BitVec 32 := Scalar.addi v928 c1_i32_624
  let v930 : BitVec 32 := Scalar.subi v929 c0_i32_625
  let c128_i32_626 : BitVec 32 := 128#32
  let v931 : BitVec 32 := Scalar.muli v930 c128_i32_626
  let v932 : BitVec 32 := v931
  let v933 : Index := Scalar.indexCast v932
  let c0_627 : Index := 0#32
  ![v933.toNat, 0]
def k0_mult58 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_629 : BitVec 32 := 256#32
  let v940 : BitVec 32 := Scalar.muli arg9 c256_i32_629
  v940
def k0_off26 (k0_t1 : Fin k0_t1_loop.trips) : Fin 3 → Nat :=
  let c0_630 : Index := 0#32
  let c0_631 : Index := 0#32
  let c0_i32_50 : BitVec 32 := 0#32
  let c1_i32 : BitVec 32 := 1#32
  let arg9 : BitVec 32 := Scf.iv c0_i32_50 c1_i32 k0_t1
  let c256_i32_629 : BitVec 32 := 256#32
  let v940 : BitVec 32 := Scalar.muli arg9 c256_i32_629
  let v941 : BitVec 32 := v940
  let v942 : Index := Scalar.indexCast v941
  ![0, 0, v942.toNat]
def k0_mult59 (k0_t1 : Fin k0_t1_loop.trips) (k0_t3 : Fin (k0_t3_loop k0_t1).trips) : BitVec 32 :=
  let c2_i32_641 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v954 : BitVec 32 := Scalar.subi arg9 v926
  let v955 : BitVec 32 := Scalar.muli c2_i32_641 v954
  let c1_i32_642 : BitVec 32 := 1#32
  let v956 : BitVec 32 := Scalar.addi v955 c1_i32_642
  let c0_i32_643 : BitVec 32 := 0#32
  let v957 : BitVec 32 := Scalar.subi v956 c0_i32_643
  let c128_i32_644 : BitVec 32 := 128#32
  let v958 : BitVec 32 := Scalar.muli v957 c128_i32_644
  v958
def k0_off27 (k0_t1 : Fin k0_t1_loop.trips) (k0_t3 : Fin (k0_t3_loop k0_t1).trips) (c0_i32_643 : BitVec 32) : Fin 2 → Nat :=
  let c2_i32_641 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v954 : BitVec 32 := Scalar.subi arg9 v926
  let v955 : BitVec 32 := Scalar.muli c2_i32_641 v954
  let c1_i32_642 : BitVec 32 := 1#32
  let v956 : BitVec 32 := Scalar.addi v955 c1_i32_642
  let v957 : BitVec 32 := Scalar.subi v956 c0_i32_643
  let c128_i32_644 : BitVec 32 := 128#32
  let v958 : BitVec 32 := Scalar.muli v957 c128_i32_644
  let v959 : BitVec 32 := v958
  let v960 : Index := Scalar.indexCast v959
  let c128_645 : Index := 128#32
  ![v960.toNat, 128]
def k0_mult60 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_647 : BitVec 32 := 256#32
  let v967 : BitVec 32 := Scalar.muli arg9 c256_i32_647
  v967
def k0_off28 (k0_t1 : Fin k0_t1_loop.trips) : Fin 3 → Nat :=
  let c0_648 : Index := 0#32
  let c128_649 : Index := 128#32
  let c0_i32_50 : BitVec 32 := 0#32
  let c1_i32 : BitVec 32 := 1#32
  let arg9 : BitVec 32 := Scf.iv c0_i32_50 c1_i32 k0_t1
  let c256_i32_647 : BitVec 32 := 256#32
  let v967 : BitVec 32 := Scalar.muli arg9 c256_i32_647
  let v968 : BitVec 32 := v967
  let v969 : Index := Scalar.indexCast v968
  ![0, 128, v969.toNat]
def k0_mult61 (k0_t1 : Fin k0_t1_loop.trips) (k0_t3 : Fin (k0_t3_loop k0_t1).trips) : BitVec 32 :=
  let c2_i32_659 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v981 : BitVec 32 := Scalar.subi arg9 v926
  let v982 : BitVec 32 := Scalar.muli c2_i32_659 v981
  let c1_i32_660 : BitVec 32 := 1#32
  let v983 : BitVec 32 := Scalar.addi v982 c1_i32_660
  let c1_i32_661 : BitVec 32 := 1#32
  let v984 : BitVec 32 := Scalar.subi v983 c1_i32_661
  let c128_i32_662 : BitVec 32 := 128#32
  let v985 : BitVec 32 := Scalar.muli v984 c128_i32_662
  v985
def k0_mult62 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_665 : BitVec 32 := 256#32
  let v994 : BitVec 32 := Scalar.muli arg9 c256_i32_665
  v994
def k0_mult63 (k0_t1 : Fin k0_t1_loop.trips) (k0_t3 : Fin (k0_t3_loop k0_t1).trips) : BitVec 32 :=
  let c2_i32_677 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_622 : BitVec 32 := 1#32
  let v925 : BitVec 32 := Scalar.addi v803 c1_i32_622
  let v926 : BitVec 32 := Scalar.minsi v925 arg9
  let v1008 : BitVec 32 := Scalar.subi arg9 v926
  let v1009 : BitVec 32 := Scalar.muli c2_i32_677 v1008
  let c1_i32_678 : BitVec 32 := 1#32
  let v1010 : BitVec 32 := Scalar.addi v1009 c1_i32_678
  let c1_i32_679 : BitVec 32 := 1#32
  let v1011 : BitVec 32 := Scalar.subi v1010 c1_i32_679
  let c128_i32_680 : BitVec 32 := 128#32
  let v1012 : BitVec 32 := Scalar.muli v1011 c128_i32_680
  v1012
def k0_mult64 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_683 : BitVec 32 := 256#32
  let v1021 : BitVec 32 := Scalar.muli arg9 c256_i32_683
  v1021
def k0_cond2 (k0_t1 : Fin k0_t1_loop.trips) (k0_t3 : Fin (k0_t3_loop k0_t1).trips) : BitVec 1 :=
  let c2_i32_515 : BitVec 32 := 2#32
  let c0_i32_330 : BitVec 32 := 0#32
  let c0_i32_50 : BitVec 32 := 0#32
  let c1_i32 : BitVec 32 := 1#32
  let arg9 : BitVec 32 := Scf.iv c0_i32_50 c1_i32 k0_t1
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let v1267 : BitVec 1 := Scalar.cmpi .slt v803 arg9
  let v1268 : BitVec 32 := Scalar.extui v1267
  let c0_i32_847 : BitVec 32 := 0#32
  let v1269 : BitVec 1 := Scalar.cmpi .ne v1268 c0_i32_847
  v1269

def k0_mult65 (k0_t1 : Fin k0_t1_loop.trips) (k0_t3 : Fin (k0_t3_loop k0_t1).trips) : BitVec 32 :=
  let c2_i32_852 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1274 : BitVec 32 := Scalar.subi arg9 v1272
  let v1275 : BitVec 32 := Scalar.muli c2_i32_852 v1274
  let c1_i32_853 : BitVec 32 := 1#32
  let v1276 : BitVec 32 := Scalar.addi v1275 c1_i32_853
  let c0_i32_854 : BitVec 32 := 0#32
  let v1277 : BitVec 32 := Scalar.subi v1276 c0_i32_854
  let c128_i32_855 : BitVec 32 := 128#32
  let v1278 : BitVec 32 := Scalar.muli v1277 c128_i32_855
  v1278
def k0_off29 (k0_t1 : Fin k0_t1_loop.trips) (k0_t3 : Fin (k0_t3_loop k0_t1).trips) (c0_i32_854 : BitVec 32) : Fin 3 → Nat :=
  let c0_856 : Index := 0#32
  let c0_857 : Index := 0#32
  let c2_i32_852 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1274 : BitVec 32 := Scalar.subi arg9 v1272
  let v1275 : BitVec 32 := Scalar.muli c2_i32_852 v1274
  let c1_i32_853 : BitVec 32 := 1#32
  let v1276 : BitVec 32 := Scalar.addi v1275 c1_i32_853
  let v1277 : BitVec 32 := Scalar.subi v1276 c0_i32_854
  let c128_i32_855 : BitVec 32 := 128#32
  let v1278 : BitVec 32 := Scalar.muli v1277 c128_i32_855
  let v1279 : BitVec 32 := v1278
  let v1280 : Index := Scalar.indexCast v1279
  ![0, 0, v1280.toNat]
def k0_mult66 (k0_t1 : Fin k0_t1_loop.trips) (k0_t3 : Fin (k0_t3_loop k0_t1).trips) : BitVec 32 :=
  let c2_i32_863 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1287 : BitVec 32 := Scalar.subi arg9 v1272
  let v1288 : BitVec 32 := Scalar.muli c2_i32_863 v1287
  let c1_i32_864 : BitVec 32 := 1#32
  let v1289 : BitVec 32 := Scalar.addi v1288 c1_i32_864
  let c1_i32_865 : BitVec 32 := 1#32
  let v1290 : BitVec 32 := Scalar.subi v1289 c1_i32_865
  let c128_i32_866 : BitVec 32 := 128#32
  let v1291 : BitVec 32 := Scalar.muli v1290 c128_i32_866
  v1291
def k0_mult67 (k0_t1 : Fin k0_t1_loop.trips) (k0_t3 : Fin (k0_t3_loop k0_t1).trips) : BitVec 32 :=
  let c2_i32_878 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1304 : BitVec 32 := Scalar.subi arg9 v1272
  let v1305 : BitVec 32 := Scalar.muli c2_i32_878 v1304
  let c1_i32_879 : BitVec 32 := 1#32
  let v1306 : BitVec 32 := Scalar.addi v1305 c1_i32_879
  let c0_i32_880 : BitVec 32 := 0#32
  let v1307 : BitVec 32 := Scalar.subi v1306 c0_i32_880
  let c128_i32_881 : BitVec 32 := 128#32
  let v1308 : BitVec 32 := Scalar.muli v1307 c128_i32_881
  v1308
def k0_off30 (k0_t1 : Fin k0_t1_loop.trips) (k0_t3 : Fin (k0_t3_loop k0_t1).trips) (c0_i32_880 : BitVec 32) : Fin 3 → Nat :=
  let c0_882 : Index := 0#32
  let c64_883 : Index := 64#32
  let c2_i32_878 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1304 : BitVec 32 := Scalar.subi arg9 v1272
  let v1305 : BitVec 32 := Scalar.muli c2_i32_878 v1304
  let c1_i32_879 : BitVec 32 := 1#32
  let v1306 : BitVec 32 := Scalar.addi v1305 c1_i32_879
  let v1307 : BitVec 32 := Scalar.subi v1306 c0_i32_880
  let c128_i32_881 : BitVec 32 := 128#32
  let v1308 : BitVec 32 := Scalar.muli v1307 c128_i32_881
  let v1309 : BitVec 32 := v1308
  let v1310 : Index := Scalar.indexCast v1309
  ![0, 64, v1310.toNat]
def k0_mult68 (k0_t1 : Fin k0_t1_loop.trips) (k0_t3 : Fin (k0_t3_loop k0_t1).trips) : BitVec 32 :=
  let c2_i32_889 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1317 : BitVec 32 := Scalar.subi arg9 v1272
  let v1318 : BitVec 32 := Scalar.muli c2_i32_889 v1317
  let c1_i32_890 : BitVec 32 := 1#32
  let v1319 : BitVec 32 := Scalar.addi v1318 c1_i32_890
  let c1_i32_891 : BitVec 32 := 1#32
  let v1320 : BitVec 32 := Scalar.subi v1319 c1_i32_891
  let c128_i32_892 : BitVec 32 := 128#32
  let v1321 : BitVec 32 := Scalar.muli v1320 c128_i32_892
  v1321
def k0_mult69 (k0_t1 : Fin k0_t1_loop.trips) (k0_t3 : Fin (k0_t3_loop k0_t1).trips) : BitVec 32 :=
  let c2_i32_904 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1334 : BitVec 32 := Scalar.subi arg9 v1272
  let v1335 : BitVec 32 := Scalar.muli c2_i32_904 v1334
  let c1_i32_905 : BitVec 32 := 1#32
  let v1336 : BitVec 32 := Scalar.addi v1335 c1_i32_905
  let c0_i32_906 : BitVec 32 := 0#32
  let v1337 : BitVec 32 := Scalar.subi v1336 c0_i32_906
  let c128_i32_907 : BitVec 32 := 128#32
  let v1338 : BitVec 32 := Scalar.muli v1337 c128_i32_907
  v1338
def k0_off31 (k0_t1 : Fin k0_t1_loop.trips) (k0_t3 : Fin (k0_t3_loop k0_t1).trips) (c0_i32_906 : BitVec 32) : Fin 3 → Nat :=
  let c0_908 : Index := 0#32
  let c128_909 : Index := 128#32
  let c2_i32_904 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1334 : BitVec 32 := Scalar.subi arg9 v1272
  let v1335 : BitVec 32 := Scalar.muli c2_i32_904 v1334
  let c1_i32_905 : BitVec 32 := 1#32
  let v1336 : BitVec 32 := Scalar.addi v1335 c1_i32_905
  let v1337 : BitVec 32 := Scalar.subi v1336 c0_i32_906
  let c128_i32_907 : BitVec 32 := 128#32
  let v1338 : BitVec 32 := Scalar.muli v1337 c128_i32_907
  let v1339 : BitVec 32 := v1338
  let v1340 : Index := Scalar.indexCast v1339
  ![0, 128, v1340.toNat]
def k0_mult70 (k0_t1 : Fin k0_t1_loop.trips) (k0_t3 : Fin (k0_t3_loop k0_t1).trips) : BitVec 32 :=
  let c2_i32_915 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1347 : BitVec 32 := Scalar.subi arg9 v1272
  let v1348 : BitVec 32 := Scalar.muli c2_i32_915 v1347
  let c1_i32_916 : BitVec 32 := 1#32
  let v1349 : BitVec 32 := Scalar.addi v1348 c1_i32_916
  let c1_i32_917 : BitVec 32 := 1#32
  let v1350 : BitVec 32 := Scalar.subi v1349 c1_i32_917
  let c128_i32_918 : BitVec 32 := 128#32
  let v1351 : BitVec 32 := Scalar.muli v1350 c128_i32_918
  v1351
def k0_mult71 (k0_t1 : Fin k0_t1_loop.trips) (k0_t3 : Fin (k0_t3_loop k0_t1).trips) : BitVec 32 :=
  let c2_i32_930 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1364 : BitVec 32 := Scalar.subi arg9 v1272
  let v1365 : BitVec 32 := Scalar.muli c2_i32_930 v1364
  let c1_i32_931 : BitVec 32 := 1#32
  let v1366 : BitVec 32 := Scalar.addi v1365 c1_i32_931
  let c0_i32_932 : BitVec 32 := 0#32
  let v1367 : BitVec 32 := Scalar.subi v1366 c0_i32_932
  let c128_i32_933 : BitVec 32 := 128#32
  let v1368 : BitVec 32 := Scalar.muli v1367 c128_i32_933
  v1368
def k0_off32 (k0_t1 : Fin k0_t1_loop.trips) (k0_t3 : Fin (k0_t3_loop k0_t1).trips) (c0_i32_932 : BitVec 32) : Fin 3 → Nat :=
  let c0_934 : Index := 0#32
  let c192_935 : Index := 192#32
  let c2_i32_930 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1364 : BitVec 32 := Scalar.subi arg9 v1272
  let v1365 : BitVec 32 := Scalar.muli c2_i32_930 v1364
  let c1_i32_931 : BitVec 32 := 1#32
  let v1366 : BitVec 32 := Scalar.addi v1365 c1_i32_931
  let v1367 : BitVec 32 := Scalar.subi v1366 c0_i32_932
  let c128_i32_933 : BitVec 32 := 128#32
  let v1368 : BitVec 32 := Scalar.muli v1367 c128_i32_933
  let v1369 : BitVec 32 := v1368
  let v1370 : Index := Scalar.indexCast v1369
  ![0, 192, v1370.toNat]
def k0_mult72 (k0_t1 : Fin k0_t1_loop.trips) (k0_t3 : Fin (k0_t3_loop k0_t1).trips) : BitVec 32 :=
  let c2_i32_941 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_849 : BitVec 32 := 1#32
  let v1272 : BitVec 32 := Scalar.subi v1271 c1_i32_849
  let v1377 : BitVec 32 := Scalar.subi arg9 v1272
  let v1378 : BitVec 32 := Scalar.muli c2_i32_941 v1377
  let c1_i32_942 : BitVec 32 := 1#32
  let v1379 : BitVec 32 := Scalar.addi v1378 c1_i32_942
  let c1_i32_943 : BitVec 32 := 1#32
  let v1380 : BitVec 32 := Scalar.subi v1379 c1_i32_943
  let c128_i32_944 : BitVec 32 := 128#32
  let v1381 : BitVec 32 := Scalar.muli v1380 c128_i32_944
  v1381
def k0_mult73 (k0_t1 : Fin k0_t1_loop.trips) (k0_t3 : Fin (k0_t3_loop k0_t1).trips) : BitVec 32 :=
  let c2_i32_955 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1395 : BitVec 32 := Scalar.subi arg9 v1394
  let v1396 : BitVec 32 := Scalar.muli c2_i32_955 v1395
  let c1_i32_956 : BitVec 32 := 1#32
  let v1397 : BitVec 32 := Scalar.addi v1396 c1_i32_956
  let c0_i32_957 : BitVec 32 := 0#32
  let v1398 : BitVec 32 := Scalar.subi v1397 c0_i32_957
  let c128_i32_958 : BitVec 32 := 128#32
  let v1399 : BitVec 32 := Scalar.muli v1398 c128_i32_958
  v1399
def k0_off33 (k0_t1 : Fin k0_t1_loop.trips) (k0_t3 : Fin (k0_t3_loop k0_t1).trips) (c0_i32_957 : BitVec 32) : Fin 2 → Nat :=
  let c2_i32_955 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1395 : BitVec 32 := Scalar.subi arg9 v1394
  let v1396 : BitVec 32 := Scalar.muli c2_i32_955 v1395
  let c1_i32_956 : BitVec 32 := 1#32
  let v1397 : BitVec 32 := Scalar.addi v1396 c1_i32_956
  let v1398 : BitVec 32 := Scalar.subi v1397 c0_i32_957
  let c128_i32_958 : BitVec 32 := 128#32
  let v1399 : BitVec 32 := Scalar.muli v1398 c128_i32_958
  let v1400 : BitVec 32 := v1399
  let v1401 : Index := Scalar.indexCast v1400
  let c0_959 : Index := 0#32
  ![v1401.toNat, 0]
def k0_mult74 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_961 : BitVec 32 := 256#32
  let v1408 : BitVec 32 := Scalar.muli arg9 c256_i32_961
  v1408
def k0_off34 (k0_t1 : Fin k0_t1_loop.trips) : Fin 3 → Nat :=
  let c0_962 : Index := 0#32
  let c0_963 : Index := 0#32
  let c0_i32_50 : BitVec 32 := 0#32
  let c1_i32 : BitVec 32 := 1#32
  let arg9 : BitVec 32 := Scf.iv c0_i32_50 c1_i32 k0_t1
  let c256_i32_961 : BitVec 32 := 256#32
  let v1408 : BitVec 32 := Scalar.muli arg9 c256_i32_961
  let v1409 : BitVec 32 := v1408
  let v1410 : Index := Scalar.indexCast v1409
  ![0, 0, v1410.toNat]
def k0_mult75 (k0_t1 : Fin k0_t1_loop.trips) (k0_t3 : Fin (k0_t3_loop k0_t1).trips) : BitVec 32 :=
  let c2_i32_973 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1422 : BitVec 32 := Scalar.subi arg9 v1394
  let v1423 : BitVec 32 := Scalar.muli c2_i32_973 v1422
  let c1_i32_974 : BitVec 32 := 1#32
  let v1424 : BitVec 32 := Scalar.addi v1423 c1_i32_974
  let c0_i32_975 : BitVec 32 := 0#32
  let v1425 : BitVec 32 := Scalar.subi v1424 c0_i32_975
  let c128_i32_976 : BitVec 32 := 128#32
  let v1426 : BitVec 32 := Scalar.muli v1425 c128_i32_976
  v1426
def k0_off35 (k0_t1 : Fin k0_t1_loop.trips) (k0_t3 : Fin (k0_t3_loop k0_t1).trips) (c0_i32_975 : BitVec 32) : Fin 2 → Nat :=
  let c2_i32_973 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1422 : BitVec 32 := Scalar.subi arg9 v1394
  let v1423 : BitVec 32 := Scalar.muli c2_i32_973 v1422
  let c1_i32_974 : BitVec 32 := 1#32
  let v1424 : BitVec 32 := Scalar.addi v1423 c1_i32_974
  let v1425 : BitVec 32 := Scalar.subi v1424 c0_i32_975
  let c128_i32_976 : BitVec 32 := 128#32
  let v1426 : BitVec 32 := Scalar.muli v1425 c128_i32_976
  let v1427 : BitVec 32 := v1426
  let v1428 : Index := Scalar.indexCast v1427
  let c128_977 : Index := 128#32
  ![v1428.toNat, 128]
def k0_mult76 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_979 : BitVec 32 := 256#32
  let v1435 : BitVec 32 := Scalar.muli arg9 c256_i32_979
  v1435
def k0_off36 (k0_t1 : Fin k0_t1_loop.trips) : Fin 3 → Nat :=
  let c0_980 : Index := 0#32
  let c128_981 : Index := 128#32
  let c0_i32_50 : BitVec 32 := 0#32
  let c1_i32 : BitVec 32 := 1#32
  let arg9 : BitVec 32 := Scf.iv c0_i32_50 c1_i32 k0_t1
  let c256_i32_979 : BitVec 32 := 256#32
  let v1435 : BitVec 32 := Scalar.muli arg9 c256_i32_979
  let v1436 : BitVec 32 := v1435
  let v1437 : Index := Scalar.indexCast v1436
  ![0, 128, v1437.toNat]
def k0_mult77 (k0_t1 : Fin k0_t1_loop.trips) (k0_t3 : Fin (k0_t3_loop k0_t1).trips) : BitVec 32 :=
  let c2_i32_991 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1449 : BitVec 32 := Scalar.subi arg9 v1394
  let v1450 : BitVec 32 := Scalar.muli c2_i32_991 v1449
  let c1_i32_992 : BitVec 32 := 1#32
  let v1451 : BitVec 32 := Scalar.addi v1450 c1_i32_992
  let c1_i32_993 : BitVec 32 := 1#32
  let v1452 : BitVec 32 := Scalar.subi v1451 c1_i32_993
  let c128_i32_994 : BitVec 32 := 128#32
  let v1453 : BitVec 32 := Scalar.muli v1452 c128_i32_994
  v1453
def k0_mult78 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_997 : BitVec 32 := 256#32
  let v1462 : BitVec 32 := Scalar.muli arg9 c256_i32_997
  v1462
def k0_mult79 (k0_t1 : Fin k0_t1_loop.trips) (k0_t3 : Fin (k0_t3_loop k0_t1).trips) : BitVec 32 :=
  let c2_i32_1009 : BitVec 32 := 2#32
  let c0_i32_50 : BitVec 32 := 0#32
  let c1_i32 : BitVec 32 := 1#32
  let arg9 : BitVec 32 := Scf.iv c0_i32_50 c1_i32 k0_t1
  let c2_i32_515 : BitVec 32 := 2#32
  let c0_i32_330 : BitVec 32 := 0#32
  let c1_i32_322 : BitVec 32 := 1#32
  let v522 : BitVec 32 := Scalar.addi arg9 c1_i32_322
  let c0_i32_324 : BitVec 32 := 0#32
  let v524 : BitVec 1 := Scalar.cmpi .sgt v522 c0_i32_324
  let v525 : BitVec 32 := Scalar.extui v524
  let c0_i32_325 : BitVec 32 := 0#32
  let v526 : BitVec 1 := Scalar.cmpi .slt v522 c0_i32_325
  let v527 : BitVec 32 := Scalar.extui v526
  let v528 : BitVec 32 := Scalar.subi v525 v527
  let c2_i32_323 : BitVec 32 := 2#32
  let c0_i32_326 : BitVec 32 := 0#32
  let v529 : BitVec 1 := Scalar.cmpi .sgt c2_i32_323 c0_i32_326
  let v530 : BitVec 32 := Scalar.extui v529
  let c0_i32_327 : BitVec 32 := 0#32
  let v531 : BitVec 1 := Scalar.cmpi .slt c2_i32_323 c0_i32_327
  let v532 : BitVec 32 := Scalar.extui v531
  let v533 : BitVec 32 := Scalar.subi v530 v532
  let v534 : BitVec 1 := Scalar.cmpi .ne v528 v533
  let v535 : BitVec 32 := Scalar.remsi v522 c2_i32_323
  let c0_i32_328 : BitVec 32 := 0#32
  let v536 : BitVec 1 := Scalar.cmpi .ne v535 c0_i32_328
  let v537 : BitVec 1 := Scalar.andi v534 v536
  let v523 : BitVec 32 := Scalar.divsi v522 c2_i32_323
  let c1_i32_329 : BitVec 32 := 1#32
  let v538 : BitVec 32 := Scalar.subi v523 c1_i32_329
  let v539 : BitVec 32 := Scalar.select v537 v538 v523
  let v540 : BitVec 32 := Scalar.subi v539 c0_i32_330
  let c1_i32_331 : BitVec 32 := 1#32
  let v542 : BitVec 32 := Scalar.divsi v540 c1_i32_331
  let v543 : BitVec 32 := Scalar.muli v542 c1_i32_331
  let v544 : BitVec 32 := Scalar.addi c0_i32_330 v543
  let c1_i32_333 : BitVec 32 := 1#32
  let arg10 : BitVec 32 := Scf.iv v544 c1_i32_333 k0_t3
  let v802 : BitVec 32 := Scalar.muli c2_i32_515 arg10
  let c1_i32_516 : BitVec 32 := 1#32
  let v803 : BitVec 32 := Scalar.addi v802 c1_i32_516
  let c1_i32_848 : BitVec 32 := 1#32
  let v1271 : BitVec 32 := Scalar.addi v803 c1_i32_848
  let c1_i32_954 : BitVec 32 := 1#32
  let v1393 : BitVec 32 := Scalar.addi v1271 c1_i32_954
  let v1394 : BitVec 32 := Scalar.minsi v1393 arg9
  let v1476 : BitVec 32 := Scalar.subi arg9 v1394
  let v1477 : BitVec 32 := Scalar.muli c2_i32_1009 v1476
  let c1_i32_1010 : BitVec 32 := 1#32
  let v1478 : BitVec 32 := Scalar.addi v1477 c1_i32_1010
  let c1_i32_1011 : BitVec 32 := 1#32
  let v1479 : BitVec 32 := Scalar.subi v1478 c1_i32_1011
  let c128_i32_1012 : BitVec 32 := 128#32
  let v1480 : BitVec 32 := Scalar.muli v1479 c128_i32_1012
  v1480
def k0_mult80 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_1015 : BitVec 32 := 256#32
  let v1489 : BitVec 32 := Scalar.muli arg9 c256_i32_1015
  v1489
def k0_mult81 (k0_t1 : Fin k0_t1_loop.trips) : BitVec 32 :=
  let c2_i32_342 : BitVec 32 := 2#32
  let c0_i32_50 : BitVec 32 := 0#32
  let c1_i32 : BitVec 32 := 1#32
  let arg9 : BitVec 32 := Scf.iv c0_i32_50 c1_i32 k0_t1
  let v558 : BitVec 32 := Scalar.subi arg9 arg9
  let v559 : BitVec 32 := Scalar.muli c2_i32_342 v558
  let c1_i32_343 : BitVec 32 := 1#32
  let v560 : BitVec 32 := Scalar.addi v559 c1_i32_343
  let c0_i32_344 : BitVec 32 := 0#32
  let v561 : BitVec 32 := Scalar.subi v560 c0_i32_344
  let c128_i32_345 : BitVec 32 := 128#32
  let v562 : BitVec 32 := Scalar.muli v561 c128_i32_345
  v562
def k0_off37 (k0_t1 : Fin k0_t1_loop.trips) (c0_i32_344 : BitVec 32) : Fin 3 → Nat :=
  let c0_346 : Index := 0#32
  let c0_347 : Index := 0#32
  let c2_i32_342 : BitVec 32 := 2#32
  let c0_i32_50 : BitVec 32 := 0#32
  let c1_i32 : BitVec 32 := 1#32
  let arg9 : BitVec 32 := Scf.iv c0_i32_50 c1_i32 k0_t1
  let v558 : BitVec 32 := Scalar.subi arg9 arg9
  let v559 : BitVec 32 := Scalar.muli c2_i32_342 v558
  let c1_i32_343 : BitVec 32 := 1#32
  let v560 : BitVec 32 := Scalar.addi v559 c1_i32_343
  let v561 : BitVec 32 := Scalar.subi v560 c0_i32_344
  let c128_i32_345 : BitVec 32 := 128#32
  let v562 : BitVec 32 := Scalar.muli v561 c128_i32_345
  let v563 : BitVec 32 := v562
  let v564 : Index := Scalar.indexCast v563
  ![0, 0, v564.toNat]
def k0_off38 (k0_t1 : Fin k0_t1_loop.trips) : Fin 4 → Nat :=
  let c0_i32_50 : BitVec 32 := 0#32
  let c1_i32 : BitVec 32 := 1#32
  let arg9 : BitVec 32 := Scf.iv c0_i32_50 c1_i32 k0_t1
  let c2_i32_334 : BitVec 32 := 2#32
  let c0_i32_335 : BitVec 32 := 0#32
  let v547 : BitVec 1 := Scalar.cmpi .eq c2_i32_334 c0_i32_335
  let c1_i32_336 : BitVec 32 := 1#32
  let v548 : BitVec 32 := Scalar.select v547 c1_i32_336 c2_i32_334
  let v549 : BitVec 32 := Scalar.remsi arg9 v548
  let c0_i32_338 : BitVec 32 := 0#32
  let v551 : BitVec 1 := Scalar.cmpi .slt v549 c0_i32_338
  let c0_i32_339 : BitVec 32 := 0#32
  let v552 : BitVec 1 := Scalar.cmpi .slt v548 c0_i32_339
  let v553 : BitVec 1 := Scalar.xori v551 v552
  let c0_i32_337 : BitVec 32 := 0#32
  let v550 : BitVec 1 := Scalar.cmpi .ne v549 c0_i32_337
  let v554 : BitVec 1 := Scalar.andi v553 v550
  let v555 : BitVec 32 := Scalar.addi v549 v548
  let v556 : BitVec 32 := Scalar.select v554 v555 v549
  let v567 : Index := Scalar.indexCast v556
  let c0_348 : Index := 0#32
  let c0_349 : Index := 0#32
  let c0_350 : Index := 0#32
  ![v567.toNat, 0, 0, 0]
def k0_mult82 (k0_t1 : Fin k0_t1_loop.trips) : BitVec 32 :=
  let c2_i32_352 : BitVec 32 := 2#32
  let c0_i32_50 : BitVec 32 := 0#32
  let c1_i32 : BitVec 32 := 1#32
  let arg9 : BitVec 32 := Scf.iv c0_i32_50 c1_i32 k0_t1
  let v572 : BitVec 32 := Scalar.subi arg9 arg9
  let v573 : BitVec 32 := Scalar.muli c2_i32_352 v572
  let c1_i32_353 : BitVec 32 := 1#32
  let v574 : BitVec 32 := Scalar.addi v573 c1_i32_353
  let c1_i32_354 : BitVec 32 := 1#32
  let v575 : BitVec 32 := Scalar.subi v574 c1_i32_354
  let c128_i32_355 : BitVec 32 := 128#32
  let v576 : BitVec 32 := Scalar.muli v575 c128_i32_355
  v576
def k0_off39 (k0_t1 : Fin k0_t1_loop.trips) : Fin 4 → Nat :=
  let c0_i32_50 : BitVec 32 := 0#32
  let c1_i32 : BitVec 32 := 1#32
  let arg9 : BitVec 32 := Scf.iv c0_i32_50 c1_i32 k0_t1
  let c2_i32_334 : BitVec 32 := 2#32
  let c0_i32_335 : BitVec 32 := 0#32
  let v547 : BitVec 1 := Scalar.cmpi .eq c2_i32_334 c0_i32_335
  let c1_i32_336 : BitVec 32 := 1#32
  let v548 : BitVec 32 := Scalar.select v547 c1_i32_336 c2_i32_334
  let v549 : BitVec 32 := Scalar.remsi arg9 v548
  let c0_i32_338 : BitVec 32 := 0#32
  let v551 : BitVec 1 := Scalar.cmpi .slt v549 c0_i32_338
  let c0_i32_339 : BitVec 32 := 0#32
  let v552 : BitVec 1 := Scalar.cmpi .slt v548 c0_i32_339
  let v553 : BitVec 1 := Scalar.xori v551 v552
  let c0_i32_337 : BitVec 32 := 0#32
  let v550 : BitVec 1 := Scalar.cmpi .ne v549 c0_i32_337
  let v554 : BitVec 1 := Scalar.andi v553 v550
  let v555 : BitVec 32 := Scalar.addi v549 v548
  let v556 : BitVec 32 := Scalar.select v554 v555 v549
  let v581 : Index := Scalar.indexCast v556
  let c4_358 : Index := 4#32
  let c0_359 : Index := 0#32
  let c0_360 : Index := 0#32
  ![v581.toNat, 4, 0, 0]
def k0_mult83 (k0_t1 : Fin k0_t1_loop.trips) : BitVec 32 :=
  let c2_i32_365 : BitVec 32 := 2#32
  let c0_i32_50 : BitVec 32 := 0#32
  let c1_i32 : BitVec 32 := 1#32
  let arg9 : BitVec 32 := Scf.iv c0_i32_50 c1_i32 k0_t1
  let v590 : BitVec 32 := Scalar.subi arg9 arg9
  let v591 : BitVec 32 := Scalar.muli c2_i32_365 v590
  let c1_i32_366 : BitVec 32 := 1#32
  let v592 : BitVec 32 := Scalar.addi v591 c1_i32_366
  let c0_i32_367 : BitVec 32 := 0#32
  let v593 : BitVec 32 := Scalar.subi v592 c0_i32_367
  let c128_i32_368 : BitVec 32 := 128#32
  let v594 : BitVec 32 := Scalar.muli v593 c128_i32_368
  v594
def k0_off40 (k0_t1 : Fin k0_t1_loop.trips) (c0_i32_367 : BitVec 32) : Fin 3 → Nat :=
  let c0_369 : Index := 0#32
  let c64_370 : Index := 64#32
  let c2_i32_365 : BitVec 32 := 2#32
  let c0_i32_50 : BitVec 32 := 0#32
  let c1_i32 : BitVec 32 := 1#32
  let arg9 : BitVec 32 := Scf.iv c0_i32_50 c1_i32 k0_t1
  let v590 : BitVec 32 := Scalar.subi arg9 arg9
  let v591 : BitVec 32 := Scalar.muli c2_i32_365 v590
  let c1_i32_366 : BitVec 32 := 1#32
  let v592 : BitVec 32 := Scalar.addi v591 c1_i32_366
  let v593 : BitVec 32 := Scalar.subi v592 c0_i32_367
  let c128_i32_368 : BitVec 32 := 128#32
  let v594 : BitVec 32 := Scalar.muli v593 c128_i32_368
  let v595 : BitVec 32 := v594
  let v596 : Index := Scalar.indexCast v595
  ![0, 64, v596.toNat]
def k0_off41 (k0_t1 : Fin k0_t1_loop.trips) : Fin 4 → Nat :=
  let c0_i32_50 : BitVec 32 := 0#32
  let c1_i32 : BitVec 32 := 1#32
  let arg9 : BitVec 32 := Scf.iv c0_i32_50 c1_i32 k0_t1
  let c2_i32_334 : BitVec 32 := 2#32
  let c0_i32_335 : BitVec 32 := 0#32
  let v547 : BitVec 1 := Scalar.cmpi .eq c2_i32_334 c0_i32_335
  let c1_i32_336 : BitVec 32 := 1#32
  let v548 : BitVec 32 := Scalar.select v547 c1_i32_336 c2_i32_334
  let v549 : BitVec 32 := Scalar.remsi arg9 v548
  let c0_i32_338 : BitVec 32 := 0#32
  let v551 : BitVec 1 := Scalar.cmpi .slt v549 c0_i32_338
  let c0_i32_339 : BitVec 32 := 0#32
  let v552 : BitVec 1 := Scalar.cmpi .slt v548 c0_i32_339
  let v553 : BitVec 1 := Scalar.xori v551 v552
  let c0_i32_337 : BitVec 32 := 0#32
  let v550 : BitVec 1 := Scalar.cmpi .ne v549 c0_i32_337
  let v554 : BitVec 1 := Scalar.andi v553 v550
  let v555 : BitVec 32 := Scalar.addi v549 v548
  let v556 : BitVec 32 := Scalar.select v554 v555 v549
  let v599 : Index := Scalar.indexCast v556
  let c1_371 : Index := 1#32
  let c0_372 : Index := 0#32
  let c0_373 : Index := 0#32
  ![v599.toNat, 1, 0, 0]
def k0_mult84 (k0_t1 : Fin k0_t1_loop.trips) : BitVec 32 :=
  let c2_i32_375 : BitVec 32 := 2#32
  let c0_i32_50 : BitVec 32 := 0#32
  let c1_i32 : BitVec 32 := 1#32
  let arg9 : BitVec 32 := Scf.iv c0_i32_50 c1_i32 k0_t1
  let v604 : BitVec 32 := Scalar.subi arg9 arg9
  let v605 : BitVec 32 := Scalar.muli c2_i32_375 v604
  let c1_i32_376 : BitVec 32 := 1#32
  let v606 : BitVec 32 := Scalar.addi v605 c1_i32_376
  let c1_i32_377 : BitVec 32 := 1#32
  let v607 : BitVec 32 := Scalar.subi v606 c1_i32_377
  let c128_i32_378 : BitVec 32 := 128#32
  let v608 : BitVec 32 := Scalar.muli v607 c128_i32_378
  v608
def k0_off42 (k0_t1 : Fin k0_t1_loop.trips) : Fin 4 → Nat :=
  let c0_i32_50 : BitVec 32 := 0#32
  let c1_i32 : BitVec 32 := 1#32
  let arg9 : BitVec 32 := Scf.iv c0_i32_50 c1_i32 k0_t1
  let c2_i32_334 : BitVec 32 := 2#32
  let c0_i32_335 : BitVec 32 := 0#32
  let v547 : BitVec 1 := Scalar.cmpi .eq c2_i32_334 c0_i32_335
  let c1_i32_336 : BitVec 32 := 1#32
  let v548 : BitVec 32 := Scalar.select v547 c1_i32_336 c2_i32_334
  let v549 : BitVec 32 := Scalar.remsi arg9 v548
  let c0_i32_338 : BitVec 32 := 0#32
  let v551 : BitVec 1 := Scalar.cmpi .slt v549 c0_i32_338
  let c0_i32_339 : BitVec 32 := 0#32
  let v552 : BitVec 1 := Scalar.cmpi .slt v548 c0_i32_339
  let v553 : BitVec 1 := Scalar.xori v551 v552
  let c0_i32_337 : BitVec 32 := 0#32
  let v550 : BitVec 1 := Scalar.cmpi .ne v549 c0_i32_337
  let v554 : BitVec 1 := Scalar.andi v553 v550
  let v555 : BitVec 32 := Scalar.addi v549 v548
  let v556 : BitVec 32 := Scalar.select v554 v555 v549
  let v613 : Index := Scalar.indexCast v556
  let c5_381 : Index := 5#32
  let c0_382 : Index := 0#32
  let c0_383 : Index := 0#32
  ![v613.toNat, 5, 0, 0]
def k0_mult85 (k0_t1 : Fin k0_t1_loop.trips) : BitVec 32 :=
  let c2_i32_389 : BitVec 32 := 2#32
  let c0_i32_50 : BitVec 32 := 0#32
  let c1_i32 : BitVec 32 := 1#32
  let arg9 : BitVec 32 := Scf.iv c0_i32_50 c1_i32 k0_t1
  let v622 : BitVec 32 := Scalar.subi arg9 arg9
  let v623 : BitVec 32 := Scalar.muli c2_i32_389 v622
  let c1_i32_390 : BitVec 32 := 1#32
  let v624 : BitVec 32 := Scalar.addi v623 c1_i32_390
  let c0_i32_391 : BitVec 32 := 0#32
  let v625 : BitVec 32 := Scalar.subi v624 c0_i32_391
  let c128_i32_392 : BitVec 32 := 128#32
  let v626 : BitVec 32 := Scalar.muli v625 c128_i32_392
  v626
def k0_off43 (k0_t1 : Fin k0_t1_loop.trips) (c0_i32_391 : BitVec 32) : Fin 3 → Nat :=
  let c0_393 : Index := 0#32
  let c128_394 : Index := 128#32
  let c2_i32_389 : BitVec 32 := 2#32
  let c0_i32_50 : BitVec 32 := 0#32
  let c1_i32 : BitVec 32 := 1#32
  let arg9 : BitVec 32 := Scf.iv c0_i32_50 c1_i32 k0_t1
  let v622 : BitVec 32 := Scalar.subi arg9 arg9
  let v623 : BitVec 32 := Scalar.muli c2_i32_389 v622
  let c1_i32_390 : BitVec 32 := 1#32
  let v624 : BitVec 32 := Scalar.addi v623 c1_i32_390
  let v625 : BitVec 32 := Scalar.subi v624 c0_i32_391
  let c128_i32_392 : BitVec 32 := 128#32
  let v626 : BitVec 32 := Scalar.muli v625 c128_i32_392
  let v627 : BitVec 32 := v626
  let v628 : Index := Scalar.indexCast v627
  ![0, 128, v628.toNat]
def k0_off44 (k0_t1 : Fin k0_t1_loop.trips) : Fin 4 → Nat :=
  let c0_i32_50 : BitVec 32 := 0#32
  let c1_i32 : BitVec 32 := 1#32
  let arg9 : BitVec 32 := Scf.iv c0_i32_50 c1_i32 k0_t1
  let c2_i32_334 : BitVec 32 := 2#32
  let c0_i32_335 : BitVec 32 := 0#32
  let v547 : BitVec 1 := Scalar.cmpi .eq c2_i32_334 c0_i32_335
  let c1_i32_336 : BitVec 32 := 1#32
  let v548 : BitVec 32 := Scalar.select v547 c1_i32_336 c2_i32_334
  let v549 : BitVec 32 := Scalar.remsi arg9 v548
  let c0_i32_338 : BitVec 32 := 0#32
  let v551 : BitVec 1 := Scalar.cmpi .slt v549 c0_i32_338
  let c0_i32_339 : BitVec 32 := 0#32
  let v552 : BitVec 1 := Scalar.cmpi .slt v548 c0_i32_339
  let v553 : BitVec 1 := Scalar.xori v551 v552
  let c0_i32_337 : BitVec 32 := 0#32
  let v550 : BitVec 1 := Scalar.cmpi .ne v549 c0_i32_337
  let v554 : BitVec 1 := Scalar.andi v553 v550
  let v555 : BitVec 32 := Scalar.addi v549 v548
  let v556 : BitVec 32 := Scalar.select v554 v555 v549
  let v631 : Index := Scalar.indexCast v556
  let c2_395 : Index := 2#32
  let c0_396 : Index := 0#32
  let c0_397 : Index := 0#32
  ![v631.toNat, 2, 0, 0]
def k0_mult86 (k0_t1 : Fin k0_t1_loop.trips) : BitVec 32 :=
  let c2_i32_399 : BitVec 32 := 2#32
  let c0_i32_50 : BitVec 32 := 0#32
  let c1_i32 : BitVec 32 := 1#32
  let arg9 : BitVec 32 := Scf.iv c0_i32_50 c1_i32 k0_t1
  let v636 : BitVec 32 := Scalar.subi arg9 arg9
  let v637 : BitVec 32 := Scalar.muli c2_i32_399 v636
  let c1_i32_400 : BitVec 32 := 1#32
  let v638 : BitVec 32 := Scalar.addi v637 c1_i32_400
  let c1_i32_401 : BitVec 32 := 1#32
  let v639 : BitVec 32 := Scalar.subi v638 c1_i32_401
  let c128_i32_402 : BitVec 32 := 128#32
  let v640 : BitVec 32 := Scalar.muli v639 c128_i32_402
  v640
def k0_off45 (k0_t1 : Fin k0_t1_loop.trips) : Fin 4 → Nat :=
  let c0_i32_50 : BitVec 32 := 0#32
  let c1_i32 : BitVec 32 := 1#32
  let arg9 : BitVec 32 := Scf.iv c0_i32_50 c1_i32 k0_t1
  let c2_i32_334 : BitVec 32 := 2#32
  let c0_i32_335 : BitVec 32 := 0#32
  let v547 : BitVec 1 := Scalar.cmpi .eq c2_i32_334 c0_i32_335
  let c1_i32_336 : BitVec 32 := 1#32
  let v548 : BitVec 32 := Scalar.select v547 c1_i32_336 c2_i32_334
  let v549 : BitVec 32 := Scalar.remsi arg9 v548
  let c0_i32_338 : BitVec 32 := 0#32
  let v551 : BitVec 1 := Scalar.cmpi .slt v549 c0_i32_338
  let c0_i32_339 : BitVec 32 := 0#32
  let v552 : BitVec 1 := Scalar.cmpi .slt v548 c0_i32_339
  let v553 : BitVec 1 := Scalar.xori v551 v552
  let c0_i32_337 : BitVec 32 := 0#32
  let v550 : BitVec 1 := Scalar.cmpi .ne v549 c0_i32_337
  let v554 : BitVec 1 := Scalar.andi v553 v550
  let v555 : BitVec 32 := Scalar.addi v549 v548
  let v556 : BitVec 32 := Scalar.select v554 v555 v549
  let v645 : Index := Scalar.indexCast v556
  let c6_405 : Index := 6#32
  let c0_406 : Index := 0#32
  let c0_407 : Index := 0#32
  ![v645.toNat, 6, 0, 0]
def k0_mult87 (k0_t1 : Fin k0_t1_loop.trips) : BitVec 32 :=
  let c2_i32_412 : BitVec 32 := 2#32
  let c0_i32_50 : BitVec 32 := 0#32
  let c1_i32 : BitVec 32 := 1#32
  let arg9 : BitVec 32 := Scf.iv c0_i32_50 c1_i32 k0_t1
  let v654 : BitVec 32 := Scalar.subi arg9 arg9
  let v655 : BitVec 32 := Scalar.muli c2_i32_412 v654
  let c1_i32_413 : BitVec 32 := 1#32
  let v656 : BitVec 32 := Scalar.addi v655 c1_i32_413
  let c0_i32_414 : BitVec 32 := 0#32
  let v657 : BitVec 32 := Scalar.subi v656 c0_i32_414
  let c128_i32_415 : BitVec 32 := 128#32
  let v658 : BitVec 32 := Scalar.muli v657 c128_i32_415
  v658
def k0_off46 (k0_t1 : Fin k0_t1_loop.trips) (c0_i32_414 : BitVec 32) : Fin 3 → Nat :=
  let c0_416 : Index := 0#32
  let c192_417 : Index := 192#32
  let c2_i32_412 : BitVec 32 := 2#32
  let c0_i32_50 : BitVec 32 := 0#32
  let c1_i32 : BitVec 32 := 1#32
  let arg9 : BitVec 32 := Scf.iv c0_i32_50 c1_i32 k0_t1
  let v654 : BitVec 32 := Scalar.subi arg9 arg9
  let v655 : BitVec 32 := Scalar.muli c2_i32_412 v654
  let c1_i32_413 : BitVec 32 := 1#32
  let v656 : BitVec 32 := Scalar.addi v655 c1_i32_413
  let v657 : BitVec 32 := Scalar.subi v656 c0_i32_414
  let c128_i32_415 : BitVec 32 := 128#32
  let v658 : BitVec 32 := Scalar.muli v657 c128_i32_415
  let v659 : BitVec 32 := v658
  let v660 : Index := Scalar.indexCast v659
  ![0, 192, v660.toNat]
def k0_off47 (k0_t1 : Fin k0_t1_loop.trips) : Fin 4 → Nat :=
  let c0_i32_50 : BitVec 32 := 0#32
  let c1_i32 : BitVec 32 := 1#32
  let arg9 : BitVec 32 := Scf.iv c0_i32_50 c1_i32 k0_t1
  let c2_i32_334 : BitVec 32 := 2#32
  let c0_i32_335 : BitVec 32 := 0#32
  let v547 : BitVec 1 := Scalar.cmpi .eq c2_i32_334 c0_i32_335
  let c1_i32_336 : BitVec 32 := 1#32
  let v548 : BitVec 32 := Scalar.select v547 c1_i32_336 c2_i32_334
  let v549 : BitVec 32 := Scalar.remsi arg9 v548
  let c0_i32_338 : BitVec 32 := 0#32
  let v551 : BitVec 1 := Scalar.cmpi .slt v549 c0_i32_338
  let c0_i32_339 : BitVec 32 := 0#32
  let v552 : BitVec 1 := Scalar.cmpi .slt v548 c0_i32_339
  let v553 : BitVec 1 := Scalar.xori v551 v552
  let c0_i32_337 : BitVec 32 := 0#32
  let v550 : BitVec 1 := Scalar.cmpi .ne v549 c0_i32_337
  let v554 : BitVec 1 := Scalar.andi v553 v550
  let v555 : BitVec 32 := Scalar.addi v549 v548
  let v556 : BitVec 32 := Scalar.select v554 v555 v549
  let v663 : Index := Scalar.indexCast v556
  let c3_418 : Index := 3#32
  let c0_419 : Index := 0#32
  let c0_420 : Index := 0#32
  ![v663.toNat, 3, 0, 0]
def k0_mult88 (k0_t1 : Fin k0_t1_loop.trips) : BitVec 32 :=
  let c2_i32_422 : BitVec 32 := 2#32
  let c0_i32_50 : BitVec 32 := 0#32
  let c1_i32 : BitVec 32 := 1#32
  let arg9 : BitVec 32 := Scf.iv c0_i32_50 c1_i32 k0_t1
  let v668 : BitVec 32 := Scalar.subi arg9 arg9
  let v669 : BitVec 32 := Scalar.muli c2_i32_422 v668
  let c1_i32_423 : BitVec 32 := 1#32
  let v670 : BitVec 32 := Scalar.addi v669 c1_i32_423
  let c1_i32_424 : BitVec 32 := 1#32
  let v671 : BitVec 32 := Scalar.subi v670 c1_i32_424
  let c128_i32_425 : BitVec 32 := 128#32
  let v672 : BitVec 32 := Scalar.muli v671 c128_i32_425
  v672
def k0_off48 (k0_t1 : Fin k0_t1_loop.trips) : Fin 4 → Nat :=
  let c0_i32_50 : BitVec 32 := 0#32
  let c1_i32 : BitVec 32 := 1#32
  let arg9 : BitVec 32 := Scf.iv c0_i32_50 c1_i32 k0_t1
  let c2_i32_334 : BitVec 32 := 2#32
  let c0_i32_335 : BitVec 32 := 0#32
  let v547 : BitVec 1 := Scalar.cmpi .eq c2_i32_334 c0_i32_335
  let c1_i32_336 : BitVec 32 := 1#32
  let v548 : BitVec 32 := Scalar.select v547 c1_i32_336 c2_i32_334
  let v549 : BitVec 32 := Scalar.remsi arg9 v548
  let c0_i32_338 : BitVec 32 := 0#32
  let v551 : BitVec 1 := Scalar.cmpi .slt v549 c0_i32_338
  let c0_i32_339 : BitVec 32 := 0#32
  let v552 : BitVec 1 := Scalar.cmpi .slt v548 c0_i32_339
  let v553 : BitVec 1 := Scalar.xori v551 v552
  let c0_i32_337 : BitVec 32 := 0#32
  let v550 : BitVec 1 := Scalar.cmpi .ne v549 c0_i32_337
  let v554 : BitVec 1 := Scalar.andi v553 v550
  let v555 : BitVec 32 := Scalar.addi v549 v548
  let v556 : BitVec 32 := Scalar.select v554 v555 v549
  let v677 : Index := Scalar.indexCast v556
  let c7_428 : Index := 7#32
  let c0_429 : Index := 0#32
  let c0_430 : Index := 0#32
  ![v677.toNat, 7, 0, 0]
def k0_mult89 (k0_t1 : Fin k0_t1_loop.trips) : BitVec 32 :=
  let c2_i32_436 : BitVec 32 := 2#32
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c0_i32_435 : BitVec 32 := 0#32
  let v687 : BitVec 32 := Scalar.subi v686 c0_i32_435
  let v688 : BitVec 32 := Scalar.muli c2_i32_436 v687
  let c1_i32_437 : BitVec 32 := 1#32
  let v689 : BitVec 32 := Scalar.addi v688 c1_i32_437
  let c0_i32_438 : BitVec 32 := 0#32
  let v690 : BitVec 32 := Scalar.subi v689 c0_i32_438
  let c128_i32_439 : BitVec 32 := 128#32
  let v691 : BitVec 32 := Scalar.muli v690 c128_i32_439
  v691
def k0_off49 (k0_t1 : Fin k0_t1_loop.trips) (c0_i32_438 : BitVec 32) : Fin 2 → Nat :=
  let c2_i32_436 : BitVec 32 := 2#32
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c0_i32_435 : BitVec 32 := 0#32
  let v687 : BitVec 32 := Scalar.subi v686 c0_i32_435
  let v688 : BitVec 32 := Scalar.muli c2_i32_436 v687
  let c1_i32_437 : BitVec 32 := 1#32
  let v689 : BitVec 32 := Scalar.addi v688 c1_i32_437
  let v690 : BitVec 32 := Scalar.subi v689 c0_i32_438
  let c128_i32_439 : BitVec 32 := 128#32
  let v691 : BitVec 32 := Scalar.muli v690 c128_i32_439
  let v692 : BitVec 32 := v691
  let v693 : Index := Scalar.indexCast v692
  let c0_440 : Index := 0#32
  ![v693.toNat, 0]
def k0_mult90 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c256_i32_442 : BitVec 32 := 256#32
  let v700 : BitVec 32 := Scalar.muli v686 c256_i32_442
  v700
def k0_off50 (k0_t1 : Fin k0_t1_loop.trips) : Fin 3 → Nat :=
  let c0_443 : Index := 0#32
  let c0_444 : Index := 0#32
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c256_i32_442 : BitVec 32 := 256#32
  let v700 : BitVec 32 := Scalar.muli v686 c256_i32_442
  let v701 : BitVec 32 := v700
  let v702 : Index := Scalar.indexCast v701
  ![0, 0, v702.toNat]
def k0_mult91 (k0_t1 : Fin k0_t1_loop.trips) : BitVec 32 :=
  let c2_i32_455 : BitVec 32 := 2#32
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c0_i32_454 : BitVec 32 := 0#32
  let v714 : BitVec 32 := Scalar.subi v686 c0_i32_454
  let v715 : BitVec 32 := Scalar.muli c2_i32_455 v714
  let c1_i32_456 : BitVec 32 := 1#32
  let v716 : BitVec 32 := Scalar.addi v715 c1_i32_456
  let c0_i32_457 : BitVec 32 := 0#32
  let v717 : BitVec 32 := Scalar.subi v716 c0_i32_457
  let c128_i32_458 : BitVec 32 := 128#32
  let v718 : BitVec 32 := Scalar.muli v717 c128_i32_458
  v718
def k0_off51 (k0_t1 : Fin k0_t1_loop.trips) (c0_i32_457 : BitVec 32) : Fin 2 → Nat :=
  let c2_i32_455 : BitVec 32 := 2#32
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c0_i32_454 : BitVec 32 := 0#32
  let v714 : BitVec 32 := Scalar.subi v686 c0_i32_454
  let v715 : BitVec 32 := Scalar.muli c2_i32_455 v714
  let c1_i32_456 : BitVec 32 := 1#32
  let v716 : BitVec 32 := Scalar.addi v715 c1_i32_456
  let v717 : BitVec 32 := Scalar.subi v716 c0_i32_457
  let c128_i32_458 : BitVec 32 := 128#32
  let v718 : BitVec 32 := Scalar.muli v717 c128_i32_458
  let v719 : BitVec 32 := v718
  let v720 : Index := Scalar.indexCast v719
  let c128_459 : Index := 128#32
  ![v720.toNat, 128]
def k0_mult92 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c256_i32_461 : BitVec 32 := 256#32
  let v727 : BitVec 32 := Scalar.muli v686 c256_i32_461
  v727
def k0_off52 (k0_t1 : Fin k0_t1_loop.trips) : Fin 3 → Nat :=
  let c0_462 : Index := 0#32
  let c128_463 : Index := 128#32
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c256_i32_461 : BitVec 32 := 256#32
  let v727 : BitVec 32 := Scalar.muli v686 c256_i32_461
  let v728 : BitVec 32 := v727
  let v729 : Index := Scalar.indexCast v728
  ![0, 128, v729.toNat]
def k0_mult93 (k0_t1 : Fin k0_t1_loop.trips) : BitVec 32 :=
  let c2_i32_474 : BitVec 32 := 2#32
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c0_i32_473 : BitVec 32 := 0#32
  let v741 : BitVec 32 := Scalar.subi v686 c0_i32_473
  let v742 : BitVec 32 := Scalar.muli c2_i32_474 v741
  let c1_i32_475 : BitVec 32 := 1#32
  let v743 : BitVec 32 := Scalar.addi v742 c1_i32_475
  let c1_i32_476 : BitVec 32 := 1#32
  let v744 : BitVec 32 := Scalar.subi v743 c1_i32_476
  let c128_i32_477 : BitVec 32 := 128#32
  let v745 : BitVec 32 := Scalar.muli v744 c128_i32_477
  v745
def k0_mult94 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c256_i32_480 : BitVec 32 := 256#32
  let v754 : BitVec 32 := Scalar.muli v686 c256_i32_480
  v754
def k0_mult95 (k0_t1 : Fin k0_t1_loop.trips) : BitVec 32 :=
  let c2_i32_493 : BitVec 32 := 2#32
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c0_i32_492 : BitVec 32 := 0#32
  let v768 : BitVec 32 := Scalar.subi v686 c0_i32_492
  let v769 : BitVec 32 := Scalar.muli c2_i32_493 v768
  let c1_i32_494 : BitVec 32 := 1#32
  let v770 : BitVec 32 := Scalar.addi v769 c1_i32_494
  let c1_i32_495 : BitVec 32 := 1#32
  let v771 : BitVec 32 := Scalar.subi v770 c1_i32_495
  let c128_i32_496 : BitVec 32 := 128#32
  let v772 : BitVec 32 := Scalar.muli v771 c128_i32_496
  v772
def k0_mult96 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c1_i32_434 : BitVec 32 := 1#32
  let v685 : BitVec 32 := Scalar.addi arg9 c1_i32_434
  let c7_i32 : BitVec 32 := 7#32
  let v686 : BitVec 32 := Scalar.minsi v685 c7_i32
  let c256_i32_499 : BitVec 32 := 256#32
  let v781 : BitVec 32 := Scalar.muli v686 c256_i32_499
  v781
def k0_mult97 (k0_t1 : Fin k0_t1_loop.trips) : BitVec 32 :=
  let c0_i32_50 : BitVec 32 := 0#32
  let c1_i32 : BitVec 32 := 1#32
  let arg9 : BitVec 32 := Scf.iv c0_i32_50 c1_i32 k0_t1
  let c256_i32_513 : BitVec 32 := 256#32
  let v798 : BitVec 32 := Scalar.muli arg9 c256_i32_513
  v798
def k0_off53 (k0_t1 : Fin k0_t1_loop.trips) : Fin 2 → Nat :=
  let c0_i32_50 : BitVec 32 := 0#32
  let c1_i32 : BitVec 32 := 1#32
  let arg9 : BitVec 32 := Scf.iv c0_i32_50 c1_i32 k0_t1
  let c256_i32_513 : BitVec 32 := 256#32
  let v798 : BitVec 32 := Scalar.muli arg9 c256_i32_513
  let v799 : BitVec 32 := v798
  let v800 : Index := Scalar.indexCast v799
  let c0_514 : Index := 0#32
  ![v800.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "clamp" => some ⊤
  | _ => none
-- ==== ReferenceIdeal.lean ====
abbrev S32x2048x1024 : Shape := ⟨3, ![32, 2048, 1024]⟩
abbrev S32x2048x16x64 : Shape := ⟨4, ![32, 2048, 16, 64]⟩
abbrev S32x16x2048x64 : Shape := ⟨4, ![32, 16, 2048, 64]⟩
abbrev S32x16x2048x2048 : Shape := ⟨4, ![32, 16, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S65536x1024 : Shape := ⟨2, ![65536, 1024]⟩

abbrev nBuf : Space → Nat
  | .hbm => 73
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S32x2048x1024, .f32⟩
  | .hbm, ⟨3, _⟩ => ⟨S32x2048x16x64, .f32⟩
  | .hbm, ⟨4, _⟩ => ⟨S32x16x2048x64, .f32⟩
  | .hbm, ⟨5, _⟩ => ⟨S32x2048x16x64, .f32⟩
  | .hbm, ⟨6, _⟩ => ⟨S32x16x2048x64, .f32⟩
  | .hbm, ⟨7, _⟩ => ⟨S32x2048x16x64, .f32⟩
  | .hbm, ⟨8, _⟩ => ⟨S32x16x2048x64, .f32⟩
  | .hbm, ⟨9, _⟩ => ⟨S32x16x2048x2048, .f32⟩
  | .hbm, ⟨10, _⟩ => ⟨S_, .f32⟩
  | .hbm, ⟨11, _⟩ => ⟨S32x16x2048x2048, .f32⟩
  | .hbm, ⟨12, _⟩ => ⟨S32x16x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S32x16x2048x2048, .f32⟩
  | .hbm, ⟨21, _⟩ => ⟨S32x16x2048x2048, .f32⟩
  | .hbm, ⟨22, _⟩ => ⟨S_, .f32⟩
  | .hbm, ⟨23, _⟩ => ⟨S32x16x2048x2048, .f32⟩
  | .hbm, ⟨24, _⟩ => ⟨S32x16x2048x2048, .f32⟩
  | .hbm, ⟨25, _⟩ => ⟨S32x16x2048x2048, .f32⟩
  | .hbm, ⟨26, _⟩ => ⟨S32x16x2048x2048, .f32⟩
  | .hbm, ⟨27, _⟩ => ⟨S32x16x2048x2048, .i1⟩
  | .hbm, ⟨28, _⟩ => ⟨S32x16x2048x2048, .f32⟩
  | .hbm, ⟨29, _⟩ => ⟨S32x16x2048x2048, .f32⟩
  | .hbm, ⟨30, _⟩ => ⟨S32x16x2048x2048, .f32⟩
  | .hbm, ⟨31, _⟩ => ⟨S32x16x2048x2048, .f32⟩
  | .hbm, ⟨32, _⟩ => ⟨S32x16x2048x2048, .f32⟩
  | .hbm, ⟨33, _⟩ => ⟨S32x16x2048x2048, .f32⟩
  | .hbm, ⟨34, _⟩ => ⟨S32x16x2048x2048, .f32⟩
  | .hbm, ⟨35, _⟩ => ⟨S32x16x2048x2048, .f32⟩
  | .hbm, ⟨36, _⟩ => ⟨S32x16x2048x2048, .f32⟩
  | .hbm, ⟨37, _⟩ => ⟨S_, .f32⟩
  | .hbm, ⟨38, _⟩ => ⟨S_, .f32⟩
  | .hbm, ⟨39, _⟩ => ⟨S32x16x2048x2048, .i1⟩
  | .hbm, ⟨40, _⟩ => ⟨S32x16x2048x2048, .f32⟩
  | .hbm, ⟨41, _⟩ => ⟨S32x16x2048x2048, .f32⟩
  | .hbm, ⟨42, _⟩ => ⟨S_, .f32⟩
  | .hbm, ⟨43, _⟩ => ⟨S_, .f32⟩
  | .hbm, ⟨44, _⟩ => ⟨S32x16x2048x2048, .f32⟩
  | .hbm, ⟨45, _⟩ => ⟨S32x16x2048x2048, .f32⟩
  | .hbm, ⟨46, _⟩ => ⟨S32x16x2048x2048, .f32⟩
  | .hbm, ⟨47, _⟩ => ⟨S_, .f32⟩
  | .hbm, ⟨48, _⟩ => ⟨S32x16x2048x2048, .f32⟩
  | .hbm, ⟨49, _⟩ => ⟨S32x16x2048x2048, .f32⟩
  | .hbm, ⟨50, _⟩ => ⟨S32x16x2048x2048, .f32⟩
  | .hbm, ⟨51, _⟩ => ⟨S32x16x2048x2048, .f32⟩
  | .hbm, ⟨52, _⟩ => ⟨S32x16x2048x2048, .i1⟩
  | .hbm, ⟨53, _⟩ => ⟨S32x16x2048x2048, .f32⟩
  | .hbm, ⟨54, _⟩ => ⟨S32x16x2048x2048, .f32⟩
  | .hbm, ⟨55, _⟩ => ⟨S32x16x2048x2048, .f32⟩
  | .hbm, ⟨56, _⟩ => ⟨S32x16x2048x2048, .f32⟩
  | .hbm, ⟨57, _⟩ => ⟨S32x16x2048x2048, .f32⟩
  | .hbm, ⟨58, _⟩ => ⟨S32x16x2048x2048, .f32⟩
  | .hbm, ⟨59, _⟩ => ⟨S32x16x2048x2048, .f32⟩
  | .hbm, ⟨60, _⟩ => ⟨S32x16x2048x2048, .f32⟩
  | .hbm, ⟨61, _⟩ => ⟨S32x16x2048x2048, .f32⟩
  | .hbm, ⟨62, _⟩ => ⟨S32x16x2048x2048, .f32⟩
  | .hbm, ⟨63, _⟩ => ⟨S32x16x2048x2048, .f32⟩
  | .hbm, ⟨64, _⟩ => ⟨S_, .f32⟩
  | .hbm, ⟨65, _⟩ => ⟨S_, .f32⟩
  | .hbm, ⟨66, _⟩ => ⟨S32x16x2048x2048, .i1⟩
  | .hbm, ⟨67, _⟩ => ⟨S32x16x2048x2048, .f32⟩
  | .hbm, ⟨68, _⟩ => ⟨S32x16x2048x2048, .f32⟩
  | .hbm, ⟨69, _⟩ => ⟨S32x16x2048x64, .f32⟩
  | .hbm, ⟨70, _⟩ => ⟨S32x2048x16x64, .f32⟩
  | .hbm, ⟨71, _⟩ => ⟨S65536x1024, .f32⟩
  | .hbm, ⟨72, _⟩ => ⟨S65536x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩

abbrev nD : Nat := 1
abbrev τ : Topo := Topo.v7x

variable {F : FTy → Type} [FloatOps F]
-- ==== Kernel2.lean ====
abbrev S32x2048x1024 : Shape := ⟨3, ![32, 2048, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 13
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S65536x1024, .f32⟩
  | .hbm, ⟨7, _⟩ => ⟨S1x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32x2048x1024 : Shape := ⟨3, ![32, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S65536x1024 : Shape := ⟨2, ![65536, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S32x2048x2816, .f32⟩
  | .hbm, ⟨23, _⟩ => ⟨S32x2048x2816, .f32⟩
  | .hbm, ⟨24, _⟩ => ⟨S32x2048x2816, .f32⟩
  | .hbm, ⟨25, _⟩ => ⟨S_, .f32⟩
  | .hbm, ⟨26, _⟩ => ⟨S32x2048x2816, .f32⟩
  | .hbm, ⟨27, _⟩ => ⟨S32x2048x2816, .f32⟩
  | .hbm, ⟨28, _⟩ => ⟨S_, .f32⟩
  | .hbm, ⟨29, _⟩ => ⟨S32x2048x2816, .f32⟩
  | .hbm, ⟨30, _⟩ => ⟨S32x2048x2816, .f32⟩
  | .hbm, ⟨31, _⟩ => ⟨S32x2048x2816, .f32⟩
  | .hbm, ⟨32, _⟩ => ⟨S32x2048x2816, .f32⟩
  | .hbm, ⟨33, _⟩ => ⟨S32x2048x2816, .f32⟩
  | .hbm, ⟨34, _⟩ => ⟨S32x2048x1024, .f32⟩
  | .hbm, ⟨35, _⟩ => ⟨S32x2048x1024, .f32⟩
  | .hbm, ⟨36, _⟩ => ⟨S_, .f32⟩
  | .hbm, ⟨37, _⟩ => ⟨S32x2048, .f32⟩
  | .hbm, ⟨38, _⟩ => ⟨S32x2048x1, .f32⟩
  | .hbm, ⟨39, _⟩ => ⟨S_, .f32⟩
  | .hbm, ⟨40, _⟩ => ⟨S32x2048x1, .f32⟩
  | .hbm, ⟨41, _⟩ => ⟨S32x2048x1, .f32⟩
  | .hbm, ⟨42, _⟩ => ⟨S_, .f32⟩
  | .hbm, ⟨43, _⟩ => ⟨S32x2048x1, .f32⟩
  | .hbm, ⟨44, _⟩ => ⟨S32x2048x1, .f32⟩
  | .hbm, ⟨45, _⟩ => ⟨S32x2048x1, .f32⟩
  | .hbm, ⟨46, _⟩ => ⟨S32x2048x1024, .f32⟩
  | .hbm, ⟨47, _⟩ => ⟨S32x2048x1024, .f32⟩
  | .hbm, ⟨48, _⟩ => ⟨S1x1x1024, .f32⟩
  | .hbm, ⟨49, _⟩ => ⟨S32x2048x1024, .f32⟩
  | .hbm, ⟨50, _⟩ => ⟨S32x2048x1024, .f32⟩
  | .hbm, ⟨51, _⟩ => ⟨S_, .f32⟩
  | .hbm, ⟨52, _⟩ => ⟨S32x2048x1024, .f32⟩
  | .hbm, ⟨53, _⟩ => ⟨S32x2048x1024, .f32⟩
  | .hbm, ⟨54, _⟩ => ⟨S32x2048x1024, .f32⟩
  | .hbm, ⟨55, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S128x8 : Shape := ⟨2, ![128, 8]⟩
abbrev S128x8x128 : Shape := ⟨3, ![128, 8, 128]⟩
abbrev S128x1024 : Shape := ⟨2, ![128, 1024]⟩
abbrev S65536x1024 : Shape := ⟨2, ![65536, 1024]⟩
abbrev S1x1024 : Shape := ⟨2, ![1, 1024]⟩
abbrev S128x128 : Shape := ⟨2, ![128, 128]⟩
abbrev S1x128x128 : Shape := ⟨3, ![1, 128, 128]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S128x256 : Shape := ⟨2, ![128, 256]⟩

abbrev nBuf : Space → Nat
  | .hbm => 18
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S128x8, .f32⟩
  | .hbm, ⟨9, _⟩ => ⟨S128x8x128, .f32⟩
  | .hbm, ⟨10, _⟩ => ⟨S128x1024, .f32⟩
  | .hbm, ⟨11, _⟩ => ⟨S65536x1024, .f32⟩
  | .hbm, ⟨12, _⟩ => ⟨S1x1024, .f32⟩
  | .hbm, ⟨13, _⟩ => ⟨S1x1024, .f32⟩
  | .hbm, ⟨14, _⟩ => ⟨S1024x2048, .bf16⟩
  | .hbm, ⟨15, _⟩ => ⟨S1x1024, .f32⟩
  | .hbm, ⟨16, _⟩ => ⟨S1024x1024, .bf16⟩
  | .hbm, ⟨17, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2048, .bf16⟩
  | .local _ .vmem, ⟨5, _⟩ => ⟨S1x1024, .f32⟩
  | .local _ .vmem, ⟨6, _⟩ => ⟨S8x128x128, .f32⟩
  | .local _ .vmem, ⟨7, _⟩ => ⟨S128x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x2048, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32x2048x1024 : Shape := ⟨3, ![32, 2048, 1024]⟩
abbrev S1024 : Shape := ⟨1, ![1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2048 : Shape := ⟨3, ![32, 2048, 2048]⟩
abbrev S32x16x128x8x128 : Shape := ⟨5, ![32, 16, 128, 8, 128]⟩
abbrev S128x128 : Shape := ⟨2, ![128, 128]⟩
abbrev S1x128x128 : Shape := ⟨3, ![1, 128, 128]⟩
abbrev S128x8 : Shape := ⟨2, ![128, 8]⟩
abbrev S1x1x128x8x1 : Shape := ⟨5, ![1, 1, 128, 8, 1]⟩
abbrev S8x32x16x128x128 : Shape := ⟨5, ![8, 32, 16, 128, 128]⟩
abbrev S65536x1024 : Shape := ⟨2, ![65536, 1024]⟩

abbrev nBuf : Space → Nat
  | .hbm => 107
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S32x2048x2048, .f32⟩
  | .hbm, ⟨25, _⟩ => ⟨S_, .f32⟩
  | .hbm, ⟨26, _⟩ => ⟨S32x2048x2048, .f32⟩
  | .hbm, ⟨27, _⟩ => ⟨S32x2048x2048, .f32⟩
  | .hbm, ⟨28, _⟩ => ⟨S32x2048x2048, .f32⟩
  | .hbm, ⟨29, _⟩ => ⟨S_, .f32⟩
  | .hbm, ⟨30, _⟩ => ⟨S32x2048x2048, .f32⟩
  | .hbm, ⟨31, _⟩ => ⟨S32x2048x2048, .f32⟩
  | .hbm, ⟨32, _⟩ => ⟨S32x2048x2048, .f32⟩
  | .hbm, ⟨33, _⟩ => ⟨S32x2048x2048, .f32⟩
  | .hbm, ⟨34, _⟩ => ⟨S32x2048x1024, .f32⟩
  | .hbm, ⟨35, _⟩ => ⟨S32x2048x1024, .f32⟩
  | .hbm, ⟨36, _⟩ => ⟨S_, .f32⟩
  | .hbm, ⟨37, _⟩ => ⟨S32x2048, .f32⟩
  | .hbm, ⟨38, _⟩ => ⟨S32x2048x1, .f32⟩
  | .hbm, ⟨39, _⟩ => ⟨S_, .f32⟩
  | .hbm, ⟨40, _⟩ => ⟨S32x2048x1, .f32⟩
  | .hbm, ⟨41, _⟩ => ⟨S32x2048x1, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S_, .f32⟩
  | .hbm, ⟨46, _⟩ => ⟨S32x2048, .f32⟩
  | .hbm, ⟨47, _⟩ => ⟨S32x2048x1, .f32⟩
  | .hbm, ⟨48, _⟩ => ⟨S_, .f32⟩
  | .hbm, ⟨49, _⟩ => ⟨S32x2048x1, .f32⟩
  | .hbm, ⟨50, _⟩ => ⟨S32x2048x1, .f32⟩
  | .hbm, ⟨51, _⟩ => ⟨S32x2048x1024, .f32⟩
  | .hbm, ⟨52, _⟩ => ⟨S32x2048x1024, .f32⟩
  | .hbm, ⟨53, _⟩ => ⟨S_, .f32⟩
  | .hbm, ⟨54, _⟩ => ⟨S32x2048x1, .f32⟩
  | .hbm, ⟨55, _⟩ => ⟨S32x2048x1, .f32⟩
  | .hbm, ⟨56, _⟩ => ⟨S32x2048x1, .f32⟩
  | .hbm, ⟨57, _⟩ => ⟨S32x2048x1024, .f32⟩
  | .hbm, ⟨58, _⟩ => ⟨S32x2048x1024, .f32⟩
  | .hbm, ⟨59, _⟩ => ⟨S1x1x1024, .f32⟩
  | .hbm, ⟨60, _⟩ => ⟨S32x2048x1024, .f32⟩
  | .hbm, ⟨61, _⟩ => ⟨S32x2048x1024, .f32⟩
  | .hbm, ⟨62, _⟩ => ⟨S32x16x128x8x128, .f32⟩
  | .hbm, ⟨63, _⟩ => ⟨S_, .i1⟩
  | .hbm, ⟨64, _⟩ => ⟨S128x128, .i1⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S_, .i1⟩
  | .hbm, ⟨72, _⟩ => ⟨S128x128, .i1⟩
  | .hbm, ⟨73, _⟩ => ⟨S128x128, .i1⟩
  | .hbm, ⟨74, _⟩ => ⟨S1x128x128, .i1⟩
  | .hbm, ⟨75, _⟩ => ⟨S_, .f32⟩
  | .hbm, ⟨76, _⟩ => ⟨S_, .f32⟩
  | .hbm, ⟨77, _⟩ => ⟨S8x128x128, .i1⟩
  | .hbm, ⟨78, _⟩ => ⟨S8x128x128, .f32⟩
  | .hbm, ⟨79, _⟩ => ⟨S8x128x128, .f32⟩
  | .hbm, ⟨80, _⟩ => ⟨S128x8, .f32⟩
  | .hbm, ⟨81, _⟩ => ⟨S1x1x128x8x1, .f32⟩
  | .hbm, ⟨82, _⟩ => ⟨S8x32x16x128x128, .f32⟩
  | .hbm, ⟨83, _⟩ => ⟨S32x16x128x8x128, .f32⟩
  | .hbm, ⟨84, _⟩ => ⟨S32x16x128x8x128, .f32⟩
  | .hbm, ⟨85, _⟩ => ⟨S32x16x128x8x128, .f32⟩
  | .hbm, ⟨86, _⟩ => ⟨S32x2048x1024, .f32⟩
  | .hbm, ⟨87, _⟩ => ⟨S32x2048x1024, .f32⟩
  | .hbm, ⟨88, _⟩ => ⟨S32x2048x1024, .f32⟩
  | .hbm, ⟨89, _⟩ => ⟨S32x2048x1024, .f32⟩
  | .hbm, ⟨90, _⟩ => ⟨S_, .f32⟩
  | .hbm, ⟨91, _⟩ => ⟨S32x2048, .f32⟩
  | .hbm, ⟨92, _⟩ => ⟨S32x2048x1, .f32⟩
  | .hbm, ⟨93, _⟩ => ⟨S_, .f32⟩
  | .hbm, ⟨94, _⟩ => ⟨S32x2048x1, .f32⟩
  | .hbm, ⟨95, _⟩ => ⟨S32x2048x1, .f32⟩
  | .hbm, ⟨96, _⟩ => ⟨S_, .f32⟩
  | .hbm, ⟨97, _⟩ => ⟨S32x2048x1, .f32⟩
  | .hbm, ⟨98, _⟩ => ⟨S32x2048x1, .f32⟩
  | .hbm, ⟨99, _⟩ => ⟨S32x2048x1, .f32⟩
  | .hbm, ⟨100, _⟩ => ⟨S32x2048x1024, .f32⟩
  | .hbm, ⟨101, _⟩ => ⟨S32x2048x1024, .f32⟩
  | .hbm, ⟨102, _⟩ => ⟨S1x1x1024, .f32⟩
  | .hbm, ⟨103, _⟩ => ⟨S32x2048x1024, .f32⟩
  | .hbm, ⟨104, _⟩ => ⟨S32x2048x1024, .f32⟩
  | .hbm, ⟨105, _⟩ => ⟨S32x2048x1024, .f32⟩
  | .hbm, ⟨106, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c : Ref sig .tc := ⟨.hbm, 63, rfl⟩
abbrev main_v45 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_0 : Ref sig .tc := ⟨.hbm, 71, rfl⟩
abbrev main_call0_v5 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_10 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_v61 : Ref sig .tc := ⟨.hbm, 94, rfl⟩
abbrev main_v62 : Ref sig .tc := ⟨.hbm, 95, rfl⟩
abbrev main_cst_12 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩

abbrev nD : Nat := 1
abbrev τ : Topo := Topo.v7x

variable {F : FTy → Type} [FloatOps F]
-- ==== Kernel4.lean ====
abbrev S32x2048x1024 : Shape := ⟨3, ![32, 2048, 1024]⟩
abbrev S1024 : Shape := ⟨1, ![1024]⟩
abbrev S1024x3072 : Shape := ⟨2, ![1024, 3072]⟩
abbrev S65536x1024 : Shape := ⟨2, ![65536, 1024]⟩
abbrev S1x1024 : Shape := ⟨2, ![1, 1024]⟩
abbrev S1024x1024 : Shape := ⟨2, ![1024, 1024]⟩
abbrev S32x1024x2048 : Shape := ⟨3, ![32, 1024, 2048]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S1x1024x256 : Shape := ⟨3, ![1, 1024, 256]⟩

abbrev nBuf : Space → Nat
  | .hbm => 14
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S65536x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S32x1024x2048, .bf16⟩
  | .hbm, ⟨12, _⟩ => ⟨S65536x1024, .bf16⟩
  | .hbm, ⟨13, _⟩ => ⟨S32x1024x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024x1024, .bf16⟩
  | .local _ .vmem, ⟨11, _⟩ => ⟨S1x1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S32x2048x1024 : Shape := ⟨3, ![32, 2048, 1024]⟩
abbrev S1024 : Shape := ⟨1, ![1024]⟩
abbrev S1024x3072 : Shape := ⟨2, ![1024, 3072]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x3072 : Shape := ⟨3, ![32, 2048, 3072]⟩
abbrev S32x2048x3x1024 : Shape := ⟨4, ![32, 2048, 3, 1024]⟩
abbrev S32x2048x1x1024 : Shape := ⟨4, ![32, 2048, 1, 1024]⟩
abbrev S32x1024x2048 : Shape := ⟨3, ![32, 1024, 2048]⟩
abbrev S65536x1024 : Shape := ⟨2, ![65536, 1024]⟩

abbrev nBuf : Space → Nat
  | .hbm => 36
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x3072, .f32⟩
  | .hbm, ⟨3, _⟩ => ⟨S32x2048x1024, .f32⟩
  | .hbm, ⟨4, _⟩ => ⟨S_, .f32⟩
  | .hbm, ⟨5, _⟩ => ⟨S32x2048, .f32⟩
  | .hbm, ⟨6, _⟩ => ⟨S32x2048x1, .f32⟩
  | .hbm, ⟨7, _⟩ => ⟨S_, .f32⟩
  | .hbm, ⟨8, _⟩ => ⟨S32x2048x1, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S32x2048x1, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S32x2048x3072, .f32⟩
  | .hbm, ⟨20, _⟩ => ⟨S32x2048x3x1024, .f32⟩
  | .hbm, ⟨21, _⟩ => ⟨S32x2048x1x1024, .f32⟩
  | .hbm, ⟨22, _⟩ => ⟨S32x2048x1024, .f32⟩
  | .hbm, ⟨23, _⟩ => ⟨S_, .f32⟩
  | .hbm, ⟨24, _⟩ => ⟨S32x2048x1024, .f32⟩
  | .hbm, ⟨25, _⟩ => ⟨S32x2048x1024, .f32⟩
  | .hbm, ⟨26, _⟩ => ⟨S32x1024x2048, .f32⟩
  | .hbm, ⟨27, _⟩ => ⟨S32x2048x1x1024, .f32⟩
  | .hbm, ⟨28, _⟩ => ⟨S32x2048x1024, .f32⟩
  | .hbm, ⟨29, _⟩ => ⟨S65536x1024, .f32⟩
  | .hbm, ⟨30, _⟩ => ⟨S32x2048x1x1024, .f32⟩
  | .hbm, ⟨31, _⟩ => ⟨S32x2048x1024, .f32⟩
  | .hbm, ⟨32, _⟩ => ⟨S32x1024x2048, .f32⟩
  | .hbm, ⟨33, _⟩ => ⟨S32x1024x2048, .bf16⟩
  | .hbm, ⟨34, _⟩ => ⟨S65536x1024, .bf16⟩
  | .hbm, ⟨35, _⟩ => ⟨S32x1024x2048, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel5.lean ====
abbrev S32x2048x1024 : Shape := ⟨3, ![32, 2048, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S65536x1024 : Shape := ⟨2, ![65536, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 20
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S32x2048x1024, .bf16⟩
  | .hbm, ⟨10, _⟩ => ⟨S65536x1024, .bf16⟩
  | .hbm, ⟨11, _⟩ => ⟨S1x1024, .f32⟩
  | .hbm, ⟨12, _⟩ => ⟨S1024x1024, .bf16⟩
  | .hbm, ⟨13, _⟩ => ⟨S65536x1024, .f32⟩
  | .hbm, ⟨14, _⟩ => ⟨S1x1024, .f32⟩
  | .hbm, ⟨15, _⟩ => ⟨S1x1024, .f32⟩
  | .hbm, ⟨16, _⟩ => ⟨S1024x2816, .bf16⟩
  | .hbm, ⟨17, _⟩ => ⟨S1024x2816, .bf16⟩
  | .hbm, ⟨18, _⟩ => ⟨S2816x1024, .bf16⟩
  | .hbm, ⟨19, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S32x2048x1024 : Shape := ⟨3, ![32, 2048, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S65536x1024 : Shape := ⟨2, ![65536, 1024]⟩

abbrev nBuf : Space → Nat
  | .hbm => 77
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S32x2048x1024, .f32⟩
  | .hbm, ⟨10, _⟩ => ⟨S32x2048x1024, .f32⟩
  | .hbm, ⟨11, _⟩ => ⟨S_, .f32⟩
  | .hbm, ⟨12, _⟩ => ⟨S32x2048, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S32x2048x1, .f32⟩
  | .hbm, ⟨21, _⟩ => ⟨S32x2048x1024, .f32⟩
  | .hbm, ⟨22, _⟩ => ⟨S32x2048x1024, .f32⟩
  | .hbm, ⟨23, _⟩ => ⟨S1x1x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S_, .f32⟩
  | .hbm, ⟨29, _⟩ => ⟨S32x2048, .f32⟩
  | .hbm, ⟨30, _⟩ => ⟨S32x2048x1, .f32⟩
  | .hbm, ⟨31, _⟩ => ⟨S_, .f32⟩
  | .hbm, ⟨32, _⟩ => ⟨S32x2048x1, .f32⟩
  | .hbm, ⟨33, _⟩ => ⟨S32x2048x1, .f32⟩
  | .hbm, ⟨34, _⟩ => ⟨S_, .f32⟩
  | .hbm, ⟨35, _⟩ => ⟨S32x2048x1, .f32⟩
  | .hbm, ⟨36, _⟩ => ⟨S32x2048x1, .f32⟩
  | .hbm, ⟨37, _⟩ => ⟨S32x2048x1, .f32⟩
  | .hbm, ⟨38, _⟩ => ⟨S32x2048x1024, .f32⟩
  | .hbm, ⟨39, _⟩ => ⟨S32x2048x1024, .f32⟩
  | .hbm, ⟨40, _⟩ => ⟨S1x1x1024, .f32⟩
  | .hbm, ⟨41, _⟩ => ⟨S32x2048x1024, .f32⟩
  | .hbm, ⟨42, _⟩ => ⟨S32x2048x1024, .f32⟩
  | .hbm, ⟨43, _⟩ => ⟨S32x2048x2816, .f32⟩
  | .hbm, ⟨44, _⟩ => ⟨S32x2048x2816, .f32⟩
  | .hbm, ⟨45, _⟩ => ⟨S32x2048x2816, .f32⟩
  | .hbm, ⟨46, _⟩ => ⟨S_, .f32⟩
  | .hbm, ⟨47, _⟩ => ⟨S32x2048x2816, .f32⟩
  | .hbm, ⟨48, _⟩ => ⟨S32x2048x2816, .f32⟩
  | .hbm, ⟨49, _⟩ => ⟨S_, .f32⟩
  | .hbm, ⟨50, _⟩ => ⟨S32x2048x2816, .f32⟩
  | .hbm, ⟨51, _⟩ => ⟨S32x2048x2816, .f32⟩
  | .hbm, ⟨52, _⟩ => ⟨S32x2048x2816, .f32⟩
  | .hbm, ⟨53, _⟩ => ⟨S32x2048x2816, .f32⟩
  | .hbm, ⟨54, _⟩ => ⟨S32x2048x2816, .f32⟩
  | .hbm, ⟨55, _⟩ => ⟨S32x2048x1024, .f32⟩
  | .hbm, ⟨56, _⟩ => ⟨S32x2048x1024, .f32⟩
  | .hbm, ⟨57, _⟩ => ⟨S_, .f32⟩
  | .hbm, ⟨58, _⟩ => ⟨S32x2048, .f32⟩
  | .hbm, ⟨59, _⟩ => ⟨S32x2048x1, .f32⟩
  | .hbm, ⟨60, _⟩ => ⟨S_, .f32⟩
  | .hbm, ⟨61, _⟩ => ⟨S32x2048x1, .f32⟩
  | .hbm, ⟨62, _⟩ => ⟨S32x2048x1, .f32⟩
  | .hbm, ⟨63, _⟩ => ⟨S_, .f32⟩
  | .hbm, ⟨64, _⟩ => ⟨S32x2048x1, .f32⟩
  | .hbm, ⟨65, _⟩ => ⟨S32x2048x1, .f32⟩
  | .hbm, ⟨66, _⟩ => ⟨S32x2048x1, .f32⟩
  | .hbm, ⟨67, _⟩ => ⟨S32x2048x1024, .f32⟩
  | .hbm, ⟨68, _⟩ => ⟨S32x2048x1024, .f32⟩
  | .hbm, ⟨69, _⟩ => ⟨S1x1x1024, .f32⟩
  | .hbm, ⟨70, _⟩ => ⟨S32x2048x1024, .f32⟩
  | .hbm, ⟨71, _⟩ => ⟨S32x2048x1024, .f32⟩
  | .hbm, ⟨72, _⟩ => ⟨S_, .f32⟩
  | .hbm, ⟨73, _⟩ => ⟨S32x2048x1024, .f32⟩
  | .hbm, ⟨74, _⟩ => ⟨S32x2048x1024, .f32⟩
  | .hbm, ⟨75, _⟩ => ⟨S32x2048x1024, .f32⟩
  | .hbm, ⟨76, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩

abbrev nD : Nat := 1
abbrev τ : Topo := Topo.v7x

variable {F : FTy → Type} [FloatOps F]
-- ==== Proof.AttnKernelIdeal.lean ====
/-
  The frame of the stick-breaking attention `KernelIdeal`: the loop over a tile's key blocks, the loop over the query tiles and the
  body, each run once over the operands held whole — the three inputs at their contents, the output and the three scratch
  buffers at some contents —, and the launch with the output forgotten.
-/
module

public import proofs.«01_k».proof.Proof.Gen.KernelIdeal
public import proofs.«01_k».proof.Proof.Gen.KernelIdeal.Frame
public import proofs.«01_k».proof.Proof.Gen.KernelIdeal.Loops
public import Idealize.ShloMosaic.Lib.Claim

@[expose] public section

set_option maxRecDepth 65536

noncomputable section

namespace Cert.AttnKernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

section Run

variable (c : Dev nD) (i : grid0.Coords) (arg2 : Memref sig .tc .vmem S1x256x2048 .bf16) (harg2 : arg2.IsWhole) (arg3 : Memref sig .tc .vmem S2048x256 .bf16) (harg3 : arg3.IsWhole) (arg4 : Memref sig .tc .vmem S1x256x2048 .bf16) (harg4 : arg4.IsWhole) (arg5 : Memref sig .tc .vmem S2048x256 .bf16) (harg5 : arg5.IsWhole) (arg6 : Memref sig .tc .vmem S256x256 .f32) (harg6 : arg6.IsWhole) (arg7 : Memref sig .tc .vmem S2x8x128x256 .f32) (harg7 : arg7.IsWhole) (arg8 : Memref sig .tc .vmem S2x8x128x256 .bf16) (harg8 : arg8.IsWhole)

/-- A memref's buffer held whole at `f`. -/
abbrev pt {sp : Space} {S : Shape} {e : EltTy} (M : Memref sig .tc sp S e) (f : Buf (Elt F) (M.view.loc (c : Thread nD τ))) : sProp 𝕄 :=
  M.view.loc (c : Thread nD τ) ↦[M.view.set]{fullShare} f

/-- What the loops hold: the queries, the keys and the values at their contents, the accumulator, the scores and the
    weights at some. -/
abbrev held (f2 : Buf (Elt F) (arg2.view.loc (c : Thread nD τ))) (f3 : Buf (Elt F) (arg3.view.loc (c : Thread nD τ)))
    (f4 : Buf (Elt F) (arg4.view.loc (c : Thread nD τ))) : sProp 𝕄 :=
  iprop(pt c arg2 f2 ∗ pt c arg3 f3 ∗ pt c arg4 f4 ∗ (∃ f, pt c arg6 f) ∗ (∃ f, pt c arg7 f) ∗ (∃ f, pt c arg8 f))

variable (f2 : Buf (Elt F) (arg2.view.loc (c : Thread nD τ))) (f3 : Buf (Elt F) (arg3.view.loc (c : Thread nD τ)))
  (f4 : Buf (Elt F) (arg4.view.loc (c : Thread nD τ)))

variable (v8 : FVec F S128x128 .bf16) (v11 : IVec S128x128 1)
  (k0_t1 : Fin k0_t1_loop.trips) (arg9 : BitVec 32) (v457 v473 v489 v505 v513 : FVec F S1x256 .f32) (v517 : FVec F S128x256 .bf16)

set_option maxHeartbeats 40000000 in
set_option warn.classDefReducibility false in
/-- The loop over a tile's pairs of key blocks. -/
@[sl_loop] def loop2 (init : FVec F S1x256 .f32 × FVec F S1x256 .f32 × FVec F S1x256 .f32 × FVec F S1x256 .f32) :
    LoopInvTy_k0_t2 (F := F) Unit ℕ (UR sig nD τ) ℕ Variants.none c none Set.univ i arg2 harg2 arg3 harg3 arg4 harg4 arg5 harg5 arg6 harg6 arg7 harg7 arg8 harg8 v8 v11 k0_t1 arg9 v457 v473 v489 v505 v513 v517 init where
  inv _ _ := held c arg2 arg3 arg4 arg6 arg7 arg8 f2 f3 f4
  step k acc := by
    obtain ⟨a11, a12, a13, a14⟩ := acc
    unfold k0_t2_body
    iintro ⟨H2, H3, H4, ⟨%f6, H6⟩, ⟨%f7, H7⟩, ⟨%f8, H8⟩⟩
    by_cases hC : k0_cond1 k0_t1 k = 1#1
    · simp only [dif_pos hC]
      sl_exec_parts
      sl_step
      isplitl [H2]; · iexact H2
      isplitl [H3]; · iexact H3
      isplitl [H4]; · iexact H4
      isplitl [H6]; · iexists _; iexact H6
      isplitl [H7]; · iexists _; iexact H7
      iexists _; iexact H8
    · simp only [dif_neg hC]
      sl_exec_parts
      sl_step
      isplitl [H2]; · iexact H2
      isplitl [H3]; · iexact H3
      isplitl [H4]; · iexact H4
      isplitl [H6]; · iexists _; iexact H6
      isplitl [H7]; · iexists _; iexact H7
      iexists _; iexact H8

/-- The pairs leave no block over: the second loop over them makes no trip. -/
theorem trips3 : ∀ q : Fin k0_t1_loop.trips, (k0_t3_loop q).trips = 0 := by decide

set_option warn.classDefReducibility false in
/-- The loop over what the pairs leave over: no trip. -/
@[sl_loop] def loop3 (v544 : BitVec 32) (init : FVec F S1x256 .f32 × FVec F S1x256 .f32 × FVec F S1x256 .f32 × FVec F S1x256 .f32) :
    LoopInvTy_k0_t3 (F := F) Unit ℕ (UR sig nD τ) ℕ Variants.none c none Set.univ i arg2 harg2 arg3 harg3 arg4 harg4 arg5 harg5 arg6 harg6 arg7 harg7 arg8 harg8 v8 v11 k0_t1 arg9 v457 v473 v489 v505 v513 v517 v544 init where
  inv _ _ := held c arg2 arg3 arg4 arg6 arg7 arg8 f2 f3 f4
  step k acc := (k.cast (trips3 k0_t1)).elim0

set_option maxHeartbeats 40000000 in
set_option warn.classDefReducibility false in
/-- The loop over the query tiles. -/
@[sl_loop] def loop1 (v0 v1 : IVec S128x256 32) (v2 v3 : IVec S128x128 32) :
    LoopInvTy_k0_t1 (F := F) Unit ℕ (UR sig nD τ) ℕ Variants.none c none Set.univ i arg2 harg2 arg3 harg3 arg4 harg4 arg5 harg5 arg6 harg6 arg7 harg7 arg8 harg8 v0 v1 v2 v3 v8 v11 where
  inv _ _ := iprop(held c arg2 arg3 arg4 arg6 arg7 arg8 f2 f3 f4 ∗ (∃ f, pt c arg5 f))
  step k acc := by
    unfold k0_t1_body
    iintro ⟨⟨H2, H3, H4, ⟨%f6, H6⟩, ⟨%f7, H7⟩, ⟨%f8, H8⟩⟩, ⟨%f5, H5⟩⟩
    sl_exec_parts
    sl_step
    isplitr [H5]
    · isplitl [H2]; · iexact H2
      isplitl [H3]; · iexact H3
      isplitl [H4]; · iexact H4
      isplitl [H6]; · iexists _; iexact H6
      isplitl [H7]; · iexists _; iexact H7
      iexists _; iexact H8
    iexists _; iexact H5

set_option maxHeartbeats 40000000 in
/-- The body, run once: the inputs as they were, the output and the scratch at some contents. -/
theorem kernelRun (x2 : Vec F S1x256x2048 .bf16) (x3 : Vec F S2048x256 .bf16) (x4 : Vec F S1x256x2048 .bf16) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)) -∗ K ⟨⟩))
      ⊢ wp frame (wpE (defs₀ (F := F)) Variants.none c none) Set.univ (cc0_stickbreak i arg2 harg2 arg3 harg3 arg4 harg4 arg5 harg5 arg6 harg6 arg7 harg7 arg8 harg8) K := by
  simp only [cc0_stickbreak_eq_skeleton]; unfold cc0_stickbreak_skel
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  sl_exec_parts
  sl_step
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

end Run

/-! ## The launch -/

variable (m : (ℓ : Loc nD τ sig) → Buf (Elt F) ℓ) (ρ : Dev nD → PrngReg)

/-- Each window's staging memref at point `t`, with its wholeness. -/
abbrev ms0 (t : Fin cfg0.N) : Memref sig .tc .vmem S1x256x2048 .bf16 := win0_0.stage (cfg0.slots t 0)
abbrev ms1 (t : Fin cfg0.N) : Memref sig .tc .vmem S2048x256 .bf16 := win0_1.stage (cfg0.slots t 1)
abbrev ms2 (t : Fin cfg0.N) : Memref sig .tc .vmem S1x256x2048 .bf16 := win0_2.stage (cfg0.slots t 2)
abbrev ms3 (t : Fin cfg0.N) : Memref sig .tc .vmem S2048x256 .bf16 := win0_3.stage (cfg0.slots t 3)
abbrev hs0 (t : Fin cfg0.N) : (ms0 t).IsWhole := hstage0_0 ((cfg0.slots t 0).cast nbuf0_0)
abbrev hs1 (t : Fin cfg0.N) : (ms1 t).IsWhole := hstage0_1 ((cfg0.slots t 1).cast nbuf0_1)
abbrev hs2 (t : Fin cfg0.N) : (ms2 t).IsWhole := hstage0_2 ((cfg0.slots t 2).cast nbuf0_2)
abbrev hs3 (t : Fin cfg0.N) : (ms3 t).IsWhole := hstage0_3 ((cfg0.slots t 3).cast nbuf0_3)
/-- The accumulator, the scores and the weights. -/
abbrev mAcc : Memref sig .tc .vmem S256x256 .f32 := Memref.whole cc0_scratch0
abbrev mZ : Memref sig .tc .vmem S2x8x128x256 .f32 := Memref.whole cc0_scratch1
abbrev mA : Memref sig .tc .vmem S2x8x128x256 .bf16 := Memref.whole cc0_scratch2

theorem PhiA_eq (c : Dev nD) :
    (Pipeline.ΦA spec0 c : sProp 𝕄)
      = iprop(iprop((∃ d, owns (c : Thread nD τ) mAcc fullShare d) ∗ (∃ d, owns (c : Thread nD τ) mZ fullShare d)
          ∗ (∃ d, owns (c : Thread nD τ) mA fullShare d)) ∗ (∃ r, prngReg c r)) := by
  unfold Pipeline.ΦA; rw [scopedRest0_eq]; simp only [mAcc, mZ, mA, owns_whole]; try rfl

/-- The output is the window of which nothing is said. -/
def forgets : Fin 4 → Bool := ![false, false, false, true]

/-- The arrays as the region finds them, each input's block after the body as before it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Pipeline.Dat.unnamed (cfg := cfg0) 3 t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2,
    show (dats m 0 c).Φ t.castSucc = Pipeline.ΦA spec0 c from rfl, PhiA_eq]
  iintro ⟨⟨⟨HA, HZ, HW⟩, Hg⟩, Ho, ⟨%d0, H0⟩, ⟨%d1, H1⟩, ⟨%d2, H2⟩, ⟨%d3, H3⟩⟩
  iapply (kernelRun c (grid0.coords t) (ms0 t) (hs0 t) (ms1 t) (hs1 t) (ms2 t) (hs2 t) (ms3 t) (hs3 t) mAcc (Memref.isWhole_whole _)
    mZ (Memref.isWhole_whole _) mA (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [HA]; · iexact HA
  isplitl [HZ]; · iexact HZ
  isplitl [HW]; · iexact HW
  iintro ⟨H0, H1, H2, H3, HA, HZ, HW⟩
  isplitl [HA HZ HW Hg]
  · isplitl [HA HZ HW]
    · isplitl [HA]; · iexact HA
      isplitl [HZ]; · iexact HZ
      iexact HW
    iexact Hg
  isplitl [Ho]; · iexact Ho
  isplitl [H0]; · iexact H0
  isplitl [H1]; · iexact H1
  isplitl [H2]; · iexact H2
  iexact H3

theorem defs_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs_row]
  exact triple_restated (sound_body m c t) rfl .rfl fun _ => .rfl

set_option backward.isDefEq.respectTransparency.types false in
/-- The run, with every semaphore counter at zero at its end. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run of the attention ends with its arguments unchanged and every semaphore counter at zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩)
    (run_main m ρ)

end Cert.AttnKernelIdeal

end
-- ==== Proof.AttnSteps.lean ====
module

public import proofs.«01_k».proof.Proof.Gen.KernelIdeal
public import proofs.«01_k».proof.Proof.Gen.KernelIdeal.Frame
public import proofs.«01_k».proof.Proof.Gen.KernelIdeal.Loops
public import Idealize.ShloMosaic.Lib.Claim

/-! The attention's body in its own steps: the scores of a pair of key blocks, their weights, and the values they weigh. -/

@[expose] public section

set_option maxRecDepth 65536

noncomputable section

namespace AttnSteps

open Cert.KernelIdeal Cert.KernelIdeal.Gen
open Idealize.ShloMosaic Idealize.ShloMosaic.TcCoe Idealize.ShloMosaic.Tactic
open Idealize.SL Idealize.SL.Sem

variable {F : FTy → Type} [FloatOps F] [Named F]

variable (arg2 : Memref sig .tc .vmem S1x256x2048 .bf16) (arg3 : Memref sig .tc .vmem S2048x256 .bf16) (arg4 : Memref sig .tc .vmem S1x256x2048 .bf16)
  (arg6 : Memref sig .tc .vmem S256x256 .f32) (arg7 : Memref sig .tc .vmem S2x8x128x256 .f32) (arg8 : Memref sig .tc .vmem S2x8x128x256 .bf16) (harg8 : arg8.IsWhole)

/-- The four heads' running sums take in a pair of key blocks: `o h b` where the values lie, `q h b` where the weights do. -/
def accP (o : Fin 4 → Fin 2 → Fin 3 → ℕ) (ho : ∀ h b a, o h b a + S1x64x128.size a ≤ S1x256x2048.size a)
    (q : Fin 4 → Fin 2 → Fin 4 → ℕ) (hq : ∀ h b a, q h b a + S1x1x128x256.size a ≤ S2x8x128x256.size a) :
    Prog (TpuEff nD τ sig (Elt F) Λ₀ .tc) PUnit := do
  let c0 : Vec F S64x256 .f32 ← Prog.lift (.load arg6 (Rect.unit (s := S256x256) ![0, 0] S64x256.size inb_S256x256_S64x256_0_0).toLoadRect (View.loadsAt_vmem h_S64x256))
  let v00 : Vec F S1x64x128 .bf16 ← Prog.lift (.load arg4 (Rect.unit (s := S1x256x2048) (o 0 0) S1x64x128.size (ho 0 0)).toLoadRect (View.loadsAt_vmem h_S1x64x128))
  let a00 : Vec F S1x1x128x256 .bf16 ← Prog.lift (.load arg8 (Rect.unit (s := S2x8x128x256) (q 0 0) S1x1x128x256.size (hq 0 0)).toLoadRect (View.loadsAt_vmem h_S1x1x128x256))
  let v01 : Vec F S1x64x128 .bf16 ← Prog.lift (.load arg4 (Rect.unit (s := S1x256x2048) (o 0 1) S1x64x128.size (ho 0 1)).toLoadRect (View.loadsAt_vmem h_S1x64x128))
  let a01 : Vec F S1x1x128x256 .bf16 ← Prog.lift (.load arg8 (Rect.unit (s := S2x8x128x256) (q 0 1) S1x1x128x256.size (hq 0 1)).toLoadRect (View.loadsAt_vmem h_S1x1x128x256))
  let x0 : Vec F S64x256 .f32 ← Prog.lift (.load arg6 (Rect.unit (s := S256x256) ![0, 0] S64x256.size inb_S256x256_S64x256_0_0).toLoadRect (View.loadsAt_vmem h_S64x256))
  Prog.lift (.store arg6 (Rect.unit (s := S256x256) ![0, 0] S64x256.size inb_S256x256_S64x256_0_0) (k0_pay89 c0 v00 a00 v01 a01) Finset.univ (View.stores_vmem_bits_univ h_S64x256 rfl) (.inl rfl))
  let c1 : Vec F S64x256 .f32 ← Prog.lift (.load arg6 (Rect.unit (s := S256x256) ![64, 0] S64x256.size inb_S256x256_S64x256_64_0).toLoadRect (View.loadsAt_vmem h_S64x256))
  let v10 : Vec F S1x64x128 .bf16 ← Prog.lift (.load arg4 (Rect.unit (s := S1x256x2048) (o 1 0) S1x64x128.size (ho 1 0)).toLoadRect (View.loadsAt_vmem h_S1x64x128))
  let a10 : Vec F S1x1x128x256 .bf16 ← Prog.lift (.load arg8 (Rect.unit (s := S2x8x128x256) (q 1 0) S1x1x128x256.size (hq 1 0)).toLoadRect (View.loadsAt_vmem h_S1x1x128x256))
  let v11 : Vec F S1x64x128 .bf16 ← Prog.lift (.load arg4 (Rect.unit (s := S1x256x2048) (o 1 1) S1x64x128.size (ho 1 1)).toLoadRect (View.loadsAt_vmem h_S1x64x128))
  let a11 : Vec F S1x1x128x256 .bf16 ← Prog.lift (.load arg8 (Rect.unit (s := S2x8x128x256) (q 1 1) S1x1x128x256.size (hq 1 1)).toLoadRect (View.loadsAt_vmem h_S1x1x128x256))
  let x1 : Vec F S64x256 .f32 ← Prog.lift (.load arg6 (Rect.unit (s := S256x256) ![64, 0] S64x256.size inb_S256x256_S64x256_64_0).toLoadRect (View.loadsAt_vmem h_S64x256))
  Prog.lift (.store arg6 (Rect.unit (s := S256x256) ![64, 0] S64x256.size inb_S256x256_S64x256_64_0) (k0_pay89 c1 v10 a10 v11 a11) Finset.univ (View.stores_vmem_bits_univ h_S64x256 rfl) (.inl rfl))
  let c2 : Vec F S64x256 .f32 ← Prog.lift (.load arg6 (Rect.unit (s := S256x256) ![128, 0] S64x256.size inb_S256x256_S64x256_128_0).toLoadRect (View.loadsAt_vmem h_S64x256))
  let v20 : Vec F S1x64x128 .bf16 ← Prog.lift (.load arg4 (Rect.unit (s := S1x256x2048) (o 2 0) S1x64x128.size (ho 2 0)).toLoadRect (View.loadsAt_vmem h_S1x64x128))
  let a20 : Vec F S1x1x128x256 .bf16 ← Prog.lift (.load arg8 (Rect.unit (s := S2x8x128x256) (q 2 0) S1x1x128x256.size (hq 2 0)).toLoadRect (View.loadsAt_vmem h_S1x1x128x256))
  let v21 : Vec F S1x64x128 .bf16 ← Prog.lift (.load arg4 (Rect.unit (s := S1x256x2048) (o 2 1) S1x64x128.size (ho 2 1)).toLoadRect (View.loadsAt_vmem h_S1x64x128))
  let a21 : Vec F S1x1x128x256 .bf16 ← Prog.lift (.load arg8 (Rect.unit (s := S2x8x128x256) (q 2 1) S1x1x128x256.size (hq 2 1)).toLoadRect (View.loadsAt_vmem h_S1x1x128x256))
  let x2 : Vec F S64x256 .f32 ← Prog.lift (.load arg6 (Rect.unit (s := S256x256) ![128, 0] S64x256.size inb_S256x256_S64x256_128_0).toLoadRect (View.loadsAt_vmem h_S64x256))
  Prog.lift (.store arg6 (Rect.unit (s := S256x256) ![128, 0] S64x256.size inb_S256x256_S64x256_128_0) (k0_pay89 c2 v20 a20 v21 a21) Finset.univ (View.stores_vmem_bits_univ h_S64x256 rfl) (.inl rfl))
  let c3 : Vec F S64x256 .f32 ← Prog.lift (.load arg6 (Rect.unit (s := S256x256) ![192, 0] S64x256.size inb_S256x256_S64x256_192_0).toLoadRect (View.loadsAt_vmem h_S64x256))
  let v30 : Vec F S1x64x128 .bf16 ← Prog.lift (.load arg4 (Rect.unit (s := S1x256x2048) (o 3 0) S1x64x128.size (ho 3 0)).toLoadRect (View.loadsAt_vmem h_S1x64x128))
  let a30 : Vec F S1x1x128x256 .bf16 ← Prog.lift (.load arg8 (Rect.unit (s := S2x8x128x256) (q 3 0) S1x1x128x256.size (hq 3 0)).toLoadRect (View.loadsAt_vmem h_S1x1x128x256))
  let v31 : Vec F S1x64x128 .bf16 ← Prog.lift (.load arg4 (Rect.unit (s := S1x256x2048) (o 3 1) S1x64x128.size (ho 3 1)).toLoadRect (View.loadsAt_vmem h_S1x64x128))
  let a31 : Vec F S1x1x128x256 .bf16 ← Prog.lift (.load arg8 (Rect.unit (s := S2x8x128x256) (q 3 1) S1x1x128x256.size (hq 3 1)).toLoadRect (View.loadsAt_vmem h_S1x1x128x256))
  let x3 : Vec F S64x256 .f32 ← Prog.lift (.load arg6 (Rect.unit (s := S256x256) ![192, 0] S64x256.size inb_S256x256_S64x256_192_0).toLoadRect (View.loadsAt_vmem h_S64x256))
  Prog.lift (.store arg6 (Rect.unit (s := S256x256) ![192, 0] S64x256.size inb_S256x256_S64x256_192_0) (k0_pay89 c3 v30 a30 v31 a31) Finset.univ (View.stores_vmem_bits_univ h_S64x256 rfl) (.inl rfl))
  pure ⟨⟩

/-- The scores of a pair of key blocks into slot 0: `o b p` where the keys lie, `q p` where the queries do. -/
def scP0 (v11 : IVec S128x128 1) (o : Fin 2 → Fin 2 → Fin 2 → ℕ) (ho : ∀ b p a, o b p a + S128x128.size a ≤ S2048x256.size a)
    (q : Fin 2 → Fin 3 → ℕ) (hq : ∀ p a, q p a + S1x128x256.size a ≤ S1x256x2048.size a) :
    Prog (TpuEff nD τ sig (Elt F) Λ₀ .tc) PUnit := do
  let k00 : Vec F S128x128 .bf16 ← Prog.lift (.load arg3 (Rect.unit (s := S2048x256) (o 0 0) S128x128.size (ho 0 0)).toLoadRect (View.loadsAt_vmem h_S128x128))
  let q00 : Vec F S1x128x256 .bf16 ← Prog.lift (.load arg2 (Rect.unit (s := S1x256x2048) (q 0) S1x128x256.size (hq 0)).toLoadRect (View.loadsAt_vmem h_S1x128x256))
  let x0 : Vec F S1x1x128x256 .f32 ← Prog.lift (.load arg7 (Rect.unit (s := S2x8x128x256) ![0, 0, 0, 0] S1x1x128x256.size inb_S2x8x128x256_S1x1x128x256_0_0_0_0).toLoadRect (View.loadsAt_vmem h_S1x1x128x256))
  Prog.lift (.store arg7 (Rect.unit (s := S2x8x128x256) ![0, 0, 0, 0] S1x1x128x256.size inb_S2x8x128x256_S1x1x128x256_0_0_0_0) (k0_pay92 v11 k00 q00) Finset.univ (View.stores_vmem_bits_univ h_S1x1x128x256 rfl) (.inl rfl))
  let x1 : Vec F S1x1x128x256 .f32 ← Prog.lift (.load arg7 (Rect.unit (s := S2x8x128x256) ![0, 1, 0, 0] S1x1x128x256.size inb_S2x8x128x256_S1x1x128x256_0_1_0_0).toLoadRect (View.loadsAt_vmem h_S1x1x128x256))
  Prog.lift (.store arg7 (Rect.unit (s := S2x8x128x256) ![0, 1, 0, 0] S1x1x128x256.size inb_S2x8x128x256_S1x1x128x256_0_1_0_0) (k0_pay93 v11 k00 q00) Finset.univ (View.stores_vmem_bits_univ h_S1x1x128x256 rfl) (.inl rfl))
  let k01 : Vec F S128x128 .bf16 ← Prog.lift (.load arg3 (Rect.unit (s := S2048x256) (o 0 1) S128x128.size (ho 0 1)).toLoadRect (View.loadsAt_vmem h_S128x128))
  let q01 : Vec F S1x128x256 .bf16 ← Prog.lift (.load arg2 (Rect.unit (s := S1x256x2048) (q 1) S1x128x256.size (hq 1)).toLoadRect (View.loadsAt_vmem h_S1x128x256))
  let x2 : Vec F S1x1x128x256 .f32 ← Prog.lift (.load arg7 (Rect.unit (s := S2x8x128x256) ![0, 2, 0, 0] S1x1x128x256.size inb_S2x8x128x256_S1x1x128x256_0_2_0_0).toLoadRect (View.loadsAt_vmem h_S1x1x128x256))
  Prog.lift (.store arg7 (Rect.unit (s := S2x8x128x256) ![0, 2, 0, 0] S1x1x128x256.size inb_S2x8x128x256_S1x1x128x256_0_2_0_0) (k0_pay92 v11 k01 q01) Finset.univ (View.stores_vmem_bits_univ h_S1x1x128x256 rfl) (.inl rfl))
  let x3 : Vec F S1x1x128x256 .f32 ← Prog.lift (.load arg7 (Rect.unit (s := S2x8x128x256) ![0, 3, 0, 0] S1x1x128x256.size inb_S2x8x128x256_S1x1x128x256_0_3_0_0).toLoadRect (View.loadsAt_vmem h_S1x1x128x256))
  Prog.lift (.store arg7 (Rect.unit (s := S2x8x128x256) ![0, 3, 0, 0] S1x1x128x256.size inb_S2x8x128x256_S1x1x128x256_0_3_0_0) (k0_pay93 v11 k01 q01) Finset.univ (View.stores_vmem_bits_univ h_S1x1x128x256 rfl) (.inl rfl))
  let k10 : Vec F S128x128 .bf16 ← Prog.lift (.load arg3 (Rect.unit (s := S2048x256) (o 1 0) S128x128.size (ho 1 0)).toLoadRect (View.loadsAt_vmem h_S128x128))
  let q10 : Vec F S1x128x256 .bf16 ← Prog.lift (.load arg2 (Rect.unit (s := S1x256x2048) (q 0) S1x128x256.size (hq 0)).toLoadRect (View.loadsAt_vmem h_S1x128x256))
  let x4 : Vec F S1x1x128x256 .f32 ← Prog.lift (.load arg7 (Rect.unit (s := S2x8x128x256) ![0, 4, 0, 0] S1x1x128x256.size inb_S2x8x128x256_S1x1x128x256_0_4_0_0).toLoadRect (View.loadsAt_vmem h_S1x1x128x256))
  Prog.lift (.store arg7 (Rect.unit (s := S2x8x128x256) ![0, 4, 0, 0] S1x1x128x256.size inb_S2x8x128x256_S1x1x128x256_0_4_0_0) (k0_pay92 v11 k10 q10) Finset.univ (View.stores_vmem_bits_univ h_S1x1x128x256 rfl) (.inl rfl))
  let x5 : Vec F S1x1x128x256 .f32 ← Prog.lift (.load arg7 (Rect.unit (s := S2x8x128x256) ![0, 5, 0, 0] S1x1x128x256.size inb_S2x8x128x256_S1x1x128x256_0_5_0_0).toLoadRect (View.loadsAt_vmem h_S1x1x128x256))
  Prog.lift (.store arg7 (Rect.unit (s := S2x8x128x256) ![0, 5, 0, 0] S1x1x128x256.size inb_S2x8x128x256_S1x1x128x256_0_5_0_0) (k0_pay93 v11 k10 q10) Finset.univ (View.stores_vmem_bits_univ h_S1x1x128x256 rfl) (.inl rfl))
  let k11 : Vec F S128x128 .bf16 ← Prog.lift (.load arg3 (Rect.unit (s := S2048x256) (o 1 1) S128x128.size (ho 1 1)).toLoadRect (View.loadsAt_vmem h_S128x128))
  let q11 : Vec F S1x128x256 .bf16 ← Prog.lift (.load arg2 (Rect.unit (s := S1x256x2048) (q 1) S1x128x256.size (hq 1)).toLoadRect (View.loadsAt_vmem h_S1x128x256))
  let x6 : Vec F S1x1x128x256 .f32 ← Prog.lift (.load arg7 (Rect.unit (s := S2x8x128x256) ![0, 6, 0, 0] S1x1x128x256.size inb_S2x8x128x256_S1x1x128x256_0_6_0_0).toLoadRect (View.loadsAt_vmem h_S1x1x128x256))
  Prog.lift (.store arg7 (Rect.unit (s := S2x8x128x256) ![0, 6, 0, 0] S1x1x128x256.size inb_S2x8x128x256_S1x1x128x256_0_6_0_0) (k0_pay92 v11 k11 q11) Finset.univ (View.stores_vmem_bits_univ h_S1x1x128x256 rfl) (.inl rfl))
  let x7 : Vec F S1x1x128x256 .f32 ← Prog.lift (.load arg7 (Rect.unit (s := S2x8x128x256) ![0, 7, 0, 0] S1x1x128x256.size inb_S2x8x128x256_S1x1x128x256_0_7_0_0).toLoadRect (View.loadsAt_vmem h_S1x1x128x256))
  Prog.lift (.store arg7 (Rect.unit (s := S2x8x128x256) ![0, 7, 0, 0] S1x1x128x256.size inb_S2x8x128x256_S1x1x128x256_0_7_0_0) (k0_pay93 v11 k11 q11) Finset.univ (View.stores_vmem_bits_univ h_S1x1x128x256 rfl) (.inl rfl))
  pure ⟨⟩

/-- The scores of a pair of key blocks into slot 1: `o b p` where the keys lie, `q p` where the queries do. -/
def scP1 (v11 : IVec S128x128 1) (o : Fin 2 → Fin 2 → Fin 2 → ℕ) (ho : ∀ b p a, o b p a + S128x128.size a ≤ S2048x256.size a)
    (q : Fin 2 → Fin 3 → ℕ) (hq : ∀ p a, q p a + S1x128x256.size a ≤ S1x256x2048.size a) :
    Prog (TpuEff nD τ sig (Elt F) Λ₀ .tc) PUnit := do
  let k00 : Vec F S128x128 .bf16 ← Prog.lift (.load arg3 (Rect.unit (s := S2048x256) (o 0 0) S128x128.size (ho 0 0)).toLoadRect (View.loadsAt_vmem h_S128x128))
  let q00 : Vec F S1x128x256 .bf16 ← Prog.lift (.load arg2 (Rect.unit (s := S1x256x2048) (q 0) S1x128x256.size (hq 0)).toLoadRect (View.loadsAt_vmem h_S1x128x256))
  let x0 : Vec F S1x1x128x256 .f32 ← Prog.lift (.load arg7 (Rect.unit (s := S2x8x128x256) ![1, 0, 0, 0] S1x1x128x256.size inb_S2x8x128x256_S1x1x128x256_1_0_0_0).toLoadRect (View.loadsAt_vmem h_S1x1x128x256))
  Prog.lift (.store arg7 (Rect.unit (s := S2x8x128x256) ![1, 0, 0, 0] S1x1x128x256.size inb_S2x8x128x256_S1x1x128x256_1_0_0_0) (k0_pay92 v11 k00 q00) Finset.univ (View.stores_vmem_bits_univ h_S1x1x128x256 rfl) (.inl rfl))
  let x1 : Vec F S1x1x128x256 .f32 ← Prog.lift (.load arg7 (Rect.unit (s := S2x8x128x256) ![1, 1, 0, 0] S1x1x128x256.size inb_S2x8x128x256_S1x1x128x256_1_1_0_0).toLoadRect (View.loadsAt_vmem h_S1x1x128x256))
  Prog.lift (.store arg7 (Rect.unit (s := S2x8x128x256) ![1, 1, 0, 0] S1x1x128x256.size inb_S2x8x128x256_S1x1x128x256_1_1_0_0) (k0_pay93 v11 k00 q00) Finset.univ (View.stores_vmem_bits_univ h_S1x1x128x256 rfl) (.inl rfl))
  let k01 : Vec F S128x128 .bf16 ← Prog.lift (.load arg3 (Rect.unit (s := S2048x256) (o 0 1) S128x128.size (ho 0 1)).toLoadRect (View.loadsAt_vmem h_S128x128))
  let q01 : Vec F S1x128x256 .bf16 ← Prog.lift (.load arg2 (Rect.unit (s := S1x256x2048) (q 1) S1x128x256.size (hq 1)).toLoadRect (View.loadsAt_vmem h_S1x128x256))
  let x2 : Vec F S1x1x128x256 .f32 ← Prog.lift (.load arg7 (Rect.unit (s := S2x8x128x256) ![1, 2, 0, 0] S1x1x128x256.size inb_S2x8x128x256_S1x1x128x256_1_2_0_0).toLoadRect (View.loadsAt_vmem h_S1x1x128x256))
  Prog.lift (.store arg7 (Rect.unit (s := S2x8x128x256) ![1, 2, 0, 0] S1x1x128x256.size inb_S2x8x128x256_S1x1x128x256_1_2_0_0) (k0_pay92 v11 k01 q01) Finset.univ (View.stores_vmem_bits_univ h_S1x1x128x256 rfl) (.inl rfl))
  let x3 : Vec F S1x1x128x256 .f32 ← Prog.lift (.load arg7 (Rect.unit (s := S2x8x128x256) ![1, 3, 0, 0] S1x1x128x256.size inb_S2x8x128x256_S1x1x128x256_1_3_0_0).toLoadRect (View.loadsAt_vmem h_S1x1x128x256))
  Prog.lift (.store arg7 (Rect.unit (s := S2x8x128x256) ![1, 3, 0, 0] S1x1x128x256.size inb_S2x8x128x256_S1x1x128x256_1_3_0_0) (k0_pay93 v11 k01 q01) Finset.univ (View.stores_vmem_bits_univ h_S1x1x128x256 rfl) (.inl rfl))
  let k10 : Vec F S128x128 .bf16 ← Prog.lift (.load arg3 (Rect.unit (s := S2048x256) (o 1 0) S128x128.size (ho 1 0)).toLoadRect (View.loadsAt_vmem h_S128x128))
  let q10 : Vec F S1x128x256 .bf16 ← Prog.lift (.load arg2 (Rect.unit (s := S1x256x2048) (q 0) S1x128x256.size (hq 0)).toLoadRect (View.loadsAt_vmem h_S1x128x256))
  let x4 : Vec F S1x1x128x256 .f32 ← Prog.lift (.load arg7 (Rect.unit (s := S2x8x128x256) ![1, 4, 0, 0] S1x1x128x256.size inb_S2x8x128x256_S1x1x128x256_1_4_0_0).toLoadRect (View.loadsAt_vmem h_S1x1x128x256))
  Prog.lift (.store arg7 (Rect.unit (s := S2x8x128x256) ![1, 4, 0, 0] S1x1x128x256.size inb_S2x8x128x256_S1x1x128x256_1_4_0_0) (k0_pay92 v11 k10 q10) Finset.univ (View.stores_vmem_bits_univ h_S1x1x128x256 rfl) (.inl rfl))
  let x5 : Vec F S1x1x128x256 .f32 ← Prog.lift (.load arg7 (Rect.unit (s := S2x8x128x256) ![1, 5, 0, 0] S1x1x128x256.size inb_S2x8x128x256_S1x1x128x256_1_5_0_0).toLoadRect (View.loadsAt_vmem h_S1x1x128x256))
  Prog.lift (.store arg7 (Rect.unit (s := S2x8x128x256) ![1, 5, 0, 0] S1x1x128x256.size inb_S2x8x128x256_S1x1x128x256_1_5_0_0) (k0_pay93 v11 k10 q10) Finset.univ (View.stores_vmem_bits_univ h_S1x1x128x256 rfl) (.inl rfl))
  let k11 : Vec F S128x128 .bf16 ← Prog.lift (.load arg3 (Rect.unit (s := S2048x256) (o 1 1) S128x128.size (ho 1 1)).toLoadRect (View.loadsAt_vmem h_S128x128))
  let q11 : Vec F S1x128x256 .bf16 ← Prog.lift (.load arg2 (Rect.unit (s := S1x256x2048) (q 1) S1x128x256.size (hq 1)).toLoadRect (View.loadsAt_vmem h_S1x128x256))
  let x6 : Vec F S1x1x128x256 .f32 ← Prog.lift (.load arg7 (Rect.unit (s := S2x8x128x256) ![1, 6, 0, 0] S1x1x128x256.size inb_S2x8x128x256_S1x1x128x256_1_6_0_0).toLoadRect (View.loadsAt_vmem h_S1x1x128x256))
  Prog.lift (.store arg7 (Rect.unit (s := S2x8x128x256) ![1, 6, 0, 0] S1x1x128x256.size inb_S2x8x128x256_S1x1x128x256_1_6_0_0) (k0_pay92 v11 k11 q11) Finset.univ (View.stores_vmem_bits_univ h_S1x1x128x256 rfl) (.inl rfl))
  let x7 : Vec F S1x1x128x256 .f32 ← Prog.lift (.load arg7 (Rect.unit (s := S2x8x128x256) ![1, 7, 0, 0] S1x1x128x256.size inb_S2x8x128x256_S1x1x128x256_1_7_0_0).toLoadRect (View.loadsAt_vmem h_S1x1x128x256))
  Prog.lift (.store arg7 (Rect.unit (s := S2x8x128x256) ![1, 7, 0, 0] S1x1x128x256.size inb_S2x8x128x256_S1x1x128x256_1_7_0_0) (k0_pay93 v11 k11 q11) Finset.univ (View.stores_vmem_bits_univ h_S1x1x128x256 rfl) (.inl rfl))
  pure ⟨⟩

/-- The weights of slot 0's pair of key blocks, all of it before the queries. -/
def wP0 (v8 : FVec F S128x128 .bf16) (g : FVec F S1x256 .f32 × FVec F S1x256 .f32 × FVec F S1x256 .f32 × FVec F S1x256 .f32) :
    Prog (TpuEff nD τ sig (Elt F) Λ₀ .tc) (FVec F S1x256 .f32 × FVec F S1x256 .f32 × FVec F S1x256 .f32 × FVec F S1x256 .f32) := do
  let z0 : Vec F S1x1x128x256 .f32 ← Prog.lift (.load arg7 (Rect.unit (s := S2x8x128x256) ![0, 0, 0, 0] S1x1x128x256.size inb_S2x8x128x256_S1x1x128x256_0_0_0_0).toLoadRect (View.loadsAt_vmem h_S1x1x128x256))
  let x0 : Vec F S1x1x128x256 .f32 ← Prog.lift (.load arg7 (Rect.unit (s := S2x8x128x256) ![0, 0, 0, 0] S1x1x128x256.size inb_S2x8x128x256_S1x1x128x256_0_0_0_0).toLoadRect (View.loadsAt_vmem h_S1x1x128x256))
  Prog.lift (.store arg7 (Rect.unit (s := S2x8x128x256) ![0, 0, 0, 0] S1x1x128x256.size inb_S2x8x128x256_S1x1x128x256_0_0_0_0) (k0_pay109 z0) Finset.univ (View.stores_vmem_bits_univ h_S1x1x128x256 rfl) (.inl rfl))
  let z1 : Vec F S1x1x128x256 .f32 ← Prog.lift (.load arg7 (Rect.unit (s := S2x8x128x256) ![0, 1, 0, 0] S1x1x128x256.size inb_S2x8x128x256_S1x1x128x256_0_1_0_0).toLoadRect (View.loadsAt_vmem h_S1x1x128x256))
  let x1 : Vec F S1x1x128x256 .f32 ← Prog.lift (.load arg7 (Rect.unit (s := S2x8x128x256) ![0, 1, 0, 0] S1x1x128x256.size inb_S2x8x128x256_S1x1x128x256_0_1_0_0).toLoadRect (View.loadsAt_vmem h_S1x1x128x256))
  Prog.lift (.store arg7 (Rect.unit (s := S2x8x128x256) ![0, 1, 0, 0] S1x1x128x256.size inb_S2x8x128x256_S1x1x128x256_0_1_0_0) (k0_pay109 z1) Finset.univ (View.stores_vmem_bits_univ h_S1x1x128x256 rfl) (.inl rfl))
  let z2 : Vec F S1x1x128x256 .f32 ← Prog.lift (.load arg7 (Rect.unit (s := S2x8x128x256) ![0, 2, 0, 0] S1x1x128x256.size inb_S2x8x128x256_S1x1x128x256_0_2_0_0).toLoadRect (View.loadsAt_vmem h_S1x1x128x256))
  let x2 : Vec F S1x1x128x256 .f32 ← Prog.lift (.load arg7 (Rect.unit (s := S2x8x128x256) ![0, 2, 0, 0] S1x1x128x256.size inb_S2x8x128x256_S1x1x128x256_0_2_0_0).toLoadRect (View.loadsAt_vmem h_S1x1x128x256))
  Prog.lift (.store arg7 (Rect.unit (s := S2x8x128x256) ![0, 2, 0, 0] S1x1x128x256.size inb_S2x8x128x256_S1x1x128x256_0_2_0_0) (k0_pay109 z2) Finset.univ (View.stores_vmem_bits_univ h_S1x1x128x256 rfl) (.inl rfl))
  let z3 : Vec F S1x1x128x256 .f32 ← Prog.lift (.load arg7 (Rect.unit (s := S2x8x128x256) ![0, 3, 0, 0] S1x1x128x256.size inb_S2x8x128x256_S1x1x128x256_0_3_0_0).toLoadRect (View.loadsAt_vmem h_S1x1x128x256))
  let x3 : Vec F S1x1x128x256 .f32 ← Prog.lift (.load arg7 (Rect.unit (s := S2x8x128x256) ![0, 3, 0, 0] S1x1x128x256.size inb_S2x8x128x256_S1x1x128x256_0_3_0_0).toLoadRect (View.loadsAt_vmem h_S1x1x128x256))
  Prog.lift (.store arg7 (Rect.unit (s := S2x8x128x256) ![0, 3, 0, 0] S1x1x128x256.size inb_S2x8x128x256_S1x1x128x256_0_3_0_0) (k0_pay109 z3) Finset.univ (View.stores_vmem_bits_univ h_S1x1x128x256 rfl) (.inl rfl))
  let z4 : Vec F S1x1x128x256 .f32 ← Prog.lift (.load arg7 (Rect.unit (s := S2x8x128x256) ![0, 4, 0, 0] S1x1x128x256.size inb_S2x8x128x256_S1x1x128x256_0_4_0_0).toLoadRect (View.loadsAt_vmem h_S1x1x128x256))
  let x4 : Vec F S1x1x128x256 .f32 ← Prog.lift (.load arg7 (Rect.unit (s := S2x8x128x256) ![0, 4, 0, 0] S1x1x128x256.size inb_S2x8x128x256_S1x1x128x256_0_4_0_0).toLoadRect (View.loadsAt_vmem h_S1x1x128x256))
  Prog.lift (.store arg7 (Rect.unit (s := S2x8x128x256) ![0, 4, 0, 0] S1x1x128x256.size inb_S2x8x128x256_S1x1x128x256_0_4_0_0) (k0_pay109 z4) Finset.univ (View.stores_vmem_bits_univ h_S1x1x128x256 rfl) (.inl rfl))
  let z5 : Vec F S1x1x128x256 .f32 ← Prog.lift (.load arg7 (Rect.unit (s := S2x8x128x256) ![0, 5, 0, 0] S1x1x128x256.size inb_S2x8x128x256_S1x1x128x256_0_5_0_0).toLoadRect (View.loadsAt_vmem h_S1x1x128x256))
  let x5 : Vec F S1x1x128x256 .f32 ← Prog.lift (.load arg7 (Rect.unit (s := S2x8x128x256) ![0, 5, 0, 0] S1x1x128x256.size inb_S2x8x128x256_S1x1x128x256_0_5_0_0).toLoadRect (View.loadsAt_vmem h_S1x1x128x256))
  Prog.lift (.store arg7 (Rect.unit (s := S2x8x128x256) ![0, 5, 0, 0] S1x1x128x256.size inb_S2x8x128x256_S1x1x128x256_0_5_0_0) (k0_pay109 z5) Finset.univ (View.stores_vmem_bits_univ h_S1x1x128x256 rfl) (.inl rfl))
  let z6 : Vec F S1x1x128x256 .f32 ← Prog.lift (.load arg7 (Rect.unit (s := S2x8x128x256) ![0, 6, 0, 0] S1x1x128x256.size inb_S2x8x128x256_S1x1x128x256_0_6_0_0).toLoadRect (View.loadsAt_vmem h_S1x1x128x256))
  let x6 : Vec F S1x1x128x256 .f32 ← Prog.lift (.load arg7 (Rect.unit (s := S2x8x128x256) ![0, 6, 0, 0] S1x1x128x256.size inb_S2x8x128x256_S1x1x128x256_0_6_0_0).toLoadRect (View.loadsAt_vmem h_S1x1x128x256))
  Prog.lift (.store arg7 (Rect.unit (s := S2x8x128x256) ![0, 6, 0, 0] S1x1x128x256.size inb_S2x8x128x256_S1x1x128x256_0_6_0_0) (k0_pay109 z6) Finset.univ (View.stores_vmem_bits_univ h_S1x1x128x256 rfl) (.inl rfl))
  let z7 : Vec F S1x1x128x256 .f32 ← Prog.lift (.load arg7 (Rect.unit (s := S2x8x128x256) ![0, 7, 0, 0] S1x1x128x256.size inb_S2x8x128x256_S1x1x128x256_0_7_0_0).toLoadRect (View.loadsAt_vmem h_S1x1x128x256))
  let x7 : Vec F S1x1x128x256 .f32 ← Prog.lift (.load arg7 (Rect.unit (s := S2x8x128x256) ![0, 7, 0, 0] S1x1x128x256.size inb_S2x8x128x256_S1x1x128x256_0_7_0_0).toLoadRect (View.loadsAt_vmem h_S1x1x128x256))
  Prog.lift (.store arg7 (Rect.unit (s := S2x8x128x256) ![0, 7, 0, 0] S1x1x128x256.size inb_S2x8x128x256_S1x1x128x256_0_7_0_0) (k0_pay109 z7) Finset.univ (View.stores_vmem_bits_univ h_S1x1x128x256 rfl) (.inl rfl))
  let y0 : Vec F S1x1x128x256 .f32 ← Prog.lift (.load arg7 (Rect.unit (s := S2x8x128x256) ![0, 0, 0, 0] S1x1x128x256.size inb_S2x8x128x256_S1x1x128x256_0_0_0_0).toLoadRect (View.loadsAt_vmem h_S1x1x128x256))
  let u0 : Vec F S1x1x128x256 .bf16 ← Prog.lift (.load arg8 (Rect.unit (s := S2x8x128x256) ![0, 0, 0, 0] S1x1x128x256.size inb_S2x8x128x256_S1x1x128x256_0_0_0_0).toLoadRect (View.loadsAt_vmem h_S1x1x128x256))
  Prog.lift (.store arg8 (Rect.unit (s := S2x8x128x256) ![0, 0, 0, 0] S1x1x128x256.size inb_S2x8x128x256_S1x1x128x256_0_0_0_0) (k0_pay151 g.1 (k0_pay111 v8 z0) y0) Finset.univ (View.stores_vmem h_S1x1x128x256 (harg8.storeExact_slice rfl _ packedbf16_S2x8x128x256_S1x1x128x256_0_0_0_0) (fun _ => rfl)) (.inl rfl))
  let y1 : Vec F S1x1x128x256 .f32 ← Prog.lift (.load arg7 (Rect.unit (s := S2x8x128x256) ![0, 1, 0, 0] S1x1x128x256.size inb_S2x8x128x256_S1x1x128x256_0_1_0_0).toLoadRect (View.loadsAt_vmem h_S1x1x128x256))
  let u1 : Vec F S1x1x128x256 .bf16 ← Prog.lift (.load arg8 (Rect.unit (s := S2x8x128x256) ![0, 1, 0, 0] S1x1x128x256.size inb_S2x8x128x256_S1x1x128x256_0_1_0_0).toLoadRect (View.loadsAt_vmem h_S1x1x128x256))
  Prog.lift (.store arg8 (Rect.unit (s := S2x8x128x256) ![0, 1, 0, 0] S1x1x128x256.size inb_S2x8x128x256_S1x1x128x256_0_1_0_0) (k0_pay151 g.2.1 (k0_pay111 v8 z1) y1) Finset.univ (View.stores_vmem h_S1x1x128x256 (harg8.storeExact_slice rfl _ packedbf16_S2x8x128x256_S1x1x128x256_0_1_0_0) (fun _ => rfl)) (.inl rfl))
  let y2 : Vec F S1x1x128x256 .f32 ← Prog.lift (.load arg7 (Rect.unit (s := S2x8x128x256) ![0, 2, 0, 0] S1x1x128x256.size inb_S2x8x128x256_S1x1x128x256_0_2_0_0).toLoadRect (View.loadsAt_vmem h_S1x1x128x256))
  let u2 : Vec F S1x1x128x256 .bf16 ← Prog.lift (.load arg8 (Rect.unit (s := S2x8x128x256) ![0, 2, 0, 0] S1x1x128x256.size inb_S2x8x128x256_S1x1x128x256_0_2_0_0).toLoadRect (View.loadsAt_vmem h_S1x1x128x256))
  Prog.lift (.store arg8 (Rect.unit (s := S2x8x128x256) ![0, 2, 0, 0] S1x1x128x256.size inb_S2x8x128x256_S1x1x128x256_0_2_0_0) (k0_pay151 g.2.2.1 (k0_pay111 v8 z2) y2) Finset.univ (View.stores_vmem h_S1x1x128x256 (harg8.storeExact_slice rfl _ packedbf16_S2x8x128x256_S1x1x128x256_0_2_0_0) (fun _ => rfl)) (.inl rfl))
  let y3 : Vec F S1x1x128x256 .f32 ← Prog.lift (.load arg7 (Rect.unit (s := S2x8x128x256) ![0, 3, 0, 0] S1x1x128x256.size inb_S2x8x128x256_S1x1x128x256_0_3_0_0).toLoadRect (View.loadsAt_vmem h_S1x1x128x256))
  let u3 : Vec F S1x1x128x256 .bf16 ← Prog.lift (.load arg8 (Rect.unit (s := S2x8x128x256) ![0, 3, 0, 0] S1x1x128x256.size inb_S2x8x128x256_S1x1x128x256_0_3_0_0).toLoadRect (View.loadsAt_vmem h_S1x1x128x256))
  Prog.lift (.store arg8 (Rect.unit (s := S2x8x128x256) ![0, 3, 0, 0] S1x1x128x256.size inb_S2x8x128x256_S1x1x128x256_0_3_0_0) (k0_pay151 g.2.2.2 (k0_pay111 v8 z3) y3) Finset.univ (View.stores_vmem h_S1x1x128x256 (harg8.storeExact_slice rfl _ packedbf16_S2x8x128x256_S1x1x128x256_0_3_0_0) (fun _ => rfl)) (.inl rfl))
  let y4 : Vec F S1x1x128x256 .f32 ← Prog.lift (.load arg7 (Rect.unit (s := S2x8x128x256) ![0, 4, 0, 0] S1x1x128x256.size inb_S2x8x128x256_S1x1x128x256_0_4_0_0).toLoadRect (View.loadsAt_vmem h_S1x1x128x256))
  let u4 : Vec F S1x1x128x256 .bf16 ← Prog.lift (.load arg8 (Rect.unit (s := S2x8x128x256) ![0, 4, 0, 0] S1x1x128x256.size inb_S2x8x128x256_S1x1x128x256_0_4_0_0).toLoadRect (View.loadsAt_vmem h_S1x1x128x256))
  Prog.lift (.store arg8 (Rect.unit (s := S2x8x128x256) ![0, 4, 0, 0] S1x1x128x256.size inb_S2x8x128x256_S1x1x128x256_0_4_0_0) (k0_pay151 (k0_pay152 g.1 (k0_pay110 z0) (k0_pay111 v8 z0)) (k0_pay111 v8 z4) y4) Finset.univ (View.stores_vmem h_S1x1x128x256 (harg8.storeExact_slice rfl _ packedbf16_S2x8x128x256_S1x1x128x256_0_4_0_0) (fun _ => rfl)) (.inl rfl))
  let y5 : Vec F S1x1x128x256 .f32 ← Prog.lift (.load arg7 (Rect.unit (s := S2x8x128x256) ![0, 5, 0, 0] S1x1x128x256.size inb_S2x8x128x256_S1x1x128x256_0_5_0_0).toLoadRect (View.loadsAt_vmem h_S1x1x128x256))
  let u5 : Vec F S1x1x128x256 .bf16 ← Prog.lift (.load arg8 (Rect.unit (s := S2x8x128x256) ![0, 5, 0, 0] S1x1x128x256.size inb_S2x8x128x256_S1x1x128x256_0_5_0_0).toLoadRect (View.loadsAt_vmem h_S1x1x128x256))
  Prog.lift (.store arg8 (Rect.unit (s := S2x8x128x256) ![0, 5, 0, 0] S1x1x128x256.size inb_S2x8x128x256_S1x1x128x256_0_5_0_0) (k0_pay151 (k0_pay152 g.2.1 (k0_pay110 z1) (k0_pay111 v8 z1)) (k0_pay111 v8 z5) y5) Finset.univ (View.stores_vmem h_S1x1x128x256 (harg8.storeExact_slice rfl _ packedbf16_S2x8x128x256_S1x1x128x256_0_5_0_0) (fun _ => rfl)) (.inl rfl))
  let y6 : Vec F S1x1x128x256 .f32 ← Prog.lift (.load arg7 (Rect.unit (s := S2x8x128x256) ![0, 6, 0, 0] S1x1x128x256.size inb_S2x8x128x256_S1x1x128x256_0_6_0_0).toLoadRect (View.loadsAt_vmem h_S1x1x128x256))
  let u6 : Vec F S1x1x128x256 .bf16 ← Prog.lift (.load arg8 (Rect.unit (s := S2x8x128x256) ![0, 6, 0, 0] S1x1x128x256.size inb_S2x8x128x256_S1x1x128x256_0_6_0_0).toLoadRect (View.loadsAt_vmem h_S1x1x128x256))
  Prog.lift (.store arg8 (Rect.unit (s := S2x8x128x256) ![0, 6, 0, 0] S1x1x128x256.size inb_S2x8x128x256_S1x1x128x256_0_6_0_0) (k0_pay151 (k0_pay152 g.2.2.1 (k0_pay110 z2) (k0_pay111 v8 z2)) (k0_pay111 v8 z6) y6) Finset.univ (View.stores_vmem h_S1x1x128x256 (harg8.storeExact_slice rfl _ packedbf16_S2x8x128x256_S1x1x128x256_0_6_0_0) (fun _ => rfl)) (.inl rfl))
  let y7 : Vec F S1x1x128x256 .f32 ← Prog.lift (.load arg7 (Rect.unit (s := S2x8x128x256) ![0, 7, 0, 0] S1x1x128x256.size inb_S2x8x128x256_S1x1x128x256_0_7_0_0).toLoadRect (View.loadsAt_vmem h_S1x1x128x256))
  let u7 : Vec F S1x1x128x256 .bf16 ← Prog.lift (.load arg8 (Rect.unit (s := S2x8x128x256) ![0, 7, 0, 0] S1x1x128x256.size inb_S2x8x128x256_S1x1x128x256_0_7_0_0).toLoadRect (View.loadsAt_vmem h_S1x1x128x256))
  Prog.lift (.store arg8 (Rect.unit (s := S2x8x128x256) ![0, 7, 0, 0] S1x1x128x256.size inb_S2x8x128x256_S1x1x128x256_0_7_0_0) (k0_pay151 (k0_pay152 g.2.2.2 (k0_pay110 z3) (k0_pay111 v8 z3)) (k0_pay111 v8 z7) y7) Finset.univ (View.stores_vmem h_S1x1x128x256 (harg8.storeExact_slice rfl _ packedbf16_S2x8x128x256_S1x1x128x256_0_7_0_0) (fun _ => rfl)) (.inl rfl))
  pure (k0_pay152 (k0_pay152 g.1 (k0_pay110 z0) (k0_pay111 v8 z0)) (k0_pay110 z4) (k0_pay111 v8 z4), k0_pay152 (k0_pay152 g.2.1 (k0_pay110 z1) (k0_pay111 v8 z1)) (k0_pay110 z5) (k0_pay111 v8 z5), k0_pay152 (k0_pay152 g.2.2.1 (k0_pay110 z2) (k0_pay111 v8 z2)) (k0_pay110 z6) (k0_pay111 v8 z6), k0_pay152 (k0_pay152 g.2.2.2 (k0_pay110 z3) (k0_pay111 v8 z3)) (k0_pay110 z7) (k0_pay111 v8 z7))

/-- The weights of slot 1's pair of key blocks, all of it before the queries. -/
def wP1 (v8 : FVec F S128x128 .bf16) (g : FVec F S1x256 .f32 × FVec F S1x256 .f32 × FVec F S1x256 .f32 × FVec F S1x256 .f32) :
    Prog (TpuEff nD τ sig (Elt F) Λ₀ .tc) (FVec F S1x256 .f32 × FVec F S1x256 .f32 × FVec F S1x256 .f32 × FVec F S1x256 .f32) := do
  let z0 : Vec F S1x1x128x256 .f32 ← Prog.lift (.load arg7 (Rect.unit (s := S2x8x128x256) ![1, 0, 0, 0] S1x1x128x256.size inb_S2x8x128x256_S1x1x128x256_1_0_0_0).toLoadRect (View.loadsAt_vmem h_S1x1x128x256))
  let x0 : Vec F S1x1x128x256 .f32 ← Prog.lift (.load arg7 (Rect.unit (s := S2x8x128x256) ![1, 0, 0, 0] S1x1x128x256.size inb_S2x8x128x256_S1x1x128x256_1_0_0_0).toLoadRect (View.loadsAt_vmem h_S1x1x128x256))
  Prog.lift (.store arg7 (Rect.unit (s := S2x8x128x256) ![1, 0, 0, 0] S1x1x128x256.size inb_S2x8x128x256_S1x1x128x256_1_0_0_0) (k0_pay109 z0) Finset.univ (View.stores_vmem_bits_univ h_S1x1x128x256 rfl) (.inl rfl))
  let z1 : Vec F S1x1x128x256 .f32 ← Prog.lift (.load arg7 (Rect.unit (s := S2x8x128x256) ![1, 1, 0, 0] S1x1x128x256.size inb_S2x8x128x256_S1x1x128x256_1_1_0_0).toLoadRect (View.loadsAt_vmem h_S1x1x128x256))
  let x1 : Vec F S1x1x128x256 .f32 ← Prog.lift (.load arg7 (Rect.unit (s := S2x8x128x256) ![1, 1, 0, 0] S1x1x128x256.size inb_S2x8x128x256_S1x1x128x256_1_1_0_0).toLoadRect (View.loadsAt_vmem h_S1x1x128x256))
  Prog.lift (.store arg7 (Rect.unit (s := S2x8x128x256) ![1, 1, 0, 0] S1x1x128x256.size inb_S2x8x128x256_S1x1x128x256_1_1_0_0) (k0_pay109 z1) Finset.univ (View.stores_vmem_bits_univ h_S1x1x128x256 rfl) (.inl rfl))
  let z2 : Vec F S1x1x128x256 .f32 ← Prog.lift (.load arg7 (Rect.unit (s := S2x8x128x256) ![1, 2, 0, 0] S1x1x128x256.size inb_S2x8x128x256_S1x1x128x256_1_2_0_0).toLoadRect (View.loadsAt_vmem h_S1x1x128x256))
  let x2 : Vec F S1x1x128x256 .f32 ← Prog.lift (.load arg7 (Rect.unit (s := S2x8x128x256) ![1, 2, 0, 0] S1x1x128x256.size inb_S2x8x128x256_S1x1x128x256_1_2_0_0).toLoadRect (View.loadsAt_vmem h_S1x1x128x256))
  Prog.lift (.store arg7 (Rect.unit (s := S2x8x128x256) ![1, 2, 0, 0] S1x1x128x256.size inb_S2x8x128x256_S1x1x128x256_1_2_0_0) (k0_pay109 z2) Finset.univ (View.stores_vmem_bits_univ h_S1x1x128x256 rfl) (.inl rfl))
  let z3 : Vec F S1x1x128x256 .f32 ← Prog.lift (.load arg7 (Rect.unit (s := S2x8x128x256) ![1, 3, 0, 0] S1x1x128x256.size inb_S2x8x128x256_S1x1x128x256_1_3_0_0).toLoadRect (View.loadsAt_vmem h_S1x1x128x256))
  let x3 : Vec F S1x1x128x256 .f32 ← Prog.lift (.load arg7 (Rect.unit (s := S2x8x128x256) ![1, 3, 0, 0] S1x1x128x256.size inb_S2x8x128x256_S1x1x128x256_1_3_0_0).toLoadRect (View.loadsAt_vmem h_S1x1x128x256))
  Prog.lift (.store arg7 (Rect.unit (s := S2x8x128x256) ![1, 3, 0, 0] S1x1x128x256.size inb_S2x8x128x256_S1x1x128x256_1_3_0_0) (k0_pay109 z3) Finset.univ (View.stores_vmem_bits_univ h_S1x1x128x256 rfl) (.inl rfl))
  let z4 : Vec F S1x1x128x256 .f32 ← Prog.lift (.load arg7 (Rect.unit (s := S2x8x128x256) ![1, 4, 0, 0] S1x1x128x256.size inb_S2x8x128x256_S1x1x128x256_1_4_0_0).toLoadRect (View.loadsAt_vmem h_S1x1x128x256))
  let x4 : Vec F S1x1x128x256 .f32 ← Prog.lift (.load arg7 (Rect.unit (s := S2x8x128x256) ![1, 4, 0, 0] S1x1x128x256.size inb_S2x8x128x256_S1x1x128x256_1_4_0_0).toLoadRect (View.loadsAt_vmem h_S1x1x128x256))
  Prog.lift (.store arg7 (Rect.unit (s := S2x8x128x256) ![1, 4, 0, 0] S1x1x128x256.size inb_S2x8x128x256_S1x1x128x256_1_4_0_0) (k0_pay109 z4) Finset.univ (View.stores_vmem_bits_univ h_S1x1x128x256 rfl) (.inl rfl))
  let z5 : Vec F S1x1x128x256 .f32 ← Prog.lift (.load arg7 (Rect.unit (s := S2x8x128x256) ![1, 5, 0, 0] S1x1x128x256.size inb_S2x8x128x256_S1x1x128x256_1_5_0_0).toLoadRect (View.loadsAt_vmem h_S1x1x128x256))
  let x5 : Vec F S1x1x128x256 .f32 ← Prog.lift (.load arg7 (Rect.unit (s := S2x8x128x256) ![1, 5, 0, 0] S1x1x128x256.size inb_S2x8x128x256_S1x1x128x256_1_5_0_0).toLoadRect (View.loadsAt_vmem h_S1x1x128x256))
  Prog.lift (.store arg7 (Rect.unit (s := S2x8x128x256) ![1, 5, 0, 0] S1x1x128x256.size inb_S2x8x128x256_S1x1x128x256_1_5_0_0) (k0_pay109 z5) Finset.univ (View.stores_vmem_bits_univ h_S1x1x128x256 rfl) (.inl rfl))
  let z6 : Vec F S1x1x128x256 .f32 ← Prog.lift (.load arg7 (Rect.unit (s := S2x8x128x256) ![1, 6, 0, 0] S1x1x128x256.size inb_S2x8x128x256_S1x1x128x256_1_6_0_0).toLoadRect (View.loadsAt_vmem h_S1x1x128x256))
  let x6 : Vec F S1x1x128x256 .f32 ← Prog.lift (.load arg7 (Rect.unit (s := S2x8x128x256) ![1, 6, 0, 0] S1x1x128x256.size inb_S2x8x128x256_S1x1x128x256_1_6_0_0).toLoadRect (View.loadsAt_vmem h_S1x1x128x256))
  Prog.lift (.store arg7 (Rect.unit (s := S2x8x128x256) ![1, 6, 0, 0] S1x1x128x256.size inb_S2x8x128x256_S1x1x128x256_1_6_0_0) (k0_pay109 z6) Finset.univ (View.stores_vmem_bits_univ h_S1x1x128x256 rfl) (.inl rfl))
  let z7 : Vec F S1x1x128x256 .f32 ← Prog.lift (.load arg7 (Rect.unit (s := S2x8x128x256) ![1, 7, 0, 0] S1x1x128x256.size inb_S2x8x128x256_S1x1x128x256_1_7_0_0).toLoadRect (View.loadsAt_vmem h_S1x1x128x256))
  let x7 : Vec F S1x1x128x256 .f32 ← Prog.lift (.load arg7 (Rect.unit (s := S2x8x128x256) ![1, 7, 0, 0] S1x1x128x256.size inb_S2x8x128x256_S1x1x128x256_1_7_0_0).toLoadRect (View.loadsAt_vmem h_S1x1x128x256))
  Prog.lift (.store arg7 (Rect.unit (s := S2x8x128x256) ![1, 7, 0, 0] S1x1x128x256.size inb_S2x8x128x256_S1x1x128x256_1_7_0_0) (k0_pay109 z7) Finset.univ (View.stores_vmem_bits_univ h_S1x1x128x256 rfl) (.inl rfl))
  let y0 : Vec F S1x1x128x256 .f32 ← Prog.lift (.load arg7 (Rect.unit (s := S2x8x128x256) ![1, 0, 0, 0] S1x1x128x256.size inb_S2x8x128x256_S1x1x128x256_1_0_0_0).toLoadRect (View.loadsAt_vmem h_S1x1x128x256))
  let u0 : Vec F S1x1x128x256 .bf16 ← Prog.lift (.load arg8 (Rect.unit (s := S2x8x128x256) ![1, 0, 0, 0] S1x1x128x256.size inb_S2x8x128x256_S1x1x128x256_1_0_0_0).toLoadRect (View.loadsAt_vmem h_S1x1x128x256))
  Prog.lift (.store arg8 (Rect.unit (s := S2x8x128x256) ![1, 0, 0, 0] S1x1x128x256.size inb_S2x8x128x256_S1x1x128x256_1_0_0_0) (k0_pay151 g.1 (k0_pay111 v8 z0) y0) Finset.univ (View.stores_vmem h_S1x1x128x256 (harg8.storeExact_slice rfl _ packedbf16_S2x8x128x256_S1x1x128x256_1_0_0_0) (fun _ => rfl)) (.inl rfl))
  let y1 : Vec F S1x1x128x256 .f32 ← Prog.lift (.load arg7 (Rect.unit (s := S2x8x128x256) ![1, 1, 0, 0] S1x1x128x256.size inb_S2x8x128x256_S1x1x128x256_1_1_0_0).toLoadRect (View.loadsAt_vmem h_S1x1x128x256))
  let u1 : Vec F S1x1x128x256 .bf16 ← Prog.lift (.load arg8 (Rect.unit (s := S2x8x128x256) ![1, 1, 0, 0] S1x1x128x256.size inb_S2x8x128x256_S1x1x128x256_1_1_0_0).toLoadRect (View.loadsAt_vmem h_S1x1x128x256))
  Prog.lift (.store arg8 (Rect.unit (s := S2x8x128x256) ![1, 1, 0, 0] S1x1x128x256.size inb_S2x8x128x256_S1x1x128x256_1_1_0_0) (k0_pay151 g.2.1 (k0_pay111 v8 z1) y1) Finset.univ (View.stores_vmem h_S1x1x128x256 (harg8.storeExact_slice rfl _ packedbf16_S2x8x128x256_S1x1x128x256_1_1_0_0) (fun _ => rfl)) (.inl rfl))
  let y2 : Vec F S1x1x128x256 .f32 ← Prog.lift (.load arg7 (Rect.unit (s := S2x8x128x256) ![1, 2, 0, 0] S1x1x128x256.size inb_S2x8x128x256_S1x1x128x256_1_2_0_0).toLoadRect (View.loadsAt_vmem h_S1x1x128x256))
  let u2 : Vec F S1x1x128x256 .bf16 ← Prog.lift (.load arg8 (Rect.unit (s := S2x8x128x256) ![1, 2, 0, 0] S1x1x128x256.size inb_S2x8x128x256_S1x1x128x256_1_2_0_0).toLoadRect (View.loadsAt_vmem h_S1x1x128x256))
  Prog.lift (.store arg8 (Rect.unit (s := S2x8x128x256) ![1, 2, 0, 0] S1x1x128x256.size inb_S2x8x128x256_S1x1x128x256_1_2_0_0) (k0_pay151 g.2.2.1 (k0_pay111 v8 z2) y2) Finset.univ (View.stores_vmem h_S1x1x128x256 (harg8.storeExact_slice rfl _ packedbf16_S2x8x128x256_S1x1x128x256_1_2_0_0) (fun _ => rfl)) (.inl rfl))
  let y3 : Vec F S1x1x128x256 .f32 ← Prog.lift (.load arg7 (Rect.unit (s := S2x8x128x256) ![1, 3, 0, 0] S1x1x128x256.size inb_S2x8x128x256_S1x1x128x256_1_3_0_0).toLoadRect (View.loadsAt_vmem h_S1x1x128x256))
  let u3 : Vec F S1x1x128x256 .bf16 ← Prog.lift (.load arg8 (Rect.unit (s := S2x8x128x256) ![1, 3, 0, 0] S1x1x128x256.size inb_S2x8x128x256_S1x1x128x256_1_3_0_0).toLoadRect (View.loadsAt_vmem h_S1x1x128x256))
  Prog.lift (.store arg8 (Rect.unit (s := S2x8x128x256) ![1, 3, 0, 0] S1x1x128x256.size inb_S2x8x128x256_S1x1x128x256_1_3_0_0) (k0_pay151 g.2.2.2 (k0_pay111 v8 z3) y3) Finset.univ (View.stores_vmem h_S1x1x128x256 (harg8.storeExact_slice rfl _ packedbf16_S2x8x128x256_S1x1x128x256_1_3_0_0) (fun _ => rfl)) (.inl rfl))
  let y4 : Vec F S1x1x128x256 .f32 ← Prog.lift (.load arg7 (Rect.unit (s := S2x8x128x256) ![1, 4, 0, 0] S1x1x128x256.size inb_S2x8x128x256_S1x1x128x256_1_4_0_0).toLoadRect (View.loadsAt_vmem h_S1x1x128x256))
  let u4 : Vec F S1x1x128x256 .bf16 ← Prog.lift (.load arg8 (Rect.unit (s := S2x8x128x256) ![1, 4, 0, 0] S1x1x128x256.size inb_S2x8x128x256_S1x1x128x256_1_4_0_0).toLoadRect (View.loadsAt_vmem h_S1x1x128x256))
  Prog.lift (.store arg8 (Rect.unit (s := S2x8x128x256) ![1, 4, 0, 0] S1x1x128x256.size inb_S2x8x128x256_S1x1x128x256_1_4_0_0) (k0_pay151 (k0_pay152 g.1 (k0_pay110 z0) (k0_pay111 v8 z0)) (k0_pay111 v8 z4) y4) Finset.univ (View.stores_vmem h_S1x1x128x256 (harg8.storeExact_slice rfl _ packedbf16_S2x8x128x256_S1x1x128x256_1_4_0_0) (fun _ => rfl)) (.inl rfl))
  let y5 : Vec F S1x1x128x256 .f32 ← Prog.lift (.load arg7 (Rect.unit (s := S2x8x128x256) ![1, 5, 0, 0] S1x1x128x256.size inb_S2x8x128x256_S1x1x128x256_1_5_0_0).toLoadRect (View.loadsAt_vmem h_S1x1x128x256))
  let u5 : Vec F S1x1x128x256 .bf16 ← Prog.lift (.load arg8 (Rect.unit (s := S2x8x128x256) ![1, 5, 0, 0] S1x1x128x256.size inb_S2x8x128x256_S1x1x128x256_1_5_0_0).toLoadRect (View.loadsAt_vmem h_S1x1x128x256))
  Prog.lift (.store arg8 (Rect.unit (s := S2x8x128x256) ![1, 5, 0, 0] S1x1x128x256.size inb_S2x8x128x256_S1x1x128x256_1_5_0_0) (k0_pay151 (k0_pay152 g.2.1 (k0_pay110 z1) (k0_pay111 v8 z1)) (k0_pay111 v8 z5) y5) Finset.univ (View.stores_vmem h_S1x1x128x256 (harg8.storeExact_slice rfl _ packedbf16_S2x8x128x256_S1x1x128x256_1_5_0_0) (fun _ => rfl)) (.inl rfl))
  let y6 : Vec F S1x1x128x256 .f32 ← Prog.lift (.load arg7 (Rect.unit (s := S2x8x128x256) ![1, 6, 0, 0] S1x1x128x256.size inb_S2x8x128x256_S1x1x128x256_1_6_0_0).toLoadRect (View.loadsAt_vmem h_S1x1x128x256))
  let u6 : Vec F S1x1x128x256 .bf16 ← Prog.lift (.load arg8 (Rect.unit (s := S2x8x128x256) ![1, 6, 0, 0] S1x1x128x256.size inb_S2x8x128x256_S1x1x128x256_1_6_0_0).toLoadRect (View.loadsAt_vmem h_S1x1x128x256))
  Prog.lift (.store arg8 (Rect.unit (s := S2x8x128x256) ![1, 6, 0, 0] S1x1x128x256.size inb_S2x8x128x256_S1x1x128x256_1_6_0_0) (k0_pay151 (k0_pay152 g.2.2.1 (k0_pay110 z2) (k0_pay111 v8 z2)) (k0_pay111 v8 z6) y6) Finset.univ (View.stores_vmem h_S1x1x128x256 (harg8.storeExact_slice rfl _ packedbf16_S2x8x128x256_S1x1x128x256_1_6_0_0) (fun _ => rfl)) (.inl rfl))
  let y7 : Vec F S1x1x128x256 .f32 ← Prog.lift (.load arg7 (Rect.unit (s := S2x8x128x256) ![1, 7, 0, 0] S1x1x128x256.size inb_S2x8x128x256_S1x1x128x256_1_7_0_0).toLoadRect (View.loadsAt_vmem h_S1x1x128x256))
  let u7 : Vec F S1x1x128x256 .bf16 ← Prog.lift (.load arg8 (Rect.unit (s := S2x8x128x256) ![1, 7, 0, 0] S1x1x128x256.size inb_S2x8x128x256_S1x1x128x256_1_7_0_0).toLoadRect (View.loadsAt_vmem h_S1x1x128x256))
  Prog.lift (.store arg8 (Rect.unit (s := S2x8x128x256) ![1, 7, 0, 0] S1x1x128x256.size inb_S2x8x128x256_S1x1x128x256_1_7_0_0) (k0_pay151 (k0_pay152 g.2.2.2 (k0_pay110 z3) (k0_pay111 v8 z3)) (k0_pay111 v8 z7) y7) Finset.univ (View.stores_vmem h_S1x1x128x256 (harg8.storeExact_slice rfl _ packedbf16_S2x8x128x256_S1x1x128x256_1_7_0_0) (fun _ => rfl)) (.inl rfl))
  pure (k0_pay152 (k0_pay152 g.1 (k0_pay110 z0) (k0_pay111 v8 z0)) (k0_pay110 z4) (k0_pay111 v8 z4), k0_pay152 (k0_pay152 g.2.1 (k0_pay110 z1) (k0_pay111 v8 z1)) (k0_pay110 z5) (k0_pay111 v8 z5), k0_pay152 (k0_pay152 g.2.2.1 (k0_pay110 z2) (k0_pay111 v8 z2)) (k0_pay110 z6) (k0_pay111 v8 z6), k0_pay152 (k0_pay152 g.2.2.2 (k0_pay110 z3) (k0_pay111 v8 z3)) (k0_pay110 z7) (k0_pay111 v8 z7))

/-- The weights of slot 0's pair of key blocks where the pair meets the queries. -/
def wD (v0 v1 : IVec S128x256 32) (v2 v3 : IVec S128x128 32) (v8 : FVec F S128x128 .bf16) (c : FVec F S1x256 .f32) :
    Prog (TpuEff nD τ sig (Elt F) Λ₀ .tc) (FVec F S1x256 .f32 × FVec F S1x256 .f32 × FVec F S1x256 .f32 × FVec F S1x256 .f32) := do
  let z0 : Vec F S1x1x128x128 .f32 ← Prog.lift (.load arg7 (Rect.unit (s := S2x8x128x256) ![0, 0, 0, 128] S1x1x128x128.size inb_S2x8x128x256_S1x1x128x128_0_0_0_128).toLoadRect (View.loadsAt_vmem h_S1x1x128x128))
  let x0 : Vec F S1x1x128x128 .f32 ← Prog.lift (.load arg7 (Rect.unit (s := S2x8x128x256) ![0, 0, 0, 128] S1x1x128x128.size inb_S2x8x128x256_S1x1x128x128_0_0_0_128).toLoadRect (View.loadsAt_vmem h_S1x1x128x128))
  Prog.lift (.store arg7 (Rect.unit (s := S2x8x128x256) ![0, 0, 0, 128] S1x1x128x128.size inb_S2x8x128x256_S1x1x128x128_0_0_0_128) (k0_pay346 v2 v3 z0) Finset.univ (View.stores_vmem_bits_univ h_S1x1x128x128 rfl) (.inl rfl))
  let z1 : Vec F S1x1x128x128 .f32 ← Prog.lift (.load arg7 (Rect.unit (s := S2x8x128x256) ![0, 1, 0, 128] S1x1x128x128.size inb_S2x8x128x256_S1x1x128x128_0_1_0_128).toLoadRect (View.loadsAt_vmem h_S1x1x128x128))
  let x1 : Vec F S1x1x128x128 .f32 ← Prog.lift (.load arg7 (Rect.unit (s := S2x8x128x256) ![0, 1, 0, 128] S1x1x128x128.size inb_S2x8x128x256_S1x1x128x128_0_1_0_128).toLoadRect (View.loadsAt_vmem h_S1x1x128x128))
  Prog.lift (.store arg7 (Rect.unit (s := S2x8x128x256) ![0, 1, 0, 128] S1x1x128x128.size inb_S2x8x128x256_S1x1x128x128_0_1_0_128) (k0_pay346 v2 v3 z1) Finset.univ (View.stores_vmem_bits_univ h_S1x1x128x128 rfl) (.inl rfl))
  let z2 : Vec F S1x1x128x128 .f32 ← Prog.lift (.load arg7 (Rect.unit (s := S2x8x128x256) ![0, 2, 0, 128] S1x1x128x128.size inb_S2x8x128x256_S1x1x128x128_0_2_0_128).toLoadRect (View.loadsAt_vmem h_S1x1x128x128))
  let x2 : Vec F S1x1x128x128 .f32 ← Prog.lift (.load arg7 (Rect.unit (s := S2x8x128x256) ![0, 2, 0, 128] S1x1x128x128.size inb_S2x8x128x256_S1x1x128x128_0_2_0_128).toLoadRect (View.loadsAt_vmem h_S1x1x128x128))
  Prog.lift (.store arg7 (Rect.unit (s := S2x8x128x256) ![0, 2, 0, 128] S1x1x128x128.size inb_S2x8x128x256_S1x1x128x128_0_2_0_128) (k0_pay346 v2 v3 z2) Finset.univ (View.stores_vmem_bits_univ h_S1x1x128x128 rfl) (.inl rfl))
  let z3 : Vec F S1x1x128x128 .f32 ← Prog.lift (.load arg7 (Rect.unit (s := S2x8x128x256) ![0, 3, 0, 128] S1x1x128x128.size inb_S2x8x128x256_S1x1x128x128_0_3_0_128).toLoadRect (View.loadsAt_vmem h_S1x1x128x128))
  let x3 : Vec F S1x1x128x128 .f32 ← Prog.lift (.load arg7 (Rect.unit (s := S2x8x128x256) ![0, 3, 0, 128] S1x1x128x128.size inb_S2x8x128x256_S1x1x128x128_0_3_0_128).toLoadRect (View.loadsAt_vmem h_S1x1x128x128))
  Prog.lift (.store arg7 (Rect.unit (s := S2x8x128x256) ![0, 3, 0, 128] S1x1x128x128.size inb_S2x8x128x256_S1x1x128x128_0_3_0_128) (k0_pay346 v2 v3 z3) Finset.univ (View.stores_vmem_bits_univ h_S1x1x128x128 rfl) (.inl rfl))
  let z4 : Vec F S1x1x128x256 .f32 ← Prog.lift (.load arg7 (Rect.unit (s := S2x8x128x256) ![0, 4, 0, 0] S1x1x128x256.size inb_S2x8x128x256_S1x1x128x256_0_4_0_0).toLoadRect (View.loadsAt_vmem h_S1x1x128x256))
  let x4 : Vec F S1x1x128x256 .f32 ← Prog.lift (.load arg7 (Rect.unit (s := S2x8x128x256) ![0, 4, 0, 0] S1x1x128x256.size inb_S2x8x128x256_S1x1x128x256_0_4_0_0).toLoadRect (View.loadsAt_vmem h_S1x1x128x256))
  Prog.lift (.store arg7 (Rect.unit (s := S2x8x128x256) ![0, 4, 0, 0] S1x1x128x256.size inb_S2x8x128x256_S1x1x128x256_0_4_0_0) (k0_pay372 v0 v1 z4) Finset.univ (View.stores_vmem_bits_univ h_S1x1x128x256 rfl) (.inl rfl))
  let z5 : Vec F S1x1x128x256 .f32 ← Prog.lift (.load arg7 (Rect.unit (s := S2x8x128x256) ![0, 5, 0, 0] S1x1x128x256.size inb_S2x8x128x256_S1x1x128x256_0_5_0_0).toLoadRect (View.loadsAt_vmem h_S1x1x128x256))
  let x5 : Vec F S1x1x128x256 .f32 ← Prog.lift (.load arg7 (Rect.unit (s := S2x8x128x256) ![0, 5, 0, 0] S1x1x128x256.size inb_S2x8x128x256_S1x1x128x256_0_5_0_0).toLoadRect (View.loadsAt_vmem h_S1x1x128x256))
  Prog.lift (.store arg7 (Rect.unit (s := S2x8x128x256) ![0, 5, 0, 0] S1x1x128x256.size inb_S2x8x128x256_S1x1x128x256_0_5_0_0) (k0_pay372 v0 v1 z5) Finset.univ (View.stores_vmem_bits_univ h_S1x1x128x256 rfl) (.inl rfl))
  let z6 : Vec F S1x1x128x256 .f32 ← Prog.lift (.load arg7 (Rect.unit (s := S2x8x128x256) ![0, 6, 0, 0] S1x1x128x256.size inb_S2x8x128x256_S1x1x128x256_0_6_0_0).toLoadRect (View.loadsAt_vmem h_S1x1x128x256))
  let x6 : Vec F S1x1x128x256 .f32 ← Prog.lift (.load arg7 (Rect.unit (s := S2x8x128x256) ![0, 6, 0, 0] S1x1x128x256.size inb_S2x8x128x256_S1x1x128x256_0_6_0_0).toLoadRect (View.loadsAt_vmem h_S1x1x128x256))
  Prog.lift (.store arg7 (Rect.unit (s := S2x8x128x256) ![0, 6, 0, 0] S1x1x128x256.size inb_S2x8x128x256_S1x1x128x256_0_6_0_0) (k0_pay372 v0 v1 z6) Finset.univ (View.stores_vmem_bits_univ h_S1x1x128x256 rfl) (.inl rfl))
  let z7 : Vec F S1x1x128x256 .f32 ← Prog.lift (.load arg7 (Rect.unit (s := S2x8x128x256) ![0, 7, 0, 0] S1x1x128x256.size inb_S2x8x128x256_S1x1x128x256_0_7_0_0).toLoadRect (View.loadsAt_vmem h_S1x1x128x256))
  let x7 : Vec F S1x1x128x256 .f32 ← Prog.lift (.load arg7 (Rect.unit (s := S2x8x128x256) ![0, 7, 0, 0] S1x1x128x256.size inb_S2x8x128x256_S1x1x128x256_0_7_0_0).toLoadRect (View.loadsAt_vmem h_S1x1x128x256))
  Prog.lift (.store arg7 (Rect.unit (s := S2x8x128x256) ![0, 7, 0, 0] S1x1x128x256.size inb_S2x8x128x256_S1x1x128x256_0_7_0_0) (k0_pay372 v0 v1 z7) Finset.univ (View.stores_vmem_bits_univ h_S1x1x128x256 rfl) (.inl rfl))
  let y0 : Vec F S1x1x128x128 .f32 ← Prog.lift (.load arg7 (Rect.unit (s := S2x8x128x256) ![0, 0, 0, 128] S1x1x128x128.size inb_S2x8x128x256_S1x1x128x128_0_0_0_128).toLoadRect (View.loadsAt_vmem h_S1x1x128x128))
  let u0 : Vec F S1x1x128x128 .bf16 ← Prog.lift (.load arg8 (Rect.unit (s := S2x8x128x256) ![0, 0, 0, 0] S1x1x128x128.size inb_S2x8x128x256_S1x1x128x128_0_0_0_0).toLoadRect (View.loadsAt_vmem h_S1x1x128x128))
  Prog.lift (.store arg8 (Rect.unit (s := S2x8x128x256) ![0, 0, 0, 0] S1x1x128x128.size inb_S2x8x128x256_S1x1x128x128_0_0_0_0) k0_pay396 Finset.univ (View.stores_vmem h_S1x1x128x128 (harg8.storeExact_slice rfl _ packedbf16_S2x8x128x256_S1x1x128x128_0_0_0_0) (fun _ => rfl)) (.inl rfl))
  let w0 : Vec F S1x1x128x128 .bf16 ← Prog.lift (.load arg8 (Rect.unit (s := S2x8x128x256) ![0, 0, 0, 128] S1x1x128x128.size inb_S2x8x128x256_S1x1x128x128_0_0_0_128).toLoadRect (View.loadsAt_vmem h_S1x1x128x128))
  Prog.lift (.store arg8 (Rect.unit (s := S2x8x128x256) ![0, 0, 0, 128] S1x1x128x128.size inb_S2x8x128x256_S1x1x128x128_0_0_0_128) (k0_pay397 v2 v3 c (k0_pay348 v2 v3 v8 z0) y0) Finset.univ (View.stores_vmem h_S1x1x128x128 (harg8.storeExact_slice rfl _ packedbf16_S2x8x128x256_S1x1x128x128_0_0_0_128) (fun _ => rfl)) (.inl rfl))
  let y1 : Vec F S1x1x128x128 .f32 ← Prog.lift (.load arg7 (Rect.unit (s := S2x8x128x256) ![0, 1, 0, 128] S1x1x128x128.size inb_S2x8x128x256_S1x1x128x128_0_1_0_128).toLoadRect (View.loadsAt_vmem h_S1x1x128x128))
  let u1 : Vec F S1x1x128x128 .bf16 ← Prog.lift (.load arg8 (Rect.unit (s := S2x8x128x256) ![0, 1, 0, 0] S1x1x128x128.size inb_S2x8x128x256_S1x1x128x128_0_1_0_0).toLoadRect (View.loadsAt_vmem h_S1x1x128x128))
  Prog.lift (.store arg8 (Rect.unit (s := S2x8x128x256) ![0, 1, 0, 0] S1x1x128x128.size inb_S2x8x128x256_S1x1x128x128_0_1_0_0) k0_pay396 Finset.univ (View.stores_vmem h_S1x1x128x128 (harg8.storeExact_slice rfl _ packedbf16_S2x8x128x256_S1x1x128x128_0_1_0_0) (fun _ => rfl)) (.inl rfl))
  let w1 : Vec F S1x1x128x128 .bf16 ← Prog.lift (.load arg8 (Rect.unit (s := S2x8x128x256) ![0, 1, 0, 128] S1x1x128x128.size inb_S2x8x128x256_S1x1x128x128_0_1_0_128).toLoadRect (View.loadsAt_vmem h_S1x1x128x128))
  Prog.lift (.store arg8 (Rect.unit (s := S2x8x128x256) ![0, 1, 0, 128] S1x1x128x128.size inb_S2x8x128x256_S1x1x128x128_0_1_0_128) (k0_pay397 v2 v3 c (k0_pay348 v2 v3 v8 z1) y1) Finset.univ (View.stores_vmem h_S1x1x128x128 (harg8.storeExact_slice rfl _ packedbf16_S2x8x128x256_S1x1x128x128_0_1_0_128) (fun _ => rfl)) (.inl rfl))
  let y2 : Vec F S1x1x128x128 .f32 ← Prog.lift (.load arg7 (Rect.unit (s := S2x8x128x256) ![0, 2, 0, 128] S1x1x128x128.size inb_S2x8x128x256_S1x1x128x128_0_2_0_128).toLoadRect (View.loadsAt_vmem h_S1x1x128x128))
  let u2 : Vec F S1x1x128x128 .bf16 ← Prog.lift (.load arg8 (Rect.unit (s := S2x8x128x256) ![0, 2, 0, 0] S1x1x128x128.size inb_S2x8x128x256_S1x1x128x128_0_2_0_0).toLoadRect (View.loadsAt_vmem h_S1x1x128x128))
  Prog.lift (.store arg8 (Rect.unit (s := S2x8x128x256) ![0, 2, 0, 0] S1x1x128x128.size inb_S2x8x128x256_S1x1x128x128_0_2_0_0) k0_pay396 Finset.univ (View.stores_vmem h_S1x1x128x128 (harg8.storeExact_slice rfl _ packedbf16_S2x8x128x256_S1x1x128x128_0_2_0_0) (fun _ => rfl)) (.inl rfl))
  let w2 : Vec F S1x1x128x128 .bf16 ← Prog.lift (.load arg8 (Rect.unit (s := S2x8x128x256) ![0, 2, 0, 128] S1x1x128x128.size inb_S2x8x128x256_S1x1x128x128_0_2_0_128).toLoadRect (View.loadsAt_vmem h_S1x1x128x128))
  Prog.lift (.store arg8 (Rect.unit (s := S2x8x128x256) ![0, 2, 0, 128] S1x1x128x128.size inb_S2x8x128x256_S1x1x128x128_0_2_0_128) (k0_pay397 v2 v3 c (k0_pay348 v2 v3 v8 z2) y2) Finset.univ (View.stores_vmem h_S1x1x128x128 (harg8.storeExact_slice rfl _ packedbf16_S2x8x128x256_S1x1x128x128_0_2_0_128) (fun _ => rfl)) (.inl rfl))
  let y3 : Vec F S1x1x128x128 .f32 ← Prog.lift (.load arg7 (Rect.unit (s := S2x8x128x256) ![0, 3, 0, 128] S1x1x128x128.size inb_S2x8x128x256_S1x1x128x128_0_3_0_128).toLoadRect (View.loadsAt_vmem h_S1x1x128x128))
  let u3 : Vec F S1x1x128x128 .bf16 ← Prog.lift (.load arg8 (Rect.unit (s := S2x8x128x256) ![0, 3, 0, 0] S1x1x128x128.size inb_S2x8x128x256_S1x1x128x128_0_3_0_0).toLoadRect (View.loadsAt_vmem h_S1x1x128x128))
  Prog.lift (.store arg8 (Rect.unit (s := S2x8x128x256) ![0, 3, 0, 0] S1x1x128x128.size inb_S2x8x128x256_S1x1x128x128_0_3_0_0) k0_pay396 Finset.univ (View.stores_vmem h_S1x1x128x128 (harg8.storeExact_slice rfl _ packedbf16_S2x8x128x256_S1x1x128x128_0_3_0_0) (fun _ => rfl)) (.inl rfl))
  let w3 : Vec F S1x1x128x128 .bf16 ← Prog.lift (.load arg8 (Rect.unit (s := S2x8x128x256) ![0, 3, 0, 128] S1x1x128x128.size inb_S2x8x128x256_S1x1x128x128_0_3_0_128).toLoadRect (View.loadsAt_vmem h_S1x1x128x128))
  Prog.lift (.store arg8 (Rect.unit (s := S2x8x128x256) ![0, 3, 0, 128] S1x1x128x128.size inb_S2x8x128x256_S1x1x128x128_0_3_0_128) (k0_pay397 v2 v3 c (k0_pay348 v2 v3 v8 z3) y3) Finset.univ (View.stores_vmem h_S1x1x128x128 (harg8.storeExact_slice rfl _ packedbf16_S2x8x128x256_S1x1x128x128_0_3_0_128) (fun _ => rfl)) (.inl rfl))
  let y4 : Vec F S1x1x128x256 .f32 ← Prog.lift (.load arg7 (Rect.unit (s := S2x8x128x256) ![0, 4, 0, 0] S1x1x128x256.size inb_S2x8x128x256_S1x1x128x256_0_4_0_0).toLoadRect (View.loadsAt_vmem h_S1x1x128x256))
  let u4 : Vec F S1x1x128x256 .bf16 ← Prog.lift (.load arg8 (Rect.unit (s := S2x8x128x256) ![0, 4, 0, 0] S1x1x128x256.size inb_S2x8x128x256_S1x1x128x256_0_4_0_0).toLoadRect (View.loadsAt_vmem h_S1x1x128x256))
  Prog.lift (.store arg8 (Rect.unit (s := S2x8x128x256) ![0, 4, 0, 0] S1x1x128x256.size inb_S2x8x128x256_S1x1x128x256_0_4_0_0) (k0_pay410 v0 v1 (k0_pay374 v0 v1 v8 z4) (k0_pay398 c (k0_pay347 v2 v3 z0) (k0_pay348 v2 v3 v8 z0)) y4) Finset.univ (View.stores_vmem h_S1x1x128x256 (harg8.storeExact_slice rfl _ packedbf16_S2x8x128x256_S1x1x128x256_0_4_0_0) (fun _ => rfl)) (.inl rfl))
  let y5 : Vec F S1x1x128x256 .f32 ← Prog.lift (.load arg7 (Rect.unit (s := S2x8x128x256) ![0, 5, 0, 0] S1x1x128x256.size inb_S2x8x128x256_S1x1x128x256_0_5_0_0).toLoadRect (View.loadsAt_vmem h_S1x1x128x256))
  let u5 : Vec F S1x1x128x256 .bf16 ← Prog.lift (.load arg8 (Rect.unit (s := S2x8x128x256) ![0, 5, 0, 0] S1x1x128x256.size inb_S2x8x128x256_S1x1x128x256_0_5_0_0).toLoadRect (View.loadsAt_vmem h_S1x1x128x256))
  Prog.lift (.store arg8 (Rect.unit (s := S2x8x128x256) ![0, 5, 0, 0] S1x1x128x256.size inb_S2x8x128x256_S1x1x128x256_0_5_0_0) (k0_pay410 v0 v1 (k0_pay374 v0 v1 v8 z5) (k0_pay398 c (k0_pay347 v2 v3 z1) (k0_pay348 v2 v3 v8 z1)) y5) Finset.univ (View.stores_vmem h_S1x1x128x256 (harg8.storeExact_slice rfl _ packedbf16_S2x8x128x256_S1x1x128x256_0_5_0_0) (fun _ => rfl)) (.inl rfl))
  let y6 : Vec F S1x1x128x256 .f32 ← Prog.lift (.load arg7 (Rect.unit (s := S2x8x128x256) ![0, 6, 0, 0] S1x1x128x256.size inb_S2x8x128x256_S1x1x128x256_0_6_0_0).toLoadRect (View.loadsAt_vmem h_S1x1x128x256))
  let u6 : Vec F S1x1x128x256 .bf16 ← Prog.lift (.load arg8 (Rect.unit (s := S2x8x128x256) ![0, 6, 0, 0] S1x1x128x256.size inb_S2x8x128x256_S1x1x128x256_0_6_0_0).toLoadRect (View.loadsAt_vmem h_S1x1x128x256))
  Prog.lift (.store arg8 (Rect.unit (s := S2x8x128x256) ![0, 6, 0, 0] S1x1x128x256.size inb_S2x8x128x256_S1x1x128x256_0_6_0_0) (k0_pay410 v0 v1 (k0_pay374 v0 v1 v8 z6) (k0_pay398 c (k0_pay347 v2 v3 z2) (k0_pay348 v2 v3 v8 z2)) y6) Finset.univ (View.stores_vmem h_S1x1x128x256 (harg8.storeExact_slice rfl _ packedbf16_S2x8x128x256_S1x1x128x256_0_6_0_0) (fun _ => rfl)) (.inl rfl))
  let y7 : Vec F S1x1x128x256 .f32 ← Prog.lift (.load arg7 (Rect.unit (s := S2x8x128x256) ![0, 7, 0, 0] S1x1x128x256.size inb_S2x8x128x256_S1x1x128x256_0_7_0_0).toLoadRect (View.loadsAt_vmem h_S1x1x128x256))
  let u7 : Vec F S1x1x128x256 .bf16 ← Prog.lift (.load arg8 (Rect.unit (s := S2x8x128x256) ![0, 7, 0, 0] S1x1x128x256.size inb_S2x8x128x256_S1x1x128x256_0_7_0_0).toLoadRect (View.loadsAt_vmem h_S1x1x128x256))
  Prog.lift (.store arg8 (Rect.unit (s := S2x8x128x256) ![0, 7, 0, 0] S1x1x128x256.size inb_S2x8x128x256_S1x1x128x256_0_7_0_0) (k0_pay410 v0 v1 (k0_pay374 v0 v1 v8 z7) (k0_pay398 c (k0_pay347 v2 v3 z3) (k0_pay348 v2 v3 v8 z3)) y7) Finset.univ (View.stores_vmem h_S1x1x128x256 (harg8.storeExact_slice rfl _ packedbf16_S2x8x128x256_S1x1x128x256_0_7_0_0) (fun _ => rfl)) (.inl rfl))
  pure (k0_pay411 (k0_pay373 v0 v1 z4) (k0_pay374 v0 v1 v8 z4) (k0_pay398 c (k0_pay347 v2 v3 z0) (k0_pay348 v2 v3 v8 z0)), k0_pay411 (k0_pay373 v0 v1 z5) (k0_pay374 v0 v1 v8 z5) (k0_pay398 c (k0_pay347 v2 v3 z1) (k0_pay348 v2 v3 v8 z1)), k0_pay411 (k0_pay373 v0 v1 z6) (k0_pay374 v0 v1 v8 z6) (k0_pay398 c (k0_pay347 v2 v3 z2) (k0_pay348 v2 v3 v8 z2)), k0_pay411 (k0_pay373 v0 v1 z7) (k0_pay374 v0 v1 v8 z7) (k0_pay398 c (k0_pay347 v2 v3 z3) (k0_pay348 v2 v3 v8 z3)))

/-- Where a step's blocks lie, by head and block of the pair. -/
abbrev o4 {k : ℕ} (p : Fin 4 → Fin 2 → Fin k → ℕ) := p

/-- Where slot `s`'s weights of a head and block lie. -/
def q8 (s : ℕ) : Fin 4 → Fin 2 → Fin 4 → ℕ := fun h b => match h, b with
  | 0, 0 => ![s, 0, 0, 0] | 0, 1 => ![s, 4, 0, 0] | 1, 0 => ![s, 1, 0, 0] | 1, 1 => ![s, 5, 0, 0] | 2, 0 => ![s, 2, 0, 0] | 2, 1 => ![s, 6, 0, 0] | 3, 0 => ![s, 3, 0, 0] | 3, 1 => ![s, 7, 0, 0]

theorem q8_inb0 : ∀ h b a, q8 0 h b a + S1x1x128x256.size a ≤ S2x8x128x256.size a := by decide
theorem q8_inb1 : ∀ h b a, q8 1 h b a + S1x1x128x256.size a ≤ S2x8x128x256.size a := by decide

/-- The values of the pair before. -/
def oAcc1 (k0_t1 : Fin k0_t1_loop.trips) (k0_t2 : Fin (k0_t2_loop k0_t1).trips) : Fin 4 → Fin 2 → Fin 3 → ℕ :=
  (fun h b => match h, b with | 0, 0 => k0_off5 k0_t1 k0_t2 0#32 | 0, 1 => k0_off5 k0_t1 k0_t2 1#32 | 1, 0 => k0_off6 k0_t1 k0_t2 0#32 | 1, 1 => k0_off6 k0_t1 k0_t2 1#32 | 2, 0 => k0_off7 k0_t1 k0_t2 0#32 | 2, 1 => k0_off7 k0_t1 k0_t2 1#32 | 3, 0 => k0_off8 k0_t1 k0_t2 0#32 | 3, 1 => k0_off8 k0_t1 k0_t2 1#32)
theorem oAcc1_inb (k0_t1 : Fin k0_t1_loop.trips) (k0_t2 : Fin (k0_t2_loop k0_t1).trips)  : ∀ h b a, oAcc1 k0_t1 k0_t2 h b a + S1x64x128.size a ≤ S1x256x2048.size a :=
  (fun h b => match h, b with | 0, 0 => k0_off5_inb k0_t1 k0_t2 0 | 0, 1 => k0_off5_inb k0_t1 k0_t2 1 | 1, 0 => k0_off6_inb k0_t1 k0_t2 0 | 1, 1 => k0_off6_inb k0_t1 k0_t2 1 | 2, 0 => k0_off7_inb k0_t1 k0_t2 0 | 2, 1 => k0_off7_inb k0_t1 k0_t2 1 | 3, 0 => k0_off8_inb k0_t1 k0_t2 0 | 3, 1 => k0_off8_inb k0_t1 k0_t2 1)

/-- The next pair's keys. -/
def oKey1 (k0_t1 : Fin k0_t1_loop.trips) (k0_t2 : Fin (k0_t2_loop k0_t1).trips) : Fin 2 → Fin 2 → Fin 2 → ℕ :=
  (fun b p => match b, p with | 0, 0 => k0_off9 k0_t1 k0_t2 0#32 | 0, 1 => k0_off11 k0_t1 k0_t2 0#32 | 1, 0 => k0_off9 k0_t1 k0_t2 1#32 | 1, 1 => k0_off11 k0_t1 k0_t2 1#32)
theorem oKey1_inb (k0_t1 : Fin k0_t1_loop.trips) (k0_t2 : Fin (k0_t2_loop k0_t1).trips)  : ∀ b p a, oKey1 k0_t1 k0_t2 b p a + S128x128.size a ≤ S2048x256.size a :=
  (fun b p => match b, p with | 0, 0 => k0_off9_inb k0_t1 k0_t2 0 | 0, 1 => k0_off11_inb k0_t1 k0_t2 0 | 1, 0 => k0_off9_inb k0_t1 k0_t2 1 | 1, 1 => k0_off11_inb k0_t1 k0_t2 1)

/-- The tile's queries. -/
def oQry1 (k0_t1 : Fin k0_t1_loop.trips) : Fin 2 → Fin 3 → ℕ :=
  (fun p => match p with | 0 => k0_off10 k0_t1 | 1 => k0_off12 k0_t1)
theorem oQry1_inb (k0_t1 : Fin k0_t1_loop.trips)  : ∀ p a, oQry1 k0_t1 p a + S1x128x256.size a ≤ S1x256x2048.size a :=
  (fun p => match p with | 0 => k0_off10_inb k0_t1 | 1 => k0_off12_inb k0_t1)

/-- The values of the pair. -/
def oAcc2 (k0_t1 : Fin k0_t1_loop.trips) (k0_t2 : Fin (k0_t2_loop k0_t1).trips) : Fin 4 → Fin 2 → Fin 3 → ℕ :=
  (fun h b => match h, b with | 0, 0 => k0_off13 k0_t1 k0_t2 0#32 | 0, 1 => k0_off13 k0_t1 k0_t2 1#32 | 1, 0 => k0_off14 k0_t1 k0_t2 0#32 | 1, 1 => k0_off14 k0_t1 k0_t2 1#32 | 2, 0 => k0_off15 k0_t1 k0_t2 0#32 | 2, 1 => k0_off15 k0_t1 k0_t2 1#32 | 3, 0 => k0_off16 k0_t1 k0_t2 0#32 | 3, 1 => k0_off16 k0_t1 k0_t2 1#32)
theorem oAcc2_inb (k0_t1 : Fin k0_t1_loop.trips) (k0_t2 : Fin (k0_t2_loop k0_t1).trips) (hC : k0_cond1 k0_t1 k0_t2 = 1#1) : ∀ h b a, oAcc2 k0_t1 k0_t2 h b a + S1x64x128.size a ≤ S1x256x2048.size a :=
  (fun h b => match h, b with | 0, 0 => k0_off13_inb k0_t1 k0_t2 hC 0 | 0, 1 => k0_off13_inb k0_t1 k0_t2 hC 1 | 1, 0 => k0_off14_inb k0_t1 k0_t2 hC 0 | 1, 1 => k0_off14_inb k0_t1 k0_t2 hC 1 | 2, 0 => k0_off15_inb k0_t1 k0_t2 hC 0 | 2, 1 => k0_off15_inb k0_t1 k0_t2 hC 1 | 3, 0 => k0_off16_inb k0_t1 k0_t2 hC 0 | 3, 1 => k0_off16_inb k0_t1 k0_t2 hC 1)

/-- The keys of the pair after the next. -/
def oKey2 (k0_t1 : Fin k0_t1_loop.trips) (k0_t2 : Fin (k0_t2_loop k0_t1).trips) : Fin 2 → Fin 2 → Fin 2 → ℕ :=
  (fun b p => match b, p with | 0, 0 => k0_off17 k0_t1 k0_t2 0#32 | 0, 1 => k0_off19 k0_t1 k0_t2 0#32 | 1, 0 => k0_off17 k0_t1 k0_t2 1#32 | 1, 1 => k0_off19 k0_t1 k0_t2 1#32)
theorem oKey2_inb (k0_t1 : Fin k0_t1_loop.trips) (k0_t2 : Fin (k0_t2_loop k0_t1).trips) (hC : k0_cond1 k0_t1 k0_t2 = 1#1) : ∀ b p a, oKey2 k0_t1 k0_t2 b p a + S128x128.size a ≤ S2048x256.size a :=
  (fun b p => match b, p with | 0, 0 => k0_off17_inb k0_t1 k0_t2 hC 0 | 0, 1 => k0_off19_inb k0_t1 k0_t2 hC 0 | 1, 0 => k0_off17_inb k0_t1 k0_t2 hC 1 | 1, 1 => k0_off19_inb k0_t1 k0_t2 hC 1)

/-- The tile's queries. -/
def oQry2 (k0_t1 : Fin k0_t1_loop.trips) (k0_t2 : Fin (k0_t2_loop k0_t1).trips) : Fin 2 → Fin 3 → ℕ :=
  (fun p => match p with | 0 => k0_off18 k0_t1 | 1 => k0_off20 k0_t1)
theorem oQry2_inb (k0_t1 : Fin k0_t1_loop.trips) (k0_t2 : Fin (k0_t2_loop k0_t1).trips) (hC : k0_cond1 k0_t1 k0_t2 = 1#1) : ∀ p a, oQry2 k0_t1 k0_t2 p a + S1x128x256.size a ≤ S1x256x2048.size a :=
  (fun p => match p with | 0 => k0_off18_inb k0_t1 k0_t2 hC | 1 => k0_off20_inb k0_t1 k0_t2 hC)

/-- The tile's second pair's keys. -/
def oKey0 (k0_t1 : Fin k0_t1_loop.trips) : Fin 2 → Fin 2 → Fin 2 → ℕ :=
  (fun b p => match b, p with | 0, 0 => k0_off1 k0_t1 0#32 | 0, 1 => k0_off3 k0_t1 0#32 | 1, 0 => k0_off1 k0_t1 1#32 | 1, 1 => k0_off3 k0_t1 1#32)
theorem oKey0_inb (k0_t1 : Fin k0_t1_loop.trips)  : ∀ b p a, oKey0 k0_t1 b p a + S128x128.size a ≤ S2048x256.size a :=
  (fun b p => match b, p with | 0, 0 => k0_off1_inb k0_t1 0 | 0, 1 => k0_off3_inb k0_t1 0 | 1, 0 => k0_off1_inb k0_t1 1 | 1, 1 => k0_off3_inb k0_t1 1)

/-- The tile's queries. -/
def oQry0 (k0_t1 : Fin k0_t1_loop.trips) : Fin 2 → Fin 3 → ℕ :=
  (fun p => match p with | 0 => k0_off2 k0_t1 | 1 => k0_off4 k0_t1)
theorem oQry0_inb (k0_t1 : Fin k0_t1_loop.trips)  : ∀ p a, oQry0 k0_t1 p a + S1x128x256.size a ≤ S1x256x2048.size a :=
  (fun p => match p with | 0 => k0_off2_inb k0_t1 | 1 => k0_off4_inb k0_t1)

/-- The values of the tile's last pair. -/
def oAccE (k0_t1 : Fin k0_t1_loop.trips) : Fin 4 → Fin 2 → Fin 3 → ℕ :=
  (fun h b => match h, b with | 0, 0 => k0_off37 k0_t1 0#32 | 0, 1 => k0_off37 k0_t1 1#32 | 1, 0 => k0_off40 k0_t1 0#32 | 1, 1 => k0_off40 k0_t1 1#32 | 2, 0 => k0_off43 k0_t1 0#32 | 2, 1 => k0_off43 k0_t1 1#32 | 3, 0 => k0_off46 k0_t1 0#32 | 3, 1 => k0_off46 k0_t1 1#32)
theorem oAccE_inb (k0_t1 : Fin k0_t1_loop.trips)  : ∀ h b a, oAccE k0_t1 h b a + S1x64x128.size a ≤ S1x256x2048.size a :=
  (fun h b => match h, b with | 0, 0 => k0_off37_inb k0_t1 0 | 0, 1 => k0_off37_inb k0_t1 1 | 1, 0 => k0_off40_inb k0_t1 0 | 1, 1 => k0_off40_inb k0_t1 1 | 2, 0 => k0_off43_inb k0_t1 0 | 2, 1 => k0_off43_inb k0_t1 1 | 3, 0 => k0_off46_inb k0_t1 0 | 3, 1 => k0_off46_inb k0_t1 1)

/-- The weights of the tile's last pair. -/
def oWE (k0_t1 : Fin k0_t1_loop.trips) : Fin 4 → Fin 2 → Fin 4 → ℕ :=
  (fun h b => match h, b with | 0, 0 => k0_off38 k0_t1 | 0, 1 => k0_off39 k0_t1 | 1, 0 => k0_off41 k0_t1 | 1, 1 => k0_off42 k0_t1 | 2, 0 => k0_off44 k0_t1 | 2, 1 => k0_off45 k0_t1 | 3, 0 => k0_off47 k0_t1 | 3, 1 => k0_off48 k0_t1)
theorem oWE_inb (k0_t1 : Fin k0_t1_loop.trips)  : ∀ h b a, oWE k0_t1 h b a + S1x1x128x256.size a ≤ S2x8x128x256.size a :=
  (fun h b => match h, b with | 0, 0 => k0_off38_inb k0_t1 | 0, 1 => k0_off39_inb k0_t1 | 1, 0 => k0_off41_inb k0_t1 | 1, 1 => k0_off42_inb k0_t1 | 2, 0 => k0_off44_inb k0_t1 | 2, 1 => k0_off45_inb k0_t1 | 3, 0 => k0_off47_inb k0_t1 | 3, 1 => k0_off48_inb k0_t1)

/-- The next tile's first pair's keys. -/
def oKeyN (k0_t1 : Fin k0_t1_loop.trips) : Fin 2 → Fin 2 → Fin 2 → ℕ :=
  (fun b p => match b, p with | 0, 0 => k0_off49 k0_t1 0#32 | 0, 1 => k0_off51 k0_t1 0#32 | 1, 0 => k0_off49 k0_t1 1#32 | 1, 1 => k0_off51 k0_t1 1#32)
theorem oKeyN_inb (k0_t1 : Fin k0_t1_loop.trips)  : ∀ b p a, oKeyN k0_t1 b p a + S128x128.size a ≤ S2048x256.size a :=
  (fun b p => match b, p with | 0, 0 => k0_off49_inb k0_t1 0 | 0, 1 => k0_off51_inb k0_t1 0 | 1, 0 => k0_off49_inb k0_t1 1 | 1, 1 => k0_off51_inb k0_t1 1)

/-- The next tile's queries. -/
def oQryN (k0_t1 : Fin k0_t1_loop.trips) : Fin 2 → Fin 3 → ℕ :=
  (fun p => match p with | 0 => k0_off50 k0_t1 | 1 => k0_off52 k0_t1)
theorem oQryN_inb (k0_t1 : Fin k0_t1_loop.trips)  : ∀ p a, oQryN k0_t1 p a + S1x128x256.size a ≤ S1x256x2048.size a :=
  (fun p => match p with | 0 => k0_off50_inb k0_t1 | 1 => k0_off52_inb k0_t1)

/-- Where the first tile's keys lie. -/
def oKeyI : Fin 2 → Fin 2 → Fin 2 → ℕ := fun b p => match b, p with | 0, 0 => ![128, 0] | 0, 1 => ![128, 128] | 1, 0 => ![0, 0] | 1, 1 => ![0, 128]
theorem oKeyI_inb : ∀ b p a, oKeyI b p a + S128x128.size a ≤ S2048x256.size a := by decide
/-- Where the first tile's queries lie. -/
def oQryI : Fin 2 → Fin 3 → ℕ := fun p => match p with | 0 => ![0, 0, 0] | 1 => ![0, 128, 0]
theorem oQryI_inb : ∀ p a, oQryI p a + S1x128x256.size a ≤ S1x256x2048.size a := by decide

/-- A trip over a tile's pairs of key blocks. -/
def trip2 (v8 : FVec F S128x128 .bf16) (v11 : IVec S128x128 1) (k0_t1 : Fin k0_t1_loop.trips) :
    Fin (k0_t2_loop k0_t1).trips → FVec F S1x256 .f32 × FVec F S1x256 .f32 × FVec F S1x256 .f32 × FVec F S1x256 .f32 → Prog (TpuEff nD τ sig (Elt F) Λ₀ .tc) (FVec F S1x256 .f32 × FVec F S1x256 .f32 × FVec F S1x256 .f32 × FVec F S1x256 .f32) :=
  fun k0_t2 g => do
    accP arg4 arg6 arg8 (oAcc1 k0_t1 k0_t2) (oAcc1_inb k0_t1 k0_t2) (q8 0) q8_inb0
    scP0 arg2 arg3 arg7 v11 (oKey1 k0_t1 k0_t2) (oKey1_inb k0_t1 k0_t2) (oQry1 k0_t1) (oQry1_inb k0_t1)
    let g ← wP1 arg7 arg8 harg8 v8 g
    let g : FVec F S1x256 .f32 × FVec F S1x256 .f32 × FVec F S1x256 .f32 × FVec F S1x256 .f32 ← if hC : k0_cond1 k0_t1 k0_t2 = 1#1 then do
        accP arg4 arg6 arg8 (oAcc2 k0_t1 k0_t2) (oAcc2_inb k0_t1 k0_t2 hC) (q8 1) q8_inb1
        scP1 arg2 arg3 arg7 v11 (oKey2 k0_t1 k0_t2) (oKey2_inb k0_t1 k0_t2 hC) (oQry2 k0_t1 k0_t2) (oQry2_inb k0_t1 k0_t2 hC)
        wP0 arg7 arg8 harg8 v8 g
      else do
        pure g
    pure g

set_option maxHeartbeats 40000000 in
theorem trip2_eq (i : grid0.Coords) (harg2 : arg2.IsWhole) (harg3 : arg3.IsWhole) (harg4 : arg4.IsWhole) (arg5 : Memref sig .tc .vmem S2048x256 .bf16) (harg5 : arg5.IsWhole) (harg6 : arg6.IsWhole) (harg7 : arg7.IsWhole) (v8 : FVec F S128x128 .bf16) (v11 : IVec S128x128 1) (k0_t1 : Fin k0_t1_loop.trips) (arg9 : BitVec 32) (v457 v473 v489 v505 v513 : FVec F S1x256 .f32) (v517 : FVec F S128x256 .bf16) :
    k0_t2_body (F := F) i arg2 harg2 arg3 harg3 arg4 harg4 arg5 harg5 arg6 harg6 arg7 harg7 arg8 harg8 v8 v11 k0_t1 arg9 v457 v473 v489 v505 v513 v517 = trip2 arg2 arg3 arg4 arg6 arg7 arg8 harg8 v8 v11 k0_t1 := rfl

/-- The trips over a tile's pairs. -/
def loop2P (v8 : FVec F S128x128 .bf16) (v11 : IVec S128x128 1) (k0_t1 : Fin k0_t1_loop.trips) (g : FVec F S1x256 .f32 × FVec F S1x256 .f32 × FVec F S1x256 .f32 × FVec F S1x256 .f32) : Prog (TpuEff nD τ sig (Elt F) Λ₀ .tc) (FVec F S1x256 .f32 × FVec F S1x256 .f32 × FVec F S1x256 .f32 × FVec F S1x256 .f32) :=
  Scf.Loop.for (k0_t2_loop k0_t1) (k0_t2_ok k0_t1) g (trip2 arg2 arg3 arg4 arg6 arg7 arg8 harg8 v8 v11 k0_t1)

theorem trips3 : ∀ q : Fin k0_t1_loop.trips, (k0_t3_loop q).trips = 0 := by decide

theorem for_nil {σ : Type} (q : Fin k0_t1_loop.trips) (init : σ) (body : Fin (k0_t3_loop q).trips → σ → Prog (TpuEff nD τ sig (Elt F) Λ₀ .tc) σ) :
    Scf.Loop.for (k0_t3_loop q) (k0_t3_ok q) init body = .ret init := by
  have h := trips3 q
  unfold Scf.Loop.for
  rw [Scf.for_eq]
  have : List.finRange (Scf.trips (k0_t3_loop q).lb (k0_t3_loop q).ub (k0_t3_loop q).st) = [] := List.eq_nil_of_length_eq_zero (by rw [List.length_finRange]; exact h)
  rw [this]
  rfl

/-- The last of the first pair's weights, and the trips over the pairs after it. -/
theorem part67_eq (i : grid0.Coords) (harg2 : arg2.IsWhole) (harg3 : arg3.IsWhole) (harg4 : arg4.IsWhole) (arg5 : Memref sig .tc .vmem S2048x256 .bf16) (harg5 : arg5.IsWhole) (harg6 : arg6.IsWhole) (harg7 : arg7.IsWhole) (v8 : FVec F S128x128 .bf16) (v11 : IVec S128x128 1) (k0_t1 : Fin k0_t1_loop.trips) (arg9 : BitVec 32) (v457 v473 v489 v505 v513 : FVec F S1x256 .f32) (v517 : FVec F S128x256 .bf16) :
    k0_part67 (F := F) i arg2 harg2 arg3 harg3 arg4 harg4 arg5 harg5 arg6 harg6 arg7 harg7 arg8 harg8 v8 v11 k0_t1 arg9 v457 v473 v489 v505 v513 v517 = (do
  let u : Vec F S1x1x128x256 .bf16 ← Prog.lift (.load arg8 (Rect.unit (s := S2x8x128x256) ![0, 7, 0, 0] S1x1x128x256.size inb_S2x8x128x256_S1x1x128x256_0_7_0_0).toLoadRect (View.loadsAt_vmem h_S1x1x128x256))
  Prog.lift (.store arg8 (Rect.unit (s := S2x8x128x256) ![0, 7, 0, 0] S1x1x128x256.size inb_S2x8x128x256_S1x1x128x256_0_7_0_0) (k0_pay414 v517) Finset.univ (View.stores_vmem h_S1x1x128x256 (harg8.storeExact_slice rfl _ packedbf16_S2x8x128x256_S1x1x128x256_0_7_0_0) (fun _ => rfl)) (.inl rfl))
  let g ← loop2P arg2 arg3 arg4 arg6 arg7 arg8 harg8 v8 v11 k0_t1 (v473, v489, v505, k0_pay415 v457 v513)
  pure (let v547 : BitVec 1 := Scalar.cmpi .eq 2#32 0#32; let v548 : BitVec 32 := Scalar.select v547 1#32 2#32; let v549 : BitVec 32 := Scalar.remsi arg9 v548
    Scalar.select (Scalar.andi (Scalar.xori (Scalar.cmpi .slt v549 0#32) (Scalar.cmpi .slt v548 0#32)) (Scalar.cmpi .ne v549 0#32)) (Scalar.addi v549 v548) v549)) := by
  simp only [k0_part67_eq_skeleton]
  unfold k0_part67_skel
  simp only [trip2_eq, for_nil]
  rfl

/-- A trip over the query tiles. -/
def trip1 (arg5 : Memref sig .tc .vmem S2048x256 .bf16) (harg5 : arg5.IsWhole) (v0 v1 : IVec S128x256 32) (v2 v3 : IVec S128x128 32) (v8 : FVec F S128x128 .bf16) (v11 : IVec S128x128 1) :
    Fin k0_t1_loop.trips → Unit → Prog (TpuEff nD τ sig (Elt F) Λ₀ .tc) Unit :=
  fun k0_t1 _ => do
    let x : Vec F S256x256 .f32 ← Prog.lift (.load arg6 (Rect.unit (s := S256x256) ![0, 0] S256x256.size inb_S256x256_S256x256_0_0).toLoadRect (View.loadsAt_vmem h_S256x256))
    Prog.lift (.store arg6 (Rect.unit (s := S256x256) ![0, 0] S256x256.size inb_S256x256_S256x256_0_0) (k0_pay324 (F := F)) Finset.univ (View.stores_vmem_bits_univ h_S256x256 rfl) (.inl rfl))
    scP1 arg2 arg3 arg7 v11 (oKey0 k0_t1) (oKey0_inb k0_t1) (oQry0 k0_t1) (oQry0_inb k0_t1)
    let g ← wD arg7 arg8 harg8 v0 v1 v2 v3 v8 k0_pay340
    let g ← loop2P arg2 arg3 arg4 arg6 arg7 arg8 harg8 v8 v11 k0_t1 g
    accP arg4 arg6 arg8 (oAccE k0_t1) (oAccE_inb k0_t1) (oWE k0_t1) (oWE_inb k0_t1)
    scP0 arg2 arg3 arg7 v11 (oKeyN k0_t1) (oKeyN_inb k0_t1) (oQryN k0_t1) (oQryN_inb k0_t1)
    let y : Vec F S256x256 .f32 ← Prog.lift (.load arg6 (Rect.unit (s := S256x256) ![0, 0] S256x256.size inb_S256x256_S256x256_0_0).toLoadRect (View.loadsAt_vmem h_S256x256))
    let w : Vec F S256x256 .bf16 ← Prog.lift (.load arg5 (Rect.unit (s := S2048x256) (k0_off53 k0_t1) S256x256.size (k0_off53_inb k0_t1)).toLoadRect (View.loadsAt_vmem h_S256x256))
    Prog.lift (.store arg5 (Rect.unit (s := S2048x256) (k0_off53 k0_t1) S256x256.size (k0_off53_inb k0_t1)) (k0_pay7 y) Finset.univ (View.stores_vmem h_S256x256 (harg5.storeExact_slice rfl _ (k0_off53_packedbf16 k0_t1)) (fun _ => rfl)) (.inl rfl))
    pure ⟨⟩

set_option maxHeartbeats 40000000 in
theorem trip1_eq (i : grid0.Coords) (harg2 : arg2.IsWhole) (harg3 : arg3.IsWhole) (harg4 : arg4.IsWhole) (arg5 : Memref sig .tc .vmem S2048x256 .bf16) (harg5 : arg5.IsWhole) (harg6 : arg6.IsWhole) (harg7 : arg7.IsWhole) (v0 v1 : IVec S128x256 32) (v2 v3 : IVec S128x128 32) (v8 : FVec F S128x128 .bf16) (v11 : IVec S128x128 1) :
    k0_t1_body (F := F) i arg2 harg2 arg3 harg3 arg4 harg4 arg5 harg5 arg6 harg6 arg7 harg7 arg8 harg8 v0 v1 v2 v3 v8 v11 = trip1 arg2 arg3 arg4 arg6 arg7 arg8 harg8 arg5 harg5 v0 v1 v2 v3 v8 v11 := by
  funext k x
  unfold k0_t1_body
  simp only [part67_eq, Prog.bind_assoc]
  rfl

/-- The trips over the query tiles. -/
def loop1P (arg5 : Memref sig .tc .vmem S2048x256 .bf16) (harg5 : arg5.IsWhole) : Prog (TpuEff nD τ sig (Elt F) Λ₀ .tc) Unit :=
  Scf.Loop.for k0_t1_loop k0_t1_ok ⟨⟩ (trip1 arg2 arg3 arg4 arg6 arg7 arg8 harg8 arg5 harg5 (iota .tc S128x256 32 [0] iota_S128x256_d0_w32) (iota .tc S128x256 32 [1] iota_S128x256_d1_w32)
    (iota .tc S128x128 32 [0] iota_S128x128_d0_w32) (iota .tc S128x128 32 [1] iota_S128x128_d1_w32) k0_pay442 k0_pay443)

set_option maxHeartbeats 40000000 in
theorem root_eq (i : grid0.Coords) (harg2 : arg2.IsWhole) (harg3 : arg3.IsWhole) (harg4 : arg4.IsWhole) (arg5 : Memref sig .tc .vmem S2048x256 .bf16) (harg5 : arg5.IsWhole) (harg6 : arg6.IsWhole) (harg7 : arg7.IsWhole) :
    cc0_stickbreak (F := F) i arg2 harg2 arg3 harg3 arg4 harg4 arg5 harg5 arg6 harg6 arg7 harg7 arg8 harg8 = (do
      scP0 arg2 arg3 arg7 k0_pay443 oKeyI oKeyI_inb oQryI oQryI_inb
      let _ ← loop1P arg2 arg3 arg4 arg6 arg7 arg8 harg8 arg5 harg5
      pure ⟨⟩) := by
  simp only [cc0_stickbreak_eq_skeleton]
  unfold cc0_stickbreak_skel
  simp only [trip1_eq]
  rfl

end AttnSteps

end
-- ==== Proof.Rows.lean ====
module

public import Idealize.ShloMosaic.Lib.Pointwise
public import Idealize.ShloMosaic.Lib.Pipeline.Value
public import Idealize.ShloMosaic.Lib.ValueIdx
public import Idealize.ShloMosaic.Lib.WordArith

/-! The layer's row-wise mathematics over the extended reals: the normalisation of a row, and the
    feed-forward half layer on a row. Both programs are brought to these. -/

@[expose] public section

noncomputable section

namespace Rows

open Idealize.ShloMosaic

/-- The width of a token row as the programs write it, 1024. -/
def width : EReal := Ideal.ofBits .f32 0x44800000#32

/-- The small number under the root. -/
def eps : EReal := Ideal.ofBits .f32 0x358637BD#32

/-- The weight of a half layer, 0.5. -/
def half : EReal := Ideal.ofBits .f32 0x3F000000#32

/-- A row divided by its root mean square, then scaled by `g`. -/
def rms (x g : Fin 1024 → EReal) (k : Fin 1024) : EReal :=
  x k * Ideal.rsqrt (Ideal.div (∑ j, x j * x j) width + eps) * g k

/-- One gated activation: a row against a gate column and an up column. -/
def act (x wg wu : Fin 1024 → EReal) : EReal :=
  (∑ k, x k * wg k) * Ideal.logistic (∑ k, x k * wg k) * ∑ k, x k * wu k

/-- The feed-forward half layer on one row. -/
def ffn (x pre post : Fin 1024 → EReal) (wg wu : Fin 1024 → Fin 2816 → EReal)
    (wd : Fin 2816 → Fin 1024 → EReal) (j : Fin 1024) : EReal :=
  x j + half * rms (fun n => ∑ c, act (rms x pre) (fun k => wg k c) (fun k => wu k c) * wd c n) post j

theorem ffn_congr {x x' pre pre' post post' : Fin 1024 → EReal} (hx : x = x') (h1 : pre = pre') (h2 : post = post')
    (wg wu : Fin 1024 → Fin 2816 → EReal) (wd : Fin 2816 → Fin 1024 → EReal) (j : Fin 1024) :
    ffn x pre post wg wu wd j = ffn x' pre' post' wg wu wd j := by
  subst hx h1 h2; rfl

/-- The logistic function spelt out is itself. -/
theorem logistic_eq (x one one' : EReal) (h : one = 1) (h' : one' = 1) :
    Ideal.div one (one' + Ideal.exp (-x)) = Ideal.logistic x := by
  subst h h'; rfl

/-- A host sum starts from zero. -/
theorem zero_bits_add (x : EReal) : (FloatOps.ofBits (F := Ideal) .f32 0x00000000#32 : EReal) + x = x := by
  rw [show (FloatOps.ofBits (F := Ideal) .f32 0x00000000#32 : EReal) = 0 from Ideal.ofBits_zero_f32, zero_add]

theorem ofBits_one_f32 : Ideal.ofBits .f32 0x3F800000#32 = 1 := by
  simp [Ideal.ofBits, Ideal.ieee, -EReal.coe_mul]; norm_num

/-- Row `r` of a batch of sequences laid out row after row. -/
def row (x : Shape.Idx ⟨3, ![32, 2048, 1024]⟩ → EReal) (r : Fin 65536) (k : Fin 1024) : EReal :=
  x (ix3 ⟨r.val / 2048, by omega⟩ ⟨r.val % 2048, by omega⟩ k)

/-- The batch laid out row after row. -/
theorem reshape_row (x : Vec Ideal ⟨3, ![32, 2048, 1024]⟩ .f32) (h : Shape.ShapeCasts ⟨3, ![32, 2048, 1024]⟩ ⟨2, ![65536, 1024]⟩)
    (r : Fin 65536) (k : Fin 1024) : shapeCast ⟨2, ![65536, 1024]⟩ x h (ix2 r k) = row x r k := by
  refine shapeCast_apply _ _ _ (ix3 ⟨r.val / 2048, by omega⟩ ⟨r.val % 2048, by omega⟩ k) ?_
  rw [Shape.rowMajor_val_three, Shape.rowMajor_val_two]
  change (r.val / 2048 * 2048 + r.val % 2048) * 1024 + k.val = r.val * 1024 + k.val
  rw [Nat.div_add_mod']

/-- The feed-forward half layer on every row. -/
def ffnArr (x : Shape.Idx ⟨3, ![32, 2048, 1024]⟩ → EReal) (pre post : Shape.Idx ⟨1, ![1024]⟩ → EReal)
    (wg wu : Shape.Idx ⟨2, ![1024, 2816]⟩ → EReal) (wd : Shape.Idx ⟨2, ![2816, 1024]⟩ → EReal) : Shape.Idx ⟨2, ![65536, 1024]⟩ → EReal :=
  fun i => ffn (row x (i 0)) (fun k => pre (ix1 k)) (fun k => post (ix1 k)) (fun k c => wg (ix2 k c)) (fun k c => wu (ix2 k c))
    (fun c n => wd (ix2 c n)) (i 1)

/-- A row plus the normalised product of a mixer's row with its output weights. -/
def mix (x o g : Fin 1024 → EReal) (wo : Fin 1024 → Fin 1024 → EReal) (k : Fin 1024) : EReal :=
  x k + rms (fun n => ∑ j, o j * wo j n) g k

theorem mix_congr {x x' o o' g g' : Fin 1024 → EReal} (hx : x = x') (ho : o = o') (hg : g = g')
    (wo : Fin 1024 → Fin 1024 → EReal) (k : Fin 1024) : mix x o g wo k = mix x' o' g' wo k := by
  subst hx ho hg; rfl

/-- The mixer's output added in, then the feed-forward half layer, on every row. -/
def mixFfnArr (x o : Shape.Idx ⟨3, ![32, 2048, 1024]⟩ → EReal) (g : Shape.Idx ⟨1, ![1024]⟩ → EReal)
    (wo : Shape.Idx ⟨2, ![1024, 1024]⟩ → EReal) (pre post : Shape.Idx ⟨1, ![1024]⟩ → EReal)
    (wg wu : Shape.Idx ⟨2, ![1024, 2816]⟩ → EReal) (wd : Shape.Idx ⟨2, ![2816, 1024]⟩ → EReal) : Shape.Idx ⟨2, ![65536, 1024]⟩ → EReal :=
  fun i => ffn (mix (row x (i 0)) (row o (i 0)) (fun k => g (ix1 k)) (fun j n => wo (ix2 j n)))
    (fun k => pre (ix1 k)) (fun k => post (ix1 k)) (fun k c => wg (ix2 k c)) (fun k c => wu (ix2 k c))
    (fun c n => wd (ix2 c n)) (i 1)

/-- A normalised row against one column of a weight with 3072 columns. -/
def proj (x g : Fin 1024 → EReal) (w : Shape.Idx ⟨2, ![1024, 3072]⟩ → EReal) (n : Fin 3072) : EReal :=
  ∑ k, rms x g k * w (ix2 k n)

/-- The scale of the queries, 1/8. -/
def eighth : EReal := Ideal.ofBits .f32 0x3E000000#32

/-- The queries, scaled, with the channels before the positions. -/
def queries (x : Shape.Idx ⟨3, ![32, 2048, 1024]⟩ → EReal) (g : Shape.Idx ⟨1, ![1024]⟩ → EReal)
    (w : Shape.Idx ⟨2, ![1024, 3072]⟩ → EReal) : Shape.Idx ⟨3, ![32, 1024, 2048]⟩ → EReal :=
  fun i => proj (fun k => x (ix3 (i 0) (i 2) k)) (fun k => g (ix1 k)) w ⟨(i 1).val, Nat.lt_trans (i 1).isLt (by decide)⟩ * eighth

/-- The keys, row after row. -/
def keys (x : Shape.Idx ⟨3, ![32, 2048, 1024]⟩ → EReal) (g : Shape.Idx ⟨1, ![1024]⟩ → EReal)
    (w : Shape.Idx ⟨2, ![1024, 3072]⟩ → EReal) : Shape.Idx ⟨2, ![65536, 1024]⟩ → EReal :=
  fun i => proj (row x (i 0)) (fun k => g (ix1 k)) w ⟨1024 + (i 1).val, Nat.lt_trans (Nat.add_lt_add_left (i 1).isLt 1024) (by decide)⟩

/-- The values, with the channels before the positions. -/
def values (x : Shape.Idx ⟨3, ![32, 2048, 1024]⟩ → EReal) (g : Shape.Idx ⟨1, ![1024]⟩ → EReal)
    (w : Shape.Idx ⟨2, ![1024, 3072]⟩ → EReal) : Shape.Idx ⟨3, ![32, 1024, 2048]⟩ → EReal :=
  fun i => proj (fun k => x (ix3 (i 0) (i 2) k)) (fun k => g (ix1 k)) w ⟨2048 + (i 1).val, Nat.add_lt_add_left (i 1).isLt 2048⟩

/-- The square root of one half, as both programs write it. -/
def root : EReal := Ideal.ofBits .f32 0x3F3504F3#32

/-- The small number under the root of the layer normalisation. -/
def lneps : EReal := Ideal.ofBits .f32 0x3727C5AC#32

/-- The error function is odd. -/
theorem erf_neg (y : EReal) : Ideal.erf (-y) = -Ideal.erf y := by
  induction y with
  | bot => exact (neg_neg (1 : EReal)).symm
  | top => rfl
  | coe r =>
    have e : ∫ t in (0 : ℝ)..(-r), Real.exp (-t ^ 2) = -∫ t in (0 : ℝ)..r, Real.exp (-t ^ 2) := by
      have h := intervalIntegral.integral_comp_neg (a := r) (b := 0) (fun t : ℝ => Real.exp (-t ^ 2))
      simp only [neg_sq, neg_zero] at h
      rw [← h, intervalIntegral.integral_symm]
    show ((2 / √Real.pi : ℝ) : EReal) * ((∫ t in (0 : ℝ)..(-r), Real.exp (-t ^ 2) : ℝ) : EReal)
      = -(((2 / √Real.pi : ℝ) : EReal) * ((∫ t in (0 : ℝ)..r, Real.exp (-t ^ 2) : ℝ) : EReal))
    rw [e, ← EReal.coe_mul, ← EReal.coe_mul, ← EReal.coe_neg, mul_neg]

/-- The gated unit `z · Φ(z)`. -/
def gelu (z : EReal) : EReal := half * z * (1 + Ideal.erf (z * root))

/-- The same through the complementary error function. -/
theorem gelu_erfc (z : EReal) : half * z * Ideal.erfc (-z * root) = gelu z := by
  unfold gelu Ideal.erfc
  rw [EReal.neg_mul, erf_neg, sub_eq_add_neg, neg_neg]

/-- Two lanes below 128 compare as words as they compare. -/
theorem sle_lane (s t : Fin 128) : (BitVec.ofNat 32 s.val).sle (BitVec.ofNat 32 t.val) = decide (s ≤ t) := by
  have h : ∀ a : Fin 128, (BitVec.ofNat 32 a.val).toInt = a.val := fun a =>
    WordArith.toInt_ofNat_small a.val (Nat.lt_trans a.isLt (by decide))
  rw [BitVec.sle, h, h]
  exact decide_eq_decide.mpr (by rw [Fin.le_def]; omega)

/-- A choice by that comparison. -/
theorem select_lane {α : Type} (s t : Fin 128) (a b : α) :
    Scalar.select (BitVec.ofBool ((BitVec.ofNat 32 s.val).sle (BitVec.ofNat 32 t.val))) a b = if s ≤ t then a else b := by
  rw [sle_lane]
  unfold Scalar.select
  by_cases h : s ≤ t
  · rw [if_pos h, decide_eq_true h]
    exact if_pos (by decide)
  · rw [if_neg h, decide_eq_false h]
    exact if_neg (by decide)

/-- A normalised row against one column of a weight with 2048 columns. -/
def wide (x g : Fin 1024 → EReal) (w : Fin 1024 → Fin 2048 → EReal) (n : Fin 2048) : EReal := ∑ k, rms x g k * w k n

/-- A row less its mean. -/
def center (v : Fin 1024 → EReal) (k : Fin 1024) : EReal := v k - Ideal.div (∑ j, v j) width

/-- A row normalised to mean zero and variance one, then scaled by `g`. -/
def lnorm (v g : Fin 1024 → EReal) (k : Fin 1024) : EReal :=
  center v k * Ideal.rsqrt (Ideal.div (∑ j, center v j * center v j) width + lneps) * g k

/-- The half of the projection that is gated. -/
def gateU (x g : Fin 1024 → EReal) (w : Fin 1024 → Fin 2048 → EReal) (j : Fin 1024) : EReal :=
  gelu (wide x g w ⟨j.val, by omega⟩)

/-- The half of the projection that the gate is made of. -/
def gateV (x g lg : Fin 1024 → EReal) (w : Fin 1024 → Fin 2048 → EReal) (j : Fin 1024) : EReal :=
  lnorm (fun j => gelu (wide x g w ⟨1024 + j.val, by omega⟩)) lg j

/-- Position `t` of a chunk `X` of 128 positions, gated by the positions up to it through the lower triangle of the channel's mixing matrix. -/
def gated (X : Fin 128 → Fin 1024 → EReal) (g lg : Fin 1024 → EReal) (w : Fin 1024 → Fin 2048 → EReal)
    (ws : Fin 8 → Fin 128 → Fin 128 → EReal) (b : Fin 128 → Fin 1024 → EReal) (t : Fin 128) (j : Fin 1024) : EReal :=
  gateU (X t) g w j * ((∑ s, (if s ≤ t then ws ⟨j.val / 128, by omega⟩ t s else 0) * gateV (X s) g lg w j) + b t j)

/-- The gating mixer on position `t` of a chunk. -/
def gating (X : Fin 128 → Fin 1024 → EReal) (g post lg : Fin 1024 → EReal) (w : Fin 1024 → Fin 2048 → EReal)
    (ws : Fin 8 → Fin 128 → Fin 128 → EReal) (b : Fin 128 → Fin 1024 → EReal) (wo : Fin 1024 → Fin 1024 → EReal)
    (t : Fin 128) (k : Fin 1024) : EReal :=
  mix (X t) (gated X g lg w ws b t) post wo k

/-- The gating mixer on every row. -/
def gatingArr (x : Shape.Idx ⟨3, ![32, 2048, 1024]⟩ → EReal) (g post lg : Shape.Idx ⟨1, ![1024]⟩ → EReal)
    (w : Shape.Idx ⟨2, ![1024, 2048]⟩ → EReal) (ws : Shape.Idx ⟨3, ![8, 128, 128]⟩ → EReal) (b : Shape.Idx ⟨2, ![8, 128]⟩ → EReal)
    (wo : Shape.Idx ⟨2, ![1024, 1024]⟩ → EReal) : Shape.Idx ⟨2, ![65536, 1024]⟩ → EReal :=
  fun i => gating (fun s => row x ⟨(i 0).val / 128 * 128 + s.val, by have h : (i 0).val < 65536 := (i 0).isLt; omega⟩)
    (fun k => g (ix1 k)) (fun k => post (ix1 k)) (fun k => lg (ix1 k)) (fun k n => w (ix2 k n)) (fun a t s => ws (ix3 a t s))
    (fun t j => b (ix2 (⟨j.val / 128, by omega⟩ : Fin 8) t)) (fun j n => wo (ix2 j n))
    ⟨(i 0).val % 128, Nat.mod_lt _ (by decide)⟩ (i 1)

end Rows

end
-- ==== Proof.AttnPay.lean ====
module

public import proofs.«01_k».proof.Proof.Gen.KernelIdeal
public import proofs.«01_k».proof.Proof.Gen.KernelIdeal.Frame
public import proofs.«01_k».proof.Proof.Gen.KernelIdeal.Loops
public import proofs.«01_k».proof.Proof.Rows

/-! The attention's steps read at an entry: each payload over the extended reals. -/

@[expose] public section

set_option maxRecDepth 16384

noncomputable section

namespace AttnPay

open Idealize.ShloMosaic Cert.KernelIdeal Cert.KernelIdeal.Gen

/-- How much of the stick a score leaves behind, on a logarithmic scale. -/
def drop (x : EReal) : EReal := max x (Ideal.log (1 + Ideal.exp x))

theorem less_apply {s : Shape} (a b : IVec s 32) (x y : EReal) (i : s.Idx) (p q : ℕ) (hp : p < 2 ^ 31) (hq : q < 2 ^ 31)
    (ha : a i = BitVec.ofNat 32 p) (hb : b i = BitVec.ofNat 32 q) : Scalar.select (cmpi .slt a b i) x y = if p < q then x else y := by
  show Scalar.select (IntOp.cmpi .slt (a i) (b i)) x y = _
  rw [ha, hb, WordCmp.cmpi_slt_ofNat (by simpa using hp) (by simpa using hq)]
  by_cases h : p < q <;> simp [h, Scalar.select]

theorem cap (x : EReal) : min x (Named.named (F := Ideal) κ "clamp" (φ := .f32) 0x42A00000#32) = x := by
  rw [IdealRules.named_const.ideal_named_scalar κ "clamp" _ ⊤ rfl]
  exact min_top_right x

theorem less128 (r s : Fin 128) (x y : EReal) :
    Scalar.select (cmpi .slt (iota .tc S128x128 32 [0] iota_S128x128_d0_w32) (iota .tc S128x128 32 [1] iota_S128x128_d1_w32) (ix2 r s)) x y = if r.val < s.val then x else y :=
  less_apply _ _ _ _ (ix2 r s) r.val s.val (by omega) (by omega) (by pointwise) (by pointwise)

theorem less256 (r : Fin 128) (s : Fin 256) (x y : EReal) :
    Scalar.select (cmpi .slt (iota .tc S128x256 32 [0] iota_S128x256_d0_w32) (iota .tc S128x256 32 [1] iota_S128x256_d1_w32) (ix2 r s)) x y = if r.val < s.val then x else y :=
  less_apply _ _ _ _ (ix2 r s) r.val s.val (by omega) (by omega) (by pointwise) (by pointwise)

theorem pay108_apply (z : Vec Ideal S1x1x128x256 .f32) (r : Fin 128) (y : Fin 256) :
    k0_pay108 z (ix2 r y) = drop (z (ix4 (0 : Fin 1) (0 : Fin 1) r y)) := by
  unfold k0_pay108 k0_pay107 drop
  pointwise
  rw [cap]

theorem pay109_apply (z : Vec Ideal S1x1x128x256 .f32) (r : Fin 128) (y : Fin 256) :
    k0_pay109 z (ix4 (0 : Fin 1) (0 : Fin 1) r y) = z (ix4 (0 : Fin 1) (0 : Fin 1) r y) - drop (z (ix4 (0 : Fin 1) (0 : Fin 1) r y)) := by
  rw [← pay108_apply]
  unfold k0_pay109 k0_pay107
  generalize k0_pay108 z = u
  pointwise

theorem pay110_apply (z : Vec Ideal S1x1x128x256 .f32) (y : Fin 256) :
    k0_pay110 z (ix2 (0 : Fin 1) y) = drop (z (ix4 (0 : Fin 1) (0 : Fin 1) (0 : Fin 128) y)) := by
  rw [← pay108_apply]
  unfold k0_pay110
  generalize k0_pay108 z = u
  pointwise

theorem pay442_apply (r s : Fin 128) : k0_pay442 (F := Ideal) (ix2 r s) = if r.val < s.val then 1 else 0 := by
  unfold k0_pay442
  refine (less128 r s _ _).trans ?_
  show (if r.val < s.val then Ideal.ofBits .f32 0x3F800000#32 else Ideal.ofBits .f32 0x00000000#32) = _
  rw [Rows.ofBits_one_f32, Ideal.ofBits_zero_f32]

theorem pay111_apply (z : Vec Ideal S1x1x128x256 .f32) (r : Fin 128) (y : Fin 256) :
    k0_pay111 k0_pay442 z (ix2 r y) = ∑ s : Fin 128, if r.val < s.val then drop (z (ix4 (0 : Fin 1) (0 : Fin 1) s y)) else 0 := by
  refine Eq.trans (b := ∑ s : Fin 128, k0_pay442 (F := Ideal) (ix2 r s) * k0_pay108 z (ix2 s y)) ?_ (Finset.sum_congr rfl fun s _ => ?_)
  · unfold k0_pay111
    generalize k0_pay108 z = u
    generalize k0_pay442 (F := Ideal) = w
    pointwise [dot_S128x128_S128x256_S128x256_1_0_0_1_n_n]
  · rw [pay442_apply, pay108_apply]
    split <;> simp

theorem pay151_apply (c : FVec Ideal S1x256 .f32) (l : FVec Ideal S128x256 .f32) (t : Vec Ideal S1x1x128x256 .f32) (r : Fin 128) (y : Fin 256) :
    k0_pay151 c l t (ix4 (0 : Fin 1) (0 : Fin 1) r y) = Ideal.exp (t (ix4 (0 : Fin 1) (0 : Fin 1) r y) - l (ix2 r y) - c (ix2 (0 : Fin 1) y)) := by
  unfold k0_pay151
  pointwise

theorem pay152_apply (c f : FVec Ideal S1x256 .f32) (l : FVec Ideal S128x256 .f32) (y : Fin 256) :
    k0_pay152 c f l (ix2 (0 : Fin 1) y) = c (ix2 (0 : Fin 1) y) + (l (ix2 (0 : Fin 128) y) + f (ix2 (0 : Fin 1) y)) := by
  unfold k0_pay152
  pointwise

theorem pay89_apply (c : Vec Ideal S64x256 .f32) (v : Vec Ideal S1x64x128 .bf16) (a : Vec Ideal S1x1x128x256 .bf16) (v' : Vec Ideal S1x64x128 .bf16)
    (a' : Vec Ideal S1x1x128x256 .bf16) (d : Fin 64) (y : Fin 256) :
    k0_pay89 c v a v' a' (ix2 d y) = c (ix2 d y) + (∑ r : Fin 128, v (ix3 (0 : Fin 1) d r) * a (ix4 (0 : Fin 1) (0 : Fin 1) r y))
      + ∑ r : Fin 128, v' (ix3 (0 : Fin 1) d r) * a' (ix4 (0 : Fin 1) (0 : Fin 1) r y) := by
  unfold k0_pay89
  pointwise [dot_S64x128_S128x256_S64x256_1_0_0_1_n_n]

abbrev i0 : IVec S128x256 32 := iota .tc S128x256 32 [0] iota_S128x256_d0_w32
abbrev i1 : IVec S128x256 32 := iota .tc S128x256 32 [1] iota_S128x256_d1_w32
abbrev i2 : IVec S128x128 32 := iota .tc S128x128 32 [0] iota_S128x128_d0_w32
abbrev i3 : IVec S128x128 32 := iota .tc S128x128 32 [1] iota_S128x128_d1_w32

theorem pay345_apply (z : Vec Ideal S1x1x128x128 .f32) (r y : Fin 128) :
    k0_pay345 i2 i3 z (ix2 r y) = if r.val < y.val then drop (z (ix4 (0 : Fin 1) (0 : Fin 1) r y)) else 0 := by
  unfold k0_pay345
  refine (less128 r y _ _).trans ?_
  refine congrArg₂ (fun a b : EReal => if r.val < y.val then a else b) ?_ Ideal.ofBits_zero_f32
  unfold k0_pay344 drop
  pointwise
  rw [cap]

theorem pay371_apply (z : Vec Ideal S1x1x128x256 .f32) (r : Fin 128) (y : Fin 256) :
    k0_pay371 i0 i1 z (ix2 r y) = if r.val < y.val then drop (z (ix4 (0 : Fin 1) (0 : Fin 1) r y)) else 0 := by
  unfold k0_pay371
  refine (less256 r y _ _).trans ?_
  refine congrArg₂ (fun a b : EReal => if r.val < y.val then a else b) ?_ Ideal.ofBits_zero_f32
  unfold k0_pay370 drop
  pointwise
  rw [cap]

theorem pay346_apply (z : Vec Ideal S1x1x128x128 .f32) (r y : Fin 128) :
    k0_pay346 i2 i3 z (ix4 (0 : Fin 1) (0 : Fin 1) r y) = z (ix4 (0 : Fin 1) (0 : Fin 1) r y) - if r.val < y.val then drop (z (ix4 (0 : Fin 1) (0 : Fin 1) r y)) else 0 := by
  rw [← pay345_apply]
  unfold k0_pay346 k0_pay344
  generalize k0_pay345 i2 i3 z = u
  pointwise

theorem pay372_apply (z : Vec Ideal S1x1x128x256 .f32) (r : Fin 128) (y : Fin 256) :
    k0_pay372 i0 i1 z (ix4 (0 : Fin 1) (0 : Fin 1) r y) = z (ix4 (0 : Fin 1) (0 : Fin 1) r y) - if r.val < y.val then drop (z (ix4 (0 : Fin 1) (0 : Fin 1) r y)) else 0 := by
  rw [← pay371_apply]
  unfold k0_pay372 k0_pay370
  generalize k0_pay371 i0 i1 z = u
  pointwise

theorem pay347_apply (z : Vec Ideal S1x1x128x128 .f32) (y : Fin 128) :
    k0_pay347 i2 i3 z (ix2 (0 : Fin 1) y) = if 0 < y.val then drop (z (ix4 (0 : Fin 1) (0 : Fin 1) (0 : Fin 128) y)) else 0 := by
  refine Eq.trans ?_ (pay345_apply z 0 y)
  unfold k0_pay347
  generalize k0_pay345 i2 i3 z = u
  pointwise

theorem pay373_apply (z : Vec Ideal S1x1x128x256 .f32) (y : Fin 256) :
    k0_pay373 i0 i1 z (ix2 (0 : Fin 1) y) = if 0 < y.val then drop (z (ix4 (0 : Fin 1) (0 : Fin 1) (0 : Fin 128) y)) else 0 := by
  refine Eq.trans ?_ (pay371_apply z 0 y)
  unfold k0_pay373
  generalize k0_pay371 i0 i1 z = u
  pointwise

theorem pay348_apply (z : Vec Ideal S1x1x128x128 .f32) (r y : Fin 128) :
    k0_pay348 i2 i3 k0_pay442 z (ix2 r y) = ∑ s : Fin 128, if r.val < s.val then (if s.val < y.val then drop (z (ix4 (0 : Fin 1) (0 : Fin 1) s y)) else 0) else 0 := by
  refine Eq.trans (b := ∑ s : Fin 128, k0_pay442 (F := Ideal) (ix2 r s) * k0_pay345 i2 i3 z (ix2 s y)) ?_ (Finset.sum_congr rfl fun s _ => ?_)
  · unfold k0_pay348
    generalize k0_pay345 i2 i3 z = u
    generalize k0_pay442 (F := Ideal) = w
    pointwise [dot_S128x128_S128x128_S128x128_1_0_0_1_n_n]
  · rw [pay442_apply, pay345_apply]
    by_cases h : r.val < s.val <;> simp [h]

theorem pay374_apply (z : Vec Ideal S1x1x128x256 .f32) (r : Fin 128) (y : Fin 256) :
    k0_pay374 i0 i1 k0_pay442 z (ix2 r y) = ∑ s : Fin 128, if r.val < s.val then (if s.val < y.val then drop (z (ix4 (0 : Fin 1) (0 : Fin 1) s y)) else 0) else 0 := by
  refine Eq.trans (b := ∑ s : Fin 128, k0_pay442 (F := Ideal) (ix2 r s) * k0_pay371 i0 i1 z (ix2 s y)) ?_ (Finset.sum_congr rfl fun s _ => ?_)
  · unfold k0_pay374
    generalize k0_pay371 i0 i1 z = u
    generalize k0_pay442 (F := Ideal) = w
    pointwise [dot_S128x128_S128x256_S128x256_1_0_0_1_n_n]
  · rw [pay442_apply, pay371_apply]
    by_cases h : r.val < s.val <;> simp [h]

theorem pay396_apply (j : S1x1x128x128.Idx) : k0_pay396 (F := Ideal) j = 0 := by
  show Ideal.ofBits .bf16 0x0000#16 = 0
  simp [Ideal.ofBits, Ideal.ieee]

theorem pay397_apply (c : FVec Ideal S1x256 .f32) (l : FVec Ideal S128x128 .f32) (t : Vec Ideal S1x1x128x128 .f32) (r y : Fin 128) :
    k0_pay397 i2 i3 c l t (ix4 (0 : Fin 1) (0 : Fin 1) r y) = if r.val < y.val then Ideal.exp (t (ix4 (0 : Fin 1) (0 : Fin 1) r y) - l (ix2 r y)
      - c (ix2 (0 : Fin 1) (⟨128 + y.val, by omega⟩ : Fin 256))) else 0 := by
  refine Eq.trans ?_ (less128 r y _ _)
  unfold k0_pay397
  pointwise

theorem pay410_apply (c : FVec Ideal S1x256 .f32) (l : FVec Ideal S128x256 .f32) (t : Vec Ideal S1x1x128x256 .f32) (r : Fin 128) (y : Fin 256) :
    k0_pay410 i0 i1 l c t (ix4 (0 : Fin 1) (0 : Fin 1) r y) = if r.val < y.val then Ideal.exp (t (ix4 (0 : Fin 1) (0 : Fin 1) r y) - l (ix2 r y)
      - c (ix2 (0 : Fin 1) y)) else 0 := by
  refine Eq.trans ?_ (less256 r y _ _)
  unfold k0_pay410
  pointwise

theorem pay411_apply (f : FVec Ideal S1x256 .f32) (l : FVec Ideal S128x256 .f32) (c : FVec Ideal S1x256 .f32) (y : Fin 256) :
    k0_pay411 f l c (ix2 (0 : Fin 1) y) = c (ix2 (0 : Fin 1) y) + (l (ix2 (0 : Fin 128) y) + f (ix2 (0 : Fin 1) y)) := by
  unfold k0_pay411
  pointwise

theorem pay398_apply (c : FVec Ideal S1x256 .f32) (f : FVec Ideal S1x128 .f32) (l : FVec Ideal S128x128 .f32) (y : Fin 256) :
    k0_pay398 c f l (ix2 (0 : Fin 1) y) = c (ix2 (0 : Fin 1) y) + if h : y.val < 128 then 0 else
      (l (ix2 (0 : Fin 128) (⟨y.val - 128, by omega⟩ : Fin 128)) + f (ix2 (0 : Fin 1) (⟨y.val - 128, by omega⟩ : Fin 128))) := by
  unfold k0_pay398
  pointwise

theorem pay324_apply (j : S256x256.Idx) : k0_pay324 (F := Ideal) j = 0 := by
  show Ideal.ofBits .f32 0x00000000#32 = 0
  exact Ideal.ofBits_zero_f32

theorem pay340_apply (j : S1x256.Idx) : k0_pay340 (F := Ideal) j = 0 := by
  show Ideal.ofBits .f32 0x00000000#32 = 0
  exact Ideal.ofBits_zero_f32

theorem pay7_apply (y : Vec Ideal S256x256 .f32) (p q : Fin 256) : k0_pay7 y (ix2 p q) = y (ix2 q p) := by
  unfold k0_pay7
  pointwise

theorem lane_apply (r s : Fin 128) (x y : EReal) :
    Scalar.select (k0_pay443 (ix2 r s)) x y = if s.val < 64 then x else y := by
  unfold k0_pay443
  exact less_apply _ _ _ _ (ix2 r s) s.val 64 (by omega) (by omega) (by pointwise) rfl

theorem sum_low (f : ℕ → EReal) : ∑ d : Fin 128, (if d.val < 64 then f d.val else 0) = ∑ d : Fin 64, f d.val := by
  refine (Fin.sum_univ_add (a := 64) (b := 64) fun d : Fin 128 => if d.val < 64 then f d.val else 0).trans ?_
  simp

theorem sum_high (f : ℕ → EReal) : ∑ d : Fin 128, (if d.val < 64 then 0 else f d.val) = ∑ d : Fin 64, f (64 + d.val) := by
  refine (Fin.sum_univ_add (a := 64) (b := 64) fun d : Fin 128 => if d.val < 64 then 0 else f d.val).trans ?_
  simp [add_comm]

theorem pay91_low (k : Vec Ideal S128x128 .bf16) (q : Vec Ideal S1x128x256 .bf16) (r : Fin 128) (y : Fin 256) :
    k0_pay91 k0_pay443 k q (ix2 (⟨r.val, by omega⟩ : Fin 256) y)
      = ∑ d : Fin 128, Scalar.select (k0_pay443 (ix2 r d)) (k (ix2 r d) * q (ix3 (0 : Fin 1) d y)) 0 := by
  unfold k0_pay91
  pointwise [dot_S256x128_S128x256_S256x256_1_0_0_1_n_n]

theorem pay91_high (k : Vec Ideal S128x128 .bf16) (q : Vec Ideal S1x128x256 .bf16) (r : Fin 128) (y : Fin 256) :
    k0_pay91 k0_pay443 k q (ix2 (⟨128 + r.val, by omega⟩ : Fin 256) y)
      = ∑ d : Fin 128, Scalar.select (k0_pay443 (ix2 r d)) 0 (k (ix2 r d) * q (ix3 (0 : Fin 1) d y)) := by
  unfold k0_pay91
  pointwise [dot_S256x128_S128x256_S256x256_1_0_0_1_n_n]

theorem pay92_apply (k : Vec Ideal S128x128 .bf16) (q : Vec Ideal S1x128x256 .bf16) (r : Fin 128) (y : Fin 256) :
    k0_pay92 k0_pay443 k q (ix4 (0 : Fin 1) (0 : Fin 1) r y)
      = ∑ d : Fin 64, k (ix2 r (⟨d.val, by omega⟩ : Fin 128)) * q (ix3 (0 : Fin 1) (⟨d.val, by omega⟩ : Fin 128) y) := by
  refine Eq.trans (b := k0_pay91 k0_pay443 k q (ix2 (⟨r.val, by omega⟩ : Fin 256) y)) ?_ ?_
  · unfold k0_pay92
    generalize k0_pay91 k0_pay443 k q = u
    pointwise
  · rw [pay91_low]
    refine Eq.trans (Finset.sum_congr rfl fun d _ => (lane_apply r d _ _).trans ?_)
      ((sum_low fun d => if h : d < 128 then k (ix2 r (⟨d, h⟩ : Fin 128)) * q (ix3 (0 : Fin 1) (⟨d, h⟩ : Fin 128) y) else 0).trans
        (Finset.sum_congr rfl fun d _ => dif_pos (Nat.lt_trans d.isLt (by decide))))
    rw [dif_pos d.isLt]

theorem pay93_apply (k : Vec Ideal S128x128 .bf16) (q : Vec Ideal S1x128x256 .bf16) (r : Fin 128) (y : Fin 256) :
    k0_pay93 k0_pay443 k q (ix4 (0 : Fin 1) (0 : Fin 1) r y)
      = ∑ d : Fin 64, k (ix2 r (⟨64 + d.val, by omega⟩ : Fin 128)) * q (ix3 (0 : Fin 1) (⟨64 + d.val, by omega⟩ : Fin 128) y) := by
  refine Eq.trans (b := k0_pay91 k0_pay443 k q (ix2 (⟨128 + r.val, by omega⟩ : Fin 256) y)) ?_ ?_
  · unfold k0_pay93
    generalize k0_pay91 k0_pay443 k q = u
    pointwise
  · rw [pay91_high]
    refine Eq.trans (Finset.sum_congr rfl fun d _ => (lane_apply r d _ _).trans ?_)
      ((sum_high fun d => if h : d < 128 then k (ix2 r (⟨d, h⟩ : Fin 128)) * q (ix3 (0 : Fin 1) (⟨d, h⟩ : Fin 128) y) else 0).trans
        (Finset.sum_congr rfl fun d _ => dif_pos (Nat.add_lt_add_left d.isLt 64)))
    rw [dif_pos d.isLt]

end AttnPay
-- ==== Proof.AttnMath.lean ====
module

public import proofs.«01_k».proof.Proof.AttnPay

/-! Stick-breaking over the extended reals: what a score leaves of the stick, and the weight of a key before a query. -/

@[expose] public section

noncomputable section

namespace AttnMath

open Idealize.ShloMosaic AttnPay

theorem drop_nonneg (x : EReal) : 0 ≤ drop x := by
  refine le_max_of_le_right ?_
  induction x using EReal.rec with
  | bot =>
    rw [Ideal.exp_bot, add_zero, show (1 : EReal) = ((1 : ℝ) : EReal) from rfl, Ideal.log_coe, if_neg (by norm_num), Real.log_one]
    exact le_refl _
  | top =>
    rw [Ideal.exp_top, show (1 : EReal) + ⊤ = ⊤ from EReal.coe_add_top 1, Ideal.log_top]
    exact le_top
  | coe r =>
    have e : (1 : EReal) + Ideal.exp (r : EReal) = ((1 + Real.exp r : ℝ) : EReal) := by
      rw [Ideal.exp_coe, EReal.coe_add]; rfl
    have h : 0 < Real.exp r := Real.exp_pos r
    rw [e, Ideal.log_coe, if_neg (by linarith)]
    exact EReal.coe_nonneg.mpr (Real.log_nonneg (by linarith))

/-- What a key before the query leaves of the stick, nothing after it. -/
def left (Z : ℕ → ℕ → EReal) (q s : ℕ) : EReal := if s < q then drop (Z s q) else 0

theorem left_nonneg (Z : ℕ → ℕ → EReal) (q s : ℕ) : 0 ≤ left Z q s := by
  unfold left; split
  · exact drop_nonneg _
  · exact le_refl _

/-- The weight of key `s` for query `q`: its own part of the stick, after the keys between them. -/
def weight (Z : ℕ → ℕ → EReal) (B s q : ℕ) : EReal :=
  if s < q then Ideal.exp (Z s q - drop (Z s q) - ∑ t ∈ Finset.Ico (s + 1) B, left Z q t) else 0

/-- Two nonnegative amounts are taken off one after the other. -/
theorem sub_sub_nonneg (x l c : EReal) (hl : 0 ≤ l) (hc : 0 ≤ c) : x - l - c = x - (l + c) := by
  have h1 : l ≠ ⊥ := fun h => absurd (h ▸ hl) (by simp)
  have h2 : c ≠ ⊥ := fun h => absurd (h ▸ hc) (by simp)
  rw [sub_eq_add_neg, sub_eq_add_neg, sub_eq_add_neg, EReal.neg_add (.inl h1) (.inr h2), sub_eq_add_neg, add_assoc]

theorem sum_Ico_block (f : ℕ → EReal) (k n : ℕ) : ∑ s ∈ Finset.Ico k (k + n), f s = ∑ s : Fin n, f (k + s.val) := by
  rw [Finset.sum_Ico_eq_sum_range, Nat.add_sub_cancel_left, Finset.sum_range]

/-- The keys after `r` in a block, then the keys after the block. -/
theorem tail_block (f : ℕ → EReal) (k r B : ℕ) (hr : r < 128) (hB : k + 128 ≤ B) :
    ∑ t ∈ Finset.Ico (k + r + 1) B, f t = (∑ s : Fin 128, if r < s.val then f (k + s.val) else 0) + ∑ t ∈ Finset.Ico (k + 128) B, f t := by
  rw [← Finset.sum_Ico_consecutive f (show k + r + 1 ≤ k + 128 by omega) hB]
  congr 1
  rw [← Finset.sum_range (fun s => if r < s then f (k + s) else 0), ← Finset.sum_filter,
    show (Finset.range 128).filter (fun s => r < s) = Finset.Ico (r + 1) 128 from by ext s; simp only [Finset.mem_filter, Finset.mem_range, Finset.mem_Ico]; omega,
    Finset.sum_Ico_add f (r + 1) 128 k]
  exact congrArg₂ (fun a b => ∑ t ∈ Finset.Ico a b, f t) (by omega) (by omega)

/-- A block's keys, the first one apart. -/
theorem full_block (f : ℕ → EReal) (k B : ℕ) (hB : k + 128 ≤ B) :
    ∑ t ∈ Finset.Ico k B, f t = (∑ t ∈ Finset.Ico (k + 128) B, f t) + ((∑ s : Fin 128, if 0 < s.val then f (k + s.val) else 0) + f k) := by
  rw [Finset.sum_eq_sum_Ico_succ_bot (show k < B by omega), show k + 1 = k + 0 + 1 from rfl, tail_block f k 0 B (by omega) hB]
  ac_rfl

end AttnMath
-- ==== Proof.AttnSpec.lean ====
module

public import proofs.«01_k».proof.Proof.AttnSteps
public import proofs.«01_k».proof.Proof.AttnMath
public import Idealize.ShloMosaic.Lib.WritesUnit
public import Idealize.ShloMosaic.Lib.Pipeline.ValueKit.Tiles

/-! What the attention's steps do, each run once over the buffers it reads and writes held whole. -/

@[expose] public section

set_option maxRecDepth 65536

noncomputable section

namespace AttnSpec

open Cert.KernelIdeal Cert.KernelIdeal.Gen AttnSteps AttnPay
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A memref's buffer held whole at `f`. -/
abbrev pt (c : Dev nD) {sp : Space} {S : Shape} {e : EltTy} (M : Memref sig .tc sp S e) (f : Buf (Elt Ideal) (M.view.loc (c : Thread nD τ))) : sProp 𝕄 :=
  M.view.loc (c : Thread nD τ) ↦[M.view.set]{fullShare} f

section Reads

variable {κ : Kind} {sp : Space} {e : EltTy} {s : Shape}

/-- A load through a rectangle, at an entry. -/
theorem ld (v : View sig κ sp s e) (f : v.ty.Contents (Elt Ideal)) (off size : Fin s.rank → ℕ) (inb) (x : (Rect.unit off size inb).shape.Idx)
    (i : s.Idx) (hi : ∀ a, (i a : ℕ) = off a + x a) : v.readAt (Elt Ideal) (Rect.unit off size inb).toLoadRect f x = v.read (Elt Ideal) f i :=
  View.ld_unit_apply_of (v.read (Elt Ideal) f) off size inb x i hi

variable (v : View sig κ sp S2x8x128x256 e) (f : v.ty.Contents (Elt Ideal))

theorem ld4 (a b : ℕ) (inb) (s : Fin 2) (i : Fin 8) (r : Fin 128) (y : Fin 256) (hs : s.val = a) (hi : i.val = b) :
    v.readAt (Elt Ideal) (Rect.unit (s := S2x8x128x256) ![a, b, 0, 0] S1x1x128x256.size inb).toLoadRect f (ix4 (0 : Fin 1) (0 : Fin 1) r y)
      = v.read (Elt Ideal) f (ix4 s i r y) := by
  refine ld v f _ _ inb _ _ fun d => ?_
  subst hs hi
  match d with
  | ⟨0, _⟩ => rfl
  | ⟨1, _⟩ => rfl
  | ⟨2, _⟩ => exact (Nat.zero_add _).symm
  | ⟨3, _⟩ => exact (Nat.zero_add _).symm

theorem ld4h (a b : ℕ) (inb) (s : Fin 2) (i : Fin 8) (r y : Fin 128) (hs : s.val = a) (hi : i.val = b) :
    v.readAt (Elt Ideal) (Rect.unit (s := S2x8x128x256) ![a, b, 0, 128] S1x1x128x128.size inb).toLoadRect f (ix4 (0 : Fin 1) (0 : Fin 1) r y)
      = v.read (Elt Ideal) f (ix4 s i r (⟨128 + y.val, by omega⟩ : Fin 256)) := by
  refine ld v f _ _ inb _ _ fun d => ?_
  subst hs hi
  match d with
  | ⟨0, _⟩ => rfl
  | ⟨1, _⟩ => rfl
  | ⟨2, _⟩ => exact (Nat.zero_add _).symm
  | ⟨3, _⟩ => rfl

/-- A stored block is not read at another block's entry. -/
theorem skip (a b k : ℕ) (n : ℕ) (inb : ∀ d, (![a, b, 0, k] : Fin 4 → ℕ) d + (![1, 1, 128, n] : Fin 4 → ℕ) d ≤ S2x8x128x256.size d) (w) (L) (s : Fin 2) (i : Fin 8) (r : Fin 128) (y : Fin 256)
    (h : ¬ (a = s.val ∧ b = i.val ∧ k ≤ y.val ∧ y.val < k + n)) :
    v.read (Elt Ideal) (v.writes (Elt Ideal) f ((⟨Rect.unit (s := S2x8x128x256) ![a, b, 0, k] ![1, 1, 128, n] inb, w⟩ : View.Piece (Elt Ideal) S2x8x128x256 e) :: L)) (ix4 s i r y)
      = v.read (Elt Ideal) (v.writes (Elt Ideal) f L) (ix4 s i r y) := by
  by_cases h0 : a = s.val
  · by_cases h1 : b = i.val
    · refine View.read_writes_cons_unit_of_not_mem v f inb w L _ rfl 3 ?_
      change y.val < k ∨ k + n ≤ y.val
      omega
    · refine View.read_writes_cons_unit_of_not_mem v f inb w L _ rfl 1 ?_
      change i.val < b ∨ b + 1 ≤ i.val
      omega
  · refine View.read_writes_cons_unit_of_not_mem v f inb w L _ rfl 0 ?_
    change s.val < a ∨ a + 1 ≤ s.val
    omega

/-- A stored block is read at its own entries. -/
theorem hit (a b : ℕ) (inb) (w) (L) (s : Fin 2) (i : Fin 8) (r : Fin 128) (y : Fin 256) (hs : s.val = a) (hi : i.val = b) :
    v.read (Elt Ideal) (v.writes (Elt Ideal) f ((⟨Rect.unit (s := S2x8x128x256) ![a, b, 0, 0] S1x1x128x256.size inb, w⟩ : View.Piece (Elt Ideal) S2x8x128x256 e) :: L)) (ix4 s i r y)
      = w (ix4 (0 : Fin 1) (0 : Fin 1) r y) := by
  refine View.read_writes_cons_unit_of_mem v f inb w L _ _ rfl fun d => ?_
  subst hs hi
  match d with
  | ⟨0, _⟩ => rfl
  | ⟨1, _⟩ => rfl
  | ⟨2, _⟩ => exact (Nat.zero_add _).symm
  | ⟨3, _⟩ => exact (Nat.zero_add _).symm

theorem hith (a b k : ℕ) (inb) (w) (L) (s : Fin 2) (i : Fin 8) (r : Fin 128) (y : Fin 256) (y' : Fin 128) (hs : s.val = a) (hi : i.val = b) (hy : y.val = k + y'.val) :
    v.read (Elt Ideal) (v.writes (Elt Ideal) f ((⟨Rect.unit (s := S2x8x128x256) ![a, b, 0, k] S1x1x128x128.size inb, w⟩ : View.Piece (Elt Ideal) S2x8x128x256 e) :: L)) (ix4 s i r y)
      = w (ix4 (0 : Fin 1) (0 : Fin 1) r y') := by
  refine View.read_writes_cons_unit_of_mem v f inb w L _ _ rfl fun d => ?_
  subst hs hi
  match d with
  | ⟨0, _⟩ => rfl
  | ⟨1, _⟩ => rfl
  | ⟨2, _⟩ => exact (Nat.zero_add _).symm
  | ⟨3, _⟩ => exact hy

end Reads

/-- The score of a key for a query, of one head. -/
def score (kf qf : ℕ → ℕ → EReal) (h s q : ℕ) : EReal := ∑ d : Fin 64, kf s (64 * h + d.val) * qf (64 * h + d.val) q

/-- A slot holds the scores of the two key blocks from `kb` for the queries from `qb`. -/
def IsZ (Z : ℕ → ℕ → ℕ → EReal) (slot : Fin 2) (x : S2x8x128x256.Idx → EReal) (kb qb : ℕ) : Prop :=
  ∀ (i : Fin 8) (r : Fin 128) (y : Fin 256), x (ix4 slot i r y) = Z (i.val % 4) (kb + 128 * (1 - i.val / 4) + r.val) (qb + y.val)

/-- A slot holds their weights. -/
def IsA (Z : ℕ → ℕ → ℕ → EReal) (slot : Fin 2) (x : S2x8x128x256.Idx → EReal) (kb qb : ℕ) : Prop :=
  ∀ (i : Fin 8) (r : Fin 128) (y : Fin 256), x (ix4 slot i r y) = AttnMath.weight (Z (i.val % 4)) (qb + 256) (kb + 128 * (1 - i.val / 4) + r.val) (qb + y.val)

/-- A slot is left as it was. -/
def Same (slot : Fin 2) (x x' : S2x8x128x256.Idx → EReal) : Prop :=
  ∀ (i : Fin 8) (r : Fin 128) (y : Fin 256), x' (ix4 slot i r y) = x (ix4 slot i r y)

/-- One head's carry: what the keys from `kb` on leave of the stick. -/
def IsC1 (Z : ℕ → ℕ → EReal) (g : FVec Ideal S1x256 .f32) (kb qb : ℕ) : Prop :=
  ∀ y : Fin 256, g (ix2 (0 : Fin 1) y) = ∑ t ∈ Finset.Ico kb (qb + 256), AttnMath.left Z (qb + y.val) t

/-- The four heads' carries. -/
abbrev C4 := FVec Ideal S1x256 .f32 × FVec Ideal S1x256 .f32 × FVec Ideal S1x256 .f32 × FVec Ideal S1x256 .f32

/-- Each head's carry. -/
def IsC (Z : ℕ → ℕ → ℕ → EReal) (g : C4) (kb qb : ℕ) : Prop :=
  IsC1 (Z 0) g.1 kb qb ∧ IsC1 (Z 1) g.2.1 kb qb ∧ IsC1 (Z 2) g.2.2.1 kb qb ∧ IsC1 (Z 3) g.2.2.2 kb qb

/-- The sums so far, of the keys from `kb` on. -/
def IsAcc (Z : ℕ → ℕ → ℕ → EReal) (vf : ℕ → ℕ → EReal) (x : S256x256.Idx → EReal) (kb qb : ℕ) : Prop :=
  ∀ d y : Fin 256, x (ix2 d y) = ∑ t ∈ Finset.Ico kb (qb + 256), vf d.val t * AttnMath.weight (Z (d.val / 64)) (qb + 256) t (qb + y.val)

/-- A window holds a matrix. -/
def Is3 (kf : ℕ → ℕ → EReal) (x : S2048x256.Idx → EReal) : Prop := ∀ (a : Fin 2048) (b : Fin 256), x (ix2 a b) = kf a.val b.val
def Is2 (qf : ℕ → ℕ → EReal) (x : S1x256x2048.Idx → EReal) : Prop := ∀ (a : Fin 256) (b : Fin 2048), x (ix3 (0 : Fin 1) a b) = qf a.val b.val

section Items

variable {kf qf : ℕ → ℕ → EReal}
variable (v3 : View sig .tc .vmem S2048x256 .bf16) (f3 : v3.ty.Contents (Elt Ideal)) (v2 : View sig .tc .vmem S1x256x2048 .bf16) (f2 : v2.ty.Contents (Elt Ideal))

theorem ldK (h3 : Is3 kf (v3.read (Elt Ideal) f3)) (o : Fin 2 → ℕ) (inb) (ko p : ℕ) (ho : o = ![ko, 128 * p]) (r d : Fin 128) :
    v3.readAt (Elt Ideal) (Rect.unit (s := S2048x256) o S128x128.size inb).toLoadRect f3 (ix2 r d) = kf (ko + r.val) (128 * p + d.val) := by
  subst ho
  have b0 : ko + 128 ≤ 2048 := inb 0
  have b1 : 128 * p + 128 ≤ 256 := inb 1
  refine (ld v3 f3 _ _ inb _ (ix2 (⟨ko + r.val, by omega⟩ : Fin 2048) (⟨128 * p + d.val, by omega⟩ : Fin 256)) fun a => ?_).trans (h3 _ _)
  match a with
  | ⟨0, _⟩ => rfl
  | ⟨1, _⟩ => rfl

theorem ldQ (h2 : Is2 qf (v2.read (Elt Ideal) f2)) (q : Fin 3 → ℕ) (inb) (qb p : ℕ) (hq : q = ![0, 128 * p, qb]) (d : Fin 128) (y : Fin 256) :
    v2.readAt (Elt Ideal) (Rect.unit (s := S1x256x2048) q S1x128x256.size inb).toLoadRect f2 (ix3 (0 : Fin 1) d y) = qf (128 * p + d.val) (qb + y.val) := by
  subst hq
  have b0 : qb + 256 ≤ 2048 := inb 2
  have b1 : 128 * p + 128 ≤ 256 := inb 1
  refine (ld v2 f2 _ _ inb _ (ix3 (0 : Fin 1) (⟨128 * p + d.val, by omega⟩ : Fin 256) (⟨qb + y.val, by omega⟩ : Fin 2048)) fun a => ?_).trans (h2 _ _)
  match a with
  | ⟨0, _⟩ => rfl
  | ⟨1, _⟩ => rfl
  | ⟨2, _⟩ => rfl

theorem item_low (h3 : Is3 kf (v3.read (Elt Ideal) f3)) (h2 : Is2 qf (v2.read (Elt Ideal) f2)) (o : Fin 2 → ℕ) (inb) (ko p : ℕ) (ho : o = ![ko, 128 * p])
    (q : Fin 3 → ℕ) (inb') (qb : ℕ) (hq : q = ![0, 128 * p, qb]) (r : Fin 128) (y : Fin 256) :
    k0_pay92 k0_pay443 (v3.readAt (Elt Ideal) (Rect.unit (s := S2048x256) o S128x128.size inb).toLoadRect f3)
      (v2.readAt (Elt Ideal) (Rect.unit (s := S1x256x2048) q S1x128x256.size inb').toLoadRect f2) (ix4 (0 : Fin 1) (0 : Fin 1) r y) = score kf qf (2 * p) (ko + r.val) (qb + y.val) := by
  refine (pay92_apply _ _ r y).trans (Finset.sum_congr rfl fun d _ => ?_)
  rw [ldK v3 f3 h3 o inb ko p ho, ldQ v2 f2 h2 q inb' qb p hq, show 64 * (2 * p) = 128 * p by omega]

theorem item_high (h3 : Is3 kf (v3.read (Elt Ideal) f3)) (h2 : Is2 qf (v2.read (Elt Ideal) f2)) (o : Fin 2 → ℕ) (inb) (ko p : ℕ) (ho : o = ![ko, 128 * p])
    (q : Fin 3 → ℕ) (inb') (qb : ℕ) (hq : q = ![0, 128 * p, qb]) (r : Fin 128) (y : Fin 256) :
    k0_pay93 k0_pay443 (v3.readAt (Elt Ideal) (Rect.unit (s := S2048x256) o S128x128.size inb).toLoadRect f3)
      (v2.readAt (Elt Ideal) (Rect.unit (s := S1x256x2048) q S1x128x256.size inb').toLoadRect f2) (ix4 (0 : Fin 1) (0 : Fin 1) r y) = score kf qf (2 * p + 1) (ko + r.val) (qb + y.val) := by
  refine (pay93_apply _ _ r y).trans (Finset.sum_congr rfl fun d _ => ?_)
  rw [ldK v3 f3 h3 o inb ko p ho, ldQ v2 f2 h2 q inb' qb p hq, show 64 * (2 * p + 1) + d.val = 128 * p + (64 + d.val) by omega]

end Items

section Sums

variable (v : View sig .tc .vmem S256x256 .f32) (f : v.ty.Contents (Elt Ideal))

theorem ld6 (k : ℕ) (inb) (d : Fin 64) (y : Fin 256) (hk : k + 64 ≤ 256) :
    v.readAt (Elt Ideal) (Rect.unit (s := S256x256) ![k, 0] S64x256.size inb).toLoadRect f (ix2 d y) = v.read (Elt Ideal) f (ix2 (⟨k + d.val, by omega⟩ : Fin 256) y) := by
  refine ld v f _ _ inb _ _ fun a => ?_
  match a with
  | ⟨0, _⟩ => rfl
  | ⟨1, _⟩ => exact (Nat.zero_add _).symm

theorem skip6 (k : ℕ) (inb) (w) (L) (d y : Fin 256) (h : d.val < k ∨ k + 64 ≤ d.val) :
    v.read (Elt Ideal) (v.writes (Elt Ideal) f ((⟨Rect.unit (s := S256x256) ![k, 0] S64x256.size inb, w⟩ : View.Piece (Elt Ideal) S256x256 .f32) :: L)) (ix2 d y)
      = v.read (Elt Ideal) (v.writes (Elt Ideal) f L) (ix2 d y) :=
  View.read_writes_cons_unit_of_not_mem v f inb w L _ rfl 0 h

theorem hit6 (k : ℕ) (inb) (w) (L) (d y : Fin 256) (d' : Fin 64) (h : d.val = k + d'.val) :
    v.read (Elt Ideal) (v.writes (Elt Ideal) f ((⟨Rect.unit (s := S256x256) ![k, 0] S64x256.size inb, w⟩ : View.Piece (Elt Ideal) S256x256 .f32) :: L)) (ix2 d y)
      = w (ix2 d' y) := by
  refine View.read_writes_cons_unit_of_mem v f inb w L _ _ rfl fun a => ?_
  match a with
  | ⟨0, _⟩ => exact h
  | ⟨1, _⟩ => exact (Nat.zero_add _).symm

end Sums

/-- One head's sums take in a pair of key blocks. -/
theorem item_acc {Z : ℕ → ℕ → ℕ → EReal} {vf : ℕ → ℕ → EReal} (v4 : View sig .tc .vmem S1x256x2048 .bf16) (f4 : v4.ty.Contents (Elt Ideal))
    (v8 : View sig .tc .vmem S2x8x128x256 .bf16) (f8 : v8.ty.Contents (Elt Ideal)) (slot : Fin 2) (kb qb h : ℕ) (hh : h < 4) (hk : kb ≤ qb)
    (h4 : Is2 vf (v4.read (Elt Ideal) f4)) (h8 : IsA Z slot (v8.read (Elt Ideal) f8) kb qb) (cc : Vec Ideal S64x256 .f32)
    (hc : ∀ (d : Fin 64) (y : Fin 256), cc (ix2 d y) = ∑ t ∈ Finset.Ico (kb + 256) (qb + 256), vf (64 * h + d.val) t * AttnMath.weight (Z h) (qb + 256) t (qb + y.val))
    (o0 o1 : Fin 3 → ℕ) (i0 i1) (q0 q1 : Fin 4 → ℕ) (j0 j1) (e0 : o0 = ![0, 64 * h, kb + 128]) (e1 : o1 = ![0, 64 * h, kb])
    (e2 : q0 = ![slot.val, h, 0, 0]) (e3 : q1 = ![slot.val, 4 + h, 0, 0]) (d : Fin 64) (y : Fin 256) :
    k0_pay89 cc (v4.readAt (Elt Ideal) (Rect.unit (s := S1x256x2048) o0 S1x64x128.size i0).toLoadRect f4)
      (v8.readAt (Elt Ideal) (Rect.unit (s := S2x8x128x256) q0 S1x1x128x256.size j0).toLoadRect f8)
      (v4.readAt (Elt Ideal) (Rect.unit (s := S1x256x2048) o1 S1x64x128.size i1).toLoadRect f4)
      (v8.readAt (Elt Ideal) (Rect.unit (s := S2x8x128x256) q1 S1x1x128x256.size j1).toLoadRect f8) (ix2 d y)
      = ∑ t ∈ Finset.Ico kb (qb + 256), vf (64 * h + d.val) t * AttnMath.weight (Z h) (qb + 256) t (qb + y.val) := by
  subst e0 e1 e2 e3
  have b0 : kb + 128 + 128 ≤ 2048 := i0 2
  have ev : ∀ (k : ℕ) (hk : k + 128 ≤ 2048) (i) (r : Fin 128), v4.readAt (Elt Ideal) (Rect.unit (s := S1x256x2048) ![0, 64 * h, k] S1x64x128.size i).toLoadRect f4 (ix3 (0 : Fin 1) d r)
      = vf (64 * h + d.val) (k + r.val) := fun k hk i r =>
    (ld v4 f4 _ _ i _ (ix3 (0 : Fin 1) (⟨64 * h + d.val, by omega⟩ : Fin 256) (⟨k + r.val, by omega⟩ : Fin 2048)) fun a => by
      match a with
      | ⟨0, _⟩ => rfl
      | ⟨1, _⟩ => rfl
      | ⟨2, _⟩ => rfl).trans (h4 _ _)
  rw [pay89_apply, hc d y, ← Finset.sum_Ico_consecutive _ (show kb ≤ kb + 256 by omega) (show kb + 256 ≤ qb + 256 by omega),
    ← Finset.sum_Ico_consecutive _ (show kb ≤ kb + 128 by omega) (show kb + 128 ≤ kb + 256 by omega),
    AttnMath.sum_Ico_block _ kb 128, show kb + 256 = kb + 128 + 128 from rfl, AttnMath.sum_Ico_block _ (kb + 128) 128]
  have s0 : ∀ r : Fin 128, v4.readAt (Elt Ideal) (Rect.unit (s := S1x256x2048) ![0, 64 * h, kb + 128] S1x64x128.size i0).toLoadRect f4 (ix3 (0 : Fin 1) d r)
      * v8.readAt (Elt Ideal) (Rect.unit (s := S2x8x128x256) ![slot.val, h, 0, 0] S1x1x128x256.size j0).toLoadRect f8 (ix4 (0 : Fin 1) (0 : Fin 1) r y)
      = vf (64 * h + d.val) (kb + 128 + r.val) * AttnMath.weight (Z h) (qb + 256) (kb + 128 + r.val) (qb + y.val) := fun r => by
    rw [ev _ (by omega), ld4 v8 f8 slot.val h j0 slot ⟨h, by omega⟩ r y rfl rfl, h8]
    show _ * AttnMath.weight (Z (h % 4)) _ (kb + 128 * (1 - h / 4) + r.val) _ = _
    rw [Nat.mod_eq_of_lt hh, Nat.div_eq_of_lt hh]
  have s1 : ∀ r : Fin 128, v4.readAt (Elt Ideal) (Rect.unit (s := S1x256x2048) ![0, 64 * h, kb] S1x64x128.size i1).toLoadRect f4 (ix3 (0 : Fin 1) d r)
      * v8.readAt (Elt Ideal) (Rect.unit (s := S2x8x128x256) ![slot.val, 4 + h, 0, 0] S1x1x128x256.size j1).toLoadRect f8 (ix4 (0 : Fin 1) (0 : Fin 1) r y)
      = vf (64 * h + d.val) (kb + r.val) * AttnMath.weight (Z h) (qb + 256) (kb + r.val) (qb + y.val) := fun r => by
    rw [ev _ (by omega), ld4 v8 f8 slot.val (4 + h) j1 slot ⟨4 + h, by omega⟩ r y rfl rfl, h8]
    show _ * AttnMath.weight (Z ((4 + h) % 4)) _ (kb + 128 * (1 - (4 + h) / 4) + r.val) _ = _
    rw [show (4 + h) % 4 = h by omega, show (4 + h) / 4 = 1 by omega, Nat.sub_self, Nat.mul_zero, show kb + 0 = kb from rfl]
  rw [Finset.sum_congr rfl fun r _ => s0 r, Finset.sum_congr rfl fun r _ => s1 r]
  ac_rfl

section Weights

variable {Z : ℕ → ℕ → EReal} (g : FVec Ideal S1x256 .f32) (z t : Vec Ideal S1x1x128x256 .f32) (ko qb : ℕ)

theorem item_w (hz : ∀ (r : Fin 128) (y : Fin 256), z (ix4 (0 : Fin 1) (0 : Fin 1) r y) = Z (ko + r.val) (qb + y.val))
    (ht : ∀ (r : Fin 128) (y : Fin 256), t (ix4 (0 : Fin 1) (0 : Fin 1) r y) = Z (ko + r.val) (qb + y.val) - drop (Z (ko + r.val) (qb + y.val)))
    (hg : IsC1 Z g (ko + 128) qb) (hk : ko + 128 ≤ qb) (r : Fin 128) (y : Fin 256) :
    k0_pay151 g (k0_pay111 k0_pay442 z) t (ix4 (0 : Fin 1) (0 : Fin 1) r y) = AttnMath.weight Z (qb + 256) (ko + r.val) (qb + y.val) := by
  rw [pay151_apply, pay111_apply, ht, hg y]
  unfold AttnMath.weight
  rw [if_pos (by omega), AttnMath.tail_block (AttnMath.left Z (qb + y.val)) ko r.val (qb + 256) r.isLt (by omega)]
  rw [AttnMath.sub_sub_nonneg]
  · refine congrArg (fun u : EReal => Ideal.exp (_ - (u + _))) (Finset.sum_congr rfl fun s _ => ?_)
    rw [hz]
    refine if_congr Iff.rfl ?_ rfl
    exact (if_pos (by omega)).symm
  · refine Finset.sum_nonneg fun s _ => ?_
    split
    · exact AttnMath.drop_nonneg _
    · exact le_refl _
  · exact Finset.sum_nonneg fun s _ => AttnMath.left_nonneg _ _ _

theorem item_c (hz : ∀ (r : Fin 128) (y : Fin 256), z (ix4 (0 : Fin 1) (0 : Fin 1) r y) = Z (ko + r.val) (qb + y.val))
    (hg : IsC1 Z g (ko + 128) qb) (hk : ko + 128 ≤ qb) :
    IsC1 Z (k0_pay152 g (k0_pay110 z) (k0_pay111 k0_pay442 z)) ko qb := by
  intro y
  rw [pay152_apply, pay110_apply, pay111_apply, hg y, AttnMath.full_block _ ko (qb + 256) (by omega)]
  refine congrArg₂ (fun a b : EReal => _ + (a + b)) (Finset.sum_congr rfl fun s _ => ?_) ?_
  · rw [hz]
    refine if_congr Iff.rfl ?_ rfl
    exact (if_pos (by omega)).symm
  · rw [hz]
    exact (if_pos (by omega)).symm

theorem item_d (hz : ∀ (r : Fin 128) (y : Fin 256), z (ix4 (0 : Fin 1) (0 : Fin 1) r y) = Z (qb + r.val) (qb + y.val))
    (ht : ∀ (r : Fin 128) (y : Fin 256), t (ix4 (0 : Fin 1) (0 : Fin 1) r y) = Z (qb + r.val) (qb + y.val) - if r.val < y.val then drop (Z (qb + r.val) (qb + y.val)) else 0)
    (hg : IsC1 Z g (qb + 128) qb) (r : Fin 128) (y : Fin 256) :
    k0_pay410 i0 i1 (k0_pay374 i0 i1 k0_pay442 z) g t (ix4 (0 : Fin 1) (0 : Fin 1) r y) = AttnMath.weight Z (qb + 256) (qb + r.val) (qb + y.val) := by
  rw [pay410_apply, pay374_apply, ht, hg y]
  unfold AttnMath.weight
  by_cases hr : r.val < y.val
  · rw [if_pos hr, if_pos (show qb + r.val < qb + y.val by omega), if_pos hr, AttnMath.tail_block (AttnMath.left Z (qb + y.val)) qb r.val (qb + 256) r.isLt (by omega)]
    rw [AttnMath.sub_sub_nonneg]
    · refine congrArg (fun u : EReal => Ideal.exp (_ - (u + _))) (Finset.sum_congr rfl fun s _ => ?_)
      rw [hz]
      refine if_congr Iff.rfl ?_ rfl
      exact if_congr (by omega) rfl rfl
    · refine Finset.sum_nonneg fun s _ => ?_
      split
      · split
        · exact AttnMath.drop_nonneg _
        · exact le_refl _
      · exact le_refl _
    · exact Finset.sum_nonneg fun s _ => AttnMath.left_nonneg _ _ _
  · rw [if_neg hr, if_neg (by omega)]

theorem item_e (hz : ∀ (r : Fin 128) (y : Fin 256), z (ix4 (0 : Fin 1) (0 : Fin 1) r y) = Z (qb + r.val) (qb + y.val))
    (hg : IsC1 Z g (qb + 128) qb) :
    IsC1 Z (k0_pay411 (k0_pay373 i0 i1 z) (k0_pay374 i0 i1 k0_pay442 z) g) qb qb := by
  intro y
  rw [pay411_apply, pay373_apply, pay374_apply, hg y, AttnMath.full_block _ qb (qb + 256) (by omega)]
  refine congrArg₂ (fun a b : EReal => _ + (a + b)) (Finset.sum_congr rfl fun s _ => ?_) ?_
  · rw [hz]
    refine if_congr Iff.rfl ?_ rfl
    exact if_congr (by omega) rfl rfl
  · rw [hz]
    exact if_congr (by omega) rfl rfl

end Weights

section Corner

variable {Z : ℕ → ℕ → EReal} (z t : Vec Ideal S1x1x128x128 .f32) (qb : ℕ)

theorem sum_none (f : ℕ → EReal) (k : ℕ) : ∑ s ∈ Finset.Ico k k, f s = 0 := by rw [Finset.Ico_self]; rfl

theorem item_d0 (hz : ∀ r y : Fin 128, z (ix4 (0 : Fin 1) (0 : Fin 1) r y) = Z (qb + 128 + r.val) (qb + (128 + y.val)))
    (ht : ∀ r y : Fin 128, t (ix4 (0 : Fin 1) (0 : Fin 1) r y) = Z (qb + 128 + r.val) (qb + (128 + y.val)) - if r.val < y.val then drop (Z (qb + 128 + r.val) (qb + (128 + y.val))) else 0)
    (r y : Fin 128) :
    k0_pay397 i2 i3 k0_pay340 (k0_pay348 i2 i3 k0_pay442 z) t (ix4 (0 : Fin 1) (0 : Fin 1) r y) = AttnMath.weight Z (qb + 256) (qb + 128 + r.val) (qb + (128 + y.val)) := by
  rw [pay397_apply, pay348_apply, ht, pay340_apply]
  unfold AttnMath.weight
  by_cases hr : r.val < y.val
  · rw [if_pos hr, if_pos (show qb + 128 + r.val < qb + (128 + y.val) by omega), if_pos hr,
      AttnMath.tail_block (AttnMath.left Z (qb + (128 + y.val))) (qb + 128) r.val (qb + 256) r.isLt (by omega), sum_none, add_zero, sub_zero]
    refine congrArg (fun u : EReal => Ideal.exp (_ - u)) (Finset.sum_congr rfl fun s _ => ?_)
    rw [hz]
    refine if_congr Iff.rfl ?_ rfl
    exact if_congr (by omega) rfl rfl
  · rw [if_neg hr, if_neg (by omega)]

theorem item_c0 (hz : ∀ r y : Fin 128, z (ix4 (0 : Fin 1) (0 : Fin 1) r y) = Z (qb + 128 + r.val) (qb + (128 + y.val))) :
    IsC1 Z (k0_pay398 k0_pay340 (k0_pay347 i2 i3 z) (k0_pay348 i2 i3 k0_pay442 z)) (qb + 128) qb := by
  intro y
  rw [pay398_apply, pay340_apply, zero_add]
  by_cases hy : y.val < 128
  · rw [dif_pos hy]
    exact (Finset.sum_eq_zero fun t ht => if_neg (by have := (Finset.mem_Ico.mp ht).1; omega)).symm
  · rw [dif_neg hy, pay347_apply, pay348_apply, AttnMath.full_block _ (qb + 128) (qb + 256) (by omega), sum_none, zero_add]
    refine congrArg₂ (fun a b : EReal => a + b) (Finset.sum_congr rfl fun s _ => ?_) ?_
    · rw [hz]
      refine if_congr Iff.rfl ?_ rfl
      show (if s.val < y.val - 128 then drop (Z _ (qb + (128 + (y.val - 128)))) else 0) = AttnMath.left Z (qb + y.val) (qb + 128 + s.val)
      rw [show 128 + (y.val - 128) = y.val by omega]
      exact if_congr (by omega) rfl rfl
    · rw [hz]
      show (if 0 < y.val - 128 then drop (Z (qb + 128 + 0) (qb + (128 + (y.val - 128)))) else 0) = AttnMath.left Z (qb + y.val) (qb + 128)
      rw [show 128 + (y.val - 128) = y.val by omega]
      exact if_congr (by omega) rfl rfl

theorem weight_late (B r q : ℕ) (h : q ≤ r) : AttnMath.weight Z B r q = 0 := if_neg (by omega)

end Corner

variable (c : Dev nD) (arg2 : Memref sig .tc .vmem S1x256x2048 .bf16) (arg3 : Memref sig .tc .vmem S2048x256 .bf16) (arg4 : Memref sig .tc .vmem S1x256x2048 .bf16)
  (arg6 : Memref sig .tc .vmem S256x256 .f32) (arg7 : Memref sig .tc .vmem S2x8x128x256 .f32) (arg8 : Memref sig .tc .vmem S2x8x128x256 .bf16) (harg8 : arg8.IsWhole)

theorem sc0_spec {kf qf : ℕ → ℕ → EReal} (kb qb : ℕ) (o ho q hq) (ho' : ∀ b p, o b p = ![kb + 128 * (1 - b.val), 128 * p.val]) (hq' : ∀ p, q p = ![0, 128 * p.val, qb]) (f2 f3 f7)
    (h2 : Is2 qf (arg2.view.read (Elt Ideal) f2)) (h3 : Is3 kf (arg3.view.read (Elt Ideal) f3)) :
    (iprop(pt c arg2 f2 ∗ pt c arg3 f3 ∗ pt c arg7 f7) : sProp 𝕄)
    ⊢ wp frame (wpE (defs₀ (F := Ideal)) Variants.none (c : Thread nD τ) none) Set.univ (scP0 arg2 arg3 arg7 k0_pay443 o ho q hq)
        (fun _ => iprop(pt c arg2 f2 ∗ pt c arg3 f3 ∗ ∃ f, ⌜IsZ (score kf qf) 0 (arg7.view.read (Elt Ideal) f) kb qb
          ∧ Same 1 (arg7.view.read (Elt Ideal) f7) (arg7.view.read (Elt Ideal) f)⌝ ∗ pt c arg7 f)) := by
  unfold scP0
  iintro ⟨H2, H3, H7⟩
  sl_exec
  sl_step
  isplitl [H2]; · iexact H2
  isplitl [H3]; · iexact H3
  iexists _
  isplitr
  rotate_left
  · iexact H7
  · ipureintro
    refine ⟨fun i r y => ?_, fun i r y => ?_⟩
    · fin_cases i
      · exact (skip _ _ 0 7 0 256 _ _ _ 0 0 r y (by simp)).trans <| (skip _ _ 0 6 0 256 _ _ _ 0 0 r y (by simp)).trans <| (skip _ _ 0 5 0 256 _ _ _ 0 0 r y (by simp)).trans <| (skip _ _ 0 4 0 256 _ _ _ 0 0 r y (by simp)).trans <| (skip _ _ 0 3 0 256 _ _ _ 0 0 r y (by simp)).trans <| (skip _ _ 0 2 0 256 _ _ _ 0 0 r y (by simp)).trans <| (skip _ _ 0 1 0 256 _ _ _ 0 0 r y (by simp)).trans <| (hit _ _ 0 0 _ _ _ 0 0 r y rfl rfl).trans
          (item_low _ _ _ _ h3 h2 _ _ _ 0 (ho' 0 0) _ _ _ (hq' 0) r y)
      · exact (skip _ _ 0 7 0 256 _ _ _ 0 1 r y (by simp)).trans <| (skip _ _ 0 6 0 256 _ _ _ 0 1 r y (by simp)).trans <| (skip _ _ 0 5 0 256 _ _ _ 0 1 r y (by simp)).trans <| (skip _ _ 0 4 0 256 _ _ _ 0 1 r y (by simp)).trans <| (skip _ _ 0 3 0 256 _ _ _ 0 1 r y (by simp)).trans <| (skip _ _ 0 2 0 256 _ _ _ 0 1 r y (by simp)).trans <| (hit _ _ 0 1 _ _ _ 0 1 r y rfl rfl).trans
          (item_high _ _ _ _ h3 h2 _ _ _ 0 (ho' 0 0) _ _ _ (hq' 0) r y)
      · exact (skip _ _ 0 7 0 256 _ _ _ 0 2 r y (by simp)).trans <| (skip _ _ 0 6 0 256 _ _ _ 0 2 r y (by simp)).trans <| (skip _ _ 0 5 0 256 _ _ _ 0 2 r y (by simp)).trans <| (skip _ _ 0 4 0 256 _ _ _ 0 2 r y (by simp)).trans <| (skip _ _ 0 3 0 256 _ _ _ 0 2 r y (by simp)).trans <| (hit _ _ 0 2 _ _ _ 0 2 r y rfl rfl).trans
          (item_low _ _ _ _ h3 h2 _ _ _ 1 (ho' 0 1) _ _ _ (hq' 1) r y)
      · exact (skip _ _ 0 7 0 256 _ _ _ 0 3 r y (by simp)).trans <| (skip _ _ 0 6 0 256 _ _ _ 0 3 r y (by simp)).trans <| (skip _ _ 0 5 0 256 _ _ _ 0 3 r y (by simp)).trans <| (skip _ _ 0 4 0 256 _ _ _ 0 3 r y (by simp)).trans <| (hit _ _ 0 3 _ _ _ 0 3 r y rfl rfl).trans
          (item_high _ _ _ _ h3 h2 _ _ _ 1 (ho' 0 1) _ _ _ (hq' 1) r y)
      · exact (skip _ _ 0 7 0 256 _ _ _ 0 4 r y (by simp)).trans <| (skip _ _ 0 6 0 256 _ _ _ 0 4 r y (by simp)).trans <| (skip _ _ 0 5 0 256 _ _ _ 0 4 r y (by simp)).trans <| (hit _ _ 0 4 _ _ _ 0 4 r y rfl rfl).trans
          (item_low _ _ _ _ h3 h2 _ _ _ 0 (ho' 1 0) _ _ _ (hq' 0) r y)
      · exact (skip _ _ 0 7 0 256 _ _ _ 0 5 r y (by simp)).trans <| (skip _ _ 0 6 0 256 _ _ _ 0 5 r y (by simp)).trans <| (hit _ _ 0 5 _ _ _ 0 5 r y rfl rfl).trans
          (item_high _ _ _ _ h3 h2 _ _ _ 0 (ho' 1 0) _ _ _ (hq' 0) r y)
      · exact (skip _ _ 0 7 0 256 _ _ _ 0 6 r y (by simp)).trans <| (hit _ _ 0 6 _ _ _ 0 6 r y rfl rfl).trans
          (item_low _ _ _ _ h3 h2 _ _ _ 1 (ho' 1 1) _ _ _ (hq' 1) r y)
      · exact (hit _ _ 0 7 _ _ _ 0 7 r y rfl rfl).trans
          (item_high _ _ _ _ h3 h2 _ _ _ 1 (ho' 1 1) _ _ _ (hq' 1) r y)
    · exact (skip _ _ 0 7 0 256 _ _ _ 1 i r y (by simp)).trans <| (skip _ _ 0 6 0 256 _ _ _ 1 i r y (by simp)).trans <| (skip _ _ 0 5 0 256 _ _ _ 1 i r y (by simp)).trans <| (skip _ _ 0 4 0 256 _ _ _ 1 i r y (by simp)).trans <| (skip _ _ 0 3 0 256 _ _ _ 1 i r y (by simp)).trans <| (skip _ _ 0 2 0 256 _ _ _ 1 i r y (by simp)).trans <| (skip _ _ 0 1 0 256 _ _ _ 1 i r y (by simp)).trans <| (skip _ _ 0 0 0 256 _ _ _ 1 i r y (by simp)).trans <| rfl

theorem sc1_spec {kf qf : ℕ → ℕ → EReal} (kb qb : ℕ) (o ho q hq) (ho' : ∀ b p, o b p = ![kb + 128 * (1 - b.val), 128 * p.val]) (hq' : ∀ p, q p = ![0, 128 * p.val, qb]) (f2 f3 f7)
    (h2 : Is2 qf (arg2.view.read (Elt Ideal) f2)) (h3 : Is3 kf (arg3.view.read (Elt Ideal) f3)) :
    (iprop(pt c arg2 f2 ∗ pt c arg3 f3 ∗ pt c arg7 f7) : sProp 𝕄)
    ⊢ wp frame (wpE (defs₀ (F := Ideal)) Variants.none (c : Thread nD τ) none) Set.univ (scP1 arg2 arg3 arg7 k0_pay443 o ho q hq)
        (fun _ => iprop(pt c arg2 f2 ∗ pt c arg3 f3 ∗ ∃ f, ⌜IsZ (score kf qf) 1 (arg7.view.read (Elt Ideal) f) kb qb
          ∧ Same 0 (arg7.view.read (Elt Ideal) f7) (arg7.view.read (Elt Ideal) f)⌝ ∗ pt c arg7 f)) := by
  unfold scP1
  iintro ⟨H2, H3, H7⟩
  sl_exec
  sl_step
  isplitl [H2]; · iexact H2
  isplitl [H3]; · iexact H3
  iexists _
  isplitr
  rotate_left
  · iexact H7
  · ipureintro
    refine ⟨fun i r y => ?_, fun i r y => ?_⟩
    · fin_cases i
      · exact (skip _ _ 1 7 0 256 _ _ _ 1 0 r y (by simp)).trans <| (skip _ _ 1 6 0 256 _ _ _ 1 0 r y (by simp)).trans <| (skip _ _ 1 5 0 256 _ _ _ 1 0 r y (by simp)).trans <| (skip _ _ 1 4 0 256 _ _ _ 1 0 r y (by simp)).trans <| (skip _ _ 1 3 0 256 _ _ _ 1 0 r y (by simp)).trans <| (skip _ _ 1 2 0 256 _ _ _ 1 0 r y (by simp)).trans <| (skip _ _ 1 1 0 256 _ _ _ 1 0 r y (by simp)).trans <| (hit _ _ 1 0 _ _ _ 1 0 r y rfl rfl).trans
          (item_low _ _ _ _ h3 h2 _ _ _ 0 (ho' 0 0) _ _ _ (hq' 0) r y)
      · exact (skip _ _ 1 7 0 256 _ _ _ 1 1 r y (by simp)).trans <| (skip _ _ 1 6 0 256 _ _ _ 1 1 r y (by simp)).trans <| (skip _ _ 1 5 0 256 _ _ _ 1 1 r y (by simp)).trans <| (skip _ _ 1 4 0 256 _ _ _ 1 1 r y (by simp)).trans <| (skip _ _ 1 3 0 256 _ _ _ 1 1 r y (by simp)).trans <| (skip _ _ 1 2 0 256 _ _ _ 1 1 r y (by simp)).trans <| (hit _ _ 1 1 _ _ _ 1 1 r y rfl rfl).trans
          (item_high _ _ _ _ h3 h2 _ _ _ 0 (ho' 0 0) _ _ _ (hq' 0) r y)
      · exact (skip _ _ 1 7 0 256 _ _ _ 1 2 r y (by simp)).trans <| (skip _ _ 1 6 0 256 _ _ _ 1 2 r y (by simp)).trans <| (skip _ _ 1 5 0 256 _ _ _ 1 2 r y (by simp)).trans <| (skip _ _ 1 4 0 256 _ _ _ 1 2 r y (by simp)).trans <| (skip _ _ 1 3 0 256 _ _ _ 1 2 r y (by simp)).trans <| (hit _ _ 1 2 _ _ _ 1 2 r y rfl rfl).trans
          (item_low _ _ _ _ h3 h2 _ _ _ 1 (ho' 0 1) _ _ _ (hq' 1) r y)
      · exact (skip _ _ 1 7 0 256 _ _ _ 1 3 r y (by simp)).trans <| (skip _ _ 1 6 0 256 _ _ _ 1 3 r y (by simp)).trans <| (skip _ _ 1 5 0 256 _ _ _ 1 3 r y (by simp)).trans <| (skip _ _ 1 4 0 256 _ _ _ 1 3 r y (by simp)).trans <| (hit _ _ 1 3 _ _ _ 1 3 r y rfl rfl).trans
          (item_high _ _ _ _ h3 h2 _ _ _ 1 (ho' 0 1) _ _ _ (hq' 1) r y)
      · exact (skip _ _ 1 7 0 256 _ _ _ 1 4 r y (by simp)).trans <| (skip _ _ 1 6 0 256 _ _ _ 1 4 r y (by simp)).trans <| (skip _ _ 1 5 0 256 _ _ _ 1 4 r y (by simp)).trans <| (hit _ _ 1 4 _ _ _ 1 4 r y rfl rfl).trans
          (item_low _ _ _ _ h3 h2 _ _ _ 0 (ho' 1 0) _ _ _ (hq' 0) r y)
      · exact (skip _ _ 1 7 0 256 _ _ _ 1 5 r y (by simp)).trans <| (skip _ _ 1 6 0 256 _ _ _ 1 5 r y (by simp)).trans <| (hit _ _ 1 5 _ _ _ 1 5 r y rfl rfl).trans
          (item_high _ _ _ _ h3 h2 _ _ _ 0 (ho' 1 0) _ _ _ (hq' 0) r y)
      · exact (skip _ _ 1 7 0 256 _ _ _ 1 6 r y (by simp)).trans <| (hit _ _ 1 6 _ _ _ 1 6 r y rfl rfl).trans
          (item_low _ _ _ _ h3 h2 _ _ _ 1 (ho' 1 1) _ _ _ (hq' 1) r y)
      · exact (hit _ _ 1 7 _ _ _ 1 7 r y rfl rfl).trans
          (item_high _ _ _ _ h3 h2 _ _ _ 1 (ho' 1 1) _ _ _ (hq' 1) r y)
    · exact (skip _ _ 1 7 0 256 _ _ _ 0 i r y (by simp)).trans <| (skip _ _ 1 6 0 256 _ _ _ 0 i r y (by simp)).trans <| (skip _ _ 1 5 0 256 _ _ _ 0 i r y (by simp)).trans <| (skip _ _ 1 4 0 256 _ _ _ 0 i r y (by simp)).trans <| (skip _ _ 1 3 0 256 _ _ _ 0 i r y (by simp)).trans <| (skip _ _ 1 2 0 256 _ _ _ 0 i r y (by simp)).trans <| (skip _ _ 1 1 0 256 _ _ _ 0 i r y (by simp)).trans <| (skip _ _ 1 0 0 256 _ _ _ 0 i r y (by simp)).trans <| rfl

theorem acc_spec {Z : ℕ → ℕ → ℕ → EReal} {vf : ℕ → ℕ → EReal} (slot : Fin 2) (kb qb : ℕ) (hk : kb ≤ qb) (o ho q hq) (ho' : ∀ h b, o h b = ![0, 64 * h.val, kb + 128 * (1 - b.val)])
    (hq' : ∀ h b, q h b = ![slot.val, 4 * b.val + h.val, 0, 0]) (f4 f6 f8)
    (h4 : Is2 vf (arg4.view.read (Elt Ideal) f4)) (h6 : IsAcc Z vf (arg6.view.read (Elt Ideal) f6) (kb + 256) qb) (h8 : IsA Z slot (arg8.view.read (Elt Ideal) f8) kb qb) :
    (iprop(pt c arg4 f4 ∗ pt c arg6 f6 ∗ pt c arg8 f8) : sProp 𝕄)
    ⊢ wp frame (wpE (defs₀ (F := Ideal)) Variants.none (c : Thread nD τ) none) Set.univ (accP arg4 arg6 arg8 o ho q hq)
        (fun _ => iprop(pt c arg4 f4 ∗ (∃ f, ⌜IsAcc Z vf (arg6.view.read (Elt Ideal) f) kb qb⌝ ∗ pt c arg6 f) ∗ pt c arg8 f8)) := by
  unfold accP
  iintro ⟨H4, H6, H8⟩
  sl_exec
  sl_step
  isplitl [H4]; · iexact H4
  isplitr [H8]
  rotate_left
  · iexact H8
  iexists _
  isplitr
  rotate_left
  · iexact H6
  · ipureintro
    have hc0 : ∀ (d : Fin 64) (y : Fin 256), (arg6.view.readAt (Elt Ideal) (Rect.unit (s := S256x256) ![0, 0] S64x256.size inb_S256x256_S64x256_0_0).toLoadRect f6) (ix2 d y) = ∑ t ∈ Finset.Ico (kb + 256) (qb + 256), vf (64 * 0 + d.val) t * AttnMath.weight (Z 0) (qb + 256) t (qb + y.val) := by
      intro d y
      refine (ld6 _ _ 0 _ d y (by decide)).trans ?_
      refine (h6 _ _).trans ?_
      refine Finset.sum_congr rfl fun t _ => ?_
      show _ * AttnMath.weight (Z ((0 + d.val) / 64)) _ _ _ = _
      rw [show (0 + d.val) / 64 = 0 by omega]
    have hc1 : ∀ (d : Fin 64) (y : Fin 256), (acc_spec.sl.c1 arg6 f6) (ix2 d y) = ∑ t ∈ Finset.Ico (kb + 256) (qb + 256), vf (64 * 1 + d.val) t * AttnMath.weight (Z 1) (qb + 256) t (qb + y.val) := by
      intro d y
      refine (ld6 _ _ 64 _ d y (by decide)).trans ?_
      refine (h6 _ _).trans ?_
      refine Finset.sum_congr rfl fun t _ => ?_
      show _ * AttnMath.weight (Z ((64 + d.val) / 64)) _ _ _ = _
      rw [show (64 + d.val) / 64 = 1 by omega]
    have hc2 : ∀ (d : Fin 64) (y : Fin 256), (acc_spec.sl.c2 arg6 f6) (ix2 d y) = ∑ t ∈ Finset.Ico (kb + 256) (qb + 256), vf (64 * 2 + d.val) t * AttnMath.weight (Z 2) (qb + 256) t (qb + y.val) := by
      intro d y
      refine (ld6 _ _ 128 _ d y (by decide)).trans ?_
      refine (h6 _ _).trans ?_
      refine Finset.sum_congr rfl fun t _ => ?_
      show _ * AttnMath.weight (Z ((128 + d.val) / 64)) _ _ _ = _
      rw [show (128 + d.val) / 64 = 2 by omega]
    have hc3 : ∀ (d : Fin 64) (y : Fin 256), (acc_spec.sl.c3 arg6 f6) (ix2 d y) = ∑ t ∈ Finset.Ico (kb + 256) (qb + 256), vf (64 * 3 + d.val) t * AttnMath.weight (Z 3) (qb + 256) t (qb + y.val) := by
      intro d y
      refine (ld6 _ _ 192 _ d y (by decide)).trans ?_
      refine (h6 _ _).trans ?_
      refine Finset.sum_congr rfl fun t _ => ?_
      show _ * AttnMath.weight (Z ((192 + d.val) / 64)) _ _ _ = _
      rw [show (192 + d.val) / 64 = 3 by omega]
    intro d y
    have hd : d.val < 64 ∨ (64 ≤ d.val ∧ d.val < 128) ∨ (128 ≤ d.val ∧ d.val < 192) ∨ 192 ≤ d.val := by omega
    rcases hd with h | h | h | h
    · refine (skip6 _ _ 192 _ _ _ d y (by omega)).trans <| (skip6 _ _ 128 _ _ _ d y (by omega)).trans <| (skip6 _ _ 64 _ _ _ d y (by omega)).trans <| (hit6 _ _ 0 _ _ _ d y ⟨d.val - 0, by omega⟩ (show d.val = 0 + (d.val - 0) by omega)).trans ?_
      refine (item_acc _ _ _ _ slot kb qb 0 (by decide) hk h4 h8 _ hc0 _ _ _ _ _ _ _ _ (ho' 0 0) (ho' 0 1) (hq' 0 0) (hq' 0 1) _ y).trans ?_
      show ∑ t ∈ _, vf (64 * 0 + (d.val - 0)) t * _ = ∑ t ∈ _, vf d.val t * AttnMath.weight (Z (d.val / 64)) _ _ _
      rw [show 64 * 0 + (d.val - 0) = d.val by omega, show d.val / 64 = 0 by omega]
    · refine (skip6 _ _ 192 _ _ _ d y (by omega)).trans <| (skip6 _ _ 128 _ _ _ d y (by omega)).trans <| (hit6 _ _ 64 _ _ _ d y ⟨d.val - 64, by omega⟩ (show d.val = 64 + (d.val - 64) by omega)).trans ?_
      refine (item_acc _ _ _ _ slot kb qb 1 (by decide) hk h4 h8 _ hc1 _ _ _ _ _ _ _ _ (ho' 1 0) (ho' 1 1) (hq' 1 0) (hq' 1 1) _ y).trans ?_
      show ∑ t ∈ _, vf (64 * 1 + (d.val - 64)) t * _ = ∑ t ∈ _, vf d.val t * AttnMath.weight (Z (d.val / 64)) _ _ _
      rw [show 64 * 1 + (d.val - 64) = d.val by omega, show d.val / 64 = 1 by omega]
    · refine (skip6 _ _ 192 _ _ _ d y (by omega)).trans <| (hit6 _ _ 128 _ _ _ d y ⟨d.val - 128, by omega⟩ (show d.val = 128 + (d.val - 128) by omega)).trans ?_
      refine (item_acc _ _ _ _ slot kb qb 2 (by decide) hk h4 h8 _ hc2 _ _ _ _ _ _ _ _ (ho' 2 0) (ho' 2 1) (hq' 2 0) (hq' 2 1) _ y).trans ?_
      show ∑ t ∈ _, vf (64 * 2 + (d.val - 128)) t * _ = ∑ t ∈ _, vf d.val t * AttnMath.weight (Z (d.val / 64)) _ _ _
      rw [show 64 * 2 + (d.val - 128) = d.val by omega, show d.val / 64 = 2 by omega]
    · refine (hit6 _ _ 192 _ _ _ d y ⟨d.val - 192, by omega⟩ (show d.val = 192 + (d.val - 192) by omega)).trans ?_
      refine (item_acc _ _ _ _ slot kb qb 3 (by decide) hk h4 h8 _ hc3 _ _ _ _ _ _ _ _ (ho' 3 0) (ho' 3 1) (hq' 3 0) (hq' 3 1) _ y).trans ?_
      show ∑ t ∈ _, vf (64 * 3 + (d.val - 192)) t * _ = ∑ t ∈ _, vf d.val t * AttnMath.weight (Z (d.val / 64)) _ _ _
      rw [show 64 * 3 + (d.val - 192) = d.val by omega, show d.val / 64 = 3 by omega]

set_option maxHeartbeats 4000000 in
theorem w0_spec {Z : ℕ → ℕ → ℕ → EReal} (kb qb : ℕ) (hk : kb + 256 ≤ qb) (g : C4) (hg : IsC Z g (kb + 256) qb) (f7 f8)
    (h7 : IsZ Z 0 (arg7.view.read (Elt Ideal) f7) kb qb) :
    (iprop(pt c arg7 f7 ∗ pt c arg8 f8) : sProp 𝕄)
    ⊢ wp frame (wpE (defs₀ (F := Ideal)) Variants.none (c : Thread nD τ) none) Set.univ (wP0 arg7 arg8 harg8 k0_pay442 g)
        (fun g' => iprop(∃ fa fb, ⌜Same 1 (arg7.view.read (Elt Ideal) f7) (arg7.view.read (Elt Ideal) fa)
          ∧ IsA Z 0 (arg8.view.read (Elt Ideal) fb) kb qb ∧ Same 1 (arg8.view.read (Elt Ideal) f8) (arg8.view.read (Elt Ideal) fb) ∧ IsC Z g' kb qb⌝ ∗ pt c arg7 fa ∗ pt c arg8 fb)) := by
  unfold wP0
  iintro ⟨H7, H8⟩
  sl_exec
  sl_step
  iexists _, _
  isplitr
  rotate_left
  · isplitl [H7]
    · iexact H7
    · iexact H8
  · ipureintro
    have hz0 : ∀ (r : Fin 128) (y : Fin 256), (arg7.view.readAt (Elt Ideal) (Rect.unit (s := S2x8x128x256) ![0, 0, 0, 0] S1x1x128x256.size inb_S2x8x128x256_S1x1x128x256_0_0_0_0).toLoadRect f7) (ix4 (0 : Fin 1) (0 : Fin 1) r y) = Z 0 (kb + 128 + r.val) (qb + y.val) := fun r y =>
      (ld4 _ _ 0 0 _ 0 0 r y rfl rfl).trans <| h7 0 r y
    have hy0 : ∀ (r : Fin 128) (y : Fin 256), (w0_spec.sl.y0 arg7 f7) (ix4 (0 : Fin 1) (0 : Fin 1) r y) = Z 0 (kb + 128 + r.val) (qb + y.val) - drop (Z 0 (kb + 128 + r.val) (qb + y.val)) := fun r y =>
      (ld4 _ _ 0 0 _ 0 0 r y rfl rfl).trans <| (skip _ _ 0 7 0 256 _ _ _ 0 0 r y (by simp)).trans <| (skip _ _ 0 6 0 256 _ _ _ 0 0 r y (by simp)).trans <| (skip _ _ 0 5 0 256 _ _ _ 0 0 r y (by simp)).trans <| (skip _ _ 0 4 0 256 _ _ _ 0 0 r y (by simp)).trans <| (skip _ _ 0 3 0 256 _ _ _ 0 0 r y (by simp)).trans <| (skip _ _ 0 2 0 256 _ _ _ 0 0 r y (by simp)).trans <| (skip _ _ 0 1 0 256 _ _ _ 0 0 r y (by simp)).trans <| (hit _ _ 0 0 _ _ _ 0 0 r y rfl rfl).trans <| (pay109_apply _ r y).trans <|
        congrArg (fun u : EReal => u - drop u) (hz0 r y)
    have hz1 : ∀ (r : Fin 128) (y : Fin 256), (w0_spec.sl.z1 arg7 f7) (ix4 (0 : Fin 1) (0 : Fin 1) r y) = Z 1 (kb + 128 + r.val) (qb + y.val) := fun r y =>
      (ld4 _ _ 0 1 _ 0 1 r y rfl rfl).trans <| h7 1 r y
    have hy1 : ∀ (r : Fin 128) (y : Fin 256), (w0_spec.sl.y1 arg7 f7) (ix4 (0 : Fin 1) (0 : Fin 1) r y) = Z 1 (kb + 128 + r.val) (qb + y.val) - drop (Z 1 (kb + 128 + r.val) (qb + y.val)) := fun r y =>
      (ld4 _ _ 0 1 _ 0 1 r y rfl rfl).trans <| (skip _ _ 0 7 0 256 _ _ _ 0 1 r y (by simp)).trans <| (skip _ _ 0 6 0 256 _ _ _ 0 1 r y (by simp)).trans <| (skip _ _ 0 5 0 256 _ _ _ 0 1 r y (by simp)).trans <| (skip _ _ 0 4 0 256 _ _ _ 0 1 r y (by simp)).trans <| (skip _ _ 0 3 0 256 _ _ _ 0 1 r y (by simp)).trans <| (skip _ _ 0 2 0 256 _ _ _ 0 1 r y (by simp)).trans <| (hit _ _ 0 1 _ _ _ 0 1 r y rfl rfl).trans <| (pay109_apply _ r y).trans <|
        congrArg (fun u : EReal => u - drop u) (hz1 r y)
    have hz2 : ∀ (r : Fin 128) (y : Fin 256), (w0_spec.sl.z2 arg7 f7) (ix4 (0 : Fin 1) (0 : Fin 1) r y) = Z 2 (kb + 128 + r.val) (qb + y.val) := fun r y =>
      (ld4 _ _ 0 2 _ 0 2 r y rfl rfl).trans <| h7 2 r y
    have hy2 : ∀ (r : Fin 128) (y : Fin 256), (w0_spec.sl.y2 arg7 f7) (ix4 (0 : Fin 1) (0 : Fin 1) r y) = Z 2 (kb + 128 + r.val) (qb + y.val) - drop (Z 2 (kb + 128 + r.val) (qb + y.val)) := fun r y =>
      (ld4 _ _ 0 2 _ 0 2 r y rfl rfl).trans <| (skip _ _ 0 7 0 256 _ _ _ 0 2 r y (by simp)).trans <| (skip _ _ 0 6 0 256 _ _ _ 0 2 r y (by simp)).trans <| (skip _ _ 0 5 0 256 _ _ _ 0 2 r y (by simp)).trans <| (skip _ _ 0 4 0 256 _ _ _ 0 2 r y (by simp)).trans <| (skip _ _ 0 3 0 256 _ _ _ 0 2 r y (by simp)).trans <| (hit _ _ 0 2 _ _ _ 0 2 r y rfl rfl).trans <| (pay109_apply _ r y).trans <|
        congrArg (fun u : EReal => u - drop u) (hz2 r y)
    have hz3 : ∀ (r : Fin 128) (y : Fin 256), (w0_spec.sl.z3 arg7 f7) (ix4 (0 : Fin 1) (0 : Fin 1) r y) = Z 3 (kb + 128 + r.val) (qb + y.val) := fun r y =>
      (ld4 _ _ 0 3 _ 0 3 r y rfl rfl).trans <| h7 3 r y
    have hy3 : ∀ (r : Fin 128) (y : Fin 256), (w0_spec.sl.y3 arg7 f7) (ix4 (0 : Fin 1) (0 : Fin 1) r y) = Z 3 (kb + 128 + r.val) (qb + y.val) - drop (Z 3 (kb + 128 + r.val) (qb + y.val)) := fun r y =>
      (ld4 _ _ 0 3 _ 0 3 r y rfl rfl).trans <| (skip _ _ 0 7 0 256 _ _ _ 0 3 r y (by simp)).trans <| (skip _ _ 0 6 0 256 _ _ _ 0 3 r y (by simp)).trans <| (skip _ _ 0 5 0 256 _ _ _ 0 3 r y (by simp)).trans <| (skip _ _ 0 4 0 256 _ _ _ 0 3 r y (by simp)).trans <| (hit _ _ 0 3 _ _ _ 0 3 r y rfl rfl).trans <| (pay109_apply _ r y).trans <|
        congrArg (fun u : EReal => u - drop u) (hz3 r y)
    have hz4 : ∀ (r : Fin 128) (y : Fin 256), (w0_spec.sl.z4 arg7 f7) (ix4 (0 : Fin 1) (0 : Fin 1) r y) = Z 0 (kb + r.val) (qb + y.val) := fun r y =>
      (ld4 _ _ 0 4 _ 0 4 r y rfl rfl).trans <| h7 4 r y
    have hy4 : ∀ (r : Fin 128) (y : Fin 256), (w0_spec.sl.y4 arg7 f7) (ix4 (0 : Fin 1) (0 : Fin 1) r y) = Z 0 (kb + r.val) (qb + y.val) - drop (Z 0 (kb + r.val) (qb + y.val)) := fun r y =>
      (ld4 _ _ 0 4 _ 0 4 r y rfl rfl).trans <| (skip _ _ 0 7 0 256 _ _ _ 0 4 r y (by simp)).trans <| (skip _ _ 0 6 0 256 _ _ _ 0 4 r y (by simp)).trans <| (skip _ _ 0 5 0 256 _ _ _ 0 4 r y (by simp)).trans <| (hit _ _ 0 4 _ _ _ 0 4 r y rfl rfl).trans <| (pay109_apply _ r y).trans <|
        congrArg (fun u : EReal => u - drop u) (hz4 r y)
    have hz5 : ∀ (r : Fin 128) (y : Fin 256), (w0_spec.sl.z5 arg7 f7) (ix4 (0 : Fin 1) (0 : Fin 1) r y) = Z 1 (kb + r.val) (qb + y.val) := fun r y =>
      (ld4 _ _ 0 5 _ 0 5 r y rfl rfl).trans <| h7 5 r y
    have hy5 : ∀ (r : Fin 128) (y : Fin 256), (w0_spec.sl.y5 arg7 f7) (ix4 (0 : Fin 1) (0 : Fin 1) r y) = Z 1 (kb + r.val) (qb + y.val) - drop (Z 1 (kb + r.val) (qb + y.val)) := fun r y =>
      (ld4 _ _ 0 5 _ 0 5 r y rfl rfl).trans <| (skip _ _ 0 7 0 256 _ _ _ 0 5 r y (by simp)).trans <| (skip _ _ 0 6 0 256 _ _ _ 0 5 r y (by simp)).trans <| (hit _ _ 0 5 _ _ _ 0 5 r y rfl rfl).trans <| (pay109_apply _ r y).trans <|
        congrArg (fun u : EReal => u - drop u) (hz5 r y)
    have hz6 : ∀ (r : Fin 128) (y : Fin 256), (w0_spec.sl.z6 arg7 f7) (ix4 (0 : Fin 1) (0 : Fin 1) r y) = Z 2 (kb + r.val) (qb + y.val) := fun r y =>
      (ld4 _ _ 0 6 _ 0 6 r y rfl rfl).trans <| h7 6 r y
    have hy6 : ∀ (r : Fin 128) (y : Fin 256), (w0_spec.sl.y6 arg7 f7) (ix4 (0 : Fin 1) (0 : Fin 1) r y) = Z 2 (kb + r.val) (qb + y.val) - drop (Z 2 (kb + r.val) (qb + y.val)) := fun r y =>
      (ld4 _ _ 0 6 _ 0 6 r y rfl rfl).trans <| (skip _ _ 0 7 0 256 _ _ _ 0 6 r y (by simp)).trans <| (hit _ _ 0 6 _ _ _ 0 6 r y rfl rfl).trans <| (pay109_apply _ r y).trans <|
        congrArg (fun u : EReal => u - drop u) (hz6 r y)
    have hz7 : ∀ (r : Fin 128) (y : Fin 256), (w0_spec.sl.z7 arg7 f7) (ix4 (0 : Fin 1) (0 : Fin 1) r y) = Z 3 (kb + r.val) (qb + y.val) := fun r y =>
      (ld4 _ _ 0 7 _ 0 7 r y rfl rfl).trans <| h7 7 r y
    have hy7 : ∀ (r : Fin 128) (y : Fin 256), (w0_spec.sl.y7 arg7 f7) (ix4 (0 : Fin 1) (0 : Fin 1) r y) = Z 3 (kb + r.val) (qb + y.val) - drop (Z 3 (kb + r.val) (qb + y.val)) := fun r y =>
      (ld4 _ _ 0 7 _ 0 7 r y rfl rfl).trans <| (hit _ _ 0 7 _ _ _ 0 7 r y rfl rfl).trans <| (pay109_apply _ r y).trans <|
        congrArg (fun u : EReal => u - drop u) (hz7 r y)
    have hc0 := item_c g.1 _ (kb + 128) qb hz0 hg.1 (by omega)
    have hc1 := item_c g.2.1 _ (kb + 128) qb hz1 hg.2.1 (by omega)
    have hc2 := item_c g.2.2.1 _ (kb + 128) qb hz2 hg.2.2.1 (by omega)
    have hc3 := item_c g.2.2.2 _ (kb + 128) qb hz3 hg.2.2.2 (by omega)
    refine ⟨fun i r y => ?_, fun i r y => ?_, fun i r y => ?_, item_c _ _ kb qb hz4 hc0 (by omega), item_c _ _ kb qb hz5 hc1 (by omega), item_c _ _ kb qb hz6 hc2 (by omega), item_c _ _ kb qb hz7 hc3 (by omega)⟩
    · exact (skip _ _ 0 7 0 256 _ _ _ 1 i r y (by simp)).trans <| (skip _ _ 0 6 0 256 _ _ _ 1 i r y (by simp)).trans <| (skip _ _ 0 5 0 256 _ _ _ 1 i r y (by simp)).trans <| (skip _ _ 0 4 0 256 _ _ _ 1 i r y (by simp)).trans <| (skip _ _ 0 3 0 256 _ _ _ 1 i r y (by simp)).trans <| (skip _ _ 0 2 0 256 _ _ _ 1 i r y (by simp)).trans <| (skip _ _ 0 1 0 256 _ _ _ 1 i r y (by simp)).trans <| (skip _ _ 0 0 0 256 _ _ _ 1 i r y (by simp)).trans <| rfl
    · fin_cases i
      · exact (skip _ _ 0 7 0 256 _ _ _ 0 0 r y (by simp)).trans <| (skip _ _ 0 6 0 256 _ _ _ 0 0 r y (by simp)).trans <| (skip _ _ 0 5 0 256 _ _ _ 0 0 r y (by simp)).trans <| (skip _ _ 0 4 0 256 _ _ _ 0 0 r y (by simp)).trans <| (skip _ _ 0 3 0 256 _ _ _ 0 0 r y (by simp)).trans <| (skip _ _ 0 2 0 256 _ _ _ 0 0 r y (by simp)).trans <| (skip _ _ 0 1 0 256 _ _ _ 0 0 r y (by simp)).trans <| (hit _ _ 0 0 _ _ _ 0 0 r y rfl rfl).trans (item_w g.1 _ _ (kb + 128) qb hz0 hy0 hg.1 (by omega) r y)
      · exact (skip _ _ 0 7 0 256 _ _ _ 0 1 r y (by simp)).trans <| (skip _ _ 0 6 0 256 _ _ _ 0 1 r y (by simp)).trans <| (skip _ _ 0 5 0 256 _ _ _ 0 1 r y (by simp)).trans <| (skip _ _ 0 4 0 256 _ _ _ 0 1 r y (by simp)).trans <| (skip _ _ 0 3 0 256 _ _ _ 0 1 r y (by simp)).trans <| (skip _ _ 0 2 0 256 _ _ _ 0 1 r y (by simp)).trans <| (hit _ _ 0 1 _ _ _ 0 1 r y rfl rfl).trans (item_w g.2.1 _ _ (kb + 128) qb hz1 hy1 hg.2.1 (by omega) r y)
      · exact (skip _ _ 0 7 0 256 _ _ _ 0 2 r y (by simp)).trans <| (skip _ _ 0 6 0 256 _ _ _ 0 2 r y (by simp)).trans <| (skip _ _ 0 5 0 256 _ _ _ 0 2 r y (by simp)).trans <| (skip _ _ 0 4 0 256 _ _ _ 0 2 r y (by simp)).trans <| (skip _ _ 0 3 0 256 _ _ _ 0 2 r y (by simp)).trans <| (hit _ _ 0 2 _ _ _ 0 2 r y rfl rfl).trans (item_w g.2.2.1 _ _ (kb + 128) qb hz2 hy2 hg.2.2.1 (by omega) r y)
      · exact (skip _ _ 0 7 0 256 _ _ _ 0 3 r y (by simp)).trans <| (skip _ _ 0 6 0 256 _ _ _ 0 3 r y (by simp)).trans <| (skip _ _ 0 5 0 256 _ _ _ 0 3 r y (by simp)).trans <| (skip _ _ 0 4 0 256 _ _ _ 0 3 r y (by simp)).trans <| (hit _ _ 0 3 _ _ _ 0 3 r y rfl rfl).trans (item_w g.2.2.2 _ _ (kb + 128) qb hz3 hy3 hg.2.2.2 (by omega) r y)
      · exact (skip _ _ 0 7 0 256 _ _ _ 0 4 r y (by simp)).trans <| (skip _ _ 0 6 0 256 _ _ _ 0 4 r y (by simp)).trans <| (skip _ _ 0 5 0 256 _ _ _ 0 4 r y (by simp)).trans <| (hit _ _ 0 4 _ _ _ 0 4 r y rfl rfl).trans (item_w _ _ _ kb qb hz4 hy4 hc0 (by omega) r y)
      · exact (skip _ _ 0 7 0 256 _ _ _ 0 5 r y (by simp)).trans <| (skip _ _ 0 6 0 256 _ _ _ 0 5 r y (by simp)).trans <| (hit _ _ 0 5 _ _ _ 0 5 r y rfl rfl).trans (item_w _ _ _ kb qb hz5 hy5 hc1 (by omega) r y)
      · exact (skip _ _ 0 7 0 256 _ _ _ 0 6 r y (by simp)).trans <| (hit _ _ 0 6 _ _ _ 0 6 r y rfl rfl).trans (item_w _ _ _ kb qb hz6 hy6 hc2 (by omega) r y)
      · exact (hit _ _ 0 7 _ _ _ 0 7 r y rfl rfl).trans (item_w _ _ _ kb qb hz7 hy7 hc3 (by omega) r y)
    · exact (skip _ _ 0 7 0 256 _ _ _ 1 i r y (by simp)).trans <| (skip _ _ 0 6 0 256 _ _ _ 1 i r y (by simp)).trans <| (skip _ _ 0 5 0 256 _ _ _ 1 i r y (by simp)).trans <| (skip _ _ 0 4 0 256 _ _ _ 1 i r y (by simp)).trans <| (skip _ _ 0 3 0 256 _ _ _ 1 i r y (by simp)).trans <| (skip _ _ 0 2 0 256 _ _ _ 1 i r y (by simp)).trans <| (skip _ _ 0 1 0 256 _ _ _ 1 i r y (by simp)).trans <| (skip _ _ 0 0 0 256 _ _ _ 1 i r y (by simp)).trans <| rfl

set_option maxHeartbeats 4000000 in
theorem w1_spec {Z : ℕ → ℕ → ℕ → EReal} (kb qb : ℕ) (hk : kb + 256 ≤ qb) (g : C4) (hg : IsC Z g (kb + 256) qb) (f7 f8)
    (h7 : IsZ Z 1 (arg7.view.read (Elt Ideal) f7) kb qb) :
    (iprop(pt c arg7 f7 ∗ pt c arg8 f8) : sProp 𝕄)
    ⊢ wp frame (wpE (defs₀ (F := Ideal)) Variants.none (c : Thread nD τ) none) Set.univ (wP1 arg7 arg8 harg8 k0_pay442 g)
        (fun g' => iprop(∃ fa fb, ⌜Same 0 (arg7.view.read (Elt Ideal) f7) (arg7.view.read (Elt Ideal) fa)
          ∧ IsA Z 1 (arg8.view.read (Elt Ideal) fb) kb qb ∧ Same 0 (arg8.view.read (Elt Ideal) f8) (arg8.view.read (Elt Ideal) fb) ∧ IsC Z g' kb qb⌝ ∗ pt c arg7 fa ∗ pt c arg8 fb)) := by
  unfold wP1
  iintro ⟨H7, H8⟩
  sl_exec
  sl_step
  iexists _, _
  isplitr
  rotate_left
  · isplitl [H7]
    · iexact H7
    · iexact H8
  · ipureintro
    have hz0 : ∀ (r : Fin 128) (y : Fin 256), (arg7.view.readAt (Elt Ideal) (Rect.unit (s := S2x8x128x256) ![1, 0, 0, 0] S1x1x128x256.size inb_S2x8x128x256_S1x1x128x256_1_0_0_0).toLoadRect f7) (ix4 (0 : Fin 1) (0 : Fin 1) r y) = Z 0 (kb + 128 + r.val) (qb + y.val) := fun r y =>
      (ld4 _ _ 1 0 _ 1 0 r y rfl rfl).trans <| h7 0 r y
    have hy0 : ∀ (r : Fin 128) (y : Fin 256), (w1_spec.sl.y0 arg7 f7) (ix4 (0 : Fin 1) (0 : Fin 1) r y) = Z 0 (kb + 128 + r.val) (qb + y.val) - drop (Z 0 (kb + 128 + r.val) (qb + y.val)) := fun r y =>
      (ld4 _ _ 1 0 _ 1 0 r y rfl rfl).trans <| (skip _ _ 1 7 0 256 _ _ _ 1 0 r y (by simp)).trans <| (skip _ _ 1 6 0 256 _ _ _ 1 0 r y (by simp)).trans <| (skip _ _ 1 5 0 256 _ _ _ 1 0 r y (by simp)).trans <| (skip _ _ 1 4 0 256 _ _ _ 1 0 r y (by simp)).trans <| (skip _ _ 1 3 0 256 _ _ _ 1 0 r y (by simp)).trans <| (skip _ _ 1 2 0 256 _ _ _ 1 0 r y (by simp)).trans <| (skip _ _ 1 1 0 256 _ _ _ 1 0 r y (by simp)).trans <| (hit _ _ 1 0 _ _ _ 1 0 r y rfl rfl).trans <| (pay109_apply _ r y).trans <|
        congrArg (fun u : EReal => u - drop u) (hz0 r y)
    have hz1 : ∀ (r : Fin 128) (y : Fin 256), (w1_spec.sl.z1 arg7 f7) (ix4 (0 : Fin 1) (0 : Fin 1) r y) = Z 1 (kb + 128 + r.val) (qb + y.val) := fun r y =>
      (ld4 _ _ 1 1 _ 1 1 r y rfl rfl).trans <| h7 1 r y
    have hy1 : ∀ (r : Fin 128) (y : Fin 256), (w1_spec.sl.y1 arg7 f7) (ix4 (0 : Fin 1) (0 : Fin 1) r y) = Z 1 (kb + 128 + r.val) (qb + y.val) - drop (Z 1 (kb + 128 + r.val) (qb + y.val)) := fun r y =>
      (ld4 _ _ 1 1 _ 1 1 r y rfl rfl).trans <| (skip _ _ 1 7 0 256 _ _ _ 1 1 r y (by simp)).trans <| (skip _ _ 1 6 0 256 _ _ _ 1 1 r y (by simp)).trans <| (skip _ _ 1 5 0 256 _ _ _ 1 1 r y (by simp)).trans <| (skip _ _ 1 4 0 256 _ _ _ 1 1 r y (by simp)).trans <| (skip _ _ 1 3 0 256 _ _ _ 1 1 r y (by simp)).trans <| (skip _ _ 1 2 0 256 _ _ _ 1 1 r y (by simp)).trans <| (hit _ _ 1 1 _ _ _ 1 1 r y rfl rfl).trans <| (pay109_apply _ r y).trans <|
        congrArg (fun u : EReal => u - drop u) (hz1 r y)
    have hz2 : ∀ (r : Fin 128) (y : Fin 256), (w1_spec.sl.z2 arg7 f7) (ix4 (0 : Fin 1) (0 : Fin 1) r y) = Z 2 (kb + 128 + r.val) (qb + y.val) := fun r y =>
      (ld4 _ _ 1 2 _ 1 2 r y rfl rfl).trans <| h7 2 r y
    have hy2 : ∀ (r : Fin 128) (y : Fin 256), (w1_spec.sl.y2 arg7 f7) (ix4 (0 : Fin 1) (0 : Fin 1) r y) = Z 2 (kb + 128 + r.val) (qb + y.val) - drop (Z 2 (kb + 128 + r.val) (qb + y.val)) := fun r y =>
      (ld4 _ _ 1 2 _ 1 2 r y rfl rfl).trans <| (skip _ _ 1 7 0 256 _ _ _ 1 2 r y (by simp)).trans <| (skip _ _ 1 6 0 256 _ _ _ 1 2 r y (by simp)).trans <| (skip _ _ 1 5 0 256 _ _ _ 1 2 r y (by simp)).trans <| (skip _ _ 1 4 0 256 _ _ _ 1 2 r y (by simp)).trans <| (skip _ _ 1 3 0 256 _ _ _ 1 2 r y (by simp)).trans <| (hit _ _ 1 2 _ _ _ 1 2 r y rfl rfl).trans <| (pay109_apply _ r y).trans <|
        congrArg (fun u : EReal => u - drop u) (hz2 r y)
    have hz3 : ∀ (r : Fin 128) (y : Fin 256), (w1_spec.sl.z3 arg7 f7) (ix4 (0 : Fin 1) (0 : Fin 1) r y) = Z 3 (kb + 128 + r.val) (qb + y.val) := fun r y =>
      (ld4 _ _ 1 3 _ 1 3 r y rfl rfl).trans <| h7 3 r y
    have hy3 : ∀ (r : Fin 128) (y : Fin 256), (w1_spec.sl.y3 arg7 f7) (ix4 (0 : Fin 1) (0 : Fin 1) r y) = Z 3 (kb + 128 + r.val) (qb + y.val) - drop (Z 3 (kb + 128 + r.val) (qb + y.val)) := fun r y =>
      (ld4 _ _ 1 3 _ 1 3 r y rfl rfl).trans <| (skip _ _ 1 7 0 256 _ _ _ 1 3 r y (by simp)).trans <| (skip _ _ 1 6 0 256 _ _ _ 1 3 r y (by simp)).trans <| (skip _ _ 1 5 0 256 _ _ _ 1 3 r y (by simp)).trans <| (skip _ _ 1 4 0 256 _ _ _ 1 3 r y (by simp)).trans <| (hit _ _ 1 3 _ _ _ 1 3 r y rfl rfl).trans <| (pay109_apply _ r y).trans <|
        congrArg (fun u : EReal => u - drop u) (hz3 r y)
    have hz4 : ∀ (r : Fin 128) (y : Fin 256), (w1_spec.sl.z4 arg7 f7) (ix4 (0 : Fin 1) (0 : Fin 1) r y) = Z 0 (kb + r.val) (qb + y.val) := fun r y =>
      (ld4 _ _ 1 4 _ 1 4 r y rfl rfl).trans <| h7 4 r y
    have hy4 : ∀ (r : Fin 128) (y : Fin 256), (w1_spec.sl.y4 arg7 f7) (ix4 (0 : Fin 1) (0 : Fin 1) r y) = Z 0 (kb + r.val) (qb + y.val) - drop (Z 0 (kb + r.val) (qb + y.val)) := fun r y =>
      (ld4 _ _ 1 4 _ 1 4 r y rfl rfl).trans <| (skip _ _ 1 7 0 256 _ _ _ 1 4 r y (by simp)).trans <| (skip _ _ 1 6 0 256 _ _ _ 1 4 r y (by simp)).trans <| (skip _ _ 1 5 0 256 _ _ _ 1 4 r y (by simp)).trans <| (hit _ _ 1 4 _ _ _ 1 4 r y rfl rfl).trans <| (pay109_apply _ r y).trans <|
        congrArg (fun u : EReal => u - drop u) (hz4 r y)
    have hz5 : ∀ (r : Fin 128) (y : Fin 256), (w1_spec.sl.z5 arg7 f7) (ix4 (0 : Fin 1) (0 : Fin 1) r y) = Z 1 (kb + r.val) (qb + y.val) := fun r y =>
      (ld4 _ _ 1 5 _ 1 5 r y rfl rfl).trans <| h7 5 r y
    have hy5 : ∀ (r : Fin 128) (y : Fin 256), (w1_spec.sl.y5 arg7 f7) (ix4 (0 : Fin 1) (0 : Fin 1) r y) = Z 1 (kb + r.val) (qb + y.val) - drop (Z 1 (kb + r.val) (qb + y.val)) := fun r y =>
      (ld4 _ _ 1 5 _ 1 5 r y rfl rfl).trans <| (skip _ _ 1 7 0 256 _ _ _ 1 5 r y (by simp)).trans <| (skip _ _ 1 6 0 256 _ _ _ 1 5 r y (by simp)).trans <| (hit _ _ 1 5 _ _ _ 1 5 r y rfl rfl).trans <| (pay109_apply _ r y).trans <|
        congrArg (fun u : EReal => u - drop u) (hz5 r y)
    have hz6 : ∀ (r : Fin 128) (y : Fin 256), (w1_spec.sl.z6 arg7 f7) (ix4 (0 : Fin 1) (0 : Fin 1) r y) = Z 2 (kb + r.val) (qb + y.val) := fun r y =>
      (ld4 _ _ 1 6 _ 1 6 r y rfl rfl).trans <| h7 6 r y
    have hy6 : ∀ (r : Fin 128) (y : Fin 256), (w1_spec.sl.y6 arg7 f7) (ix4 (0 : Fin 1) (0 : Fin 1) r y) = Z 2 (kb + r.val) (qb + y.val) - drop (Z 2 (kb + r.val) (qb + y.val)) := fun r y =>
      (ld4 _ _ 1 6 _ 1 6 r y rfl rfl).trans <| (skip _ _ 1 7 0 256 _ _ _ 1 6 r y (by simp)).trans <| (hit _ _ 1 6 _ _ _ 1 6 r y rfl rfl).trans <| (pay109_apply _ r y).trans <|
        congrArg (fun u : EReal => u - drop u) (hz6 r y)
    have hz7 : ∀ (r : Fin 128) (y : Fin 256), (w1_spec.sl.z7 arg7 f7) (ix4 (0 : Fin 1) (0 : Fin 1) r y) = Z 3 (kb + r.val) (qb + y.val) := fun r y =>
      (ld4 _ _ 1 7 _ 1 7 r y rfl rfl).trans <| h7 7 r y
    have hy7 : ∀ (r : Fin 128) (y : Fin 256), (w1_spec.sl.y7 arg7 f7) (ix4 (0 : Fin 1) (0 : Fin 1) r y) = Z 3 (kb + r.val) (qb + y.val) - drop (Z 3 (kb + r.val) (qb + y.val)) := fun r y =>
      (ld4 _ _ 1 7 _ 1 7 r y rfl rfl).trans <| (hit _ _ 1 7 _ _ _ 1 7 r y rfl rfl).trans <| (pay109_apply _ r y).trans <|
        congrArg (fun u : EReal => u - drop u) (hz7 r y)
    have hc0 := item_c g.1 _ (kb + 128) qb hz0 hg.1 (by omega)
    have hc1 := item_c g.2.1 _ (kb + 128) qb hz1 hg.2.1 (by omega)
    have hc2 := item_c g.2.2.1 _ (kb + 128) qb hz2 hg.2.2.1 (by omega)
    have hc3 := item_c g.2.2.2 _ (kb + 128) qb hz3 hg.2.2.2 (by omega)
    refine ⟨fun i r y => ?_, fun i r y => ?_, fun i r y => ?_, item_c _ _ kb qb hz4 hc0 (by omega), item_c _ _ kb qb hz5 hc1 (by omega), item_c _ _ kb qb hz6 hc2 (by omega), item_c _ _ kb qb hz7 hc3 (by omega)⟩
    · exact (skip _ _ 1 7 0 256 _ _ _ 0 i r y (by simp)).trans <| (skip _ _ 1 6 0 256 _ _ _ 0 i r y (by simp)).trans <| (skip _ _ 1 5 0 256 _ _ _ 0 i r y (by simp)).trans <| (skip _ _ 1 4 0 256 _ _ _ 0 i r y (by simp)).trans <| (skip _ _ 1 3 0 256 _ _ _ 0 i r y (by simp)).trans <| (skip _ _ 1 2 0 256 _ _ _ 0 i r y (by simp)).trans <| (skip _ _ 1 1 0 256 _ _ _ 0 i r y (by simp)).trans <| (skip _ _ 1 0 0 256 _ _ _ 0 i r y (by simp)).trans <| rfl
    · fin_cases i
      · exact (skip _ _ 1 7 0 256 _ _ _ 1 0 r y (by simp)).trans <| (skip _ _ 1 6 0 256 _ _ _ 1 0 r y (by simp)).trans <| (skip _ _ 1 5 0 256 _ _ _ 1 0 r y (by simp)).trans <| (skip _ _ 1 4 0 256 _ _ _ 1 0 r y (by simp)).trans <| (skip _ _ 1 3 0 256 _ _ _ 1 0 r y (by simp)).trans <| (skip _ _ 1 2 0 256 _ _ _ 1 0 r y (by simp)).trans <| (skip _ _ 1 1 0 256 _ _ _ 1 0 r y (by simp)).trans <| (hit _ _ 1 0 _ _ _ 1 0 r y rfl rfl).trans (item_w g.1 _ _ (kb + 128) qb hz0 hy0 hg.1 (by omega) r y)
      · exact (skip _ _ 1 7 0 256 _ _ _ 1 1 r y (by simp)).trans <| (skip _ _ 1 6 0 256 _ _ _ 1 1 r y (by simp)).trans <| (skip _ _ 1 5 0 256 _ _ _ 1 1 r y (by simp)).trans <| (skip _ _ 1 4 0 256 _ _ _ 1 1 r y (by simp)).trans <| (skip _ _ 1 3 0 256 _ _ _ 1 1 r y (by simp)).trans <| (skip _ _ 1 2 0 256 _ _ _ 1 1 r y (by simp)).trans <| (hit _ _ 1 1 _ _ _ 1 1 r y rfl rfl).trans (item_w g.2.1 _ _ (kb + 128) qb hz1 hy1 hg.2.1 (by omega) r y)
      · exact (skip _ _ 1 7 0 256 _ _ _ 1 2 r y (by simp)).trans <| (skip _ _ 1 6 0 256 _ _ _ 1 2 r y (by simp)).trans <| (skip _ _ 1 5 0 256 _ _ _ 1 2 r y (by simp)).trans <| (skip _ _ 1 4 0 256 _ _ _ 1 2 r y (by simp)).trans <| (skip _ _ 1 3 0 256 _ _ _ 1 2 r y (by simp)).trans <| (hit _ _ 1 2 _ _ _ 1 2 r y rfl rfl).trans (item_w g.2.2.1 _ _ (kb + 128) qb hz2 hy2 hg.2.2.1 (by omega) r y)
      · exact (skip _ _ 1 7 0 256 _ _ _ 1 3 r y (by simp)).trans <| (skip _ _ 1 6 0 256 _ _ _ 1 3 r y (by simp)).trans <| (skip _ _ 1 5 0 256 _ _ _ 1 3 r y (by simp)).trans <| (skip _ _ 1 4 0 256 _ _ _ 1 3 r y (by simp)).trans <| (hit _ _ 1 3 _ _ _ 1 3 r y rfl rfl).trans (item_w g.2.2.2 _ _ (kb + 128) qb hz3 hy3 hg.2.2.2 (by omega) r y)
      · exact (skip _ _ 1 7 0 256 _ _ _ 1 4 r y (by simp)).trans <| (skip _ _ 1 6 0 256 _ _ _ 1 4 r y (by simp)).trans <| (skip _ _ 1 5 0 256 _ _ _ 1 4 r y (by simp)).trans <| (hit _ _ 1 4 _ _ _ 1 4 r y rfl rfl).trans (item_w _ _ _ kb qb hz4 hy4 hc0 (by omega) r y)
      · exact (skip _ _ 1 7 0 256 _ _ _ 1 5 r y (by simp)).trans <| (skip _ _ 1 6 0 256 _ _ _ 1 5 r y (by simp)).trans <| (hit _ _ 1 5 _ _ _ 1 5 r y rfl rfl).trans (item_w _ _ _ kb qb hz5 hy5 hc1 (by omega) r y)
      · exact (skip _ _ 1 7 0 256 _ _ _ 1 6 r y (by simp)).trans <| (hit _ _ 1 6 _ _ _ 1 6 r y rfl rfl).trans (item_w _ _ _ kb qb hz6 hy6 hc2 (by omega) r y)
      · exact (hit _ _ 1 7 _ _ _ 1 7 r y rfl rfl).trans (item_w _ _ _ kb qb hz7 hy7 hc3 (by omega) r y)
    · exact (skip _ _ 1 7 0 256 _ _ _ 0 i r y (by simp)).trans <| (skip _ _ 1 6 0 256 _ _ _ 0 i r y (by simp)).trans <| (skip _ _ 1 5 0 256 _ _ _ 0 i r y (by simp)).trans <| (skip _ _ 1 4 0 256 _ _ _ 0 i r y (by simp)).trans <| (skip _ _ 1 3 0 256 _ _ _ 0 i r y (by simp)).trans <| (skip _ _ 1 2 0 256 _ _ _ 0 i r y (by simp)).trans <| (skip _ _ 1 1 0 256 _ _ _ 0 i r y (by simp)).trans <| (skip _ _ 1 0 0 256 _ _ _ 0 i r y (by simp)).trans <| rfl

set_option maxHeartbeats 4000000 in
theorem wd_spec {Z : ℕ → ℕ → ℕ → EReal} (qb : ℕ) (f7 f8) (h7 : IsZ Z 0 (arg7.view.read (Elt Ideal) f7) qb qb) :
    (iprop(pt c arg7 f7 ∗ pt c arg8 f8) : sProp 𝕄)
    ⊢ wp frame (wpE (defs₀ (F := Ideal)) Variants.none (c : Thread nD τ) none) Set.univ (wD arg7 arg8 harg8 i0 i1 i2 i3 k0_pay442 k0_pay340)
        (fun g' => iprop(∃ fa fb, ⌜Same 1 (arg7.view.read (Elt Ideal) f7) (arg7.view.read (Elt Ideal) fa)
          ∧ IsA Z 0 (arg8.view.read (Elt Ideal) fb) qb qb ∧ IsC Z g' qb qb⌝ ∗ pt c arg7 fa ∗ pt c arg8 fb)) := by
  unfold wD
  iintro ⟨H7, H8⟩
  sl_exec
  sl_step
  iexists _, _
  isplitr
  rotate_left
  · isplitl [H7]
    · iexact H7
    · iexact H8
  · ipureintro
    have hz0 : ∀ r y : Fin 128, (arg7.view.readAt (Elt Ideal) (Rect.unit (s := S2x8x128x256) ![0, 0, 0, 128] S1x1x128x128.size inb_S2x8x128x256_S1x1x128x128_0_0_0_128).toLoadRect f7) (ix4 (0 : Fin 1) (0 : Fin 1) r y) = Z 0 (qb + 128 + r.val) (qb + (128 + y.val)) := fun r y =>
      (ld4h _ _ 0 0 _ 0 0 r y rfl rfl).trans <| h7 0 r (⟨128 + y.val, by omega⟩ : Fin 256)
    have hy0 : ∀ r y : Fin 128, (wd_spec.sl.y0 arg7 f7) (ix4 (0 : Fin 1) (0 : Fin 1) r y)
        = Z 0 (qb + 128 + r.val) (qb + (128 + y.val)) - if r.val < y.val then drop (Z 0 (qb + 128 + r.val) (qb + (128 + y.val))) else 0 := fun r y =>
      (ld4h _ _ 0 0 _ 0 0 r y rfl rfl).trans <| (skip _ _ 0 7 0 256 _ _ _ 0 0 r (⟨128 + y.val, by omega⟩ : Fin 256) (by simp)).trans <| (skip _ _ 0 6 0 256 _ _ _ 0 0 r (⟨128 + y.val, by omega⟩ : Fin 256) (by simp)).trans <| (skip _ _ 0 5 0 256 _ _ _ 0 0 r (⟨128 + y.val, by omega⟩ : Fin 256) (by simp)).trans <| (skip _ _ 0 4 0 256 _ _ _ 0 0 r (⟨128 + y.val, by omega⟩ : Fin 256) (by simp)).trans <| (skip _ _ 0 3 128 128 _ _ _ 0 0 r (⟨128 + y.val, by omega⟩ : Fin 256) (by simp)).trans <| (skip _ _ 0 2 128 128 _ _ _ 0 0 r (⟨128 + y.val, by omega⟩ : Fin 256) (by simp)).trans <| (skip _ _ 0 1 128 128 _ _ _ 0 0 r (⟨128 + y.val, by omega⟩ : Fin 256) (by simp)).trans <| (hith _ _ 0 0 128 _ _ _ 0 0 r (⟨128 + y.val, by omega⟩ : Fin 256) y rfl rfl rfl).trans <| (pay346_apply _ r y).trans <|
        congrArg (fun u : EReal => u - if r.val < y.val then drop u else 0) (hz0 r y)
    have hc0 := item_c0 _ qb hz0
    have hz1 : ∀ r y : Fin 128, (wd_spec.sl.z1 arg7 f7) (ix4 (0 : Fin 1) (0 : Fin 1) r y) = Z 1 (qb + 128 + r.val) (qb + (128 + y.val)) := fun r y =>
      (ld4h _ _ 0 1 _ 0 1 r y rfl rfl).trans <| h7 1 r (⟨128 + y.val, by omega⟩ : Fin 256)
    have hy1 : ∀ r y : Fin 128, (wd_spec.sl.y1 arg7 f7) (ix4 (0 : Fin 1) (0 : Fin 1) r y)
        = Z 1 (qb + 128 + r.val) (qb + (128 + y.val)) - if r.val < y.val then drop (Z 1 (qb + 128 + r.val) (qb + (128 + y.val))) else 0 := fun r y =>
      (ld4h _ _ 0 1 _ 0 1 r y rfl rfl).trans <| (skip _ _ 0 7 0 256 _ _ _ 0 1 r (⟨128 + y.val, by omega⟩ : Fin 256) (by simp)).trans <| (skip _ _ 0 6 0 256 _ _ _ 0 1 r (⟨128 + y.val, by omega⟩ : Fin 256) (by simp)).trans <| (skip _ _ 0 5 0 256 _ _ _ 0 1 r (⟨128 + y.val, by omega⟩ : Fin 256) (by simp)).trans <| (skip _ _ 0 4 0 256 _ _ _ 0 1 r (⟨128 + y.val, by omega⟩ : Fin 256) (by simp)).trans <| (skip _ _ 0 3 128 128 _ _ _ 0 1 r (⟨128 + y.val, by omega⟩ : Fin 256) (by simp)).trans <| (skip _ _ 0 2 128 128 _ _ _ 0 1 r (⟨128 + y.val, by omega⟩ : Fin 256) (by simp)).trans <| (hith _ _ 0 1 128 _ _ _ 0 1 r (⟨128 + y.val, by omega⟩ : Fin 256) y rfl rfl rfl).trans <| (pay346_apply _ r y).trans <|
        congrArg (fun u : EReal => u - if r.val < y.val then drop u else 0) (hz1 r y)
    have hc1 := item_c0 _ qb hz1
    have hz2 : ∀ r y : Fin 128, (wd_spec.sl.z2 arg7 f7) (ix4 (0 : Fin 1) (0 : Fin 1) r y) = Z 2 (qb + 128 + r.val) (qb + (128 + y.val)) := fun r y =>
      (ld4h _ _ 0 2 _ 0 2 r y rfl rfl).trans <| h7 2 r (⟨128 + y.val, by omega⟩ : Fin 256)
    have hy2 : ∀ r y : Fin 128, (wd_spec.sl.y2 arg7 f7) (ix4 (0 : Fin 1) (0 : Fin 1) r y)
        = Z 2 (qb + 128 + r.val) (qb + (128 + y.val)) - if r.val < y.val then drop (Z 2 (qb + 128 + r.val) (qb + (128 + y.val))) else 0 := fun r y =>
      (ld4h _ _ 0 2 _ 0 2 r y rfl rfl).trans <| (skip _ _ 0 7 0 256 _ _ _ 0 2 r (⟨128 + y.val, by omega⟩ : Fin 256) (by simp)).trans <| (skip _ _ 0 6 0 256 _ _ _ 0 2 r (⟨128 + y.val, by omega⟩ : Fin 256) (by simp)).trans <| (skip _ _ 0 5 0 256 _ _ _ 0 2 r (⟨128 + y.val, by omega⟩ : Fin 256) (by simp)).trans <| (skip _ _ 0 4 0 256 _ _ _ 0 2 r (⟨128 + y.val, by omega⟩ : Fin 256) (by simp)).trans <| (skip _ _ 0 3 128 128 _ _ _ 0 2 r (⟨128 + y.val, by omega⟩ : Fin 256) (by simp)).trans <| (hith _ _ 0 2 128 _ _ _ 0 2 r (⟨128 + y.val, by omega⟩ : Fin 256) y rfl rfl rfl).trans <| (pay346_apply _ r y).trans <|
        congrArg (fun u : EReal => u - if r.val < y.val then drop u else 0) (hz2 r y)
    have hc2 := item_c0 _ qb hz2
    have hz3 : ∀ r y : Fin 128, (wd_spec.sl.z3 arg7 f7) (ix4 (0 : Fin 1) (0 : Fin 1) r y) = Z 3 (qb + 128 + r.val) (qb + (128 + y.val)) := fun r y =>
      (ld4h _ _ 0 3 _ 0 3 r y rfl rfl).trans <| h7 3 r (⟨128 + y.val, by omega⟩ : Fin 256)
    have hy3 : ∀ r y : Fin 128, (wd_spec.sl.y3 arg7 f7) (ix4 (0 : Fin 1) (0 : Fin 1) r y)
        = Z 3 (qb + 128 + r.val) (qb + (128 + y.val)) - if r.val < y.val then drop (Z 3 (qb + 128 + r.val) (qb + (128 + y.val))) else 0 := fun r y =>
      (ld4h _ _ 0 3 _ 0 3 r y rfl rfl).trans <| (skip _ _ 0 7 0 256 _ _ _ 0 3 r (⟨128 + y.val, by omega⟩ : Fin 256) (by simp)).trans <| (skip _ _ 0 6 0 256 _ _ _ 0 3 r (⟨128 + y.val, by omega⟩ : Fin 256) (by simp)).trans <| (skip _ _ 0 5 0 256 _ _ _ 0 3 r (⟨128 + y.val, by omega⟩ : Fin 256) (by simp)).trans <| (skip _ _ 0 4 0 256 _ _ _ 0 3 r (⟨128 + y.val, by omega⟩ : Fin 256) (by simp)).trans <| (hith _ _ 0 3 128 _ _ _ 0 3 r (⟨128 + y.val, by omega⟩ : Fin 256) y rfl rfl rfl).trans <| (pay346_apply _ r y).trans <|
        congrArg (fun u : EReal => u - if r.val < y.val then drop u else 0) (hz3 r y)
    have hc3 := item_c0 _ qb hz3
    have hz4 : ∀ (r : Fin 128) (y : Fin 256), (wd_spec.sl.z4 arg7 f7) (ix4 (0 : Fin 1) (0 : Fin 1) r y) = Z 0 (qb + r.val) (qb + y.val) := fun r y =>
      (ld4 _ _ 0 4 _ 0 4 r y rfl rfl).trans <| h7 4 r y
    have hy4 : ∀ (r : Fin 128) (y : Fin 256), (wd_spec.sl.y4 arg7 f7) (ix4 (0 : Fin 1) (0 : Fin 1) r y)
        = Z 0 (qb + r.val) (qb + y.val) - if r.val < y.val then drop (Z 0 (qb + r.val) (qb + y.val)) else 0 := fun r y =>
      (ld4 _ _ 0 4 _ 0 4 r y rfl rfl).trans <| (skip _ _ 0 7 0 256 _ _ _ 0 4 r y (by simp)).trans <| (skip _ _ 0 6 0 256 _ _ _ 0 4 r y (by simp)).trans <| (skip _ _ 0 5 0 256 _ _ _ 0 4 r y (by simp)).trans <| (hit _ _ 0 4 _ _ _ 0 4 r y rfl rfl).trans <| (pay372_apply _ r y).trans <|
        congrArg (fun u : EReal => u - if r.val < y.val then drop u else 0) (hz4 r y)
    have hz5 : ∀ (r : Fin 128) (y : Fin 256), (wd_spec.sl.z5 arg7 f7) (ix4 (0 : Fin 1) (0 : Fin 1) r y) = Z 1 (qb + r.val) (qb + y.val) := fun r y =>
      (ld4 _ _ 0 5 _ 0 5 r y rfl rfl).trans <| h7 5 r y
    have hy5 : ∀ (r : Fin 128) (y : Fin 256), (wd_spec.sl.y5 arg7 f7) (ix4 (0 : Fin 1) (0 : Fin 1) r y)
        = Z 1 (qb + r.val) (qb + y.val) - if r.val < y.val then drop (Z 1 (qb + r.val) (qb + y.val)) else 0 := fun r y =>
      (ld4 _ _ 0 5 _ 0 5 r y rfl rfl).trans <| (skip _ _ 0 7 0 256 _ _ _ 0 5 r y (by simp)).trans <| (skip _ _ 0 6 0 256 _ _ _ 0 5 r y (by simp)).trans <| (hit _ _ 0 5 _ _ _ 0 5 r y rfl rfl).trans <| (pay372_apply _ r y).trans <|
        congrArg (fun u : EReal => u - if r.val < y.val then drop u else 0) (hz5 r y)
    have hz6 : ∀ (r : Fin 128) (y : Fin 256), (wd_spec.sl.z6 arg7 f7) (ix4 (0 : Fin 1) (0 : Fin 1) r y) = Z 2 (qb + r.val) (qb + y.val) := fun r y =>
      (ld4 _ _ 0 6 _ 0 6 r y rfl rfl).trans <| h7 6 r y
    have hy6 : ∀ (r : Fin 128) (y : Fin 256), (wd_spec.sl.y6 arg7 f7) (ix4 (0 : Fin 1) (0 : Fin 1) r y)
        = Z 2 (qb + r.val) (qb + y.val) - if r.val < y.val then drop (Z 2 (qb + r.val) (qb + y.val)) else 0 := fun r y =>
      (ld4 _ _ 0 6 _ 0 6 r y rfl rfl).trans <| (skip _ _ 0 7 0 256 _ _ _ 0 6 r y (by simp)).trans <| (hit _ _ 0 6 _ _ _ 0 6 r y rfl rfl).trans <| (pay372_apply _ r y).trans <|
        congrArg (fun u : EReal => u - if r.val < y.val then drop u else 0) (hz6 r y)
    have hz7 : ∀ (r : Fin 128) (y : Fin 256), (wd_spec.sl.z7 arg7 f7) (ix4 (0 : Fin 1) (0 : Fin 1) r y) = Z 3 (qb + r.val) (qb + y.val) := fun r y =>
      (ld4 _ _ 0 7 _ 0 7 r y rfl rfl).trans <| h7 7 r y
    have hy7 : ∀ (r : Fin 128) (y : Fin 256), (wd_spec.sl.y7 arg7 f7) (ix4 (0 : Fin 1) (0 : Fin 1) r y)
        = Z 3 (qb + r.val) (qb + y.val) - if r.val < y.val then drop (Z 3 (qb + r.val) (qb + y.val)) else 0 := fun r y =>
      (ld4 _ _ 0 7 _ 0 7 r y rfl rfl).trans <| (hit _ _ 0 7 _ _ _ 0 7 r y rfl rfl).trans <| (pay372_apply _ r y).trans <|
        congrArg (fun u : EReal => u - if r.val < y.val then drop u else 0) (hz7 r y)
    refine ⟨fun i r y => ?_, fun i r y => ?_, item_e _ _ qb hz4 hc0, item_e _ _ qb hz5 hc1, item_e _ _ qb hz6 hc2, item_e _ _ qb hz7 hc3⟩
    · exact (skip _ _ 0 7 0 256 _ _ _ 1 i r y (by simp)).trans <| (skip _ _ 0 6 0 256 _ _ _ 1 i r y (by simp)).trans <| (skip _ _ 0 5 0 256 _ _ _ 1 i r y (by simp)).trans <| (skip _ _ 0 4 0 256 _ _ _ 1 i r y (by simp)).trans <| (skip _ _ 0 3 128 128 _ _ _ 1 i r y (by simp)).trans <| (skip _ _ 0 2 128 128 _ _ _ 1 i r y (by simp)).trans <| (skip _ _ 0 1 128 128 _ _ _ 1 i r y (by simp)).trans <| (skip _ _ 0 0 128 128 _ _ _ 1 i r y (by simp)).trans <| rfl
    · fin_cases i
      · by_cases hy : y.val < 128
        · exact (skip _ _ 0 7 0 256 _ _ _ 0 0 r y (by simp)).trans <| (skip _ _ 0 6 0 256 _ _ _ 0 0 r y (by simp)).trans <| (skip _ _ 0 5 0 256 _ _ _ 0 0 r y (by simp)).trans <| (skip _ _ 0 4 0 256 _ _ _ 0 0 r y (by simp)).trans <| (skip _ _ 0 3 128 128 _ _ _ 0 0 r y (by simp)).trans <| (skip _ _ 0 3 0 128 _ _ _ 0 0 r y (by simp)).trans <| (skip _ _ 0 2 128 128 _ _ _ 0 0 r y (by simp)).trans <| (skip _ _ 0 2 0 128 _ _ _ 0 0 r y (by simp)).trans <| (skip _ _ 0 1 128 128 _ _ _ 0 0 r y (by simp)).trans <| (skip _ _ 0 1 0 128 _ _ _ 0 0 r y (by simp)).trans <| (skip _ _ 0 0 128 128 _ _ _ 0 0 r y (by simp <;> omega)).trans <| (hith _ _ 0 0 0 _ _ _ 0 0 r y ⟨y.val, hy⟩ rfl rfl (Nat.zero_add _).symm).trans <| (pay396_apply _).trans
            (weight_late _ _ _ (show qb + y.val ≤ qb + 128 + r.val by omega)).symm
        · refine (skip _ _ 0 7 0 256 _ _ _ 0 0 r y (by simp)).trans <| (skip _ _ 0 6 0 256 _ _ _ 0 0 r y (by simp)).trans <| (skip _ _ 0 5 0 256 _ _ _ 0 0 r y (by simp)).trans <| (skip _ _ 0 4 0 256 _ _ _ 0 0 r y (by simp)).trans <| (skip _ _ 0 3 128 128 _ _ _ 0 0 r y (by simp)).trans <| (skip _ _ 0 3 0 128 _ _ _ 0 0 r y (by simp)).trans <| (skip _ _ 0 2 128 128 _ _ _ 0 0 r y (by simp)).trans <| (skip _ _ 0 2 0 128 _ _ _ 0 0 r y (by simp)).trans <| (skip _ _ 0 1 128 128 _ _ _ 0 0 r y (by simp)).trans <| (skip _ _ 0 1 0 128 _ _ _ 0 0 r y (by simp)).trans <| (hith _ _ 0 0 128 _ _ _ 0 0 r y ⟨y.val - 128, by omega⟩ rfl rfl (show y.val = 128 + (y.val - 128) by omega)).trans <| (item_d0 _ _ qb hz0 hy0 r _).trans ?_
          show AttnMath.weight (Z 0) _ (qb + 128 + r.val) (qb + (128 + (y.val - 128))) = AttnMath.weight (Z 0) _ (qb + 128 + r.val) (qb + y.val)
          rw [show 128 + (y.val - 128) = y.val by omega]
      · by_cases hy : y.val < 128
        · exact (skip _ _ 0 7 0 256 _ _ _ 0 1 r y (by simp)).trans <| (skip _ _ 0 6 0 256 _ _ _ 0 1 r y (by simp)).trans <| (skip _ _ 0 5 0 256 _ _ _ 0 1 r y (by simp)).trans <| (skip _ _ 0 4 0 256 _ _ _ 0 1 r y (by simp)).trans <| (skip _ _ 0 3 128 128 _ _ _ 0 1 r y (by simp)).trans <| (skip _ _ 0 3 0 128 _ _ _ 0 1 r y (by simp)).trans <| (skip _ _ 0 2 128 128 _ _ _ 0 1 r y (by simp)).trans <| (skip _ _ 0 2 0 128 _ _ _ 0 1 r y (by simp)).trans <| (skip _ _ 0 1 128 128 _ _ _ 0 1 r y (by simp <;> omega)).trans <| (hith _ _ 0 1 0 _ _ _ 0 1 r y ⟨y.val, hy⟩ rfl rfl (Nat.zero_add _).symm).trans <| (pay396_apply _).trans
            (weight_late _ _ _ (show qb + y.val ≤ qb + 128 + r.val by omega)).symm
        · refine (skip _ _ 0 7 0 256 _ _ _ 0 1 r y (by simp)).trans <| (skip _ _ 0 6 0 256 _ _ _ 0 1 r y (by simp)).trans <| (skip _ _ 0 5 0 256 _ _ _ 0 1 r y (by simp)).trans <| (skip _ _ 0 4 0 256 _ _ _ 0 1 r y (by simp)).trans <| (skip _ _ 0 3 128 128 _ _ _ 0 1 r y (by simp)).trans <| (skip _ _ 0 3 0 128 _ _ _ 0 1 r y (by simp)).trans <| (skip _ _ 0 2 128 128 _ _ _ 0 1 r y (by simp)).trans <| (skip _ _ 0 2 0 128 _ _ _ 0 1 r y (by simp)).trans <| (hith _ _ 0 1 128 _ _ _ 0 1 r y ⟨y.val - 128, by omega⟩ rfl rfl (show y.val = 128 + (y.val - 128) by omega)).trans <| (item_d0 _ _ qb hz1 hy1 r _).trans ?_
          show AttnMath.weight (Z 1) _ (qb + 128 + r.val) (qb + (128 + (y.val - 128))) = AttnMath.weight (Z 1) _ (qb + 128 + r.val) (qb + y.val)
          rw [show 128 + (y.val - 128) = y.val by omega]
      · by_cases hy : y.val < 128
        · exact (skip _ _ 0 7 0 256 _ _ _ 0 2 r y (by simp)).trans <| (skip _ _ 0 6 0 256 _ _ _ 0 2 r y (by simp)).trans <| (skip _ _ 0 5 0 256 _ _ _ 0 2 r y (by simp)).trans <| (skip _ _ 0 4 0 256 _ _ _ 0 2 r y (by simp)).trans <| (skip _ _ 0 3 128 128 _ _ _ 0 2 r y (by simp)).trans <| (skip _ _ 0 3 0 128 _ _ _ 0 2 r y (by simp)).trans <| (skip _ _ 0 2 128 128 _ _ _ 0 2 r y (by simp <;> omega)).trans <| (hith _ _ 0 2 0 _ _ _ 0 2 r y ⟨y.val, hy⟩ rfl rfl (Nat.zero_add _).symm).trans <| (pay396_apply _).trans
            (weight_late _ _ _ (show qb + y.val ≤ qb + 128 + r.val by omega)).symm
        · refine (skip _ _ 0 7 0 256 _ _ _ 0 2 r y (by simp)).trans <| (skip _ _ 0 6 0 256 _ _ _ 0 2 r y (by simp)).trans <| (skip _ _ 0 5 0 256 _ _ _ 0 2 r y (by simp)).trans <| (skip _ _ 0 4 0 256 _ _ _ 0 2 r y (by simp)).trans <| (skip _ _ 0 3 128 128 _ _ _ 0 2 r y (by simp)).trans <| (skip _ _ 0 3 0 128 _ _ _ 0 2 r y (by simp)).trans <| (hith _ _ 0 2 128 _ _ _ 0 2 r y ⟨y.val - 128, by omega⟩ rfl rfl (show y.val = 128 + (y.val - 128) by omega)).trans <| (item_d0 _ _ qb hz2 hy2 r _).trans ?_
          show AttnMath.weight (Z 2) _ (qb + 128 + r.val) (qb + (128 + (y.val - 128))) = AttnMath.weight (Z 2) _ (qb + 128 + r.val) (qb + y.val)
          rw [show 128 + (y.val - 128) = y.val by omega]
      · by_cases hy : y.val < 128
        · exact (skip _ _ 0 7 0 256 _ _ _ 0 3 r y (by simp)).trans <| (skip _ _ 0 6 0 256 _ _ _ 0 3 r y (by simp)).trans <| (skip _ _ 0 5 0 256 _ _ _ 0 3 r y (by simp)).trans <| (skip _ _ 0 4 0 256 _ _ _ 0 3 r y (by simp)).trans <| (skip _ _ 0 3 128 128 _ _ _ 0 3 r y (by simp <;> omega)).trans <| (hith _ _ 0 3 0 _ _ _ 0 3 r y ⟨y.val, hy⟩ rfl rfl (Nat.zero_add _).symm).trans <| (pay396_apply _).trans
            (weight_late _ _ _ (show qb + y.val ≤ qb + 128 + r.val by omega)).symm
        · refine (skip _ _ 0 7 0 256 _ _ _ 0 3 r y (by simp)).trans <| (skip _ _ 0 6 0 256 _ _ _ 0 3 r y (by simp)).trans <| (skip _ _ 0 5 0 256 _ _ _ 0 3 r y (by simp)).trans <| (skip _ _ 0 4 0 256 _ _ _ 0 3 r y (by simp)).trans <| (hith _ _ 0 3 128 _ _ _ 0 3 r y ⟨y.val - 128, by omega⟩ rfl rfl (show y.val = 128 + (y.val - 128) by omega)).trans <| (item_d0 _ _ qb hz3 hy3 r _).trans ?_
          show AttnMath.weight (Z 3) _ (qb + 128 + r.val) (qb + (128 + (y.val - 128))) = AttnMath.weight (Z 3) _ (qb + 128 + r.val) (qb + y.val)
          rw [show 128 + (y.val - 128) = y.val by omega]
      · exact (skip _ _ 0 7 0 256 _ _ _ 0 4 r y (by simp)).trans <| (skip _ _ 0 6 0 256 _ _ _ 0 4 r y (by simp)).trans <| (skip _ _ 0 5 0 256 _ _ _ 0 4 r y (by simp)).trans <| (hit _ _ 0 4 _ _ _ 0 4 r y rfl rfl).trans (item_d _ _ _ qb hz4 hy4 hc0 r y)
      · exact (skip _ _ 0 7 0 256 _ _ _ 0 5 r y (by simp)).trans <| (skip _ _ 0 6 0 256 _ _ _ 0 5 r y (by simp)).trans <| (hit _ _ 0 5 _ _ _ 0 5 r y rfl rfl).trans (item_d _ _ _ qb hz5 hy5 hc1 r y)
      · exact (skip _ _ 0 7 0 256 _ _ _ 0 6 r y (by simp)).trans <| (hit _ _ 0 6 _ _ _ 0 6 r y rfl rfl).trans (item_d _ _ _ qb hz6 hy6 hc2 r y)
      · exact (hit _ _ 0 7 _ _ _ 0 7 r y rfl rfl).trans (item_d _ _ _ qb hz7 hy7 hc3 r y)

end AttnSpec
-- ==== Proof.AttnLoops.lean ====
module

public import proofs.«01_k».proof.Proof.AttnSpec

/-! The attention's two loops: over a tile's pairs of key blocks, from the diagonal down, and over the query tiles. -/

@[expose] public section

set_option maxRecDepth 65536

noncomputable section

namespace AttnLoops

open Cert.KernelIdeal Cert.KernelIdeal.Gen AttnSteps AttnPay AttnSpec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section Offsets

theorem trips1 : k0_t1_loop.trips = 8 := by decide
theorem trips2 : ∀ q : Fin k0_t1_loop.trips, (k0_t2_loop q).trips = (q.val + 1) / 2 := by decide
theorem cond_iff : ∀ (q : Fin k0_t1_loop.trips) (k : Fin (k0_t2_loop q).trips), k0_cond1 q k = 1#1 ↔ 2 * k.val + 2 ≤ q.val := by decide +kernel

theorem oAcc1_eq : ∀ (q : Fin k0_t1_loop.trips) (k : Fin (k0_t2_loop q).trips) (h : Fin 4) (b : Fin 2),
    oAcc1 q k h b = ![0, 64 * h.val, 256 * (q.val - 2 * k.val) + 128 * (1 - b.val)] := by decide +kernel
theorem oKey1_eq : ∀ (q : Fin k0_t1_loop.trips) (k : Fin (k0_t2_loop q).trips) (b p : Fin 2),
    oKey1 q k b p = ![256 * (q.val - min (2 * k.val + 2) q.val) + 128 * (1 - b.val), 128 * p.val] := by decide +kernel
theorem oQry1_eq : ∀ (q : Fin k0_t1_loop.trips) (p : Fin 2), oQry1 q p = ![0, 128 * p.val, 256 * q.val] := by decide +kernel
theorem oAcc2_eq : ∀ (q : Fin k0_t1_loop.trips) (k : Fin (k0_t2_loop q).trips), k0_cond1 q k = 1#1 → ∀ (h : Fin 4) (b : Fin 2),
    oAcc2 q k h b = ![0, 64 * h.val, 256 * (q.val - (2 * k.val + 1)) + 128 * (1 - b.val)] := by decide +kernel
theorem oKey2_eq : ∀ (q : Fin k0_t1_loop.trips) (k : Fin (k0_t2_loop q).trips), k0_cond1 q k = 1#1 → ∀ b p : Fin 2,
    oKey2 q k b p = ![256 * (q.val - min (2 * k.val + 3) q.val) + 128 * (1 - b.val), 128 * p.val] := by decide +kernel
theorem oQry2_eq : ∀ (q : Fin k0_t1_loop.trips) (k : Fin (k0_t2_loop q).trips), k0_cond1 q k = 1#1 → ∀ p : Fin 2,
    oQry2 q k p = ![0, 128 * p.val, 256 * q.val] := by decide +kernel
theorem oKey0_eq : ∀ (q : Fin k0_t1_loop.trips) (b p : Fin 2),
    oKey0 q b p = ![256 * (q.val - min 1 q.val) + 128 * (1 - b.val), 128 * p.val] := by decide +kernel
theorem oQry0_eq : ∀ (q : Fin k0_t1_loop.trips) (p : Fin 2), oQry0 q p = ![0, 128 * p.val, 256 * q.val] := by decide +kernel
theorem oAccE_eq : ∀ (q : Fin k0_t1_loop.trips) (h : Fin 4) (b : Fin 2), oAccE q h b = ![0, 64 * h.val, 0 + 128 * (1 - b.val)] := by decide +kernel
theorem oWE_eq : ∀ (q : Fin k0_t1_loop.trips) (h : Fin 4) (b : Fin 2), oWE q h b = ![q.val % 2, 4 * b.val + h.val, 0, 0] := by decide +kernel
theorem oKeyN_eq : ∀ (q : Fin k0_t1_loop.trips) (b p : Fin 2),
    oKeyN q b p = ![256 * min (q.val + 1) 7 + 128 * (1 - b.val), 128 * p.val] := by decide +kernel
theorem oQryN_eq : ∀ (q : Fin k0_t1_loop.trips) (p : Fin 2), oQryN q p = ![0, 128 * p.val, 256 * min (q.val + 1) 7] := by decide +kernel
theorem off53_eq : ∀ q : Fin k0_t1_loop.trips, k0_off53 q = ![256 * q.val, 0] := by decide +kernel
theorem oKeyI_eq : ∀ b p : Fin 2, oKeyI b p = ![0 + 128 * (1 - b.val), 128 * p.val] := by decide
theorem oQryI_eq : ∀ p : Fin 2, oQryI p = ![0, 128 * p.val, 0] := by decide
theorem q8_eq0 : ∀ (h : Fin 4) (b : Fin 2), q8 0 h b = ![(0 : Fin 2).val, 4 * b.val + h.val, 0, 0] := by decide
theorem q8_eq1 : ∀ (h : Fin 4) (b : Fin 2), q8 1 h b = ![(1 : Fin 2).val, 4 * b.val + h.val, 0, 0] := by decide

end Offsets

/-- What holds before the trip over pairs `2k` and `2k + 1` of tile `q`: their weights and scores, and the sums and the
    carries of the pairs before; after the last trip the last pair's weights. -/
def Inv2 (Z : ℕ → ℕ → ℕ → EReal) (vf : ℕ → ℕ → EReal) (q k : ℕ) (g : C4) (x6 : S256x256.Idx → EReal) (x7 x8 : S2x8x128x256.Idx → EReal) : Prop :=
  (2 * k ≤ q → IsZ Z 1 x7 (256 * (q - min (2 * k + 1) q)) (256 * q) ∧ IsA Z 0 x8 (256 * (q - 2 * k)) (256 * q)
    ∧ IsAcc Z vf x6 (256 * (q - 2 * k) + 256) (256 * q) ∧ IsC Z g (256 * (q - 2 * k)) (256 * q))
  ∧ (q < 2 * k → IsA Z 1 x8 0 (256 * q) ∧ IsAcc Z vf x6 256 (256 * q))

theorem zSame {Z : ℕ → ℕ → ℕ → EReal} {slot : Fin 2} {x x' : S2x8x128x256.Idx → EReal} {kb qb : ℕ} (h : IsZ Z slot x kb qb) (h' : Same slot x x') : IsZ Z slot x' kb qb :=
  fun i r y => (h' i r y).trans (h i r y)
theorem aSame {Z : ℕ → ℕ → ℕ → EReal} {slot : Fin 2} {x x' : S2x8x128x256.Idx → EReal} {kb qb : ℕ} (h : IsA Z slot x kb qb) (h' : Same slot x x') : IsA Z slot x' kb qb :=
  fun i r y => (h' i r y).trans (h i r y)

variable (c : Dev nD) (arg2 : Memref sig .tc .vmem S1x256x2048 .bf16) (arg3 : Memref sig .tc .vmem S2048x256 .bf16) (arg4 : Memref sig .tc .vmem S1x256x2048 .bf16)
  (arg6 : Memref sig .tc .vmem S256x256 .f32) (arg7 : Memref sig .tc .vmem S2x8x128x256 .f32) (arg8 : Memref sig .tc .vmem S2x8x128x256 .bf16) (harg8 : arg8.IsWhole)
variable {kf qf vf : ℕ → ℕ → EReal} (f2 : Buf (Elt Ideal) (arg2.view.loc (c : Thread nD τ))) (f3 : Buf (Elt Ideal) (arg3.view.loc (c : Thread nD τ))) (f4 : Buf (Elt Ideal) (arg4.view.loc (c : Thread nD τ)))

/-- The buffers between the trips over a tile's pairs. -/
def held2 (kf qf vf : ℕ → ℕ → EReal) (q k : ℕ) (g : C4) : sProp 𝕄 :=
  iprop(pt c arg2 f2 ∗ pt c arg3 f3 ∗ pt c arg4 f4 ∗ ∃ f6 f7 f8, ⌜Inv2 (score kf qf) vf q k g (arg6.view.read (Elt Ideal) f6) (arg7.view.read (Elt Ideal) f7) (arg8.view.read (Elt Ideal) f8)⌝
    ∗ pt c arg6 f6 ∗ pt c arg7 f7 ∗ pt c arg8 f8)

variable (h2 : Is2 qf (arg2.view.read (Elt Ideal) f2)) (h3 : Is3 kf (arg3.view.read (Elt Ideal) f3)) (h4 : Is2 vf (arg4.view.read (Elt Ideal) f4))

include h2 h3 h4 in
set_option maxHeartbeats 4000000 in
/-- A trip over a tile's pairs. -/
theorem trip2_spec (q : Fin k0_t1_loop.trips) (k : Fin (k0_t2_loop q).trips) (g : C4) :
    held2 c arg2 arg3 arg4 arg6 arg7 arg8 f2 f3 f4 kf qf vf q.val k.val g
    ⊢ wp frame (wpE (defs₀ (F := Ideal)) Variants.none (c : Thread nD τ) none) Set.univ (trip2 arg2 arg3 arg4 arg6 arg7 arg8 harg8 k0_pay442 k0_pay443 q k g)
        (fun g' => held2 c arg2 arg3 arg4 arg6 arg7 arg8 f2 f3 f4 kf qf vf q.val (k.val + 1) g') := by
  have hk : 2 * k.val + 1 ≤ q.val := by have := lt_of_lt_of_eq k.isLt (trips2 q); omega
  unfold trip2 held2
  iintro ⟨H2, H3, H4, %f6, %f7, %f8, %hI, H6, H7, H8⟩
  obtain ⟨hz, ha, hs, hg⟩ := hI.1 (by omega)
  rw [Nat.min_eq_left hk] at hz
  rw [wp_bind]
  iapply (wp_wand_r frame _ Set.univ)
  isplitl [H4 H6 H8]
  · iapply (acc_spec c arg4 arg6 arg8 0 (256 * (q.val - 2 * k.val)) (256 * q.val) (by omega) _ _ _ _ (oAcc1_eq q k) q8_eq0 f4 f6 f8 h4 hs ha)
    isplitl [H4]; · iexact H4
    isplitl [H6]; · iexact H6
    iexact H8
  iintro %_ ⟨H4, ⟨%f6a, %hs1, H6⟩, H8⟩
  rw [wp_bind]
  iapply (wp_wand_r frame _ Set.univ)
  isplitl [H2 H3 H7]
  · iapply (sc0_spec c arg2 arg3 arg7 (256 * (q.val - min (2 * k.val + 2) q.val)) (256 * q.val) _ _ _ _ (oKey1_eq q k) (oQry1_eq q) f2 f3 f7 h2 h3)
    isplitl [H2]; · iexact H2
    isplitl [H3]; · iexact H3
    iexact H7
  iintro %_ ⟨H2, H3, %f7a, %hza, H7⟩
  rw [wp_bind]
  iapply (wp_wand_r frame _ Set.univ)
  isplitl [H7 H8]
  · iapply (w1_spec c arg7 arg8 harg8 (256 * (q.val - (2 * k.val + 1))) (256 * q.val) (by omega) g
      (by rw [show 256 * (q.val - (2 * k.val + 1)) + 256 = 256 * (q.val - 2 * k.val) by omega]; exact hg) f7a f8 (zSame hz hza.2))
    isplitl [H7]; · iexact H7
    iexact H8
  iintro %g1 ⟨%f7b, %f8b, %hw, H7, H8⟩
  obtain ⟨hw7, hwa, hw8, hwg⟩ := hw
  by_cases hC : k0_cond1 q k = 1#1
  · have hk2 : 2 * k.val + 2 ≤ q.val := (cond_iff q k).mp hC
    simp only [dif_pos hC]
    have hz0 : IsZ (score kf qf) 0 (arg7.view.read (Elt Ideal) f7b) (256 * (q.val - (2 * k.val + 2))) (256 * q.val) := by
      have := zSame hza.1 hw7
      rwa [Nat.min_eq_left hk2] at this
    rw [wp_bind, wp_bind]
    iapply (wp_wand_r frame _ Set.univ)
    isplitl [H4 H6 H8]
    · iapply (acc_spec c arg4 arg6 arg8 1 (256 * (q.val - (2 * k.val + 1))) (256 * q.val) (by omega) _ _ _ _ (oAcc2_eq q k hC) q8_eq1 f4 f6a f8b h4
        (by rw [show 256 * (q.val - (2 * k.val + 1)) + 256 = 256 * (q.val - 2 * k.val) by omega]; exact hs1) hwa)
      isplitl [H4]; · iexact H4
      isplitl [H6]; · iexact H6
      iexact H8
    iintro %_ ⟨H4, ⟨%f6c, %hs2, H6⟩, H8⟩
    rw [wp_bind]
    iapply (wp_wand_r frame _ Set.univ)
    isplitl [H2 H3 H7]
    · iapply (sc1_spec c arg2 arg3 arg7 (256 * (q.val - min (2 * k.val + 3) q.val)) (256 * q.val) _ _ _ _ (oKey2_eq q k hC) (oQry2_eq q k hC) f2 f3 f7b h2 h3)
      isplitl [H2]; · iexact H2
      isplitl [H3]; · iexact H3
      iexact H7
    iintro %_ ⟨H2, H3, %f7c, %hzc, H7⟩
    iapply (wp_wand_r frame _ Set.univ)
    isplitl [H7 H8]
    · iapply (w0_spec c arg7 arg8 harg8 (256 * (q.val - (2 * k.val + 2))) (256 * q.val) (by omega) g1
        (by rw [show 256 * (q.val - (2 * k.val + 2)) + 256 = 256 * (q.val - (2 * k.val + 1)) by omega]; exact hwg) f7c f8b (zSame hz0 hzc.2))
      isplitl [H7]; · iexact H7
      iexact H8
    iintro %g2 ⟨%f7d, %f8d, %hv, H7, H8⟩
    obtain ⟨hv7, hva, hv8, hvg⟩ := hv
    rw [wp_pure]
    imodintro
    isplitl [H2]; · iexact H2
    isplitl [H3]; · iexact H3
    isplitl [H4]; · iexact H4
    iexists _, _, _
    isplitr
    rotate_left
    · isplitl [H6]; · iexact H6
      isplitl [H7]; · iexact H7
      iexact H8
    · ipureintro
      refine ⟨fun _ => ⟨?_, hva, ?_, hvg⟩, fun h => by omega⟩
      · exact zSame hzc.1 hv7
      · rw [show 256 * (q.val - 2 * (k.val + 1)) + 256 = 256 * (q.val - (2 * k.val + 1)) by omega]; exact hs2
  · have hk2 : ¬ 2 * k.val + 2 ≤ q.val := fun h => hC ((cond_iff q k).mpr h)
    simp only [dif_neg hC]
    rw [wp_bind, wp_pure]
    imodintro
    rw [wp_pure]
    imodintro
    isplitl [H2]; · iexact H2
    isplitl [H3]; · iexact H3
    isplitl [H4]; · iexact H4
    iexists _, _, _
    isplitr
    rotate_left
    · isplitl [H6]; · iexact H6
      isplitl [H7]; · iexact H7
      iexact H8
    · ipureintro
      refine ⟨fun h => by omega, fun _ => ⟨?_, ?_⟩⟩
      · rw [show 256 * (q.val - (2 * k.val + 1)) = 0 by omega] at hwa; exact hwa
      · rw [show 256 * (q.val - 2 * k.val) = 256 by omega] at hs1; exact hs1

include h2 h3 h4 in
/-- The trips over a tile's pairs. -/
theorem loop2_spec (q : Fin k0_t1_loop.trips) (g : C4) :
    held2 c arg2 arg3 arg4 arg6 arg7 arg8 f2 f3 f4 kf qf vf q.val 0 g
    ⊢ wp frame (wpE (defs₀ (F := Ideal)) Variants.none (c : Thread nD τ) none) Set.univ (loop2P arg2 arg3 arg4 arg6 arg7 arg8 harg8 k0_pay442 k0_pay443 q g)
        (fun g' => held2 c arg2 arg3 arg4 arg6 arg7 arg8 f2 f3 f4 kf qf vf q.val ((q.val + 1) / 2) g') := by
  unfold loop2P Scf.Loop.for
  iintro H
  iapply (Scf.wp_for frame (wpE (defs₀ (F := Ideal)) Variants.none (c : Thread nD τ) none) Set.univ (k0_t2_loop q).lb (k0_t2_loop q).ub (k0_t2_loop q).st (k0_t2_ok q) g
    (trip2 arg2 arg3 arg4 arg6 arg7 arg8 harg8 k0_pay442 k0_pay443 q)
    (fun k g => held2 c arg2 arg3 arg4 arg6 arg7 arg8 f2 f3 f4 kf qf vf q.val k g)
    (fun k g => trip2_spec c arg2 arg3 arg4 arg6 arg7 arg8 harg8 f2 f3 f4 h2 h3 h4 q k g))
  isplitl [H]; · iexact H
  iintro %g' H
  rw [show Scf.trips (k0_t2_loop q).lb (k0_t2_loop q).ub (k0_t2_loop q).st = (q.val + 1) / 2 from trips2 q]
  iexact H

/-- What the attention gives at query `s` and channel `n` of a group of four heads. -/
def out (Z : ℕ → ℕ → ℕ → EReal) (vf : ℕ → ℕ → EReal) (s n : ℕ) : EReal :=
  ∑ t ∈ Finset.Ico 0 (256 * (s / 256) + 256), vf n t * AttnMath.weight (Z (n / 64)) (256 * (s / 256) + 256) t s

/-- The output's first tiles are done. -/
def IsOut (Z : ℕ → ℕ → ℕ → EReal) (vf : ℕ → ℕ → EReal) (x : S2048x256.Idx → EReal) (q : ℕ) : Prop :=
  ∀ (s : Fin 2048) (n : Fin 256), s.val < 256 * q → x (ix2 s n) = out Z vf s.val n.val

section Store

variable (v : View sig .tc .vmem S2048x256 .bf16) (f : v.ty.Contents (Elt Ideal))

theorem out_step {Z : ℕ → ℕ → ℕ → EReal} (v6 : View sig .tc .vmem S256x256 .f32) (f6 : v6.ty.Contents (Elt Ideal)) (q : ℕ) (o : Fin 2 → ℕ) (inb) (ho : o = ![256 * q, 0])
    (y : Vec Ideal S256x256 .f32) (hy : ∀ a b : Fin 256, y (ix2 a b) = ∑ t ∈ Finset.Ico 0 (256 * q + 256), vf a.val t * AttnMath.weight (Z (a.val / 64)) (256 * q + 256) t (256 * q + b.val))
    (h : IsOut Z vf (v.read (Elt Ideal) f) q) :
    IsOut Z vf (v.read (Elt Ideal) (v.writes (Elt Ideal) f [(⟨Rect.unit (s := S2048x256) o S256x256.size inb, k0_pay7 y⟩ : View.Piece (Elt Ideal) S2048x256 .bf16)])) (q + 1) := by
  intro s n hs
  by_cases hq : s.val < 256 * q
  · refine (View.read_writes_cons_unit_of_not_mem v f inb _ [] _ ho 0 (.inl hq)).trans (h s n hq)
  · refine (View.read_writes_cons_unit_of_mem v f inb _ [] _ (ix2 (⟨s.val - 256 * q, by omega⟩ : Fin 256) n) ho fun a => ?_).trans ?_
    · match a with
      | ⟨0, _⟩ => show s.val = 256 * q + (s.val - 256 * q); omega
      | ⟨1, _⟩ => exact (Nat.zero_add _).symm
    · refine (pay7_apply y _ _).trans ((hy _ _).trans ?_)
      unfold out
      rw [show s.val / 256 = q by omega, show 256 * q + (s.val - 256 * q) = s.val by omega]

end Store

variable (arg5 : Memref sig .tc .vmem S2048x256 .bf16) (harg5 : arg5.IsWhole)

/-- The buffers between the trips over the query tiles. -/
def held1 (kf qf vf : ℕ → ℕ → EReal) (q : ℕ) : sProp 𝕄 :=
  iprop(pt c arg2 f2 ∗ pt c arg3 f3 ∗ pt c arg4 f4 ∗ ∃ f5 f6 f7 f8, ⌜IsZ (score kf qf) 0 (arg7.view.read (Elt Ideal) f7) (256 * min q 7) (256 * min q 7)
      ∧ IsOut (score kf qf) vf (arg5.view.read (Elt Ideal) f5) q⌝
    ∗ pt c arg5 f5 ∗ pt c arg6 f6 ∗ pt c arg7 f7 ∗ pt c arg8 f8)

/-- The first store of a trip empties the sums. -/
def clear : Prog (TpuEff nD τ sig (Elt Ideal) Λ₀ .tc) Unit := do
  let x : Vec Ideal S256x256 .f32 ← Prog.lift (.load arg6 (Rect.unit (s := S256x256) ![0, 0] S256x256.size inb_S256x256_S256x256_0_0).toLoadRect (View.loadsAt_vmem h_S256x256))
  Prog.lift (.store arg6 (Rect.unit (s := S256x256) ![0, 0] S256x256.size inb_S256x256_S256x256_0_0) (k0_pay324 (F := Ideal)) Finset.univ (View.stores_vmem_bits_univ h_S256x256 rfl) (.inl rfl))

theorem clear_spec (Z : ℕ → ℕ → ℕ → EReal) (vf : ℕ → ℕ → EReal) (qb : ℕ) (f6) :
    (pt c arg6 f6 : sProp 𝕄) ⊢ wp frame (wpE (defs₀ (F := Ideal)) Variants.none (c : Thread nD τ) none) Set.univ (clear arg6)
      (fun _ => iprop(∃ f, ⌜IsAcc Z vf (arg6.view.read (Elt Ideal) f) (qb + 256) qb⌝ ∗ pt c arg6 f)) := by
  unfold clear
  iintro H6
  sl_exec
  sl_step
  iexists _
  isplitr
  rotate_left
  · iexact H6
  · ipureintro
    intro d y
    rw [Finset.Ico_self, Finset.sum_empty]
    refine (View.read_writes_cons_unit_of_mem arg6.view f6 inb_S256x256_S256x256_0_0 _ [] _ (ix2 d y) rfl fun a => ?_).trans (pay324_apply _)
    match a with
    | ⟨0, _⟩ => exact (Nat.zero_add _).symm
    | ⟨1, _⟩ => exact (Nat.zero_add _).symm

/-- The last stores of a trip: the tile's rows of the output. -/
def flush (q : Fin k0_t1_loop.trips) : Prog (TpuEff nD τ sig (Elt Ideal) Λ₀ .tc) Unit := do
  let y : Vec Ideal S256x256 .f32 ← Prog.lift (.load arg6 (Rect.unit (s := S256x256) ![0, 0] S256x256.size inb_S256x256_S256x256_0_0).toLoadRect (View.loadsAt_vmem h_S256x256))
  let w : Vec Ideal S256x256 .bf16 ← Prog.lift (.load arg5 (Rect.unit (s := S2048x256) (k0_off53 q) S256x256.size (k0_off53_inb q)).toLoadRect (View.loadsAt_vmem h_S256x256))
  Prog.lift (.store arg5 (Rect.unit (s := S2048x256) (k0_off53 q) S256x256.size (k0_off53_inb q)) (k0_pay7 y) Finset.univ (View.stores_vmem h_S256x256 (harg5.storeExact_slice rfl _ (k0_off53_packedbf16 q)) (fun _ => rfl)) (.inl rfl))
  pure ⟨⟩

theorem flush_spec {Z : ℕ → ℕ → ℕ → EReal} {vf : ℕ → ℕ → EReal} (q : Fin k0_t1_loop.trips) (f5 f6)
    (h5 : IsOut Z vf (arg5.view.read (Elt Ideal) f5) q.val) (h6 : IsAcc Z vf (arg6.view.read (Elt Ideal) f6) 0 (256 * q.val)) :
    (iprop(pt c arg5 f5 ∗ pt c arg6 f6) : sProp 𝕄) ⊢ wp frame (wpE (defs₀ (F := Ideal)) Variants.none (c : Thread nD τ) none) Set.univ (flush arg6 arg5 harg5 q)
      (fun _ => iprop((∃ f, ⌜IsOut Z vf (arg5.view.read (Elt Ideal) f) (q.val + 1)⌝ ∗ pt c arg5 f) ∗ pt c arg6 f6)) := by
  unfold flush
  iintro ⟨H5, H6⟩
  sl_exec
  sl_step
  isplitr [H6]
  rotate_left
  · iexact H6
  iexists _
  isplitr
  rotate_left
  · iexact H5
  · ipureintro
    refine out_step (vf := vf) arg5.view f5 arg6.view f6 q.val _ _ (off53_eq q) _ (fun a b => ?_) h5
    refine (ld arg6.view f6 _ _ inb_S256x256_S256x256_0_0 _ (ix2 a b) fun d => ?_).trans (h6 a b)
    match d with
    | ⟨0, _⟩ => exact (Nat.zero_add _).symm
    | ⟨1, _⟩ => exact (Nat.zero_add _).symm

/-- A trip over the query tiles, as its steps. -/
theorem trip1_steps (q : Fin k0_t1_loop.trips) (x : Unit) : trip1 arg2 arg3 arg4 arg6 arg7 arg8 harg8 arg5 harg5 i0 i1 i2 i3 k0_pay442 k0_pay443 q x = (do
    clear arg6
    scP1 arg2 arg3 arg7 k0_pay443 (oKey0 q) (oKey0_inb q) (oQry0 q) (oQry0_inb q)
    let g ← wD arg7 arg8 harg8 i0 i1 i2 i3 k0_pay442 k0_pay340
    let g ← loop2P arg2 arg3 arg4 arg6 arg7 arg8 harg8 k0_pay442 k0_pay443 q g
    accP arg4 arg6 arg8 (oAccE q) (oAccE_inb q) (oWE q) (oWE_inb q)
    scP0 arg2 arg3 arg7 k0_pay443 (oKeyN q) (oKeyN_inb q) (oQryN q) (oQryN_inb q)
    flush arg6 arg5 harg5 q) := by
  unfold trip1 clear flush
  rw [Prog.bind_assoc]

include h2 h3 h4 in
set_option maxHeartbeats 4000000 in
/-- A trip over the query tiles. -/
theorem trip1_spec (q : Fin k0_t1_loop.trips) (x : Unit) :
    held1 c arg2 arg3 arg4 arg6 arg7 arg8 f2 f3 f4 arg5 kf qf vf q.val
    ⊢ wp frame (wpE (defs₀ (F := Ideal)) Variants.none (c : Thread nD τ) none) Set.univ (trip1 arg2 arg3 arg4 arg6 arg7 arg8 harg8 arg5 harg5 i0 i1 i2 i3 k0_pay442 k0_pay443 q x)
        (fun _ => held1 c arg2 arg3 arg4 arg6 arg7 arg8 f2 f3 f4 arg5 kf qf vf (q.val + 1)) := by
  have hq8 : q.val < 8 := lt_of_lt_of_eq q.isLt trips1
  rw [trip1_steps]
  unfold held1
  iintro ⟨H2, H3, H4, %f5, %f6, %f7, %f8, %hI, H5, H6, H7, H8⟩
  obtain ⟨hz, ho⟩ := hI
  rw [Nat.min_eq_left (show q.val ≤ 7 by omega)] at hz
  rw [wp_bind]
  iapply (wp_wand_r frame _ Set.univ)
  isplitl [H6]
  · iapply (clear_spec c arg6 (score kf qf) vf (256 * q.val) f6)
    iexact H6
  iintro %_ ⟨%f6a, %hs, H6⟩
  rw [wp_bind]
  iapply (wp_wand_r frame _ Set.univ)
  isplitl [H2 H3 H7]
  · iapply (sc1_spec c arg2 arg3 arg7 (256 * (q.val - min 1 q.val)) (256 * q.val) _ _ _ _ (oKey0_eq q) (oQry0_eq q) f2 f3 f7 h2 h3)
    isplitl [H2]; · iexact H2
    isplitl [H3]; · iexact H3
    iexact H7
  iintro %_ ⟨H2, H3, %f7a, %hza, H7⟩
  rw [wp_bind]
  iapply (wp_wand_r frame _ Set.univ)
  isplitl [H7 H8]
  · iapply (wd_spec c arg7 arg8 harg8 (256 * q.val) f7a f8 (zSame hz hza.2))
    isplitl [H7]; · iexact H7
    iexact H8
  iintro %g ⟨%f7b, %f8b, %hw, H7, H8⟩
  obtain ⟨hw7, hwa, hwg⟩ := hw
  rw [wp_bind]
  iapply (wp_wand_r frame _ Set.univ)
  isplitl [H2 H3 H4 H6 H7 H8]
  · iapply (loop2_spec c arg2 arg3 arg4 arg6 arg7 arg8 harg8 f2 f3 f4 h2 h3 h4 q g)
    unfold held2
    isplitl [H2]; · iexact H2
    isplitl [H3]; · iexact H3
    isplitl [H4]; · iexact H4
    iexists f6a, f7b, f8b
    isplitr
    rotate_left
    · isplitl [H6]; · iexact H6
      isplitl [H7]; · iexact H7
      iexact H8
    · ipureintro
      exact ⟨fun _ => ⟨zSame hza.1 hw7, hwa, hs, hwg⟩, fun h => by omega⟩
  unfold held2
  iintro %g1 ⟨H2, H3, H4, %f6c, %f7c, %f8c, %hJ, H6, H7, H8⟩
  have hJ' : IsA (score kf qf) (⟨q.val % 2, by omega⟩ : Fin 2) (arg8.view.read (Elt Ideal) f8c) 0 (256 * q.val)
      ∧ IsAcc (score kf qf) vf (arg6.view.read (Elt Ideal) f6c) (0 + 256) (256 * q.val) := by
    rcases Nat.mod_two_eq_zero_or_one q.val with he | he
    · obtain ⟨_, ha, hs', _⟩ := hJ.1 (by omega)
      rw [show 256 * (q.val - 2 * ((q.val + 1) / 2)) = 0 by omega] at ha hs'
      rw [show (⟨q.val % 2, by omega⟩ : Fin 2) = 0 from Fin.ext he]
      exact ⟨ha, hs'⟩
    · obtain ⟨ha, hs'⟩ := hJ.2 (by omega)
      rw [show (⟨q.val % 2, by omega⟩ : Fin 2) = 1 from Fin.ext he]
      exact ⟨ha, hs'⟩
  rw [wp_bind]
  iapply (wp_wand_r frame _ Set.univ)
  isplitl [H4 H6 H8]
  · iapply (acc_spec c arg4 arg6 arg8 (⟨q.val % 2, by omega⟩ : Fin 2) 0 (256 * q.val) (by omega) _ _ _ _ (oAccE_eq q) (oWE_eq q) f4 f6c f8c h4 hJ'.2 hJ'.1)
    isplitl [H4]; · iexact H4
    isplitl [H6]; · iexact H6
    iexact H8
  iintro %_ ⟨H4, ⟨%f6d, %hsd, H6⟩, H8⟩
  rw [wp_bind]
  iapply (wp_wand_r frame _ Set.univ)
  isplitl [H2 H3 H7]
  · iapply (sc0_spec c arg2 arg3 arg7 (256 * min (q.val + 1) 7) (256 * min (q.val + 1) 7) _ _ _ _ (oKeyN_eq q) (oQryN_eq q) f2 f3 f7c h2 h3)
    isplitl [H2]; · iexact H2
    isplitl [H3]; · iexact H3
    iexact H7
  iintro %_ ⟨H2, H3, %f7e, %hze, H7⟩
  iapply (wp_wand_r frame _ Set.univ)
  isplitl [H5 H6]
  · iapply (flush_spec c arg6 arg5 harg5 q f5 f6d ho hsd)
    isplitl [H5]; · iexact H5
    iexact H6
  iintro %_ ⟨⟨%f5f, %hof, H5⟩, H6⟩
  isplitl [H2]; · iexact H2
  isplitl [H3]; · iexact H3
  isplitl [H4]; · iexact H4
  iexists f5f, f6d, f7e, f8c
  isplitr
  rotate_left
  · isplitl [H5]; · iexact H5
    isplitl [H6]; · iexact H6
    isplitl [H7]; · iexact H7
    iexact H8
  · ipureintro
    exact ⟨hze.1, hof⟩

include h2 h3 h4 in
/-- The trips over the query tiles. -/
theorem loop1_spec :
    held1 c arg2 arg3 arg4 arg6 arg7 arg8 f2 f3 f4 arg5 kf qf vf 0
    ⊢ wp frame (wpE (defs₀ (F := Ideal)) Variants.none (c : Thread nD τ) none) Set.univ (loop1P arg2 arg3 arg4 arg6 arg7 arg8 harg8 arg5 harg5)
        (fun _ => held1 c arg2 arg3 arg4 arg6 arg7 arg8 f2 f3 f4 arg5 kf qf vf 8) := by
  unfold loop1P Scf.Loop.for
  iintro H
  iapply (Scf.wp_for frame (wpE (defs₀ (F := Ideal)) Variants.none (c : Thread nD τ) none) Set.univ k0_t1_loop.lb k0_t1_loop.ub k0_t1_loop.st k0_t1_ok ⟨⟩
    (trip1 arg2 arg3 arg4 arg6 arg7 arg8 harg8 arg5 harg5 i0 i1 i2 i3 k0_pay442 k0_pay443)
    (fun q _ => held1 c arg2 arg3 arg4 arg6 arg7 arg8 f2 f3 f4 arg5 kf qf vf q)
    (fun q x => trip1_spec c arg2 arg3 arg4 arg6 arg7 arg8 harg8 f2 f3 f4 h2 h3 h4 arg5 harg5 q x))
  isplitl [H]; · iexact H
  iintro %_ H
  rw [show Scf.trips k0_t1_loop.lb k0_t1_loop.ub k0_t1_loop.st = 8 from trips1]
  iexact H

include h2 h3 h4 in
/-- The body: the output is the attention's. -/
theorem body_spec (i : grid0.Coords) (harg2 : arg2.IsWhole) (harg3 : arg3.IsWhole) (harg4 : arg4.IsWhole) (harg6 : arg6.IsWhole) (harg7 : arg7.IsWhole) (f5 f6 f7 f8) :
    (iprop(pt c arg2 f2 ∗ pt c arg3 f3 ∗ pt c arg4 f4 ∗ pt c arg5 f5 ∗ pt c arg6 f6 ∗ pt c arg7 f7 ∗ pt c arg8 f8) : sProp 𝕄)
    ⊢ wp frame (wpE (defs₀ (F := Ideal)) Variants.none (c : Thread nD τ) none) Set.univ
        (cc0_stickbreak (F := Ideal) i arg2 harg2 arg3 harg3 arg4 harg4 arg5 harg5 arg6 harg6 arg7 harg7 arg8 harg8)
        (fun _ => held1 c arg2 arg3 arg4 arg6 arg7 arg8 f2 f3 f4 arg5 kf qf vf 8) := by
  rw [root_eq]
  iintro ⟨H2, H3, H4, H5, H6, H7, H8⟩
  rw [wp_bind]
  iapply (wp_wand_r frame _ Set.univ)
  isplitl [H2 H3 H7]
  · iapply (sc0_spec c arg2 arg3 arg7 0 0 _ _ _ _ oKeyI_eq oQryI_eq f2 f3 f7 h2 h3)
    isplitl [H2]; · iexact H2
    isplitl [H3]; · iexact H3
    iexact H7
  iintro %_ ⟨H2, H3, %f7a, %hza, H7⟩
  rw [wp_bind]
  iapply (wp_wand_r frame _ Set.univ)
  isplitl [H2 H3 H4 H5 H6 H7 H8]
  · iapply (loop1_spec c arg2 arg3 arg4 arg6 arg7 arg8 harg8 f2 f3 f4 h2 h3 h4 arg5 harg5)
    unfold held1
    isplitl [H2]; · iexact H2
    isplitl [H3]; · iexact H3
    isplitl [H4]; · iexact H4
    iexists f5, f6, f7a, f8
    isplitr
    rotate_left
    · isplitl [H5]; · iexact H5
      isplitl [H6]; · iexact H6
      isplitl [H7]; · iexact H7
      iexact H8
    · ipureintro
      exact ⟨hza.1, fun s n h => absurd h (by omega)⟩
  iintro %_ H
  rw [wp_pure]
  imodintro
  iexact H

end AttnLoops

end
-- ==== Proof.AttnOut.lean ====
module

public import proofs.«01_k».proof.Proof.AttnMath

/-! The array that the attention gives, as a function of the queries, the keys and the values. -/

@[expose] public section

noncomputable section

namespace AttnOut

open Idealize.ShloMosaic AttnMath

/-- A batch of sequences at natural indices. -/
def at3 (x : Shape.Idx ⟨3, ![32, 2048, 1024]⟩ → EReal) (b s n : ℕ) : EReal :=
  x (ix3 (⟨b % 32, Nat.mod_lt _ (by decide)⟩ : Fin 32) (⟨s % 2048, Nat.mod_lt _ (by decide)⟩ : Fin 2048) (⟨n % 1024, Nat.mod_lt _ (by decide)⟩ : Fin 1024))

theorem at3_eq (x : Shape.Idx ⟨3, ![32, 2048, 1024]⟩ → EReal) (b : Fin 32) (s : Fin 2048) (n : Fin 1024) : at3 x b.val s.val n.val = x (ix3 b s n) := by
  unfold at3
  simp only [Nat.mod_eq_of_lt b.isLt, Nat.mod_eq_of_lt s.isLt, Nat.mod_eq_of_lt n.isLt, Fin.eta]

/-- The scale of the scores. -/
def scale : EReal := FloatOps.ofBits (F := Ideal) .f32 0x3E000000#32

/-- The score of key `t` for query `s`, of one head of one sequence. -/
def scores (xq xk : Shape.Idx ⟨3, ![32, 2048, 1024]⟩ → EReal) (b h t s : ℕ) : EReal :=
  ∑ d : Fin 64, at3 xk b t (64 * h + d.val) * (at3 xq b s (64 * h + d.val) * scale)

/-- The attention at query `s` of sequence `b`, channel `n`. -/
def attn (xq xk xv : Shape.Idx ⟨3, ![32, 2048, 1024]⟩ → EReal) (b s n : ℕ) : EReal :=
  ∑ t ∈ Finset.Ico 0 (256 * (s / 256) + 256), at3 xv b t n * weight (scores xq xk b (n / 64)) (256 * (s / 256) + 256) t s

/-- The attention's array. -/
def arr (xq xk xv : Shape.Idx ⟨3, ![32, 2048, 1024]⟩ → EReal) : Shape.Idx ⟨2, ![65536, 1024]⟩ → EReal :=
  fun i => attn xq xk xv ((i 0).val / 2048) ((i 0).val % 2048) (i 1).val

/-- The keys taken in beyond the query weigh nothing and leave the stick as it is. -/
theorem left_zero (Z : ℕ → ℕ → EReal) (q t : ℕ) (h : q ≤ t) : left Z q t = 0 := if_neg (by omega)

theorem weight_zero (Z : ℕ → ℕ → EReal) (B q t : ℕ) (h : q ≤ t) : weight Z B t q = 0 := if_neg (by omega)

theorem sum_left (Z : ℕ → ℕ → EReal) (q t B N : ℕ) (hB : q ≤ B) (hN : B ≤ N) (ht : t < q) :
    ∑ u ∈ Finset.Ico (t + 1) B, left Z q u = ∑ u ∈ Finset.Ico (t + 1) N, left Z q u := by
  rw [← Finset.sum_Ico_consecutive _ (show t + 1 ≤ B by omega) hN,
    Finset.sum_eq_zero (s := Finset.Ico B N) fun u hu => left_zero Z q u (by have := Finset.mem_Ico.mp hu; omega), add_zero]

theorem weight_far (Z : ℕ → ℕ → EReal) (q t B N : ℕ) (hB : q ≤ B) (hN : B ≤ N) : weight Z B t q = weight Z N t q := by
  unfold weight
  split
  · next h => rw [sum_left Z q t B N hB hN h]
  · rfl

/-- The attention over all the keys. -/
theorem attn_all (xq xk xv : Shape.Idx ⟨3, ![32, 2048, 1024]⟩ → EReal) (b s n : ℕ) (hs : s < 2048) :
    attn xq xk xv b s n = ∑ t : Fin 2048, weight (scores xq xk b (n / 64)) 2048 t.val s * at3 xv b t.val n := by
  unfold attn
  have hB : 256 * (s / 256) + 256 ≤ 2048 := by omega
  have hq : s ≤ 256 * (s / 256) + 256 := by omega
  rw [← Finset.sum_range (fun t => weight (scores xq xk b (n / 64)) 2048 t s * at3 xv b t n), Finset.range_eq_Ico,
    ← Finset.sum_Ico_consecutive _ (Nat.zero_le _) hB,
    Finset.sum_eq_zero (s := Finset.Ico _ 2048) fun u hu => by rw [weight_zero _ _ _ _ (by have := Finset.mem_Ico.mp hu; omega), zero_mul], add_zero]
  exact Finset.sum_congr rfl fun t _ => by rw [weight_far _ s t _ 2048 hq hB, mul_comm]

/-! ## The weight by logarithms of sigmoids -/

/-- The logarithm of one plus the exponential, by the larger of the score and zero. -/
def soft (x : EReal) : EReal := max x 0 + Ideal.log1p (Ideal.exp (-(max x (-x))))

theorem soft_bot : soft ⊥ = 0 := by
  unfold soft
  rw [EReal.neg_bot, max_eq_right bot_le, max_eq_right bot_le, EReal.neg_top, Ideal.exp_bot]
  unfold Ideal.log1p
  rw [add_zero, zero_add, show (1 : EReal) = ((1 : ℝ) : EReal) from rfl, Ideal.log_coe, if_neg (by norm_num), Real.log_one]
  rfl

theorem soft_top : soft ⊤ = ⊤ := by
  unfold soft
  rw [EReal.neg_top, max_eq_left bot_le, max_eq_left le_top, EReal.neg_top, Ideal.exp_bot]
  unfold Ideal.log1p
  rw [add_zero, show (1 : EReal) = ((1 : ℝ) : EReal) from rfl, Ideal.log_coe, if_neg (by norm_num), Real.log_one]
  rfl

theorem soft_coe (r : ℝ) : soft (r : EReal) = ((Real.log (1 + Real.exp r) : ℝ) : EReal) := by
  have e : ∀ x : ℝ, (1 : EReal) + Ideal.exp (x : EReal) = ((1 + Real.exp x : ℝ) : EReal) := fun x => by rw [Ideal.exp_coe, EReal.coe_add]; rfl
  have h : ∀ x : ℝ, 0 < 1 + Real.exp x := fun x => by have := Real.exp_pos x; linarith
  unfold soft Ideal.log1p
  rcases le_total 0 r with hr | hr
  · have h0 : (0 : EReal) ≤ (r : EReal) := EReal.coe_nonneg.mpr hr
    have h1 : -(r : EReal) ≤ (r : EReal) := by rw [← EReal.coe_neg]; exact EReal.coe_le_coe_iff.mpr (by linarith)
    rw [max_eq_left h0, max_eq_left h1, ← EReal.coe_neg, e, Ideal.log_coe, if_neg (not_le.mpr (h _)), ← EReal.coe_add]
    congr 1
    rw [← Real.log_exp r, ← Real.log_mul (Real.exp_pos _).ne' (h _).ne', Real.log_exp, mul_add, mul_one, ← Real.exp_add, add_neg_cancel, Real.exp_zero, add_comm]
  · have h0 : (r : EReal) ≤ 0 := by exact_mod_cast hr
    have h1 : (r : EReal) ≤ -(r : EReal) := by rw [← EReal.coe_neg]; exact EReal.coe_le_coe_iff.mpr (by linarith)
    rw [max_eq_right h0, max_eq_right h1, neg_neg, zero_add, e, Ideal.log_coe, if_neg (not_le.mpr (h _))]

theorem drop_coe (r : ℝ) : AttnPay.drop (r : EReal) = ((Real.log (1 + Real.exp r) : ℝ) : EReal) := by
  have h : 0 < 1 + Real.exp r := by have := Real.exp_pos r; linarith
  unfold AttnPay.drop
  rw [Ideal.exp_coe, show (1 : EReal) + ((Real.exp r : ℝ) : EReal) = ((1 + Real.exp r : ℝ) : EReal) by rw [EReal.coe_add]; rfl, Ideal.log_coe, if_neg (not_le.mpr h)]
  refine max_eq_right (EReal.coe_le_coe_iff.mpr ?_)
  rw [Real.le_log_iff_exp_le h]
  linarith

theorem soft_eq (x : EReal) : soft x = AttnPay.drop x := by
  induction x using EReal.rec with
  | bot =>
    rw [soft_bot]
    unfold AttnPay.drop
    rw [max_eq_right bot_le, Ideal.exp_bot, add_zero, show (1 : EReal) = ((1 : ℝ) : EReal) from rfl, Ideal.log_coe, if_neg (by norm_num), Real.log_one]
    rfl
  | top => rw [soft_top]; exact (max_eq_left le_top).symm
  | coe r => rw [soft_coe, drop_coe]

/-- The logarithm of the sigmoid of a score below plus infinity. -/
theorem neg_soft_neg (x : EReal) (hx : x ≠ ⊤) : -(soft (-x)) = x - AttnPay.drop x := by
  induction x using EReal.rec with
  | bot => rw [EReal.neg_bot, soft_top, EReal.neg_top, EReal.bot_sub]
  | top => exact absurd rfl hx
  | coe r =>
    rw [← EReal.coe_neg, soft_coe, drop_coe, ← EReal.coe_neg, ← EReal.coe_sub]
    congr 1
    have h : ∀ x : ℝ, 0 < 1 + Real.exp x := fun x => by have := Real.exp_pos x; linarith
    have : Real.log (1 + Real.exp r) = r + Real.log (1 + Real.exp (-r)) := by
      rw [← Real.log_exp r, ← Real.log_mul (Real.exp_pos _).ne' (h _).ne', Real.log_exp, mul_add, mul_one, ← Real.exp_add, add_neg_cancel, Real.exp_zero, add_comm]
    linarith

theorem neg_sum {ι : Type} (s : Finset ι) (f : ι → EReal) (h : ∀ i, 0 ≤ f i) : ∑ i ∈ s, -(f i) = -(∑ i ∈ s, f i) := by
  classical
  induction s using Finset.induction_on with
  | empty => simp
  | insert a s ha ih =>
    rw [Finset.sum_insert ha, Finset.sum_insert ha, ih]
    have h1 : f a ≠ ⊥ := fun e => absurd (e ▸ h a) (by simp)
    have h2 : ∑ i ∈ s, f i ≠ ⊥ := fun e => absurd (e ▸ Finset.sum_nonneg fun i _ => h i) (by simp)
    rw [EReal.neg_add (.inl h1) (.inr h2), sub_eq_add_neg]

/-- The weight, from the running sum of the logarithms from the key on, its own taken off again. -/
theorem weight_log (Z : ℕ → ℕ → EReal) (q t N : ℕ) (htN : t < N) :
    (if t < q then Ideal.exp (-(soft (-(Z t q))) + ((∑ u ∈ Finset.Ico t N, if u < q then -(soft (Z u q)) else 0) - (if t < q then -(soft (Z t q)) else 0))) else 0)
      = weight Z N t q := by
  unfold weight
  by_cases h : t < q
  · rw [if_pos h, if_pos h, if_pos h]
    congr 1
    have e : ∀ u, (if u < q then -(soft (Z u q)) else 0) = -(left Z q u) := fun u => by
      unfold left
      split
      · rw [soft_eq]
      · exact neg_zero.symm
    simp only [e]
    rw [Finset.sum_eq_sum_Ico_succ_bot htN, neg_sum _ _ (left_nonneg Z q), show left Z q t = AttnPay.drop (Z t q) from if_pos h, soft_eq (Z t q)]
    by_cases hz : Z t q = ⊤
    · rw [hz, show AttnPay.drop ⊤ = ⊤ from max_eq_left le_top, EReal.neg_top, EReal.bot_add, EReal.bot_sub, EReal.add_bot]
      rw [show (⊤ : EReal) - ⊤ = ⊥ from rfl, EReal.bot_sub]
    · have hd : AttnPay.drop (Z t q) ≠ ⊤ := by
        generalize Z t q = z at hz
        induction z using EReal.rec with
        | bot => rw [← soft_eq, soft_bot]; exact EReal.zero_ne_top
        | top => exact absurd rfl hz
        | coe r => rw [drop_coe]; exact EReal.coe_ne_top _
      have hd' : AttnPay.drop (Z t q) ≠ ⊥ := fun e => absurd (e ▸ drop_nonneg (Z t q)) (by simp)
      rw [neg_soft_neg _ hz]
      lift AttnPay.drop (Z t q) to ℝ using ⟨hd, hd'⟩ with r
      rw [add_comm (-(r : EReal)), ← EReal.coe_neg]
      rw [EReal.add_sub_cancel_right, sub_eq_add_neg _ (∑ u ∈ _, _)]
  · rw [if_neg h, if_neg h]

/-- The scale comes out of a score. -/
theorem scale_eq : scale = ((0.125 : ℝ) : EReal) := by
  show Ideal.ofBits .f32 0x3E000000#32 = _
  simp [Ideal.ofBits, Ideal.ieee, -EReal.coe_mul]; norm_num

theorem sum_scale {ι : Type} (s : Finset ι) (f : ι → EReal) : ∑ i ∈ s, f i * scale = (∑ i ∈ s, f i) * scale := by
  classical
  have h0 : (0 : EReal) ≤ scale := by rw [scale_eq]; exact EReal.coe_nonneg.mpr (by norm_num)
  have h1 : scale ≠ ⊤ := by rw [scale_eq]; exact EReal.coe_ne_top _
  induction s using Finset.induction_on with
  | empty => simp
  | insert a s ha ih => rw [Finset.sum_insert ha, Finset.sum_insert ha, ih, EReal.right_distrib_of_nonneg_of_ne_top h0 h1]

end AttnOut

end
-- ==== Proof.AttnValue.lean ====
module

public import proofs.«01_k».proof.Proof.AttnLoops
public import proofs.«01_k».proof.Proof.AttnOut
public import proofs.«01_k».proof.Proof.Rows
public import proofs.«01_k».proof.Proof.AttnKernelIdeal

/-! The array that the attention's call returns: the launch with the output's blocks known, the blocks read from the
    arguments, and the blocks put together. -/

@[expose] public section

set_option maxRecDepth 65536

noncomputable section

namespace AttnValue

open Cert.KernelIdeal Cert.KernelIdeal.Gen AttnSpec
open Cert.AttnKernelIdeal (ms0 ms1 ms2 ms3 hs0 hs1 hs2 hs3 mAcc mZ mA PhiA_eq defs_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- A block of queries or values, and one of keys, at natural indices. -/
def nat3 (x : S1x256x2048.Idx → EReal) (a b : ℕ) : EReal := x (ix3 (0 : Fin 1) (⟨a % 256, Nat.mod_lt _ (by decide)⟩ : Fin 256) (⟨b % 2048, Nat.mod_lt _ (by decide)⟩ : Fin 2048))
def nat2 (x : S2048x256.Idx → EReal) (a b : ℕ) : EReal := x (ix2 (⟨a % 2048, Nat.mod_lt _ (by decide)⟩ : Fin 2048) (⟨b % 256, Nat.mod_lt _ (by decide)⟩ : Fin 256))

/-- The output's block, from the blocks of the queries, the keys and the values. -/
def block (xq : S1x256x2048.Idx → EReal) (xk : S2048x256.Idx → EReal) (xv : S1x256x2048.Idx → EReal) : S2048x256.Idx → EReal :=
  fun y => AttnLoops.out (score (nat2 xk) (nat3 xq)) (nat3 xv) (y 0).val (y 1).val

section Run

variable (c : Dev nD) (i : grid0.Coords) (arg2 : Memref sig .tc .vmem S1x256x2048 .bf16) (harg2 : arg2.IsWhole) (arg3 : Memref sig .tc .vmem S2048x256 .bf16) (harg3 : arg3.IsWhole) (arg4 : Memref sig .tc .vmem S1x256x2048 .bf16) (harg4 : arg4.IsWhole) (arg5 : Memref sig .tc .vmem S2048x256 .bf16) (harg5 : arg5.IsWhole) (arg6 : Memref sig .tc .vmem S256x256 .f32) (harg6 : arg6.IsWhole) (arg7 : Memref sig .tc .vmem S2x8x128x256 .f32) (harg7 : arg7.IsWhole) (arg8 : Memref sig .tc .vmem S2x8x128x256 .bf16) (harg8 : arg8.IsWhole)

/-- The body, run once: the inputs as they were, the output's block the attention's. -/
theorem kernelRun (x2 : Vec Ideal S1x256x2048 .bf16) (x3 : Vec Ideal S2048x256 .bf16) (x4 : Vec Ideal S1x256x2048 .bf16) (K : PUnit → sProp 𝕄) :
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x2 ∗ owns (c : Thread nD τ) arg3 fullShare x3 ∗ owns (c : Thread nD τ) arg4 fullShare x4
            ∗ owns (c : Thread nD τ) arg5 fullShare (block x2 x3 x4 : Vec Ideal S2048x256 .bf16) ∗ (∃ d, owns (c : Thread nD τ) arg6 fullShare d)
            ∗ (∃ d, owns (c : Thread nD τ) arg7 fullShare d) ∗ (∃ d, owns (c : Thread nD τ) arg8 fullShare d)) -∗ K ⟨⟩))
      ⊢ wp frame (wpE (defs₀ (F := Ideal)) Variants.none (c : Thread nD τ) none) Set.univ (cc0_stickbreak (F := Ideal) i arg2 harg2 arg3 harg3 arg4 harg4 arg5 harg5 arg6 harg6 arg7 harg7 arg8 harg8) K := by
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  have h2 : Is2 (nat3 x2) (arg2.view.read (Elt Ideal) f2) := by
    intro a b
    rw [hf2]; unfold nat3
    simp only [Nat.mod_eq_of_lt a.isLt, Nat.mod_eq_of_lt b.isLt, Fin.eta]
  have h3 : Is3 (nat2 x3) (arg3.view.read (Elt Ideal) f3) := by
    intro a b
    rw [hf3]; unfold nat2
    simp only [Nat.mod_eq_of_lt a.isLt, Nat.mod_eq_of_lt b.isLt, Fin.eta]
  have h4 : Is2 (nat3 x4) (arg4.view.read (Elt Ideal) f4) := by
    intro a b
    rw [hf4]; unfold nat3
    simp only [Nat.mod_eq_of_lt a.isLt, Nat.mod_eq_of_lt b.isLt, Fin.eta]
  iapply (wp_wand_r frame _ Set.univ)
  isplitl [H2 H3 H4 H5 H6 H7 H8]
  · iapply (AttnLoops.body_spec c arg2 arg3 arg4 arg6 arg7 arg8 harg8 f2 f3 f4 h2 h3 h4 arg5 harg5 i harg2 harg3 harg4 harg6 harg7 f5 f6 f7 f8)
    isplitl [H2]; · iexact H2
    isplitl [H3]; · iexact H3
    isplitl [H4]; · iexact H4
    isplitl [H5]; · iexact H5
    isplitl [H6]; · iexact H6
    isplitl [H7]; · iexact H7
    iexact H8
  unfold AttnLoops.held1
  iintro %_ ⟨H2, H3, H4, %g5, %g6, %g7, %g8, %hg, H5, H6, H7, H8⟩
  have hout : arg5.view.read (Elt Ideal) g5 = block x2 x3 x4 := by
    funext y
    have e := hg.2 (y 0) (y 1) (lt_of_lt_of_le (y 0).isLt (by decide))
    exact (congrArg (arg5.view.read (Elt Ideal) g5) (ValueIdx.eq_ix2 y)).trans e
  iapply Hk
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hout
  isplitl [H6]
  · iexists _, _; isplitr; swap; · iexact H6
    ipureintro; rfl
  isplitl [H7]
  · iexists _, _; isplitr; swap; · iexact H7
    ipureintro; rfl
  iexists _, _; isplitr; swap; · iexact H8
  ipureintro; rfl

end Run

/-! ## The launch -/

variable (m : (ℓ : Loc nD τ sig) → Buf (Elt Ideal) ℓ) (ρ : Dev nD → PrngReg)

/-- The arrays as the region finds them, each input's block after the body as before it, the output's the attention's. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => block (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = block (iblk m c 0 t) (iblk m c 1 t) (iblk m c 2 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3,
    show (dats m 0 c).Φ t.castSucc = Pipeline.ΦA spec0 c from rfl, PhiA_eq]
  iintro ⟨⟨⟨HA, HZ, HW⟩, Hg⟩, Ho, ⟨%d0, H0⟩, ⟨%d1, H1⟩, ⟨%d2, H2⟩, ⟨%d3, H3⟩⟩
  iapply (kernelRun c (grid0.coords t) (ms0 t) (hs0 t) (ms1 t) (hs1 t) (ms2 t) (hs2 t) (ms3 t) (hs3 t) mAcc (Memref.isWhole_whole _)
    mZ (Memref.isWhole_whole _) mA (Memref.isWhole_whole _) (iblk m c 0 t) (iblk m c 1 t) (iblk m c 2 t) _)
  isplitl [H0]; · iexact H0
  isplitl [H1]; · iexact H1
  isplitl [H2]; · iexact H2
  isplitl [H3]; · iexists _; iexact H3
  isplitl [HA]; · iexact HA
  isplitl [HZ]; · iexact HZ
  isplitl [HW]; · iexact HW
  iintro ⟨H0, H1, H2, H3, HA, HZ, HW⟩
  isplitl [HA HZ HW Hg]
  · isplitl [HA HZ HW]
    · isplitl [HA]; · iexact HA
      isplitl [HZ]; · iexact HZ
      iexact HW
    iexact Hg
  isplitl [Ho]; · iexact Ho
  isplitl [H0]; · iexact H0
  isplitl [H1]; · iexact H1
  isplitl [H2]; · iexact H2
  iexact H3

theorem body_obligation (c : Dev nD) :
    BodyObligation (dats m 0 c) (defs₀ (F := Ideal)) Variants.none () Set.univ := fun t => by
  rw [bigSep_W0, bigSep_W0, defs_row]
  exact triple_restated (sound_body m c t) rfl .rfl fun _ => .rfl

set_option backward.isDefEq.respectTransparency.types false in
/-- The run, every window's array at its end known. -/
theorem run_main :
    θ_run defs (onTc (τ := τ) (main (F := Ideal))) (s₀ m ρ) (fun r => Pipeline.FramePost cfgs (dats m) (0 : Fin 1) (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl) (Q' := _)

/-! ## The blocks -/

/-- Point `t` is at sequence `t / 4` and group of heads `t % 4`. -/
theorem idx_q : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx_k : ∀ t : Fin cfg0.N, win0_1.index t (0 : Fin 2) = t.val / 4 ∧ win0_1.index t (1 : Fin 2) = t.val % 4 :=
  (by decide +kernel : ∀ t : Fin grid0.N, _)
theorem idx_v : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
theorem idx_o : ∀ t : Fin cfg0.N, win0_3.index t (0 : Fin 2) = t.val / 4 ∧ win0_3.index t (1 : Fin 2) = t.val % 4 :=
  (by decide +kernel : ∀ t : Fin grid0.N, _)

/-- The arguments' arrays. -/
abbrev xq (c : Dev nD) : S32x2048x1024.Idx → EReal := m ((c : Thread nD τ).loc main_arg0)
abbrev xk (c : Dev nD) : S32x2048x1024.Idx → EReal := m ((c : Thread nD τ).loc main_arg1)
abbrev xv (c : Dev nD) : S32x2048x1024.Idx → EReal := m ((c : Thread nD τ).loc main_arg2)

theorem V_v3 (c : Dev nD) : (V m c main_v3 : S32x1024x2048.Idx → EReal)
    = transpose S32x1024x2048 [0, 2, 1] (fun i => xq m c i * AttnOut.scale) transposes_S32x2048x1024_S32x1024x2048_0_2_1 := by
  unfold_abbrev_sides
  after_results
  rfl

theorem V_v5 (c : Dev nD) : (V m c main_v5 : S65536x1024.Idx → EReal) = shapeCast S65536x1024 (xk m c) shapeCasts_S32x2048x1024_S65536x1024 := by
  unfold_abbrev_sides
  after_results
  rfl

theorem V_v7 (c : Dev nD) : (V m c main_v7 : S32x1024x2048.Idx → EReal)
    = transpose S32x1024x2048 [0, 2, 1] (xv m c) transposes_S32x2048x1024_S32x1024x2048_0_2_1 := by
  unfold_abbrev_sides
  after_results
  rfl

theorem tr (x : S32x2048x1024.Idx → EReal) (b : Fin 32) (n : Fin 1024) (s : Fin 2048) :
    transpose S32x1024x2048 [0, 2, 1] x transposes_S32x2048x1024_S32x1024x2048_0_2_1 (ix3 b n s) = x (ix3 b s n) := by
  unfold transpose
  refine congrArg x (funext fun a => Fin.ext ?_)
  match a with
  | ⟨0, _⟩ => rfl
  | ⟨1, _⟩ => rfl
  | ⟨2, _⟩ => rfl

theorem blk0 (c : Dev nD) (t : Fin cfg0.N) (n s : ℕ) (hn : n < 256) (hs : s < 2048) :
    nat3 (iblk m c 0 t) n s = AttnOut.at3 (xq m c) (t.val / 4) s (256 * (t.val % 4) + n) * AttnOut.scale := by
  have ht : t.val < 128 := lt_of_lt_of_eq t.isLt N_0
  unfold nat3
  simp only [Nat.mod_eq_of_lt hn, Nat.mod_eq_of_lt hs]
  have e : (iblk m c 0 t : S1x256x2048.Idx → EReal) (ix3 (0 : Fin 1) (⟨n, hn⟩ : Fin 256) (⟨s, hs⟩ : Fin 2048))
      = V m c main_v3 (ix3 (⟨t.val / 4, by omega⟩ : Fin 32) (⟨256 * (t.val % 4) + n, by omega⟩ : Fin 1024) (⟨s, hs⟩ : Fin 2048)) := by
    refine congrArg (V m c main_v3) (funext fun a => Fin.ext ?_)
    match a with
    | ⟨0, _⟩ => exact (Pipeline.Window.rect_emb_val win0_0 t _ 0).trans (by rw [(idx_q t).1]; exact Nat.mul_one _)
    | ⟨1, _⟩ => exact (Pipeline.Window.rect_emb_val win0_0 t _ 1).trans (by rw [(idx_q t).2.1]; exact congrArg (· + n) (Nat.mul_comm _ _))
    | ⟨2, _⟩ => exact Pipeline.Window.rect_emb_val_of_index_zero win0_0 t 2 (idx_q t).2.2 _
  refine e.trans ((congrFun (V_v3 m c) _).trans ((tr _ _ _ _).trans ?_))
  exact congrArg (· * AttnOut.scale) (AttnOut.at3_eq (xq m c) (⟨t.val / 4, by omega⟩ : Fin 32) (⟨s, hs⟩ : Fin 2048) (⟨256 * (t.val % 4) + n, by omega⟩ : Fin 1024)).symm

theorem blk2 (c : Dev nD) (t : Fin cfg0.N) (n s : ℕ) (hn : n < 256) (hs : s < 2048) :
    nat3 (iblk m c 2 t) n s = AttnOut.at3 (xv m c) (t.val / 4) s (256 * (t.val % 4) + n) := by
  have ht : t.val < 128 := lt_of_lt_of_eq t.isLt N_0
  unfold nat3
  simp only [Nat.mod_eq_of_lt hn, Nat.mod_eq_of_lt hs]
  have e : (iblk m c 2 t : S1x256x2048.Idx → EReal) (ix3 (0 : Fin 1) (⟨n, hn⟩ : Fin 256) (⟨s, hs⟩ : Fin 2048))
      = V m c main_v7 (ix3 (⟨t.val / 4, by omega⟩ : Fin 32) (⟨256 * (t.val % 4) + n, by omega⟩ : Fin 1024) (⟨s, hs⟩ : Fin 2048)) := by
    refine congrArg (V m c main_v7) (funext fun a => Fin.ext ?_)
    match a with
    | ⟨0, _⟩ => exact (Pipeline.Window.rect_emb_val win0_2 t _ 0).trans (by rw [(idx_v t).1]; exact Nat.mul_one _)
    | ⟨1, _⟩ => exact (Pipeline.Window.rect_emb_val win0_2 t _ 1).trans (by rw [(idx_v t).2.1]; exact congrArg (· + n) (Nat.mul_comm _ _))
    | ⟨2, _⟩ => exact Pipeline.Window.rect_emb_val_of_index_zero win0_2 t 2 (idx_v t).2.2 _
  refine e.trans ((congrFun (V_v7 m c) _).trans ((tr _ _ _ _).trans ?_))
  exact (AttnOut.at3_eq (xv m c) (⟨t.val / 4, by omega⟩ : Fin 32) (⟨s, hs⟩ : Fin 2048) (⟨256 * (t.val % 4) + n, by omega⟩ : Fin 1024)).symm

theorem blk1 (c : Dev nD) (t : Fin cfg0.N) (s n : ℕ) (hn : n < 256) (hs : s < 2048) :
    nat2 (iblk m c 1 t) s n = AttnOut.at3 (xk m c) (t.val / 4) s (256 * (t.val % 4) + n) := by
  have ht : t.val < 128 := lt_of_lt_of_eq t.isLt N_0
  unfold nat2
  simp only [Nat.mod_eq_of_lt hn, Nat.mod_eq_of_lt hs]
  have e : (iblk m c 1 t : S2048x256.Idx → EReal) (ix2 (⟨s, hs⟩ : Fin 2048) (⟨n, hn⟩ : Fin 256))
      = V m c main_v5 (ix2 (⟨t.val / 4 * 2048 + s, by omega⟩ : Fin 65536) (⟨256 * (t.val % 4) + n, by omega⟩ : Fin 1024)) := by
    refine congrArg (V m c main_v5) (funext fun a => Fin.ext ?_)
    match a with
    | ⟨0, _⟩ => exact (Pipeline.Window.rect_emb_val win0_1 t _ 0).trans (by rw [(idx_k t).1]; rfl)
    | ⟨1, _⟩ => exact (Pipeline.Window.rect_emb_val win0_1 t _ 1).trans (by rw [(idx_k t).2]; exact congrArg (· + n) (Nat.mul_comm _ _))
  refine e.trans ((congrFun (V_v5 m c) _).trans ((Rows.reshape_row _ _ _ _).trans ?_))
  unfold Rows.row
  refine Eq.trans (congrArg (xk m c) (funext fun a => Fin.ext ?_)) (AttnOut.at3_eq (xk m c) (⟨t.val / 4, by omega⟩ : Fin 32) (⟨s, hs⟩ : Fin 2048) (⟨256 * (t.val % 4) + n, by omega⟩ : Fin 1024)).symm
  match a with
  | ⟨0, _⟩ => show (t.val / 4 * 2048 + s) / 2048 = t.val / 4; omega
  | ⟨1, _⟩ => show (t.val / 4 * 2048 + s) % 2048 = s; omega
  | ⟨2, _⟩ => rfl

/-- The result: the attention of the arguments. -/
def result (c : Dev nD) : S65536x1024.Idx → EReal := AttnOut.arr (xq m c) (xk m c) (xv m c)

/-- A block's scores are the arguments'. -/
theorem score_eq (c : Dev nD) (t : Fin cfg0.N) (h k q : ℕ) (hh : h < 4) (hk : k < 2048) (hq : q < 2048) :
    score (nat2 (iblk m c 1 t)) (nat3 (iblk m c 0 t)) h k q = AttnOut.scores (xq m c) (xk m c) (t.val / 4) (4 * (t.val % 4) + h) k q := by
  unfold score AttnOut.scores
  refine Finset.sum_congr rfl fun d _ => ?_
  have := d.isLt
  rw [blk1 m c t _ _ (by omega) hk, blk0 m c t _ _ (by omega) hq, show 256 * (t.val % 4) + (64 * h + d.val) = 64 * (4 * (t.val % 4) + h) + d.val by omega]

theorem weight_congr (Z Z' : ℕ → ℕ → EReal) (B k q : ℕ) (hk : k < B) (h : ∀ u, u < B → Z u q = Z' u q) : AttnMath.weight Z B k q = AttnMath.weight Z' B k q := by
  unfold AttnMath.weight
  have hs : ∑ u ∈ Finset.Ico (k + 1) B, AttnMath.left Z q u = ∑ u ∈ Finset.Ico (k + 1) B, AttnMath.left Z' q u :=
    Finset.sum_congr rfl fun u hu => by unfold AttnMath.left; rw [h u (Finset.mem_Ico.mp hu).2]
  rw [h k hk, hs]

theorem block_eq (c : Dev nD) (t : Fin cfg0.N) (s n : ℕ) (hs : s < 2048) (hn : n < 256) :
    AttnLoops.out (score (nat2 (iblk m c 1 t)) (nat3 (iblk m c 0 t))) (nat3 (iblk m c 2 t)) s n
      = AttnOut.attn (xq m c) (xk m c) (xv m c) (t.val / 4) s (256 * (t.val % 4) + n) := by
  unfold AttnLoops.out AttnOut.attn
  refine Finset.sum_congr rfl fun k hk => ?_
  have hk' := (Finset.mem_Ico.mp hk).2
  rw [blk2 m c t n k hn (by omega), show (256 * (t.val % 4) + n) / 64 = 4 * (t.val % 4) + n / 64 by omega]
  exact congrArg _ (weight_congr _ _ _ _ _ hk' fun u hu => score_eq m c t (n / 64) u s (by omega) (by omega) hs)

theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after3]
  funext y
  have ht : t.val < 128 := lt_of_lt_of_eq t.isLt N_0
  have h0 : (y 0 : Nat) < 2048 := (y 0).isLt
  have h1 : (y 1 : Nat) < 256 := (y 1).isLt
  have hr : t.val / 4 * 2048 + (y 0 : Nat) < 65536 := by omega
  have hc : 256 * (t.val % 4) + (y 1 : Nat) < 1024 := by omega
  have ei : (win0_3.rect t).emb y = (ix2 (⟨t.val / 4 * 2048 + (y 0 : Nat), hr⟩ : Fin 65536) (⟨256 * (t.val % 4) + (y 1 : Nat), hc⟩ : Fin 1024) : S65536x1024.Idx) := by
    refine funext fun a => Fin.ext ?_
    match a with
    | ⟨0, _⟩ => exact (Pipeline.Window.rect_emb_val win0_3 t y 0).trans (by rw [(idx_o t).1]; rfl)
    | ⟨1, _⟩ => exact (Pipeline.Window.rect_emb_val win0_3 t y 1).trans (by rw [(idx_o t).2]; exact congrArg (· + (y 1 : Nat)) (Nat.mul_comm _ _))
  show AttnLoops.out (score (nat2 (iblk m c 1 t)) (nat3 (iblk m c 0 t))) (nat3 (iblk m c 2 t)) (y 0 : Nat) (y 1 : Nat) = result m c ((win0_3.rect t).emb y)
  rw [ei, block_eq m c t _ _ h0 h1]
  show _ = AttnOut.attn (xq m c) (xk m c) (xv m c) ((t.val / 4 * 2048 + (y 0 : Nat)) / 2048) ((t.val / 4 * 2048 + (y 0 : Nat)) % 2048) (256 * (t.val % 4) + (y 1 : Nat))
  rw [show (t.val / 4 * 2048 + (y 0 : Nat)) / 2048 = t.val / 4 by omega, show (t.val / 4 * 2048 + (y 0 : Nat)) % 2048 = (y 0 : Nat) by omega]

theorem final (c : Dev nD) : (dats m 0 c).arrAt 3 cfg0.N = result m c :=
  (dats m 0 c).arrAt_eq_of_cover 3 (result m c) (fun t _ => flushed_eq m c t) fun i => by
    have h0 : (i 0 : Nat) < 65536 := (i 0).isLt
    have h1 : (i 1 : Nat) < 1024 := (i 1).isLt
    have ht : (i 0 : Nat) / 2048 * 4 + (i 1 : Nat) / 256 < cfg0.N := by rw [show cfg0.N = 128 from N_0]; omega
    refine ⟨⟨(i 0 : Nat) / 2048 * 4 + (i 1 : Nat) / 256, ht⟩, flush0_3 _, ?_⟩
    show i ∈ ((View.whole main_v8).slice (win0_3.rect ⟨(i 0 : Nat) / 2048 * 4 + (i 1 : Nat) / 256, ht⟩)).set
    rw [View.set_slice_whole, Rect.mem_set_unit]
    intro a
    match a with
    | ⟨0, _⟩ =>
      show win0_3.index _ (0 : Fin 2) * 2048 ≤ (i 0 : Nat) ∧ (i 0 : Nat) < win0_3.index _ (0 : Fin 2) * 2048 + 2048
      rw [(idx_o _).1]; dsimp only; omega
    | ⟨1, _⟩ =>
      show win0_3.index _ (1 : Fin 2) * 256 ≤ (i 1 : Nat) ∧ (i 1 : Nat) < win0_3.index _ (1 : Fin 2) * 256 + 256
      rw [(idx_o _).2]; dsimp only; omega

/-- Every run ends with the attention's array, the arguments unchanged. -/
theorem run_value : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).1 3).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main m ρ)

end AttnValue

end
-- ==== Proof.AttnRef.lean ====
module

public import proofs.«01_k».proof.Proof.AttnOut
public import proofs.«01_k».proof.Proof.Rows
public import proofs.«01_k».proof.Proof.Gen.ReferenceIdeal.Read
public import Idealize.ShloMosaic.Lib.WordCmp

/-! What the reference of the attention computes. -/

@[expose] public section

set_option maxRecDepth 16384

noncomputable section

namespace AttnRef

open Idealize.ShloMosaic Cert.ReferenceIdeal Cert.ReferenceIdeal.Read AttnOut AttnMath

section Window

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A sum over windows, the positions outside of the operand left out. -/
theorem window_gen {s t : Shape} (window strides lo hi : Fin s.rank → ℕ) (h : s.ReduceWindows window strides lo hi t) (x : s.Idx → EReal) (j : t.Idx) :
    Ideal.hostReduceWindowAdd window strides lo hi h x 0 j
      = ∑ w : Shape.Idx ⟨s.rank, window⟩, if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  unfold Ideal.hostReduceWindowAdd Host.reduceWindow
  refine (foldl_add _ _ _).trans ?_
  rw [zero_add, ← Fin.sum_univ_def]
  refine (Finset.sum_congr rfl fun n _ => ?_).trans (Equiv.sum_comp (Shape.rowMajor ⟨s.rank, window⟩).symm (fun w : Shape.Idx ⟨s.rank, window⟩ => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0))
  by_cases hin : ∀ a, lo a ≤ (j (a.cast h.1.symm)).val * strides a + ((Shape.rowMajor ⟨s.rank, window⟩).symm n a).val ∧ (j (a.cast h.1.symm)).val * strides a + ((Shape.rowMajor ⟨s.rank, window⟩).symm n a).val - lo a < s.size a
  · simp only [dif_pos hin]
  · simp only [dif_neg hin]

theorem window_host {s t u : Shape} (window strides lo hi : Fin s.rank → ℕ) (h : s.ReduceWindows window strides lo hi t) (x : s.Idx → EReal) (init : u.Idx → EReal) (hu : 0 < u.numel)
    (hz : init (Shape.Idx.first hu) = 0) : Host.reduceWindowAdd (F := Ideal) (φ := .f32) window strides lo hi x init h hu = Ideal.hostReduceWindowAdd window strides lo hi h x 0 := by
  unfold Host.reduceWindowAdd
  rw [hz]
  rfl

/-- The running sum from the right, at an entry. -/
theorem window_sum (x : S32x16x2048x2048.Idx → EReal) (h : S32x16x2048x2048.ReduceWindows ![1, 1, 1, 2048] ![1, 1, 1, 1] ![0, 0, 0, 0] ![0, 0, 0, 2047] S32x16x2048x2048)
    (a : Fin 32) (b : Fin 16) (c d : Fin 2048) (f : ℕ → EReal) (hf : ∀ e : Fin 2048, x (ix4 a b c e) = f e.val) :
    Ideal.hostReduceWindowAdd ![1, 1, 1, 2048] ![1, 1, 1, 1] ![0, 0, 0, 0] ![0, 0, 0, 2047] h x 0 (ix4 a b c d) = ∑ u ∈ Finset.Ico d.val 2048, f u := by
  have step : Ideal.hostReduceWindowAdd ![1, 1, 1, 2048] ![1, 1, 1, 1] ![0, 0, 0, 0] ![0, 0, 0, 2047] h x 0 (ix4 a b c d)
      = ∑ n : Fin 2048, (if d.val + n.val < 2048 then f (d.val + n.val) else 0) := by
    rw [window_gen]
    refine Finset.sum_bij (fun w _ => (w 3 : Fin 2048)) (fun _ _ => Finset.mem_univ _) (fun w _ w' _ hw => ?_) (fun n _ => ⟨ix4 (0 : Fin 1) (0 : Fin 1) (0 : Fin 1) n, Finset.mem_univ _, rfl⟩) (fun w _ => ?_)
    · funext k
      match k with
      | ⟨0, _⟩ => exact Fin.ext (by have : (w 0).val < 1 := (w 0).isLt; have : (w' 0).val < 1 := (w' 0).isLt; show (w 0).val = (w' 0).val; omega)
      | ⟨1, _⟩ => exact Fin.ext (by have : (w 1).val < 1 := (w 1).isLt; have : (w' 1).val < 1 := (w' 1).isLt; show (w 1).val = (w' 1).val; omega)
      | ⟨2, _⟩ => exact Fin.ext (by have : (w 2).val < 1 := (w 2).isLt; have : (w' 2).val < 1 := (w' 2).isLt; show (w 2).val = (w' 2).val; omega)
      | ⟨3, _⟩ => exact hw
    have w0 : (w 0).val = 0 := by have : (w 0).val < 1 := (w 0).isLt; omega
    have w1 : (w 1).val = 0 := by have : (w 1).val < 1 := (w 1).isLt; omega
    have w2 : (w 2).val = 0 := by have : (w 2).val < 1 := (w 2).isLt; omega
    split
    · next hin =>
      have h3 : d.val * 1 + (w 3).val - 0 < 2048 := (hin 3).2
      rw [if_pos (show d.val + (w 3).val < 2048 by omega)]
      refine (congrArg x (funext fun k => Fin.ext ?_)).trans (hf ⟨d.val + (w 3).val, by omega⟩)
      match k with
      | ⟨0, _⟩ => show a.val * 1 + (w 0).val - 0 = a.val; omega
      | ⟨1, _⟩ => show b.val * 1 + (w 1).val - 0 = b.val; omega
      | ⟨2, _⟩ => show c.val * 1 + (w 2).val - 0 = c.val; omega
      | ⟨3, _⟩ => show d.val * 1 + (w 3).val - 0 = d.val + (w 3).val; omega
    · next hin =>
      by_cases hlt : d.val + (w 3).val < 2048
      · refine absurd (fun k => ?_) hin
        match k with
        | ⟨0, _⟩ => exact (show 0 ≤ a.val * 1 + (w 0).val ∧ a.val * 1 + (w 0).val - 0 < 32 by have := a.isLt; omega)
        | ⟨1, _⟩ => exact (show 0 ≤ b.val * 1 + (w 1).val ∧ b.val * 1 + (w 1).val - 0 < 16 by have := b.isLt; omega)
        | ⟨2, _⟩ => exact (show 0 ≤ c.val * 1 + (w 2).val ∧ c.val * 1 + (w 2).val - 0 < 2048 by have := c.isLt; omega)
        | ⟨3, _⟩ => exact (show 0 ≤ d.val * 1 + (w 3).val ∧ d.val * 1 + (w 3).val - 0 < 2048 by omega)
      · exact (if_neg hlt).symm
  refine step.trans ?_
  rw [Finset.sum_Ico_eq_sum_range, ← Finset.sum_range (fun n => if d.val + n < 2048 then f (d.val + n) else 0), ← Finset.sum_filter]
  refine Finset.sum_congr ?_ fun _ _ => rfl
  ext n
  simp only [Finset.mem_filter, Finset.mem_range]
  omega

end Window

variable (x0 x1 x2 : (⟨S32x2048x1024, .f32⟩ : BufTy).Contents (Elt Ideal))

theorem v1_apply (b : Fin 32) (h : Fin 16) (s : Fin 2048) (d : Fin 64) : val_main_v1 (F := Ideal) x0 (ix4 b h s d) = at3 x0 b.val s.val (64 * h.val + d.val) := by
  rw [val_main_v1_apply, val_main_v0_apply]
  refine Eq.trans (congrArg x0 (funext fun a => Fin.ext ?_)) (at3_eq x0 b s ⟨64 * h.val + d.val, by omega⟩).symm
  have := b.isLt; have := h.isLt; have := s.isLt; have := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = 64 * h.val + d.val; omega

theorem v3_apply (b : Fin 32) (h : Fin 16) (s : Fin 2048) (d : Fin 64) : val_main_v3 (F := Ideal) x1 (ix4 b h s d) = at3 x1 b.val s.val (64 * h.val + d.val) :=
  v1_apply x1 b h s d
theorem v5_apply (b : Fin 32) (h : Fin 16) (s : Fin 2048) (d : Fin 64) : val_main_v5 (F := Ideal) x2 (ix4 b h s d) = at3 x2 b.val s.val (64 * h.val + d.val) :=
  v1_apply x2 b h s d

theorem l6 (b : Fin 32) (h : Fin 16) (s t : Fin 2048) (d : Fin 64) : lidx_main_v6 (ix4 b h s t) d = ix4 b h s d := by
  funext a; fin_cases a <;> rfl
theorem r6 (b : Fin 32) (h : Fin 16) (s t : Fin 2048) (d : Fin 64) : ridx_main_v6 (ix4 b h s t) d = ix4 b h t d := by
  funext a; fin_cases a <;> rfl

theorem v8_apply (b : Fin 32) (h : Fin 16) (s t : Fin 2048) : val_main_v8 (F := Ideal) x0 x1 (ix4 b h s t) = scores x0 x1 b.val h.val t.val s.val := by
  rw [val_main_v8_apply, val_main_v7_apply, val_main_cst_apply, val_main_v6_apply]
  simp only [l6, r6, v1_apply, v3_apply]
  unfold scores
  refine Eq.trans (sum_scale Finset.univ fun d : Fin 64 => at3 x0 b.val s.val (64 * h.val + d.val) * at3 x1 b.val t.val (64 * h.val + d.val)).symm (Finset.sum_congr rfl fun d _ => ?_)
  ac_rfl

/-- The printed softplus. -/
theorem une_self (x : EReal) : (FloatOps.cmpf (F := Ideal) (φ := .f32) .une x x) = 0#1 := by
  show BitVec.ofBool (decide (x ≠ x)) = 0#1
  simp

theorem zero_f32 : (FloatOps.ofBits (F := Ideal) .f32 0x00000000#32 : EReal) = 0 := Ideal.ofBits_zero_f32

theorem soft0_apply (i : S32x16x2048x2048.Idx) : val_main_call0_v1 (F := Ideal) x0 x1 i = soft (val_main_v8 (F := Ideal) x0 x1 i) := by
  simp only [val_main_call0_v1_apply, val_main_call0_call0_v4_apply, une_self, val_main_call0_call0_v11_apply, val_main_call0_call0_v10_apply, val_main_call0_call0_v9_apply, val_main_call0_call0_v8_apply,
    val_main_call0_call0_v7_apply, val_main_call0_call0_v3_apply, val_main_call0_call0_v2_apply, val_main_call0_call0_v1_apply, val_main_call0_call0_v0_apply, val_main_call0_call0_cst_apply,
    val_main_call0_v0_apply, val_main_v16_apply]
  generalize val_main_v8 (F := Ideal) x0 x1 i = z
  show max (- -z) (FloatOps.ofBits (F := Ideal) .f32 0x00000000#32) + Ideal.log1p (Ideal.exp (-(max (- -z - FloatOps.ofBits (F := Ideal) .f32 0x00000000#32) (-(- -z - FloatOps.ofBits (F := Ideal) .f32 0x00000000#32))))) = soft z
  rw [zero_f32, neg_neg, sub_zero]
  rfl

theorem soft3_apply (i : S32x16x2048x2048.Idx) : val_main_call3_v1 (F := Ideal) x0 x1 i = soft (-(val_main_v8 (F := Ideal) x0 x1 i)) := by
  simp only [val_main_call3_v1_apply, val_main_call3_call0_v4_apply, une_self, val_main_call3_call0_v11_apply, val_main_call3_call0_v10_apply, val_main_call3_call0_v9_apply, val_main_call3_call0_v8_apply,
    val_main_call3_call0_v7_apply, val_main_call3_call0_v3_apply, val_main_call3_call0_v2_apply, val_main_call3_call0_v1_apply, val_main_call3_call0_v0_apply, val_main_call3_call0_cst_apply,
    val_main_call3_v0_apply]
  generalize val_main_v8 (F := Ideal) x0 x1 i = z
  show max (-z) (FloatOps.ofBits (F := Ideal) .f32 0x00000000#32) + Ideal.log1p (Ideal.exp (-(max (-z - FloatOps.ofBits (F := Ideal) .f32 0x00000000#32) (-(-z - FloatOps.ofBits (F := Ideal) .f32 0x00000000#32))))) = soft (-z)
  rw [zero_f32, sub_zero]
  rfl

theorem mask_apply (s t : Fin 2048) : val_main_v15 (F := Ideal) (ix2 s t) = if t.val < s.val then 1#1 else 0#1 := by
  rw [val_main_v15_apply, val_main_v13_apply, val_main_v12_apply, val_main_v11_apply, val_main_v14_apply, val_main_v10_apply, val_main_v9_apply]
  refine (WordCmp.cmpi_slt_ofNat (w := 32) (a := t.val) (b := s.val) (by have := t.isLt; norm_num; omega) (by have := s.isLt; norm_num; omega)).trans ?_
  by_cases h : t.val < s.val
  · rw [if_pos h, decide_eq_true h]; rfl
  · rw [if_neg h, decide_eq_false h]; rfl

theorem m1 (b : Fin 32) (h : Fin 16) (s t : Fin 2048) : idx_main_call1_v1 (ix4 b h s t) = ix2 s t := by
  funext a; fin_cases a <;> rfl
theorem m4 (b : Fin 32) (h : Fin 16) (s t : Fin 2048) : idx_main_call4_v1 (ix4 b h s t) = ix2 s t := by
  funext a; fin_cases a <;> rfl

theorem select_if {p : Prop} [Decidable p] (x y : EReal) : Scalar.select (if p then 1#1 else 0#1) x y = if p then x else y := by
  split <;> rfl

theorem v18_apply (b : Fin 32) (h : Fin 16) (s t : Fin 2048) : val_main_v18 (F := Ideal) x0 x1 (ix4 b h s t)
    = if t.val < s.val then -(soft (scores x0 x1 b.val h.val t.val s.val)) else 0 := by
  rw [val_main_v18_apply, val_main_call1_v1_apply, m1, mask_apply, val_main_call1_v2_apply, val_main_call1_v0_apply, val_main_cst_0_apply, val_main_v17_apply, soft0_apply, v8_apply, zero_f32]
  exact select_if _ _

theorem v19_apply (b : Fin 32) (h : Fin 16) (s t : Fin 2048) : val_main_v19 (F := Ideal) x0 x1 (ix4 b h s t)
    = ∑ u ∈ Finset.Ico t.val 2048, if u < s.val then -(soft (scores x0 x1 b.val h.val u s.val)) else 0 := by
  have z : val_main_call2_v0 (F := Ideal) (Shape.Idx.first Gen.h_S_) = (0 : EReal) := by
    rw [val_main_call2_v0_apply, val_main_call2_cst_apply]; exact zero_f32
  unfold val_main_v19
  rw [window_host _ _ _ _ _ _ _ _ z]
  exact window_sum (val_main_v18 (F := Ideal) x0 x1) Gen.reduceWindows_S32x16x2048x2048_S32x16x2048x2048_w1s1p0_0_w1s1p0_0_w1s1p0_0_w2048s1p0_2047 b h s t
    (fun u => if u < s.val then -(soft (scores x0 x1 b.val h.val u s.val)) else 0) (fun u => v18_apply x0 x1 b h s u)

theorem v24_apply (b : Fin 32) (h : Fin 16) (s t : Fin 2048) : val_main_v24 (F := Ideal) x0 x1 (ix4 b h s t)
    = weight (scores x0 x1 b.val h.val) 2048 t.val s.val := by
  rw [val_main_v24_apply, val_main_call4_v1_apply, m4, mask_apply, val_main_call4_v2_apply, val_main_call4_v0_apply, val_main_cst_1_apply, zero_f32, val_main_v23_apply, val_main_v22_apply,
    val_main_v20_apply, v19_apply, v18_apply, val_main_v21_apply, soft3_apply, v8_apply]
  exact (select_if _ _).trans (weight_log (scores x0 x1 b.val h.val) s.val t.val 2048 t.isLt)

theorem l25 (b : Fin 32) (h : Fin 16) (s : Fin 2048) (d : Fin 64) (t : Fin 2048) : lidx_main_v25 (ix4 b h s d) t = ix4 b h s t := by
  funext a; fin_cases a <;> rfl
theorem r25 (b : Fin 32) (h : Fin 16) (s : Fin 2048) (d : Fin 64) (t : Fin 2048) : ridx_main_v25 (ix4 b h s d) t = ix4 b h t d := by
  funext a; fin_cases a <;> rfl

/-- The reference's result. -/
theorem result_eq : val_main_v28 (F := Ideal) x0 x1 x2 = arr x0 x1 x2 := by
  funext i
  have h0 : (i 0 : Nat) < 65536 := (i 0).isLt
  have h1 : (i 1 : Nat) < 1024 := (i 1).isLt
  have e : idx_main_v26 (idx_main_v27 i) = ix4 (⟨(i 0 : Nat) / 2048, by omega⟩ : Fin 32) (⟨(i 1 : Nat) / 64, by omega⟩ : Fin 16) (⟨(i 0 : Nat) % 2048, by omega⟩ : Fin 2048) (⟨(i 1 : Nat) % 64, by omega⟩ : Fin 64) := by
    refine funext fun a => Fin.ext ?_
    match a with
    | ⟨0, _⟩ => show ((i 0 : Nat) * 1024 + (i 1 : Nat)) / 2097152 = (i 0 : Nat) / 2048; omega
    | ⟨1, _⟩ => show ((i 0 : Nat) * 1024 + (i 1 : Nat)) / 64 % 16 = (i 1 : Nat) / 64; omega
    | ⟨2, _⟩ => show ((i 0 : Nat) * 1024 + (i 1 : Nat)) / 1024 % 2048 = (i 0 : Nat) % 2048; omega
    | ⟨3, _⟩ => show ((i 0 : Nat) * 1024 + (i 1 : Nat)) % 64 = (i 1 : Nat) % 64; omega
  rw [val_main_v28_apply, val_main_v27_apply, val_main_v26_apply, e]
  show val_main_v25 (F := Ideal) x0 x1 x2 _ = attn x0 x1 x2 _ _ _
  rw [val_main_v25_apply, attn_all _ _ _ _ _ _ (by omega)]
  refine Finset.sum_congr rfl fun t _ => ?_
  rw [l25, r25, v24_apply, v5_apply]
  dsimp only
  rw [show 64 * ((i 1 : Nat) / 64) + (i 1 : Nat) % 64 = (i 1 : Nat) by omega]

end AttnRef

end
-- ==== Proof.AttnClaims.lean ====
/-
  The claims on the attention: its frames, and that it computes what its reference computes.
-/
module

public import proofs.«01_k».proof.Defs
public import proofs.«01_k».proof.Proof.AttnKernel
public import proofs.«01_k».proof.Proof.AttnKernelIdeal
public import proofs.«01_k».proof.Proof.AttnValue
public import proofs.«01_k».proof.Proof.AttnRef
public import proofs.«01_k».proof.Proof.Gen.ReferenceIdeal.Run

@[expose] public section

set_option maxRecDepth 16384

noncomputable section

open Idealize.ShloMosaic Idealize.ShloMosaic.TcCoe

namespace AttnClaims

theorem frame_kernel : Cert.quiescent_Kernel := fun m ρ _ => Cert.AttnKernel.frame_attn m ρ
theorem frame_ideal : Cert.quiescent_KernelIdeal := fun m ρ _ => Cert.AttnKernelIdeal.frame_attn m ρ

theorem algebraic : Cert.algebraic_KernelIdeal_ReferenceIdeal := fun m ρ m' ρ' _ hargs => by
  refine ⟨fun c => AttnValue.result m c, ?_, ?_⟩
  · exact AttnValue.run_value m ρ
  · refine (θ_run Cert.ReferenceIdeal.defs _ _).mono (fun r h c => ⟨(h c).1.trans ?_, (h c).2⟩)
      (Cert.ReferenceIdeal.Value.run m' ρ')
    obtain ⟨h0, h1, h2⟩ := hargs c
    rw [Cert.ReferenceIdeal.Read.val_main_v28_eq, AttnRef.result_eq, h0, h1, h2]
    rfl

end AttnClaims

end
-- ==== Proof.FfnBlock.lean ====
module

public import proofs.«01_k».proof.Proof.Rows
public import proofs.«01_k».proof.Proof.Gen.Kernel2Ideal.Value

@[expose] public section

set_option maxRecDepth 16384

noncomputable section

namespace FfnBlock

open Idealize.ShloMosaic Cert.Kernel2Ideal Cert.Kernel2Ideal.Gen

/-- The normalisation of 256 rows. -/
def rmsT (x : FVec Ideal S256x1024 .f32) (g : Vec Ideal S1x1024 .f32) : FVec Ideal S256x1024 .f32 :=
  mulf (mulf x (broadcastTo S256x1024 (rsqrt (addf (divf (shapeCast S256x1 (multiReduction .add [1] S256 (mulf x x) 0x00000000#32
    reduces_S256x1024_S256 (.inl rfl) rfl) shapeCasts_S256_S256x1) (broadcast S256x1 (Scalar.ofBits .f32 0x44800000#32)))
    (broadcast S256x1 (Scalar.ofBits .f32 0x358637BD#32)))) broadcasts_S256x1_S256x1024))
    (broadcastTo S256x1024 (shapeCast S1x1024 g shapeCasts_S1x1024_S1x1024) broadcasts_S1x1024_S256x1024)

theorem rmsT_apply (x : FVec Ideal S256x1024 .f32) (g : Vec Ideal S1x1024 .f32) (p : Fin 256) (q : Fin 1024) :
    rmsT x g (ix2 p q) = Rows.rms (fun k => x (ix2 p k)) (fun k => g (ix2 (0 : Fin 1) k)) q := by
  unfold rmsT Rows.rms Rows.width Rows.eps
  pointwise

/-- A 256-column chunk of the activations of 256 normalised rows. -/
def actT (xn : FVec Ideal S256x1024 .bf16) (wg wu : Vec Ideal S1024x256 .bf16) : FVec Ideal S256x256 .bf16 :=
  let g := matmul dot_S256x1024_S1024x256_S256x256_1_0_0_1_n_n none xn (shapeCast S1024x256 wg shapeCasts_S1024x256_S1024x256 : FVec Ideal S1024x256 .bf16) (constant S256x256 .f32 0x00000000#32)
  let u := matmul dot_S256x1024_S1024x256_S256x256_1_0_0_1_n_n none xn (shapeCast S1024x256 wu shapeCasts_S1024x256_S1024x256 : FVec Ideal S1024x256 .bf16) (constant S256x256 .f32 0x00000000#32)
  shapeCast S256x256 (truncf .bf16 (mulf (mulf g (logistic g)) u) bitsLt_bf16_f32) shapeCasts_S256x256_S256x256

theorem actT_apply (xn : FVec Ideal S256x1024 .bf16) (wg wu : Vec Ideal S1024x256 .bf16) (p q : Fin 256) :
    actT xn wg wu (ix2 p q) = Rows.act (fun k => xn (ix2 p k)) (fun k => wg (ix2 k q)) (fun k => wu (ix2 k q)) := by
  unfold actT Rows.act
  dsimp only
  pointwise [dot_S256x1024_S1024x256_S256x256_1_0_0_1_n_n]

/-- 256 rows of activations against the down weights, normalised, halved and added to the rows. -/
def outT (x : FVec Ideal S256x1024 .f32) (a : Vec Ideal S256x2816 .bf16) (wd : Vec Ideal S2816x1024 .bf16) (g : Vec Ideal S1x1024 .f32) :
    FVec Ideal S256x1024 .f32 :=
  addf x (mulf (broadcast S256x1024 (Scalar.ofBits .f32 0x3F000000#32)) (rmsT (matmul (φ₁ := .bf16) dot_S256x2816_S2816x1024_S256x1024_1_0_0_1_n_n none a
    (shapeCast S2816x1024 wd shapeCasts_S2816x1024_S2816x1024 : FVec Ideal S2816x1024 .bf16) (constant S256x1024 .f32 0x00000000#32)) g))

theorem outT_apply (x : FVec Ideal S256x1024 .f32) (a : Vec Ideal S256x2816 .bf16) (wd : Vec Ideal S2816x1024 .bf16)
    (g : Vec Ideal S1x1024 .f32) (p : Fin 256) (q : Fin 1024) :
    outT x a wd g (ix2 p q) = x (ix2 p q) + Rows.half * Rows.rms (fun n => ∑ c : Fin 2816, a (ix2 p c) * wd (ix2 c n))
      (fun k => g (ix2 (0 : Fin 1) k)) q := by
  unfold outT Rows.half
  show _ + _ * rmsT _ _ _ = _
  rw [rmsT_apply]
  pointwise [dot_S256x2816_S2816x1024_S256x1024_1_0_0_1_n_n]

/-- The whole block of activations of a tile of rows. -/
def actG (x : S1024x1024.Idx → EReal) (pre : S1x1024.Idx → EReal) (wg wu : S1024x2816.Idx → EReal) : S1024x2816.Idx → EReal :=
  fun y => Rows.act (Rows.rms (fun k => x (ix2 (y 0) k)) (fun k => pre (ix2 (0 : Fin 1) k)))
    (fun k => wg (ix2 k (y 1))) (fun k => wu (ix2 k (y 1)))

/-- A load of 256 rows from row `r`. -/
theorem ld_rows (X : S1024x1024.Idx → EReal) (r : ℕ) (h : ∀ a, (![r, 0] : Fin 2 → Nat) a + S256x1024.size a ≤ S1024x1024.size a)
    (p : Fin 256) (k : Fin 1024) (hp : r + p.val < 1024) :
    View.ld (Val := Elt Ideal) (e' := .f32) X (Rect.unit (s := S1024x1024) ![r, 0] ![256, 1024] h) (ix2 p k) = X (ix2 ⟨r + p.val, hp⟩ k) := by
  refine congrArg X (funext fun a => Fin.ext ?_)
  match a with
  | ⟨0, _⟩ => exact congrArg (r + ·) (Nat.one_mul _)
  | ⟨1, _⟩ => exact (Nat.zero_add _).trans (Nat.one_mul _)

/-- A load of 256 columns from column `c`. -/
theorem ld_cols (X : S1024x2816.Idx → EReal) (c : ℕ) (h : ∀ a, (![0, c] : Fin 2 → Nat) a + S1024x256.size a ≤ S1024x2816.size a)
    (k : Fin 1024) (q : Fin 256) (hq : c + q.val < 2816) :
    View.ld (Val := Elt Ideal) (e' := .bf16) X (Rect.unit (s := S1024x2816) ![0, c] ![1024, 256] h) (ix2 k q) = X (ix2 k ⟨c + q.val, hq⟩) := by
  refine congrArg X (funext fun a => Fin.ext ?_)
  match a with
  | ⟨0, _⟩ => exact (Nat.zero_add _).trans (Nat.one_mul _)
  | ⟨1, _⟩ => exact congrArg (c + ·) (Nat.one_mul _)

/-- The piece of the activations at rows `r`, columns `c`, from the rows the body has normalised. -/
theorem act_piece (x : S1024x1024.Idx → EReal) (pre : S1x1024.Idx → EReal) (wg wu : S1024x2816.Idx → EReal) (r c : ℕ)
    (xb : FVec Ideal S256x1024 .f32) (g : Vec Ideal S1x1024 .f32)
    (hxb : ∀ (p : Fin 256) (k : Fin 1024) (hp : r + p.val < 1024), xb (ix2 p k) = x (ix2 ⟨r + p.val, hp⟩ k)) (hg : g = pre)
    (hc : ∀ a, (![0, c] : Fin 2 → Nat) a + S1024x256.size a ≤ S1024x2816.size a)
    (h : ∀ a, (![r, c] : Fin 2 → Nat) a + S256x256.size a ≤ S1024x2816.size a) (z : S256x256.Idx) :
    actT (truncf .bf16 (rmsT xb g) bitsLt_bf16_f32) (View.ld (Val := Elt Ideal) (e' := .bf16) wg (Rect.unit (s := S1024x2816) ![0, c] ![1024, 256] hc))
      (View.ld (Val := Elt Ideal) (e' := .bf16) wu (Rect.unit (s := S1024x2816) ![0, c] ![1024, 256] hc)) z
      = actG x pre wg wu ((Rect.unit (s := S1024x2816) ![r, c] ![256, 256] h).emb z) := by
  subst hg
  have hr : r + 256 ≤ 1024 := h 0
  have hc' : c + 256 ≤ 2816 := h 1
  obtain ⟨p, q, rfl⟩ : ∃ (p : Fin 256) (q : Fin 256), z = ix2 p q := ⟨z 0, z 1, ValueIdx.eq_ix2 z⟩
  have hp : r + p.val < 1024 := by omega
  have hq : c + q.val < 2816 := by omega
  have e : (Rect.unit (s := S1024x2816) ![r, c] ![256, 256] h).emb (ix2 p q) = ix2 ⟨r + p.val, hp⟩ ⟨c + q.val, hq⟩ := by
    refine funext fun a => Fin.ext ?_
    match a with
    | ⟨0, _⟩ => exact congrArg (r + ·) (Nat.one_mul _)
    | ⟨1, _⟩ => exact congrArg (c + ·) (Nat.one_mul _)
  rw [actT_apply, e]
  unfold actG
  refine congr (congr (congrArg Rows.act ?_) ?_) ?_
  · funext k
    refine (rmsT_apply xb g p k).trans ?_
    exact congrArg (fun f => Rows.rms f _ k) (funext fun k => hxb p k hp)
  · exact funext fun k => ld_cols wg c hc k q hq
  · exact funext fun k => ld_cols wu c hc k q hq

/-- Whether the pieces tile the 256 rows from row `r` in chunks of 256 columns. A truth value, so that it is
    checked on a literal list by evaluation. -/
def rowTiled (L : List (View.Piece (Elt Ideal) S1024x2816 .bf16)) (r : ℕ) : Bool :=
  decide (∀ i : Fin 11, ∃ p ∈ L, p.1.off 0 = r ∧ p.1.off 1 = i.val * 256 ∧ p.1.size 0 = 256 ∧ p.1.size 1 = 256
    ∧ p.1.stride 0 = 1 ∧ p.1.stride 1 = 1)

/-- Then they cover every place of those rows. -/
theorem cover_of_rowTiled (L : List (View.Piece (Elt Ideal) S1024x2816 .bf16)) (r : ℕ) (h : rowTiled L r = true)
    (p : Fin 256) (hp : r + p.val < 1024) (c : Fin 2816) : ∃ q ∈ L, (ix2 ⟨r + p.val, hp⟩ c : S1024x2816.Idx) ∈ q.1.set := by
  obtain ⟨q, hq, h0, h1, s0, s1, t0, t1⟩ := of_decide_eq_true h ⟨c.val / 256, by omega⟩
  refine ⟨q, hq, q.1.mem_set.mpr fun a => ?_⟩
  match a with
  | ⟨0, _⟩ =>
    refine ⟨p.val, lt_of_lt_of_eq p.isLt s0.symm, ?_⟩
    change r + p.val = q.1.off 0 + q.1.stride 0 * p.val
    rw [h0, t0, Nat.one_mul]
  | ⟨1, _⟩ =>
    refine ⟨c.val % 256, lt_of_lt_of_eq (Nat.mod_lt _ (by decide)) s1.symm, ?_⟩
    change c.val = q.1.off 1 + q.1.stride 1 * (c.val % 256)
    rw [h1, t1, Nat.one_mul]
    exact (Nat.div_add_mod' _ _).symm

/-- The output tile of a tile of rows. -/
def outG (x : S1024x1024.Idx → EReal) (pre post : S1x1024.Idx → EReal) (wg wu : S1024x2816.Idx → EReal) (wd : S2816x1024.Idx → EReal) :
    S1024x1024.Idx → EReal :=
  fun y => Rows.ffn (fun k => x (ix2 (y 0) k)) (fun k => pre (ix2 (0 : Fin 1) k)) (fun k => post (ix2 (0 : Fin 1) k))
    (fun k c => wg (ix2 k c)) (fun k c => wu (ix2 k c)) (fun c n => wd (ix2 c n)) (y 1)

/-- The piece of the output at rows `r`, from the activations the body has stored before. -/
theorem out_piece {sg : RefSig} (v : View sg .tc .vmem S1024x2816 .bf16) (x : S1024x1024.Idx → EReal) (pre post : S1x1024.Idx → EReal)
    (wg wu : S1024x2816.Idx → EReal) (wd : S2816x1024.Idx → EReal) (r : ℕ)
    (xb : FVec Ideal S256x1024 .f32) (g : Vec Ideal S1x1024 .f32) (w : Vec Ideal S2816x1024 .bf16)
    (hxb : ∀ (p : Fin 256) (k : Fin 1024) (hp : r + p.val < 1024), xb (ix2 p k) = x (ix2 ⟨r + p.val, hp⟩ k)) (hg : g = post) (hw : w = wd)
    (L : List (View.Piece (Elt Ideal) S1024x2816 .bf16))
    (hL : ∀ p ∈ L, ∀ z : p.1.shape.Idx, p.2 z = actG x pre wg wu (p.1.emb z))
    (ha : ∀ a, (![r, 0] : Fin 2 → Nat) a + S256x2816.size a ≤ S1024x2816.size a)
    (hcov : rowTiled L r = true)
    (h : ∀ a, (![r, 0] : Fin 2 → Nat) a + S256x1024.size a ≤ S1024x1024.size a) (z : S256x1024.Idx) :
    outT xb (v.readCov L (Rect.unit (s := S1024x2816) ![r, 0] ![256, 2816] ha).toLoadRect) w g z
      = outG x pre post wg wu wd ((Rect.unit (s := S1024x1024) ![r, 0] ![256, 1024] h).emb z) := by
  subst hg hw
  have hr : r + 256 ≤ 1024 := h 0
  obtain ⟨p, q, rfl⟩ : ∃ (p : Fin 256) (q : Fin 1024), z = ix2 p q := ⟨z 0, z 1, ValueIdx.eq_ix2 z⟩
  have hp : r + p.val < 1024 := by omega
  have e : (Rect.unit (s := S1024x1024) ![r, 0] ![256, 1024] h).emb (ix2 p q) = ix2 ⟨r + p.val, hp⟩ q := by
    refine funext fun a => Fin.ext ?_
    match a with
    | ⟨0, _⟩ => exact congrArg (r + ·) (Nat.one_mul _)
    | ⟨1, _⟩ => exact (Nat.zero_add _).trans (Nat.one_mul _)
  have ea : ∀ c : Fin 2816, (Rect.unit (s := S1024x2816) ![r, 0] ![256, 2816] ha).toLoadRect.idx (ix2 p c) = ix2 ⟨r + p.val, hp⟩ c := by
    intro c
    refine funext fun a => Fin.ext ?_
    match a with
    | ⟨0, _⟩ => exact congrArg (r + ·) (Nat.one_mul _)
    | ⟨1, _⟩ => exact (Nat.zero_add _).trans (Nat.one_mul _)
  rw [outT_apply, e]
  unfold outG Rows.ffn
  refine congr (congrArg _ (hxb p q hp)) (congrArg _ (congrArg (fun f => Rows.rms f _ q) (funext fun n => Finset.sum_congr rfl fun c _ => congrArg (· * _) ?_)))
  rw [View.readCov_eq_canon']
  refine (View.canon_apply_of_pieces (Val := Elt Ideal) (actG x pre wg wu) L hL _ (by rw [ea]; exact cover_of_rowTiled L r hcov p hp c)).trans ?_
  rw [ea]
  rfl

end FfnBlock

end
-- ==== Proof.FfnKernel.lean ====
module

public import proofs.«01_k».proof.Proof.FfnBlock

@[expose] public section

set_option maxRecDepth 16384
set_option pp.maxSteps 300

noncomputable section

namespace FfnKernel

open Idealize.ShloMosaic Cert.Kernel2Ideal Cert.Kernel2Ideal.Gen FfnBlock

variable (m : (ℓ : Loc nD τ sig) → Buf (Elt Ideal) ℓ)

/-- Rows loaded for a step are the tile's. -/
theorem rows_of (x : Vec Ideal S1024x1024 .f32) (r : ℕ) (h : ∀ a, (![r, 0] : Fin 2 → Nat) a + (![256, 1024] : Fin 2 → Nat) a ≤ S1024x1024.size a)
    (p : Fin 256) (k : Fin 1024) (hp : r + p.val < 1024) :
    k0_pay2 (F := Ideal) (View.ld (Val := Elt Ideal) (e' := .f32) x (Rect.unit (s := S1024x1024) ![r, 0] ![256, 1024] h)) (ix2 p k)
      = x (ix2 ⟨r + p.val, hp⟩ k) := by
  unfold k0_pay2
  rw [Idealize.ShloMosaic.shapeCast_self]
  exact ld_rows x r h p k hp

/-- A point's output tile is the half layer of its tile of rows. -/
theorem outs_eq (c : Dev nD) (t : Fin cfg0.N) :
    outsAt0 m c t = outG (iblk m c 0 t) (iblk m c 1 t) (iblk m c 2 t) (iblk m c 3 t) (iblk m c 4 t) (iblk m c 5 t) := by
  unfold outsAt0 out0_A_6
  rw [View.read_writes_eq_canon _ _ _ (cover0_A_6 c _ _ _ _ _ _ _ _ _ _ _ _ _ _ _ _ _ _ _ _ _ _ _)]
  funext y
  refine View.canon_apply_of_pieces (Val := Elt Ideal) _ _ ?_ y (cover0_A_6 c _ _ _ _ _ _ _ _ _ _ _ _ _ _ _ _ _ _ _ _ _ _ _ y)
  generalize iblk m c 0 t = x0
  generalize iblk m c 1 t = x1
  generalize iblk m c 2 t = x2
  generalize iblk m c 3 t = x3
  generalize iblk m c 4 t = x4
  generalize iblk m c 5 t = x5
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread]
  have hz : ∀ (x : Vec Ideal S1x1024 .f32), View.ld (Val := Elt Ideal) (e' := .f32) x (Rect.unit (s := S1x1024) ![0, 0] ![1, 1024] inb_S1x1024_S1x1024_0_0) = x :=
    fun x => View.ld_unit_zero (by funext a; fin_cases a <;> rfl) _ _
  have hzd : ∀ (x : Vec Ideal S2816x1024 .bf16), View.ld (Val := Elt Ideal) (e' := .bf16) x (Rect.unit (s := S2816x1024) ![0, 0] ![2816, 1024] inb_S2816x1024_S2816x1024_0_0) = x :=
    fun x => View.ld_unit_zero (by funext a; fin_cases a <;> rfl) _ _
  refine List.forall_mem_cons.2 ⟨?_, List.forall_mem_cons.2 ⟨?_, List.forall_mem_cons.2 ⟨?_, List.forall_mem_cons.2 ⟨?_, List.forall_mem_nil _⟩⟩⟩⟩
  all_goals
    refine fun z => out_piece _ x0 x1 x2 x3 x4 x5 _ _ _ _ (rows_of x0 _ (by decide)) (hz x2) (hzd x5) _ ?_ (by decide) rfl (by decide) z
    repeat' refine List.forall_mem_cons.2 ⟨fun z => act_piece x0 x1 x3 x4 _ _ _ _ (rows_of x0 _ (by decide)) (hz x1) (by decide) (by decide) z, ?_⟩
    exact List.forall_mem_nil _

end FfnKernel

end
-- ==== Proof.FfnValue.lean ====
module

public import proofs.«01_k».proof.Proof.FfnKernel

@[expose] public section

set_option maxRecDepth 16384
set_option pp.maxSteps 300

noncomputable section

namespace FfnValue

open Idealize.ShloMosaic Idealize.ShloMosaic.TcCoe Idealize.ShloMosaic.Tactic Cert.Kernel2Ideal Cert.Kernel2Ideal.Gen FfnBlock
open Idealize.ShloMosaic.Pipeline (Dat)

variable (m : (ℓ : Loc nD τ sig) → Buf (Elt Ideal) ℓ)

/-- Where each window's block sits. -/
theorem idx_facts : ∀ t : Fin cfg0.N,
    win0_0.index t (0 : Fin 2) = t.val ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0 ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem V_v0 (c : Dev nD) : V m c main_v0 = shapeCast S65536x1024 (m ((c : Thread nD τ).loc main_arg0)) shapeCasts_S32x2048x1024_S65536x1024 := by
  unfold_abbrev_sides
  after_results
  rfl

theorem V_v1 (c : Dev nD) : V m c main_v1 = broadcastInDim S1x1024 ![1] bcast_S1024_S1x1024_1 (m ((c : Thread nD τ).loc main_arg1)) := by
  unfold_abbrev_sides
  after_results

theorem V_v2 (c : Dev nD) : V m c main_v2 = broadcastInDim S1x1024 ![1] bcast_S1024_S1x1024_1 (m ((c : Thread nD τ).loc main_arg2)) := by
  unfold_abbrev_sides
  after_results

theorem V_v3 (c : Dev nD) : V m c main_v3 = (m ((c : Thread nD τ).loc main_arg3) : S1024x2816.Idx → EReal) := by
  unfold_abbrev_sides
  after_results
  rfl

theorem V_v4 (c : Dev nD) : V m c main_v4 = (m ((c : Thread nD τ).loc main_arg4) : S1024x2816.Idx → EReal) := by
  unfold_abbrev_sides
  after_results
  rfl

theorem V_v5 (c : Dev nD) : V m c main_v5 = (m ((c : Thread nD τ).loc main_arg5) : S2816x1024.Idx → EReal) := by
  unfold_abbrev_sides
  after_results
  rfl

theorem blk0 (c : Dev nD) (t : Fin cfg0.N) (p k : Fin 1024) (h : t.val * 1024 + p.val < 65536) :
    (iblk m c 0 t : S1024x1024.Idx → EReal) (ix2 p k) = Rows.row (m ((c : Thread nD τ).loc main_arg0)) ⟨t.val * 1024 + p.val, h⟩ k := by
  have e : (iblk m c 0 t : S1024x1024.Idx → EReal) (ix2 p k) = V m c main_v0 (ix2 ⟨t.val * 1024 + p.val, h⟩ k) := by
    refine congrArg (V m c main_v0) (funext fun a => Fin.ext ?_)
    match a with
    | ⟨0, _⟩ => exact (Pipeline.Window.rect_emb_val win0_0 t (ix2 p k) 0).trans (by rw [(idx_facts t).1]; rfl)
    | ⟨1, _⟩ => exact (Pipeline.Window.rect_emb_val_of_index_zero win0_0 t 1 (idx_facts t).2.1 (ix2 p k))
  rw [e, V_v0]
  refine shapeCast_apply _ _ _ (ix3 ⟨(t.val * 1024 + p.val) / 2048, by omega⟩ ⟨(t.val * 1024 + p.val) % 2048, by omega⟩ k) ?_
  rw [Shape.rowMajor_val_three, Shape.rowMajor_val_two]
  change ((t.val * 1024 + p.val) / 2048 * 2048 + (t.val * 1024 + p.val) % 2048) * 1024 + k.val = (t.val * 1024 + p.val) * 1024 + k.val
  rw [Nat.div_add_mod']

/-- A gain row's block is the gain. -/
theorem blk1 (c : Dev nD) (t : Fin cfg0.N) (k : Fin 1024) :
    (iblk m c 1 t : S1x1024.Idx → EReal) (ix2 (0 : Fin 1) k) = m ((c : Thread nD τ).loc main_arg1) (ix1 k) := by
  have e : (iblk m c 1 t : S1x1024.Idx → EReal) (ix2 (0 : Fin 1) k) = V m c main_v1 (ix2 (0 : Fin 1) k) := by
    refine congrArg (V m c main_v1) (funext fun a => Fin.ext ?_)
    match a with
    | ⟨0, _⟩ => exact (Pipeline.Window.rect_emb_val_of_index_zero win0_1 t 0 (idx_facts t).2.2.1 (ix2 (0 : Fin 1) k))
    | ⟨1, _⟩ => exact (Pipeline.Window.rect_emb_val_of_index_zero win0_1 t 1 (idx_facts t).2.2.2.1 (ix2 (0 : Fin 1) k))
  rw [e, V_v1]
  pointwise
  try rfl

theorem blk2 (c : Dev nD) (t : Fin cfg0.N) (k : Fin 1024) :
    (iblk m c 2 t : S1x1024.Idx → EReal) (ix2 (0 : Fin 1) k) = m ((c : Thread nD τ).loc main_arg2) (ix1 k) := by
  have e : (iblk m c 2 t : S1x1024.Idx → EReal) (ix2 (0 : Fin 1) k) = V m c main_v2 (ix2 (0 : Fin 1) k) := by
    refine congrArg (V m c main_v2) (funext fun a => Fin.ext ?_)
    match a with
    | ⟨0, _⟩ => exact (Pipeline.Window.rect_emb_val_of_index_zero win0_2 t 0 (idx_facts t).2.2.2.2.1 (ix2 (0 : Fin 1) k))
    | ⟨1, _⟩ => exact (Pipeline.Window.rect_emb_val_of_index_zero win0_2 t 1 (idx_facts t).2.2.2.2.2.1 (ix2 (0 : Fin 1) k))
  rw [e, V_v2]
  pointwise
  try rfl

/-- A weight's block is the weight. -/
theorem blk3 (c : Dev nD) (t : Fin cfg0.N) : (iblk m c 3 t : S1024x2816.Idx → EReal) = m ((c : Thread nD τ).loc main_arg3) := by
  refine Eq.trans (funext fun y => congrArg (V m c main_v3) (funext fun a => Fin.ext ?_)) (V_v3 m c)
  match a with
  | ⟨0, _⟩ => exact (Pipeline.Window.rect_emb_val_of_index_zero win0_3 t 0 (idx_facts t).2.2.2.2.2.2.1 y)
  | ⟨1, _⟩ => exact (Pipeline.Window.rect_emb_val_of_index_zero win0_3 t 1 (idx_facts t).2.2.2.2.2.2.2.1 y)

theorem blk4 (c : Dev nD) (t : Fin cfg0.N) : (iblk m c 4 t : S1024x2816.Idx → EReal) = m ((c : Thread nD τ).loc main_arg4) := by
  refine Eq.trans (funext fun y => congrArg (V m c main_v4) (funext fun a => Fin.ext ?_)) (V_v4 m c)
  match a with
  | ⟨0, _⟩ => exact (Pipeline.Window.rect_emb_val_of_index_zero win0_4 t 0 (idx_facts t).2.2.2.2.2.2.2.2.1 y)
  | ⟨1, _⟩ => exact (Pipeline.Window.rect_emb_val_of_index_zero win0_4 t 1 (idx_facts t).2.2.2.2.2.2.2.2.2.1 y)

theorem blk5 (c : Dev nD) (t : Fin cfg0.N) : (iblk m c 5 t : S2816x1024.Idx → EReal) = m ((c : Thread nD τ).loc main_arg5) := by
  refine Eq.trans (funext fun y => congrArg (V m c main_v5) (funext fun a => Fin.ext ?_)) (V_v5 m c)
  match a with
  | ⟨0, _⟩ => exact (Pipeline.Window.rect_emb_val_of_index_zero win0_5 t 0 (idx_facts t).2.2.2.2.2.2.2.2.2.2.1 y)
  | ⟨1, _⟩ => exact (Pipeline.Window.rect_emb_val_of_index_zero win0_5 t 1 (idx_facts t).2.2.2.2.2.2.2.2.2.2.2.1 y)

/-- The result: the half layer on every row of the argument. -/
def result (c : Dev nD) : S65536x1024.Idx → EReal :=
  Rows.ffnArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem flushed_eq (c : Dev nD) (t : Fin cfg0.N) :
    (dats m 0 c).flushed 6 t = ((cfg0.win 6).blk t).view.read (Elt Ideal) (result m c) := by
  rw [Value.flushed6, FfnKernel.outs_eq, blk3, blk4, blk5]
  funext y
  have ht : t.val < 64 := lt_of_lt_of_eq t.isLt N_0
  have h0 : (y 0 : Nat) < 1024 := (y 0).isLt
  have hr : t.val * 1024 + (y 0 : Nat) < 65536 := by omega
  have ei : (win0_6.rect t).emb y = (ix2 ⟨t.val * 1024 + (y 0 : Nat), hr⟩ (y 1) : S65536x1024.Idx) := by
    refine funext fun a => Fin.ext ?_
    match a with
    | ⟨0, _⟩ => exact (Pipeline.Window.rect_emb_val win0_6 t y 0).trans (by rw [(idx_facts t).2.2.2.2.2.2.2.2.2.2.2.2.1]; rfl)
    | ⟨1, _⟩ => exact Pipeline.Window.rect_emb_val_of_index_zero win0_6 t 1 (idx_facts t).2.2.2.2.2.2.2.2.2.2.2.2.2 y
  show outG _ _ _ _ _ _ _ = result m c ((win0_6.rect t).emb y)
  rw [ei]
  unfold outG result Rows.ffnArr
  have e0 : (fun k => (iblk m c 0 t : S1024x1024.Idx → EReal) (ix2 (y 0) k)) = Rows.row (m ((c : Thread nD τ).loc main_arg0)) ⟨t.val * 1024 + (y 0 : Nat), hr⟩ :=
    funext fun k => blk0 m c t (y 0) k hr
  have e1 := funext (blk1 m c t)
  have e2 := funext (blk2 m c t)
  exact Rows.ffn_congr e0 e1 e2 _ _ _ _

theorem final (c : Dev nD) : (dats m 0 c).arrAt 6 cfg0.N = result m c :=
  (dats m 0 c).arrAt_eq_of_cover 6 (result m c) (fun t _ => flushed_eq m c t) fun i => by
    have h0 : (i 0 : Nat) < 65536 := (i 0).isLt
    have h1 : (i 1 : Nat) < 1024 := (i 1).isLt
    have ht : (i 0 : Nat) / 1024 < cfg0.N := by rw [show cfg0.N = 64 from N_0]; omega
    refine ⟨⟨(i 0 : Nat) / 1024, ht⟩, flush0_6 _, ?_⟩
    show i ∈ ((View.whole main_v6).slice (win0_6.rect ⟨(i 0 : Nat) / 1024, ht⟩)).set
    rw [View.set_slice_whole, Rect.mem_set_unit]
    intro a
    match a with
    | ⟨0, _⟩ =>
      show win0_6.index _ (0 : Fin 2) * 1024 ≤ (i 0 : Nat) ∧ (i 0 : Nat) < win0_6.index _ (0 : Fin 2) * 1024 + 1024
      rw [(idx_facts _).2.2.2.2.2.2.2.2.2.2.2.2.1]; dsimp only; omega
    | ⟨1, _⟩ =>
      show win0_6.index _ (1 : Fin 2) * 1024 ≤ (i 1 : Nat) ∧ (i 1 : Nat) < win0_6.index _ (1 : Fin 2) * 1024 + 1024
      rw [(idx_facts _).2.2.2.2.2.2.2.2.2.2.2.2.2]; omega

end FfnValue

end
-- ==== Proof.FfnRef.lean ====
module

public import proofs.«01_k».proof.Proof.Rows
public import proofs.«01_k».proof.Proof.Gen.Reference2Ideal.Read

@[expose] public section

set_option maxRecDepth 16384
set_option pp.maxSteps 300

noncomputable section

namespace FfnRef

open Idealize.ShloMosaic Cert.Reference2Ideal Cert.Reference2Ideal.Read

variable (x0 : (⟨S32x2048x1024, .f32⟩ : BufTy).Contents (Elt Ideal)) (x1 x2 : (⟨S1024, .f32⟩ : BufTy).Contents (Elt Ideal))
  (x3 x4 : (⟨S1024x2816, .f32⟩ : BufTy).Contents (Elt Ideal)) (x5 : (⟨S2816x1024, .f32⟩ : BufTy).Contents (Elt Ideal))

theorem i8 (b : Fin 32) (s : Fin 2048) (k : Fin 1024) : idx_main_v8 (ix3 b s k) = ix3 b s (0 : Fin 1) := by
  funext a; fin_cases a <;> rfl
theorem i2 (b : Fin 32) (s : Fin 2048) : idx_main_v2 (ix3 b s (0 : Fin 1)) = ix2 b s := by
  funext a; fin_cases a <;> rfl
theorem i1 (b : Fin 32) (s : Fin 2048) (k : Fin 1024) : idx_main_v1 (ix2 b s) k = ix3 b s k := by
  funext a; fin_cases a <;> rfl
theorem i11 (b : Fin 32) (s : Fin 2048) (k : Fin 1024) : idx_main_v11 (ix3 b s k) = ix3 (0 : Fin 1) (0 : Fin 1) k := by
  funext a; fin_cases a <;> rfl
theorem i10 (k : Fin 1024) : idx_main_v10 (ix3 (0 : Fin 1) (0 : Fin 1) k) = ix1 k := by
  funext a; fin_cases a <;> rfl

theorem v12_apply (b : Fin 32) (s : Fin 2048) (k : Fin 1024) :
    val_main_v12 (F := Ideal) x0 x1 (ix3 b s k) = Rows.rms (fun k => x0 (ix3 b s k)) (fun k => x1 (ix1 k)) k := by
  simp only [val_main_v12_apply, val_main_v9_apply, val_main_v8_apply, i8, val_main_v7_apply, val_main_v6_apply, val_main_v4_apply,
    val_main_v2_apply, i2, val_main_v1_apply, i1, val_main_v0_apply, val_main_v3_apply, val_main_v5_apply, val_main_cst_apply,
    val_main_cst_0_apply, val_main_cst_1_apply, val_main_v11_apply, i11, val_main_v10_apply, i10]
  rw [Rows.zero_bits_add]
  rfl

theorem l13 (b : Fin 32) (s : Fin 2048) (c : Fin 2816) (k : Fin 1024) : lidx_main_v13 (ix3 b s c) k = ix3 b s k := by
  funext a; fin_cases a <;> rfl
theorem r13 (b : Fin 32) (s : Fin 2048) (c : Fin 2816) (k : Fin 1024) : ridx_main_v13 (ix3 b s c) k = ix2 k c := by
  funext a; fin_cases a <;> rfl
theorem l15 (b : Fin 32) (s : Fin 2048) (c : Fin 2816) (k : Fin 1024) : lidx_main_v15 (ix3 b s c) k = ix3 b s k := by
  funext a; fin_cases a <;> rfl
theorem r15 (b : Fin 32) (s : Fin 2048) (c : Fin 2816) (k : Fin 1024) : ridx_main_v15 (ix3 b s c) k = ix2 k c := by
  funext a; fin_cases a <;> rfl

theorem v16_apply (b : Fin 32) (s : Fin 2048) (c : Fin 2816) :
    val_main_v16 (F := Ideal) x0 x1 x3 x4 (ix3 b s c)
      = Rows.act (Rows.rms (fun k => x0 (ix3 b s k)) (fun k => x1 (ix1 k))) (fun k => x3 (ix2 k c)) (fun k => x4 (ix2 k c)) := by
  simp only [val_main_v16_apply, val_main_v14_apply, val_main_call0_v5_apply, val_main_call0_v4_apply, val_main_call0_v3_apply,
    val_main_call0_v2_apply, val_main_call0_v1_apply, val_main_call0_v0_apply, val_main_call0_cst_apply, val_main_call0_cst_0_apply,
    val_main_v13_apply, val_main_v15_apply, l13, r13, l15, r15, v12_apply]
  exact congrArg (fun z => _ * z * _) (Rows.logistic_eq _ _ _ Rows.ofBits_one_f32 Rows.ofBits_one_f32)

theorem l17 (b : Fin 32) (s : Fin 2048) (n : Fin 1024) (c : Fin 2816) : lidx_main_v17 (ix3 b s n) c = ix3 b s c := by
  funext a; fin_cases a <;> rfl
theorem r17 (b : Fin 32) (s : Fin 2048) (n : Fin 1024) (c : Fin 2816) : ridx_main_v17 (ix3 b s n) c = ix2 c n := by
  funext a; fin_cases a <;> rfl
theorem i26 (b : Fin 32) (s : Fin 2048) (k : Fin 1024) : idx_main_v26 (ix3 b s k) = ix3 b s (0 : Fin 1) := by
  funext a; fin_cases a <;> rfl
theorem i20 (b : Fin 32) (s : Fin 2048) : idx_main_v20 (ix3 b s (0 : Fin 1)) = ix2 b s := by
  funext a; fin_cases a <;> rfl
theorem i19 (b : Fin 32) (s : Fin 2048) (k : Fin 1024) : idx_main_v19 (ix2 b s) k = ix3 b s k := by
  funext a; fin_cases a <;> rfl
theorem i29 (b : Fin 32) (s : Fin 2048) (k : Fin 1024) : idx_main_v29 (ix3 b s k) = ix3 (0 : Fin 1) (0 : Fin 1) k := by
  funext a; fin_cases a <;> rfl
theorem i28 (k : Fin 1024) : idx_main_v28 (ix3 (0 : Fin 1) (0 : Fin 1) k) = ix1 k := by
  funext a; fin_cases a <;> rfl

theorem v33_apply (b : Fin 32) (s : Fin 2048) (n : Fin 1024) :
    val_main_v33 (F := Ideal) x0 x1 x2 x3 x4 x5 (ix3 b s n)
      = Rows.ffn (fun k => x0 (ix3 b s k)) (fun k => x1 (ix1 k)) (fun k => x2 (ix1 k)) (fun k c => x3 (ix2 k c)) (fun k c => x4 (ix2 k c))
        (fun c n => x5 (ix2 c n)) n := by
  simp only [val_main_v33_apply, val_main_v32_apply, val_main_v31_apply, val_main_cst_5_apply, val_main_v30_apply, val_main_v29_apply, i29,
    val_main_v28_apply, i28, val_main_v27_apply, val_main_v26_apply, i26, val_main_v25_apply, val_main_v24_apply, val_main_v23_apply,
    val_main_cst_4_apply, val_main_v22_apply, val_main_v21_apply, val_main_cst_3_apply, val_main_v20_apply, i20, val_main_v19_apply, i19,
    val_main_v18_apply, val_main_cst_2_apply, val_main_v17_apply, l17, r17, v16_apply]
  rw [Rows.zero_bits_add]
  rfl

/-- The reference's result is the half layer on every row. -/
theorem result_eq : val_main_v34 (F := Ideal) x0 x1 x2 x3 x4 x5 = Rows.ffnArr x0 x1 x2 x3 x4 x5 := by
  funext i
  have h0 : (i 0 : Nat) < 65536 := (i 0).isLt
  have h1 : (i 1 : Nat) < 1024 := (i 1).isLt
  have e : idx_main_v34 i = ix3 ⟨(i 0 : Nat) / 2048, by omega⟩ ⟨(i 0 : Nat) % 2048, by omega⟩ (i 1) := by
    refine funext fun a => Fin.ext ?_
    match a with
    | ⟨0, _⟩ => show ((i 0 : Nat) * 1024 + (i 1 : Nat)) / 2097152 = (i 0 : Nat) / 2048; omega
    | ⟨1, _⟩ => show ((i 0 : Nat) * 1024 + (i 1 : Nat)) / 1024 % 2048 = (i 0 : Nat) % 2048; omega
    | ⟨2, _⟩ => show ((i 0 : Nat) * 1024 + (i 1 : Nat)) % 1024 = (i 1 : Nat); omega
  rw [val_main_v34_apply, e]
  exact v33_apply x0 x1 x2 x3 x4 x5 _ _ _

end FfnRef

end
-- ==== Proof.GateBlock.lean ====
module

public import proofs.«01_k».proof.Proof.FfnBlock
public import proofs.«01_k».proof.Proof.Gen.Kernel3Ideal.Value

/-! The stages of the gating mixer on a tile of rows: each step's payload read at an entry, and the arrays
    that the stored pieces are pieces of. -/

@[expose] public section

set_option maxRecDepth 16384

noncomputable section

namespace GateBlock

open Idealize.ShloMosaic Cert.Kernel3Ideal Cert.Kernel3Ideal.Gen FfnBlock

/-- The projection of 256 normalised rows. -/
def wideT (x : FVec Ideal S256x1024 .f32) (g : Vec Ideal S1x1024 .f32) (w : FVec Ideal S1024x2048 .bf16) : FVec Ideal S256x2048 .f32 :=
  matmul dot_S256x1024_S1024x2048_S256x2048_1_0_0_1_n_n none (truncf .bf16 (rmsT x g) bitsLt_bf16_f32) w (constant S256x2048 .f32 0x00000000#32)

theorem wideT_apply (x : FVec Ideal S256x1024 .f32) (g : Vec Ideal S1x1024 .f32) (w : FVec Ideal S1024x2048 .bf16) (p : Fin 256) (n : Fin 2048) :
    wideT x g w (ix2 p n) = Rows.wide (fun k => x (ix2 p k)) (fun k => g (ix2 (0 : Fin 1) k)) (fun k n => w (ix2 k n)) n := by
  unfold wideT Rows.wide
  refine Eq.trans (b := ∑ k : Fin 1024, rmsT x g (ix2 p k) * w (ix2 k n)) ?_ (Finset.sum_congr rfl fun k _ => congrArg (· * _) (rmsT_apply x g p k))
  generalize rmsT x g = y
  pointwise [dot_S256x1024_S1024x2048_S256x2048_1_0_0_1_n_n]

/-- The gated unit on 256 rows. -/
def geluT (z : FVec Ideal S256x1024 .f32) : FVec Ideal S256x1024 .f32 :=
  mulf (mulf (broadcast S256x1024 (Scalar.ofBits .f32 0x3F000000#32)) z)
    (addf (broadcast S256x1024 (Scalar.ofBits .f32 0x3F800000#32)) (erf (mulf z (broadcast S256x1024 (Scalar.ofBits .f32 0x3F3504F3#32)))))

theorem geluT_apply (z : FVec Ideal S256x1024 .f32) (i : S256x1024.Idx) : geluT z i = Rows.gelu (z i) := by
  unfold Rows.gelu
  rw [← Rows.ofBits_one_f32]
  rfl

/-- The layer normalisation of 256 rows. -/
def lnormT (v : FVec Ideal S256x1024 .f32) (g : Vec Ideal S1x1024 .f32) : FVec Ideal S256x1024 .f32 :=
  let c := subf v (broadcastTo S256x1024 (divf (shapeCast S256x1 (multiReduction .add [1] S256 v 0x00000000#32
    reduces_S256x1024_S256 (.inl rfl) rfl) shapeCasts_S256_S256x1) (broadcast S256x1 (Scalar.ofBits .f32 0x44800000#32))) broadcasts_S256x1_S256x1024)
  mulf (mulf c (broadcastTo S256x1024 (rsqrt (addf (divf (shapeCast S256x1 (multiReduction .add [1] S256 (mulf c c) 0x00000000#32
    reduces_S256x1024_S256 (.inl rfl) rfl) shapeCasts_S256_S256x1) (broadcast S256x1 (Scalar.ofBits .f32 0x44800000#32)))
    (broadcast S256x1 (Scalar.ofBits .f32 0x3727C5AC#32)))) broadcasts_S256x1_S256x1024))
    (broadcastTo S256x1024 g broadcasts_S1x1024_S256x1024)

theorem lnormT_apply (v : FVec Ideal S256x1024 .f32) (g : Vec Ideal S1x1024 .f32) (p : Fin 256) (q : Fin 1024) :
    lnormT v g (ix2 p q) = Rows.lnorm (fun k => v (ix2 p k)) (fun k => g (ix2 (0 : Fin 1) k)) q := by
  unfold lnormT Rows.lnorm Rows.center Rows.width Rows.lneps
  dsimp only
  pointwise

/-- The lower triangle of one channel's mixing matrix. -/
def lowT (w : Vec Ideal S1x128x128 .f32) : FVec Ideal S128x128 .bf16 :=
  truncf .bf16 (select (cmpi .sle (iota .tc S128x128 32 [1] iota_S128x128_d1_w32) (iota .tc S128x128 32 [0] iota_S128x128_d0_w32))
    (shapeCast S128x128 w shapeCasts_S1x128x128_S128x128 : FVec Ideal S128x128 .f32) (broadcast S128x128 (Scalar.ofBits .f32 0x00000000#32))) bitsLt_bf16_f32

theorem lowT_apply (w : Vec Ideal S1x128x128 .f32) (t s : Fin 128) :
    lowT w (ix2 t s) = if s ≤ t then w (ix3 (0 : Fin 1) t s) else 0 := by
  unfold lowT
  have h : ∀ a b : EReal, Scalar.select (cmpi .sle (iota .tc S128x128 32 [1] iota_S128x128_d1_w32) (iota .tc S128x128 32 [0] iota_S128x128_d0_w32) (ix2 t s)) a b
      = if s ≤ t then a else b := by
    intro a b
    refine Eq.trans ?_ (Rows.select_lane s t a b)
    pointwise
    exact if_congr (WordArith.ofBool_eq_one_iff _) rfl rfl
  refine (h _ _).trans ?_
  have e : (shapeCast S128x128 w shapeCasts_S1x128x128_S128x128 : FVec Ideal S128x128 .f32) (ix2 t s) = w (ix3 (0 : Fin 1) t s) := by
    refine shapeCast_apply _ _ _ _ ?_
    rw [Shape.rowMajor_val_three, Shape.rowMajor_val_two]
    show (0 * 128 + t.val) * 128 + s.val = t.val * 128 + s.val
    omega
  rw [e]
  exact congrArg (fun z => if s ≤ t then _ else z) Ideal.ofBits_zero_f32

/-- The gate of two chunks side by side. -/
def pairT (w : FVec Ideal S128x128 .bf16) (va vb : Vec Ideal S128x128 .bf16) : FVec Ideal S128x256 .f32 :=
  matmul (φ₁ := .bf16) (φ₂ := .bf16) dot_S128x128_S128x256_S128x256_1_0_0_1_n_n none w
    (concatenate S128x256 1 [⟨S128x128, va⟩, ⟨S128x128, vb⟩] concatenates_S128x128_S128x128_S128x256_d1) (constant S128x256 .f32 0x00000000#32)

theorem pairT_apply (w : FVec Ideal S128x128 .bf16) (va vb : Vec Ideal S128x128 .bf16) (t : Fin 128) (n : Fin 256) :
    pairT w va vb (ix2 t n) = ∑ s : Fin 128, w (ix2 t s) * (concatenate S128x256 1 [⟨S128x128, va⟩, ⟨S128x128, vb⟩] concatenates_S128x128_S128x128_S128x256_d1) (ix2 s n) := by
  unfold pairT
  generalize concatenate S128x256 1 [⟨S128x128, va⟩, ⟨S128x128, vb⟩] concatenates_S128x128_S128x128_S128x256_d1 = y
  pointwise [dot_S128x128_S128x256_S128x256_1_0_0_1_n_n]

/-- The gated rows of the first chunk of a pair. -/
def firstT (w : FVec Ideal S128x128 .bf16) (va vb : Vec Ideal S128x128 .bf16) (b u : Vec Ideal S128x128 .f32) : FVec Ideal S128x128 .bf16 :=
  truncf .bf16 (mulf u (addf (extractStridedSlice S128x128 ![0, 0] (pairT w va vb) slices_S128x256_o0_0_S128x128) b)) bitsLt_bf16_f32

/-- The gated rows of the second. -/
def secondT (w : FVec Ideal S128x128 .bf16) (va vb : Vec Ideal S128x128 .bf16) (b u : Vec Ideal S128x128 .f32) : FVec Ideal S128x128 .bf16 :=
  truncf .bf16 (mulf u (addf (extractStridedSlice S128x128 ![0, 128] (pairT w va vb) slices_S128x256_o0_128_S128x128) b)) bitsLt_bf16_f32

theorem firstT_apply (w : FVec Ideal S128x128 .bf16) (va vb : Vec Ideal S128x128 .bf16) (b u : Vec Ideal S128x128 .f32) (t d : Fin 128) :
    firstT w va vb b u (ix2 t d) = u (ix2 t d) * ((∑ s : Fin 128, w (ix2 t s) * va (ix2 s d)) + b (ix2 t d)) := by
  unfold firstT
  have e : extractStridedSlice S128x128 ![0, 0] (pairT w va vb) slices_S128x256_o0_0_S128x128 (ix2 t d) = ∑ s : Fin 128, w (ix2 t s) * va (ix2 s d) := by
    refine Eq.trans (b := pairT w va vb (ix2 t ⟨d.val, by omega⟩)) ?_ ?_
    · generalize pairT w va vb = y
      pointwise
    · rw [pairT_apply]
      refine Finset.sum_congr rfl fun s _ => congrArg (_ * ·) ?_
      exact concatenate_pair_apply_left (t := S128x256) 1 va vb _ _ rfl (ix2 s d) (fun b => by fin_cases b <;> rfl)
  show _ * (extractStridedSlice S128x128 ![0, 0] (pairT w va vb) slices_S128x256_o0_0_S128x128 (ix2 t d) + _) = _
  rw [e]

theorem secondT_apply (w : FVec Ideal S128x128 .bf16) (va vb : Vec Ideal S128x128 .bf16) (b u : Vec Ideal S128x128 .f32) (t d : Fin 128) :
    secondT w va vb b u (ix2 t d) = u (ix2 t d) * ((∑ s : Fin 128, w (ix2 t s) * vb (ix2 s d)) + b (ix2 t d)) := by
  unfold secondT
  have e : extractStridedSlice S128x128 ![0, 128] (pairT w va vb) slices_S128x256_o0_128_S128x128 (ix2 t d) = ∑ s : Fin 128, w (ix2 t s) * vb (ix2 s d) := by
    refine Eq.trans (b := pairT w va vb (ix2 t ⟨128 + d.val, by omega⟩)) ?_ ?_
    · generalize pairT w va vb = y
      pointwise
    · rw [pairT_apply]
      refine Finset.sum_congr rfl fun s _ => congrArg (_ * ·) ?_
      exact concatenate_pair_apply_right (t := S128x256) 1 va vb _ _ rfl rfl (ix2 s d) (fun b hb => by fin_cases b <;> first | rfl | exact absurd rfl hb)
        (Nat.add_comm _ _)
  show _ * (extractStridedSlice S128x128 ![0, 128] (pairT w va vb) slices_S128x256_o0_128_S128x128 (ix2 t d) + _) = _
  rw [e]

/-- An entry of a box of rows and columns. -/
theorem box_emb {M N R C r c : ℕ} (h : ∀ a, (![r, c] : Fin 2 → Nat) a + (![R, C] : Fin 2 → Nat) a ≤ (⟨2, ![M, N]⟩ : Shape).size a)
    (p : Fin R) (q : Fin C) (hp : r + p.val < M) (hq : c + q.val < N) :
    (Rect.unit (s := ⟨2, ![M, N]⟩) ![r, c] ![R, C] h).emb (ix2 p q) = ix2 ⟨r + p.val, hp⟩ ⟨c + q.val, hq⟩ := by
  refine funext fun a => Fin.ext ?_
  match a with
  | ⟨0, _⟩ => exact congrArg (r + ·) (Nat.one_mul _)
  | ⟨1, _⟩ => exact congrArg (c + ·) (Nat.one_mul _)

theorem box_idx {M N R C r c : ℕ} (h : ∀ a, (![r, c] : Fin 2 → Nat) a + (![R, C] : Fin 2 → Nat) a ≤ (⟨2, ![M, N]⟩ : Shape).size a)
    (p : Fin R) (q : Fin C) (hp : r + p.val < M) (hq : c + q.val < N) :
    (Rect.unit (s := ⟨2, ![M, N]⟩) ![r, c] ![R, C] h).toLoadRect.idx (ix2 p q) = ix2 ⟨r + p.val, hp⟩ ⟨c + q.val, hq⟩ := by
  refine funext fun a => Fin.ext ?_
  match a with
  | ⟨0, _⟩ => exact congrArg (r + ·) (Nat.one_mul _)
  | ⟨1, _⟩ => exact congrArg (c + ·) (Nat.one_mul _)

/-- Whether one of the pieces holds the box of `R` rows from row `r` and `C` columns from column `c`. -/
def holds {M N : ℕ} {e : EltTy} (L : List (View.Piece (Elt Ideal) ⟨2, ![M, N]⟩ e)) (r c R C : ℕ) : Bool :=
  decide (∃ p ∈ L, p.1.off 0 ≤ r ∧ r + R ≤ p.1.off 0 + p.1.size 0 ∧ p.1.off 1 ≤ c ∧ c + C ≤ p.1.off 1 + p.1.size 1
    ∧ p.1.stride 0 = 1 ∧ p.1.stride 1 = 1)

theorem cover_of_holds {M N : ℕ} {e : EltTy} (L : List (View.Piece (Elt Ideal) ⟨2, ![M, N]⟩ e)) (r c R C : ℕ) (h : holds L r c R C = true)
    (y : Shape.Idx ⟨2, ![M, N]⟩) (h0 : r ≤ (y 0).val) (h0' : (y 0).val < r + R) (h1 : c ≤ (y 1).val) (h1' : (y 1).val < c + C) :
    ∃ q ∈ L, y ∈ q.1.set := by
  obtain ⟨q, hq, a0, a1, b0, b1, t0, t1⟩ := of_decide_eq_true h
  refine ⟨q, hq, q.1.mem_set.mpr fun a => ?_⟩
  match a with
  | ⟨0, _⟩ =>
    refine ⟨(y 0).val - q.1.off 0, by show (y 0).val - q.1.off 0 < q.1.size 0; omega, ?_⟩
    change (y 0).val = q.1.off 0 + q.1.stride 0 * ((y 0).val - q.1.off 0)
    rw [t0, Nat.one_mul]
    omega
  | ⟨1, _⟩ =>
    refine ⟨(y 1).val - q.1.off 1, by show (y 1).val - q.1.off 1 < q.1.size 1; omega, ?_⟩
    change (y 1).val = q.1.off 1 + q.1.stride 1 * ((y 1).val - q.1.off 1)
    rw [t1, Nat.one_mul]
    omega

/-- A read of a box that a stored piece holds, the pieces being pieces of the array `G`. -/
theorem read_box {sg : RefSig} {M N R C r c : ℕ} {e : EltTy} (v : View sg .tc .vmem ⟨2, ![M, N]⟩ e) (G : Shape.Idx ⟨2, ![M, N]⟩ → Elt Ideal e)
    (L : List (View.Piece (Elt Ideal) ⟨2, ![M, N]⟩ e)) (hL : ∀ p ∈ L, ∀ z : p.1.shape.Idx, p.2 z = G (p.1.emb z))
    (h : ∀ a, (![r, c] : Fin 2 → Nat) a + (![R, C] : Fin 2 → Nat) a ≤ (⟨2, ![M, N]⟩ : Shape).size a) (hh : holds L r c R C = true)
    (p : Fin R) (q : Fin C) (hp : r + p.val < M) (hq : c + q.val < N) :
    v.readCov L (Rect.unit (s := ⟨2, ![M, N]⟩) ![r, c] ![R, C] h).toLoadRect (ix2 p q) = G (ix2 ⟨r + p.val, hp⟩ ⟨c + q.val, hq⟩) := by
  have e := box_idx h p q hp hq
  rw [View.readCov_eq_canon']
  refine (View.canon_apply_of_pieces (Val := Elt Ideal) G L hL _ (by
    rw [e]
    exact cover_of_holds L r c R C hh _ (Nat.le_add_right _ _) (Nat.add_lt_add_left p.isLt r) (Nat.le_add_right _ _) (Nat.add_lt_add_left q.isLt c))).trans ?_
  rw [e]

variable (x : S1024x1024.Idx → EReal) (pre post lg : S1x1024.Idx → EReal) (w : S1024x2048.Idx → EReal) (ws : S8x128x128.Idx → EReal)
  (bb : S128x1024.Idx → EReal) (wo : S1024x1024.Idx → EReal)

/-- The projection of a tile. -/
def uvG : S1024x2048.Idx → EReal :=
  fun y => Rows.wide (fun k => x (ix2 (y 0) k)) (fun k => pre (ix2 (0 : Fin 1) k)) (fun k n => w (ix2 k n)) (y 1)

/-- The half of it that is gated. -/
def uG : S1024x1024.Idx → EReal :=
  fun y => Rows.gateU (fun k => x (ix2 (y 0) k)) (fun k => pre (ix2 (0 : Fin 1) k)) (fun k n => w (ix2 k n)) (y 1)

/-- The half that the gate is made of. -/
def vG : S1024x1024.Idx → EReal :=
  fun y => Rows.gateV (fun k => x (ix2 (y 0) k)) (fun k => pre (ix2 (0 : Fin 1) k)) (fun k => lg (ix2 (0 : Fin 1) k)) (fun k n => w (ix2 k n)) (y 1)

/-- The chunk of 128 rows that a row lies in. -/
def chunk (r : Fin 1024) : Fin 128 → Fin 1024 → EReal := fun s k => x (ix2 (⟨r.val / 128 * 128 + s.val, by omega⟩ : Fin 1024) k)

/-- The gated rows of a tile. -/
def yG : S1024x1024.Idx → EReal :=
  fun y => Rows.gated (chunk x (y 0)) (fun k => pre (ix2 (0 : Fin 1) k)) (fun k => lg (ix2 (0 : Fin 1) k)) (fun k n => w (ix2 k n))
    (fun a t s => ws (ix3 a t s)) (fun t j => bb (ix2 t j)) ⟨(y 0).val % 128, Nat.mod_lt _ (by decide)⟩ (y 1)

/-- The output tile of a tile. -/
def oG : S1024x1024.Idx → EReal :=
  fun y => Rows.gating (chunk x (y 0)) (fun k => pre (ix2 (0 : Fin 1) k)) (fun k => post (ix2 (0 : Fin 1) k)) (fun k => lg (ix2 (0 : Fin 1) k))
    (fun k n => w (ix2 k n)) (fun a t s => ws (ix3 a t s)) (fun t j => bb (ix2 t j)) (fun j n => wo (ix2 j n))
    ⟨(y 0).val % 128, Nat.mod_lt _ (by decide)⟩ (y 1)

/-- The piece of the projection at rows `r`. -/
theorem uv_piece (r : ℕ) (h : ∀ a, (![r, 0] : Fin 2 → Nat) a + (![256, 1024] : Fin 2 → Nat) a ≤ S1024x1024.size a)
    (h' : ∀ a, (![r, 0] : Fin 2 → Nat) a + (![256, 2048] : Fin 2 → Nat) a ≤ S1024x2048.size a) (z : S256x2048.Idx) :
    wideT (View.ld (Val := Elt Ideal) (e' := .f32) x (Rect.unit (s := S1024x1024) ![r, 0] ![256, 1024] h)) pre w z
      = uvG x pre w ((Rect.unit (s := S1024x2048) ![r, 0] ![256, 2048] h').emb z) := by
  have hr : r + 256 ≤ 1024 := h 0
  obtain ⟨p, q, rfl⟩ : ∃ (p : Fin 256) (q : Fin 2048), z = ix2 p q := ⟨z 0, z 1, ValueIdx.eq_ix2 z⟩
  have e := box_emb h' p q (by omega) (by omega)
  rw [e, wideT_apply]
  unfold uvG
  have eq : (⟨0 + q.val, by omega⟩ : Fin 2048) = q := Fin.ext (Nat.zero_add _)
  rw [eq]
  exact congrArg (fun f => Rows.wide f _ _ q) (funext fun k => ld_rows x r h p k (by omega))

/-- The piece of the gated half at rows `r`, from the projection stored before. -/
theorem u_piece {sg : RefSig} (v : View sg .tc .vmem S1024x2048 .f32) (r : ℕ) (L : List (View.Piece (Elt Ideal) S1024x2048 .f32))
    (hL : ∀ p ∈ L, ∀ z : p.1.shape.Idx, p.2 z = uvG x pre w (p.1.emb z))
    (h : ∀ a, (![r, 0] : Fin 2 → Nat) a + (![256, 1024] : Fin 2 → Nat) a ≤ S1024x2048.size a) (hh : holds L r 0 256 1024 = true)
    (h' : ∀ a, (![r, 0] : Fin 2 → Nat) a + (![256, 1024] : Fin 2 → Nat) a ≤ S1024x1024.size a) (z : S256x1024.Idx) :
    geluT (v.readCov L (Rect.unit (s := S1024x2048) ![r, 0] ![256, 1024] h).toLoadRect) z
      = uG x pre w ((Rect.unit (s := S1024x1024) ![r, 0] ![256, 1024] h').emb z) := by
  have hr : r + 256 ≤ 1024 := h' 0
  obtain ⟨p, q, rfl⟩ : ∃ (p : Fin 256) (q : Fin 1024), z = ix2 p q := ⟨z 0, z 1, ValueIdx.eq_ix2 z⟩
  have e := box_emb h' p q (by omega) (by omega)
  rw [e, geluT_apply]
  unfold uG Rows.gateU
  refine congrArg Rows.gelu ((read_box v (uvG x pre w) L hL h hh p q (by omega) (by omega)).trans ?_)
  rfl

/-- The piece of the other half at rows `r`. -/
theorem v_piece {sg : RefSig} (v : View sg .tc .vmem S1024x2048 .f32) (r : ℕ) (L : List (View.Piece (Elt Ideal) S1024x2048 .f32))
    (hL : ∀ p ∈ L, ∀ z : p.1.shape.Idx, p.2 z = uvG x pre w (p.1.emb z))
    (h : ∀ a, (![r, 1024] : Fin 2 → Nat) a + (![256, 1024] : Fin 2 → Nat) a ≤ S1024x2048.size a) (hh : holds L r 1024 256 1024 = true)
    (h' : ∀ a, (![r, 0] : Fin 2 → Nat) a + (![256, 1024] : Fin 2 → Nat) a ≤ S1024x1024.size a) (z : S256x1024.Idx) :
    lnormT (geluT (v.readCov L (Rect.unit (s := S1024x2048) ![r, 1024] ![256, 1024] h).toLoadRect)) lg z
      = vG x pre lg w ((Rect.unit (s := S1024x1024) ![r, 0] ![256, 1024] h').emb z) := by
  have hr : r + 256 ≤ 1024 := h' 0
  obtain ⟨p, q, rfl⟩ : ∃ (p : Fin 256) (q : Fin 1024), z = ix2 p q := ⟨z 0, z 1, ValueIdx.eq_ix2 z⟩
  have e := box_emb h' p q (by omega) (by omega)
  rw [e, lnormT_apply]
  unfold vG Rows.gateV
  have eq : (⟨0 + q.val, by omega⟩ : Fin 1024) = q := Fin.ext (Nat.zero_add _)
  rw [eq]
  refine congrArg (fun f => Rows.lnorm f _ q) (funext fun k => ?_)
  rw [geluT_apply]
  exact congrArg Rows.gelu (read_box v (uvG x pre w) L hL h hh p k (by omega) (by omega))

/-- A load of one channel's mixing matrix. -/
theorem ld_mat (a : ℕ) (h : ∀ i, (![a, 0, 0] : Fin 3 → Nat) i + (![1, 128, 128] : Fin 3 → Nat) i ≤ S8x128x128.size i) (ha : a < 8) (t s : Fin 128) :
    View.ld (Val := Elt Ideal) (e' := .f32) ws (Rect.unit (s := S8x128x128) ![a, 0, 0] ![1, 128, 128] h) (ix3 (0 : Fin 1) t s) = ws (ix3 (⟨a, ha⟩ : Fin 8) t s) := by
  refine congrArg ws (funext fun i => Fin.ext ?_)
  match i with
  | ⟨0, _⟩ => exact congrArg (a + ·) (Nat.one_mul _)
  | ⟨1, _⟩ => exact (Nat.zero_add _).trans (Nat.one_mul _)
  | ⟨2, _⟩ => exact (Nat.zero_add _).trans (Nat.one_mul _)

/-- One entry of the gated rows from its parts. -/
theorem gate_eq (a r0 c : ℕ) (ha : a < 8) (hc : c = a * 128) (hr : r0 % 128 = 0) (h0 : r0 + 128 ≤ 1024)
    (hm : ∀ i, (![a, 0, 0] : Fin 3 → Nat) i + (![1, 128, 128] : Fin 3 → Nat) i ≤ S8x128x128.size i)
    (hb : ∀ i, (![0, c] : Fin 2 → Nat) i + (![128, 128] : Fin 2 → Nat) i ≤ S128x1024.size i)
    (V U : Vec Ideal S128x128 .f32) (t d : Fin 128)
    (hV : ∀ s : Fin 128, V (ix2 s d) = vG x pre lg w (ix2 (⟨r0 + s.val, by omega⟩ : Fin 1024) (⟨c + d.val, by omega⟩ : Fin 1024)))
    (hU : U (ix2 t d) = uG x pre w (ix2 (⟨r0 + t.val, by omega⟩ : Fin 1024) (⟨c + d.val, by omega⟩ : Fin 1024))) :
    U (ix2 t d) * ((∑ s : Fin 128, lowT (View.ld (Val := Elt Ideal) (e' := .f32) ws (Rect.unit (s := S8x128x128) ![a, 0, 0] ![1, 128, 128] hm)) (ix2 t s) * V (ix2 s d))
      + View.ld (Val := Elt Ideal) (e' := .f32) bb (Rect.unit (s := S128x1024) ![0, c] ![128, 128] hb) (ix2 t d))
      = yG x pre lg w ws bb (ix2 (⟨r0 + t.val, by omega⟩ : Fin 1024) (⟨c + d.val, by omega⟩ : Fin 1024)) := by
  subst hc
  unfold yG Rows.gated
  have ht : (⟨(r0 + t.val) % 128, Nat.mod_lt _ (by decide)⟩ : Fin 128) = t := Fin.ext (by show (r0 + t.val) % 128 = t.val; omega)
  have hch : ∀ s : Fin 128, chunk x (⟨r0 + t.val, by omega⟩ : Fin 1024) s = fun k => x (ix2 (⟨r0 + s.val, by omega⟩ : Fin 1024) k) := by
    intro s
    funext k
    unfold chunk
    refine congrArg (fun r => x (ix2 r k)) (Fin.ext ?_)
    show (r0 + t.val) / 128 * 128 + s.val = r0 + s.val
    omega
  have hg : (⟨(a * 128 + d.val) / 128, by omega⟩ : Fin 8) = ⟨a, ha⟩ := Fin.ext (by show (a * 128 + d.val) / 128 = a; omega)
  show _ = Rows.gateU (chunk x _ (⟨(r0 + t.val) % 128, Nat.mod_lt _ (by decide)⟩ : Fin 128)) _ _ _
    * ((∑ s : Fin 128, (if s ≤ (⟨(r0 + t.val) % 128, Nat.mod_lt _ (by decide)⟩ : Fin 128) then ws (ix3 (⟨(a * 128 + d.val) / 128, by omega⟩ : Fin 8)
      (⟨(r0 + t.val) % 128, Nat.mod_lt _ (by decide)⟩ : Fin 128) s) else 0) * Rows.gateV (chunk x _ s) _ _ _ _)
      + bb (ix2 (⟨(r0 + t.val) % 128, Nat.mod_lt _ (by decide)⟩ : Fin 128) _))
  rw [ht, hg, hU]
  refine congr (congrArg _ ?_) (congr (congrArg _ (Finset.sum_congr rfl fun s _ => ?_)) ?_)
  · exact congrArg (fun f => Rows.gateU f _ _ _) (hch t).symm
  · rw [lowT_apply, ld_mat ws a hm ha, hV]
    exact congrArg (fun f => _ * Rows.gateV f _ _ _ _) (hch s).symm
  · refine congrArg bb (funext fun i => Fin.ext ?_)
    match i with
    | ⟨0, _⟩ => exact (Nat.zero_add _).trans (Nat.one_mul _)
    | ⟨1, _⟩ => exact congrArg (a * 128 + ·) (Nat.one_mul _)

/-- The gated rows of the first chunk of a pair at rows `r`, columns `c`. -/
theorem first_piece {sg : RefSig} (vv : View sg .tc .vmem S1024x1024 .bf16) (vu : View sg .tc .vmem S1024x1024 .f32) (r a c : ℕ)
    (Lv : List (View.Piece (Elt Ideal) S1024x1024 .bf16)) (Lu : List (View.Piece (Elt Ideal) S1024x1024 .f32)) (vb : Vec Ideal S128x128 .bf16)
    (hLv : ∀ p ∈ Lv, ∀ z : p.1.shape.Idx, p.2 z = vG x pre lg w (p.1.emb z)) (hLu : ∀ p ∈ Lu, ∀ z : p.1.shape.Idx, p.2 z = uG x pre w (p.1.emb z))
    (ha : a < 8) (hc : c = a * 128) (hr : r % 128 = 0)
    (h : ∀ i, (![r, c] : Fin 2 → Nat) i + (![128, 128] : Fin 2 → Nat) i ≤ S1024x1024.size i)
    (hm : ∀ i, (![a, 0, 0] : Fin 3 → Nat) i + (![1, 128, 128] : Fin 3 → Nat) i ≤ S8x128x128.size i)
    (hb : ∀ i, (![0, c] : Fin 2 → Nat) i + (![128, 128] : Fin 2 → Nat) i ≤ S128x1024.size i)
    (hv : holds Lv r c 128 128 = true) (hu : holds Lu r c 128 128 = true) (z : S128x128.Idx) :
    firstT (lowT (View.ld (Val := Elt Ideal) (e' := .f32) ws (Rect.unit (s := S8x128x128) ![a, 0, 0] ![1, 128, 128] hm)))
      (vv.readCov Lv (Rect.unit (s := S1024x1024) ![r, c] ![128, 128] h).toLoadRect) vb
      (View.ld (Val := Elt Ideal) (e' := .f32) bb (Rect.unit (s := S128x1024) ![0, c] ![128, 128] hb))
      (vu.readCov Lu (Rect.unit (s := S1024x1024) ![r, c] ![128, 128] h).toLoadRect) z
      = yG x pre lg w ws bb ((Rect.unit (s := S1024x1024) ![r, c] ![128, 128] h).emb z) := by
  have h0 : r + 128 ≤ 1024 := h 0
  have h1 : c + 128 ≤ 1024 := h 1
  obtain ⟨t, d, rfl⟩ : ∃ (p : Fin 128) (q : Fin 128), z = ix2 p q := ⟨z 0, z 1, ValueIdx.eq_ix2 z⟩
  rw [box_emb h t d (by omega) (by omega), firstT_apply]
  exact gate_eq x pre lg w ws bb a r c ha hc hr h0 hm hb _ _ t d
    (fun s => read_box vv (vG x pre lg w) Lv hLv h hv s d (by omega) (by omega)) (read_box vu (uG x pre w) Lu hLu h hu t d (by omega) (by omega))

/-- The gated rows of the second chunk of a pair. -/
theorem second_piece {sg : RefSig} (vv : View sg .tc .vmem S1024x1024 .bf16) (vu : View sg .tc .vmem S1024x1024 .f32) (r a c : ℕ)
    (Lv : List (View.Piece (Elt Ideal) S1024x1024 .bf16)) (Lu : List (View.Piece (Elt Ideal) S1024x1024 .f32)) (va : Vec Ideal S128x128 .bf16)
    (hLv : ∀ p ∈ Lv, ∀ z : p.1.shape.Idx, p.2 z = vG x pre lg w (p.1.emb z)) (hLu : ∀ p ∈ Lu, ∀ z : p.1.shape.Idx, p.2 z = uG x pre w (p.1.emb z))
    (ha : a < 8) (hc : c = a * 128) (hr : r % 128 = 0)
    (h : ∀ i, (![r, c] : Fin 2 → Nat) i + (![128, 128] : Fin 2 → Nat) i ≤ S1024x1024.size i)
    (hm : ∀ i, (![a, 0, 0] : Fin 3 → Nat) i + (![1, 128, 128] : Fin 3 → Nat) i ≤ S8x128x128.size i)
    (hb : ∀ i, (![0, c] : Fin 2 → Nat) i + (![128, 128] : Fin 2 → Nat) i ≤ S128x1024.size i)
    (hv : holds Lv r c 128 128 = true) (hu : holds Lu r c 128 128 = true) (z : S128x128.Idx) :
    secondT (lowT (View.ld (Val := Elt Ideal) (e' := .f32) ws (Rect.unit (s := S8x128x128) ![a, 0, 0] ![1, 128, 128] hm)))
      va (vv.readCov Lv (Rect.unit (s := S1024x1024) ![r, c] ![128, 128] h).toLoadRect)
      (View.ld (Val := Elt Ideal) (e' := .f32) bb (Rect.unit (s := S128x1024) ![0, c] ![128, 128] hb))
      (vu.readCov Lu (Rect.unit (s := S1024x1024) ![r, c] ![128, 128] h).toLoadRect) z
      = yG x pre lg w ws bb ((Rect.unit (s := S1024x1024) ![r, c] ![128, 128] h).emb z) := by
  have h0 : r + 128 ≤ 1024 := h 0
  have h1 : c + 128 ≤ 1024 := h 1
  obtain ⟨t, d, rfl⟩ : ∃ (p : Fin 128) (q : Fin 128), z = ix2 p q := ⟨z 0, z 1, ValueIdx.eq_ix2 z⟩
  rw [box_emb h t d (by omega) (by omega), secondT_apply]
  exact gate_eq x pre lg w ws bb a r c ha hc hr h0 hm hb _ _ t d
    (fun s => read_box vv (vG x pre lg w) Lv hLv h hv s d (by omega) (by omega)) (read_box vu (uG x pre w) Lu hLu h hu t d (by omega) (by omega))

/-- 256 rows with the projected gated rows added. -/
def sumT (x : FVec Ideal S256x1024 .f32) (y : FVec Ideal S256x1024 .bf16) (w : FVec Ideal S1024x1024 .bf16) (g : Vec Ideal S1x1024 .f32) :
    FVec Ideal S256x1024 .f32 :=
  addf x (rmsT (matmul dot_S256x1024_S1024x1024_S256x1024_1_0_0_1_n_n none y w (constant S256x1024 .f32 0x00000000#32)) g)

theorem sumT_apply (x : FVec Ideal S256x1024 .f32) (o : FVec Ideal S256x1024 .bf16) (w : FVec Ideal S1024x1024 .bf16) (g : Vec Ideal S1x1024 .f32)
    (p : Fin 256) (q : Fin 1024) :
    sumT x o w g (ix2 p q) = Rows.mix (fun k => x (ix2 p k)) (fun k => o (ix2 p k)) (fun k => g (ix2 (0 : Fin 1) k)) (fun j n => w (ix2 j n)) q := by
  unfold sumT Rows.mix
  show _ + rmsT _ _ _ = _
  rw [rmsT_apply]
  pointwise [dot_S256x1024_S1024x1024_S256x1024_1_0_0_1_n_n]

/-- Whether 128 by 128 pieces tile the 256 rows from row `r`. -/
def tiled (L : List (View.Piece (Elt Ideal) S1024x1024 .bf16)) (r : ℕ) : Bool :=
  decide (∀ i : Fin 2, ∀ j : Fin 8, holds L (r + i.val * 128) (j.val * 128) 128 128 = true)

/-- The piece of the output at rows `r`. -/
theorem o_piece {sg : RefSig} (v : View sg .tc .vmem S1024x1024 .bf16) (r : ℕ) (L : List (View.Piece (Elt Ideal) S1024x1024 .bf16))
    (hL : ∀ p ∈ L, ∀ z : p.1.shape.Idx, p.2 z = yG x pre lg w ws bb (p.1.emb z)) (ht : tiled L r = true)
    (h : ∀ a, (![r, 0] : Fin 2 → Nat) a + (![256, 1024] : Fin 2 → Nat) a ≤ S1024x1024.size a) (z : S256x1024.Idx) :
    sumT (View.ld (Val := Elt Ideal) (e' := .f32) x (Rect.unit (s := S1024x1024) ![r, 0] ![256, 1024] h))
      (v.readCov L (Rect.unit (s := S1024x1024) ![r, 0] ![256, 1024] h).toLoadRect) wo post z
      = oG x pre post lg w ws bb wo ((Rect.unit (s := S1024x1024) ![r, 0] ![256, 1024] h).emb z) := by
  have hr : r + 256 ≤ 1024 := h 0
  obtain ⟨p, q, rfl⟩ : ∃ (p : Fin 256) (q : Fin 1024), z = ix2 p q := ⟨z 0, z 1, ValueIdx.eq_ix2 z⟩
  have eq : ∀ q : Fin 1024, (⟨0 + q.val, by omega⟩ : Fin 1024) = q := fun q => Fin.ext (Nat.zero_add _)
  rw [box_emb h p q (by omega) (by omega), sumT_apply, eq]
  unfold oG Rows.gating
  refine Rows.mix_congr (funext fun k => (ld_rows x r h p k (by omega)).trans ?_) (funext fun k => ?_) rfl _ q
  · unfold chunk
    refine congrArg (fun r => x (ix2 r k)) (Fin.ext ?_)
    show r + p.val = (r + p.val) / 128 * 128 + (r + p.val) % 128
    omega
  · have e := box_idx h p k (by omega) (by omega)
    rw [eq] at e
    rw [View.readCov_eq_canon']
    refine (View.canon_apply_of_pieces (Val := Elt Ideal) (yG x pre lg w ws bb) L hL _ (by
      rw [e]
      have hh := of_decide_eq_true ht ⟨p.val / 128, by omega⟩ ⟨k.val / 128, by omega⟩
      refine cover_of_holds L _ _ _ _ hh _ ?_ ?_ ?_ ?_
      · show r + p.val / 128 * 128 ≤ r + p.val; omega
      · show r + p.val < r + p.val / 128 * 128 + 128; omega
      · show k.val / 128 * 128 ≤ k.val; omega
      · show k.val < k.val / 128 * 128 + 128; omega)).trans ?_
    rw [e]
    rfl

end GateBlock

end
-- ==== Proof.GatePay.lean ====
module

public import proofs.«01_k».proof.Proof.GateBlock

/-! Each payload of the gating mixer's body is one of the stages. -/

@[expose] public section

set_option maxRecDepth 16384

noncomputable section

namespace GatePay

open Idealize.ShloMosaic Cert.Kernel3Ideal Cert.Kernel3Ideal.Gen FfnBlock GateBlock

theorem p1 (x : Vec Ideal S256x1024 .f32) (y : Vec Ideal S256x1024 .bf16) (w : Vec Ideal S1024x1024 .bf16) (g : Vec Ideal S1x1024 .f32) :
    k0_pay1 (F := Ideal) x (k0_pay155 (F := Ideal) y w) g (k0_pay157 (F := Ideal) y w) = sumT x y w g := by
  unfold k0_pay1 k0_pay157 k0_pay155 sumT rmsT
  simp only [Idealize.ShloMosaic.shapeCast_self]

theorem p3 (w : Vec Ideal S1x128x128 .f32) :
    k0_pay3 (F := Ideal) w = lowT w := by
  unfold k0_pay3 k0_pay2 lowT
  rfl

theorem p4 (w : Vec Ideal S1x128x128 .f32) :
    k0_pay4 (F := Ideal) w = lowT w := by
  unfold k0_pay4 k0_pay2 lowT
  rfl

theorem p5 (w : Vec Ideal S1x128x128 .f32) :
    k0_pay5 (F := Ideal) w = lowT w := by
  unfold k0_pay5 k0_pay2 lowT
  rfl

theorem p6 (w : Vec Ideal S1x128x128 .f32) :
    k0_pay6 (F := Ideal) w = lowT w := by
  unfold k0_pay6 k0_pay2 lowT
  rfl

theorem p7 (w : Vec Ideal S1x128x128 .f32) :
    k0_pay7 (F := Ideal) w = lowT w := by
  unfold k0_pay7 k0_pay2 lowT
  rfl

theorem p8 (w : Vec Ideal S1x128x128 .f32) :
    k0_pay8 (F := Ideal) w = lowT w := by
  unfold k0_pay8 k0_pay2 lowT
  rfl

theorem p9 (w : Vec Ideal S1x128x128 .f32) :
    k0_pay9 (F := Ideal) k0_pay2 w = lowT w := by
  unfold k0_pay9 k0_pay2 lowT
  rfl

theorem p10 (w : Vec Ideal S1x128x128 .f32) :
    k0_pay10 (F := Ideal) k0_pay2 w = lowT w := by
  unfold k0_pay10 k0_pay2 lowT
  rfl

theorem p11 (x : Vec Ideal S256x1024 .f32) (g : Vec Ideal S1x1024 .f32) (w : Vec Ideal S1024x2048 .bf16) :
    k0_pay11 (F := Ideal) x g w = wideT x g w := by
  unfold k0_pay11 wideT rmsT
  simp only [Idealize.ShloMosaic.shapeCast_self]

theorem p12 (v : Vec Ideal S256x1024 .f32) :
    k0_pay12 (F := Ideal) v = v := by
  unfold k0_pay12
  simp only [Idealize.ShloMosaic.shapeCast_self]

theorem p13 (v : Vec Ideal S1x1024 .f32) :
    k0_pay13 (F := Ideal) v = v := by
  unfold k0_pay13
  simp only [Idealize.ShloMosaic.shapeCast_self]

theorem p14 (x : Vec Ideal S256x1024 .f32) (g : Vec Ideal S1x1024 .f32) (w : Vec Ideal S1024x2048 .bf16) :
    k0_pay14 (F := Ideal) x g w = wideT x g w := by
  unfold k0_pay14 wideT rmsT
  simp only [Idealize.ShloMosaic.shapeCast_self]

theorem p15 (v : Vec Ideal S256x1024 .f32) :
    k0_pay15 (F := Ideal) v = v := by
  unfold k0_pay15
  simp only [Idealize.ShloMosaic.shapeCast_self]

theorem p16 (z : Vec Ideal S256x1024 .f32) :
    k0_pay16 (F := Ideal) z = geluT z := by
  unfold k0_pay16 geluT
  simp only [Idealize.ShloMosaic.shapeCast_self]

theorem p19 (z : Vec Ideal S256x1024 .f32) (g : Vec Ideal S1x1024 .f32) :
    k0_pay19 (F := Ideal) z (k0_pay17 (F := Ideal) z) (k0_pay18 (F := Ideal)) g = lnormT (geluT z) g := by
  unfold k0_pay19 k0_pay17 k0_pay18 lnormT geluT
  simp only [Idealize.ShloMosaic.shapeCast_self]
  rfl

theorem p20 (w : FVec Ideal S128x128 .bf16) (va vb : Vec Ideal S128x128 .bf16) :
    k0_pay20 (F := Ideal) w va vb = pairT w va vb := by
  unfold k0_pay20 pairT
  rfl

theorem p21 (w : FVec Ideal S128x128 .bf16) (va vb : Vec Ideal S128x128 .bf16) (b u : Vec Ideal S128x128 .f32) :
    k0_pay21 (F := Ideal) w va vb b u = firstT w va vb b u := by
  unfold k0_pay21 k0_pay20 firstT pairT
  simp only [Idealize.ShloMosaic.shapeCast_self]

theorem p22 (v : Vec Ideal S128x128 .bf16) :
    k0_pay22 (F := Ideal) v = v := by
  unfold k0_pay22
  simp only [Idealize.ShloMosaic.shapeCast_self]

theorem p23 (w : FVec Ideal S128x128 .bf16) (va vb : Vec Ideal S128x128 .bf16) (b u : Vec Ideal S128x128 .f32) :
    k0_pay23 (F := Ideal) (pairT w va vb) b u = secondT w va vb b u := by
  unfold k0_pay23 secondT
  simp only [Idealize.ShloMosaic.shapeCast_self]

theorem p24 (w : FVec Ideal S128x128 .bf16) (va vb : Vec Ideal S128x128 .bf16) :
    k0_pay24 (F := Ideal) w va vb = pairT w va vb := by
  unfold k0_pay24 pairT
  rfl

theorem p25 (w : FVec Ideal S128x128 .bf16) (va vb : Vec Ideal S128x128 .bf16) (b u : Vec Ideal S128x128 .f32) :
    k0_pay25 (F := Ideal) w va vb b u = firstT w va vb b u := by
  unfold k0_pay25 k0_pay24 firstT pairT
  simp only [Idealize.ShloMosaic.shapeCast_self]

theorem p26 (w : FVec Ideal S128x128 .bf16) (va vb : Vec Ideal S128x128 .bf16) (b u : Vec Ideal S128x128 .f32) :
    k0_pay26 (F := Ideal) w va vb b u = secondT w va vb b u := by
  unfold k0_pay26 k0_pay24 secondT pairT
  simp only [Idealize.ShloMosaic.shapeCast_self]

theorem p27 (v : Vec Ideal S128x128 .bf16) :
    k0_pay27 (F := Ideal) v = v := by
  unfold k0_pay27
  simp only [Idealize.ShloMosaic.shapeCast_self]

theorem p28 (w : FVec Ideal S128x128 .bf16) (va vb : Vec Ideal S128x128 .bf16) :
    k0_pay28 (F := Ideal) w va vb = pairT w va vb := by
  unfold k0_pay28 pairT
  rfl

theorem p29 (w : FVec Ideal S128x128 .bf16) (va vb : Vec Ideal S128x128 .bf16) (b u : Vec Ideal S128x128 .f32) :
    k0_pay29 (F := Ideal) w va vb b u = firstT w va vb b u := by
  unfold k0_pay29 k0_pay28 firstT pairT
  simp only [Idealize.ShloMosaic.shapeCast_self]

theorem p30 (w : FVec Ideal S128x128 .bf16) (va vb : Vec Ideal S128x128 .bf16) (b u : Vec Ideal S128x128 .f32) :
    k0_pay30 (F := Ideal) w va vb b u = secondT w va vb b u := by
  unfold k0_pay30 k0_pay28 secondT pairT
  simp only [Idealize.ShloMosaic.shapeCast_self]

theorem p31 (w : FVec Ideal S128x128 .bf16) (va vb : Vec Ideal S128x128 .bf16) :
    k0_pay31 (F := Ideal) w va vb = pairT w va vb := by
  unfold k0_pay31 pairT
  rfl

theorem p33 (w : FVec Ideal S128x128 .bf16) (va vb : Vec Ideal S128x128 .bf16) (b u : Vec Ideal S128x128 .f32) :
    k0_pay33 (F := Ideal) (k0_pay32 (F := Ideal) w va vb) b u = firstT w va vb b u := by
  unfold k0_pay33 k0_pay32 k0_pay31 firstT pairT
  simp only [Idealize.ShloMosaic.shapeCast_self]

theorem p34 (w : FVec Ideal S128x128 .bf16) (va vb : Vec Ideal S128x128 .bf16) (b u : Vec Ideal S128x128 .f32) :
    k0_pay34 (F := Ideal) (pairT w va vb) b u = secondT w va vb b u := by
  unfold k0_pay34 secondT
  simp only [Idealize.ShloMosaic.shapeCast_self]

theorem p35 (w : FVec Ideal S128x128 .bf16) (va vb : Vec Ideal S128x128 .bf16) :
    k0_pay35 (F := Ideal) w va vb = pairT w va vb := by
  unfold k0_pay35 pairT
  rfl

theorem p36 (w : FVec Ideal S128x128 .bf16) (va vb : Vec Ideal S128x128 .bf16) (b u : Vec Ideal S128x128 .f32) :
    k0_pay36 (F := Ideal) w va vb b u = firstT w va vb b u := by
  unfold k0_pay36 k0_pay35 firstT pairT
  simp only [Idealize.ShloMosaic.shapeCast_self]

theorem p38 (w : FVec Ideal S128x128 .bf16) (va vb : Vec Ideal S128x128 .bf16) (b u : Vec Ideal S128x128 .f32) :
    k0_pay38 (F := Ideal) (k0_pay37 (F := Ideal) w va vb) b u = secondT w va vb b u := by
  unfold k0_pay38 k0_pay37 k0_pay35 secondT pairT
  simp only [Idealize.ShloMosaic.shapeCast_self]

theorem p39 (w : FVec Ideal S128x128 .bf16) (va vb : Vec Ideal S128x128 .bf16) :
    k0_pay39 (F := Ideal) w va vb = pairT w va vb := by
  unfold k0_pay39 pairT
  rfl

theorem p40 (w : FVec Ideal S128x128 .bf16) (va vb : Vec Ideal S128x128 .bf16) (b u : Vec Ideal S128x128 .f32) :
    k0_pay40 (F := Ideal) w va vb b u = firstT w va vb b u := by
  unfold k0_pay40 k0_pay39 firstT pairT
  simp only [Idealize.ShloMosaic.shapeCast_self]

theorem p41 (w : FVec Ideal S128x128 .bf16) (va vb : Vec Ideal S128x128 .bf16) (b u : Vec Ideal S128x128 .f32) :
    k0_pay41 (F := Ideal) w va vb b u = secondT w va vb b u := by
  unfold k0_pay41 k0_pay39 secondT pairT
  simp only [Idealize.ShloMosaic.shapeCast_self]

theorem p42 (w : FVec Ideal S128x128 .bf16) (va vb : Vec Ideal S128x128 .bf16) :
    k0_pay42 (F := Ideal) w va vb = pairT w va vb := by
  unfold k0_pay42 pairT
  rfl

theorem p43 (w : FVec Ideal S128x128 .bf16) (va vb : Vec Ideal S128x128 .bf16) (b u : Vec Ideal S128x128 .f32) :
    k0_pay43 (F := Ideal) w va vb b u = firstT w va vb b u := by
  unfold k0_pay43 k0_pay42 firstT pairT
  simp only [Idealize.ShloMosaic.shapeCast_self]

theorem p44 (w : FVec Ideal S128x128 .bf16) (va vb : Vec Ideal S128x128 .bf16) (b u : Vec Ideal S128x128 .f32) :
    k0_pay44 (F := Ideal) w va vb b u = secondT w va vb b u := by
  unfold k0_pay44 k0_pay42 secondT pairT
  simp only [Idealize.ShloMosaic.shapeCast_self]

theorem p45 (w : FVec Ideal S128x128 .bf16) (va vb : Vec Ideal S128x128 .bf16) :
    k0_pay45 (F := Ideal) w va vb = pairT w va vb := by
  unfold k0_pay45 pairT
  rfl

theorem p47 (w : FVec Ideal S128x128 .bf16) (va vb : Vec Ideal S128x128 .bf16) (b u : Vec Ideal S128x128 .f32) :
    k0_pay47 (F := Ideal) (k0_pay46 (F := Ideal) w va vb b u) = firstT w va vb b u := by
  unfold k0_pay47 k0_pay46 k0_pay45 firstT pairT
  simp only [Idealize.ShloMosaic.shapeCast_self]

theorem p48 (w : FVec Ideal S128x128 .bf16) (va vb : Vec Ideal S128x128 .bf16) (b u : Vec Ideal S128x128 .f32) :
    k0_pay48 (F := Ideal) (pairT w va vb) b u = secondT w va vb b u := by
  unfold k0_pay48 secondT
  simp only [Idealize.ShloMosaic.shapeCast_self]

theorem p49 (x : Vec Ideal S256x1024 .f32) (y : Vec Ideal S256x1024 .bf16) (w : Vec Ideal S1024x1024 .bf16) (g : Vec Ideal S1x1024 .f32) :
    k0_pay49 (F := Ideal) x y w g = sumT x y w g := by
  unfold k0_pay49 sumT rmsT
  simp only [Idealize.ShloMosaic.shapeCast_self]

theorem p50 (x : Vec Ideal S256x1024 .f32) (g : Vec Ideal S1x1024 .f32) (w : Vec Ideal S1024x2048 .bf16) :
    k0_pay50 (F := Ideal) x g w = wideT x g w := by
  unfold k0_pay50 wideT rmsT
  simp only [Idealize.ShloMosaic.shapeCast_self]

theorem p51 (v : Vec Ideal S256x1024 .f32) :
    k0_pay51 (F := Ideal) v = v := by
  unfold k0_pay51
  simp only [Idealize.ShloMosaic.shapeCast_self]

theorem p52 (z : Vec Ideal S256x1024 .f32) :
    k0_pay52 (F := Ideal) z = geluT z := by
  unfold k0_pay52 geluT
  simp only [Idealize.ShloMosaic.shapeCast_self]

theorem p53 (z : Vec Ideal S256x1024 .f32) (g : Vec Ideal S1x1024 .f32) :
    k0_pay53 (F := Ideal) z g = lnormT (geluT z) g := by
  unfold k0_pay53 lnormT geluT
  simp only [Idealize.ShloMosaic.shapeCast_self]
  rfl

theorem p54 (w : FVec Ideal S128x128 .bf16) (va vb : Vec Ideal S128x128 .bf16) :
    k0_pay54 (F := Ideal) w va vb = pairT w va vb := by
  unfold k0_pay54 pairT
  rfl

theorem p56 (w : FVec Ideal S128x128 .bf16) (va vb : Vec Ideal S128x128 .bf16) (b u : Vec Ideal S128x128 .f32) :
    k0_pay56 (F := Ideal) (k0_pay55 (F := Ideal) w va vb b) u = firstT w va vb b u := by
  unfold k0_pay56 k0_pay55 k0_pay54 firstT pairT
  simp only [Idealize.ShloMosaic.shapeCast_self]

theorem p57 (w : FVec Ideal S128x128 .bf16) (va vb : Vec Ideal S128x128 .bf16) (b u : Vec Ideal S128x128 .f32) :
    k0_pay57 (F := Ideal) (pairT w va vb) b u = secondT w va vb b u := by
  unfold k0_pay57 secondT
  simp only [Idealize.ShloMosaic.shapeCast_self]

theorem p58 (w : FVec Ideal S128x128 .bf16) (va vb : Vec Ideal S128x128 .bf16) :
    k0_pay58 (F := Ideal) w va vb = pairT w va vb := by
  unfold k0_pay58 pairT
  rfl

theorem p59 (w : FVec Ideal S128x128 .bf16) (va vb : Vec Ideal S128x128 .bf16) (b u : Vec Ideal S128x128 .f32) :
    k0_pay59 (F := Ideal) w va vb b u = firstT w va vb b u := by
  unfold k0_pay59 k0_pay58 firstT pairT
  simp only [Idealize.ShloMosaic.shapeCast_self]

theorem p61 (w : FVec Ideal S128x128 .bf16) (va vb : Vec Ideal S128x128 .bf16) (b u : Vec Ideal S128x128 .f32) :
    k0_pay61 (F := Ideal) (k0_pay60 (F := Ideal) w va vb b) u = secondT w va vb b u := by
  unfold k0_pay61 k0_pay60 k0_pay58 secondT pairT
  simp only [Idealize.ShloMosaic.shapeCast_self]

theorem p62 (w : FVec Ideal S128x128 .bf16) (va vb : Vec Ideal S128x128 .bf16) :
    k0_pay62 (F := Ideal) w va vb = pairT w va vb := by
  unfold k0_pay62 pairT
  rfl

theorem p63 (w : FVec Ideal S128x128 .bf16) (va vb : Vec Ideal S128x128 .bf16) (b u : Vec Ideal S128x128 .f32) :
    k0_pay63 (F := Ideal) w va vb b u = firstT w va vb b u := by
  unfold k0_pay63 k0_pay62 firstT pairT
  simp only [Idealize.ShloMosaic.shapeCast_self]

theorem p64 (w : FVec Ideal S128x128 .bf16) (va vb : Vec Ideal S128x128 .bf16) (b u : Vec Ideal S128x128 .f32) :
    k0_pay64 (F := Ideal) w va vb b u = secondT w va vb b u := by
  unfold k0_pay64 k0_pay62 secondT pairT
  simp only [Idealize.ShloMosaic.shapeCast_self]

theorem p65 (w : FVec Ideal S128x128 .bf16) (va vb : Vec Ideal S128x128 .bf16) :
    k0_pay65 (F := Ideal) w va vb = pairT w va vb := by
  unfold k0_pay65 pairT
  rfl

theorem p66 (w : FVec Ideal S128x128 .bf16) (va vb : Vec Ideal S128x128 .bf16) (b u : Vec Ideal S128x128 .f32) :
    k0_pay66 (F := Ideal) w va vb b u = firstT w va vb b u := by
  unfold k0_pay66 k0_pay65 firstT pairT
  simp only [Idealize.ShloMosaic.shapeCast_self]

theorem p67 (w : FVec Ideal S128x128 .bf16) (va vb : Vec Ideal S128x128 .bf16) (b u : Vec Ideal S128x128 .f32) :
    k0_pay67 (F := Ideal) w va vb b u = secondT w va vb b u := by
  unfold k0_pay67 k0_pay65 secondT pairT
  simp only [Idealize.ShloMosaic.shapeCast_self]

theorem p68 (w : FVec Ideal S128x128 .bf16) (va vb : Vec Ideal S128x128 .bf16) :
    k0_pay68 (F := Ideal) w va vb = pairT w va vb := by
  unfold k0_pay68 pairT
  rfl

theorem p69 (w : FVec Ideal S128x128 .bf16) (va vb : Vec Ideal S128x128 .bf16) (b u : Vec Ideal S128x128 .f32) :
    k0_pay69 (F := Ideal) w va vb b u = firstT w va vb b u := by
  unfold k0_pay69 k0_pay68 firstT pairT
  simp only [Idealize.ShloMosaic.shapeCast_self]

theorem p70 (v : Vec Ideal S128x128 .bf16) :
    k0_pay70 (F := Ideal) v = v := by
  unfold k0_pay70
  simp only [Idealize.ShloMosaic.shapeCast_self]

theorem p71 (w : FVec Ideal S128x128 .bf16) (va vb : Vec Ideal S128x128 .bf16) (b u : Vec Ideal S128x128 .f32) :
    k0_pay71 (F := Ideal) (pairT w va vb) b u = secondT w va vb b u := by
  unfold k0_pay71 secondT
  simp only [Idealize.ShloMosaic.shapeCast_self]

theorem p72 (w : FVec Ideal S128x128 .bf16) (va vb : Vec Ideal S128x128 .bf16) :
    k0_pay72 (F := Ideal) w va vb = pairT w va vb := by
  unfold k0_pay72 pairT
  rfl

theorem p73 (w : FVec Ideal S128x128 .bf16) (va vb : Vec Ideal S128x128 .bf16) (b u : Vec Ideal S128x128 .f32) :
    k0_pay73 (F := Ideal) w va vb b u = firstT w va vb b u := by
  unfold k0_pay73 k0_pay72 firstT pairT
  simp only [Idealize.ShloMosaic.shapeCast_self]

theorem p74 (w : FVec Ideal S128x128 .bf16) (va vb : Vec Ideal S128x128 .bf16) (b u : Vec Ideal S128x128 .f32) :
    k0_pay74 (F := Ideal) w va vb b u = secondT w va vb b u := by
  unfold k0_pay74 k0_pay72 secondT pairT
  simp only [Idealize.ShloMosaic.shapeCast_self]

theorem p75 (v : Vec Ideal S128x128 .bf16) :
    k0_pay75 (F := Ideal) v = v := by
  unfold k0_pay75
  simp only [Idealize.ShloMosaic.shapeCast_self]

theorem p76 (w : FVec Ideal S128x128 .bf16) (va vb : Vec Ideal S128x128 .bf16) :
    k0_pay76 (F := Ideal) w va vb = pairT w va vb := by
  unfold k0_pay76 pairT
  rfl

theorem p77 (w : FVec Ideal S128x128 .bf16) (va vb : Vec Ideal S128x128 .bf16) (b u : Vec Ideal S128x128 .f32) :
    k0_pay77 (F := Ideal) w va vb b u = firstT w va vb b u := by
  unfold k0_pay77 k0_pay76 firstT pairT
  simp only [Idealize.ShloMosaic.shapeCast_self]

theorem p78 (w : FVec Ideal S128x128 .bf16) (va vb : Vec Ideal S128x128 .bf16) (b u : Vec Ideal S128x128 .f32) :
    k0_pay78 (F := Ideal) w va vb b u = secondT w va vb b u := by
  unfold k0_pay78 k0_pay76 secondT pairT
  simp only [Idealize.ShloMosaic.shapeCast_self]

theorem p79 (w : FVec Ideal S128x128 .bf16) (va vb : Vec Ideal S128x128 .bf16) :
    k0_pay79 (F := Ideal) w va vb = pairT w va vb := by
  unfold k0_pay79 pairT
  rfl

theorem p82 (w : FVec Ideal S128x128 .bf16) (va vb : Vec Ideal S128x128 .bf16) (b u : Vec Ideal S128x128 .f32) :
    k0_pay82 (F := Ideal) (k0_pay80 (F := Ideal) w va vb) (k0_pay81 (F := Ideal) b) u = firstT w va vb b u := by
  unfold k0_pay82 k0_pay80 k0_pay81 k0_pay79 firstT pairT
  simp only [Idealize.ShloMosaic.shapeCast_self]

theorem p83 (w : FVec Ideal S128x128 .bf16) (va vb : Vec Ideal S128x128 .bf16) (b u : Vec Ideal S128x128 .f32) :
    k0_pay83 (F := Ideal) (pairT w va vb) b u = secondT w va vb b u := by
  unfold k0_pay83 secondT
  simp only [Idealize.ShloMosaic.shapeCast_self]

theorem p84 (x : Vec Ideal S256x1024 .f32) (y : Vec Ideal S256x1024 .bf16) (w : Vec Ideal S1024x1024 .bf16) (g : Vec Ideal S1x1024 .f32) :
    k0_pay84 (F := Ideal) x y w g = sumT x y w g := by
  unfold k0_pay84 sumT rmsT
  simp only [Idealize.ShloMosaic.shapeCast_self]

theorem p85 (x : Vec Ideal S256x1024 .f32) (g : Vec Ideal S1x1024 .f32) (w : Vec Ideal S1024x2048 .bf16) :
    k0_pay85 (F := Ideal) x g w = wideT x g w := by
  unfold k0_pay85 wideT rmsT
  simp only [Idealize.ShloMosaic.shapeCast_self]

theorem p86 (v : Vec Ideal S256x1024 .f32) :
    k0_pay86 (F := Ideal) v = v := by
  unfold k0_pay86
  simp only [Idealize.ShloMosaic.shapeCast_self]

theorem p87 (z : Vec Ideal S256x1024 .f32) :
    k0_pay87 (F := Ideal) z = geluT z := by
  unfold k0_pay87 geluT
  simp only [Idealize.ShloMosaic.shapeCast_self]

theorem p88 (v : Vec Ideal S256x1024 .f32) :
    k0_pay88 (F := Ideal) v = v := by
  unfold k0_pay88
  simp only [Idealize.ShloMosaic.shapeCast_self]

theorem p89 (z : Vec Ideal S256x1024 .f32) (g : Vec Ideal S1x1024 .f32) :
    k0_pay89 (F := Ideal) z g = lnormT (geluT z) g := by
  unfold k0_pay89 lnormT geluT
  simp only [Idealize.ShloMosaic.shapeCast_self]
  rfl

theorem p90 (w : FVec Ideal S128x128 .bf16) (va vb : Vec Ideal S128x128 .bf16) :
    k0_pay90 (F := Ideal) w va vb = pairT w va vb := by
  unfold k0_pay90 pairT
  rfl

theorem p92 (w : FVec Ideal S128x128 .bf16) (va vb : Vec Ideal S128x128 .bf16) (b u : Vec Ideal S128x128 .f32) :
    k0_pay92 (F := Ideal) (k0_pay91 (F := Ideal) w va vb) b u = firstT w va vb b u := by
  unfold k0_pay92 k0_pay91 k0_pay90 firstT pairT
  simp only [Idealize.ShloMosaic.shapeCast_self]

theorem p93 (w : FVec Ideal S128x128 .bf16) (va vb : Vec Ideal S128x128 .bf16) (b u : Vec Ideal S128x128 .f32) :
    k0_pay93 (F := Ideal) (pairT w va vb) b u = secondT w va vb b u := by
  unfold k0_pay93 secondT
  simp only [Idealize.ShloMosaic.shapeCast_self]

theorem p94 (w : FVec Ideal S128x128 .bf16) (va vb : Vec Ideal S128x128 .bf16) :
    k0_pay94 (F := Ideal) w va vb = pairT w va vb := by
  unfold k0_pay94 pairT
  rfl

theorem p95 (w : FVec Ideal S128x128 .bf16) (va vb : Vec Ideal S128x128 .bf16) (b u : Vec Ideal S128x128 .f32) :
    k0_pay95 (F := Ideal) w va vb b u = firstT w va vb b u := by
  unfold k0_pay95 k0_pay94 firstT pairT
  simp only [Idealize.ShloMosaic.shapeCast_self]

theorem p97 (w : FVec Ideal S128x128 .bf16) (va vb : Vec Ideal S128x128 .bf16) (b u : Vec Ideal S128x128 .f32) :
    k0_pay97 (F := Ideal) (k0_pay96 (F := Ideal) w va vb) b u = secondT w va vb b u := by
  unfold k0_pay97 k0_pay96 k0_pay94 secondT pairT
  simp only [Idealize.ShloMosaic.shapeCast_self]

theorem p98 (w : FVec Ideal S128x128 .bf16) (va vb : Vec Ideal S128x128 .bf16) :
    k0_pay98 (F := Ideal) w va vb = pairT w va vb := by
  unfold k0_pay98 pairT
  rfl

theorem p99 (w : FVec Ideal S128x128 .bf16) (va vb : Vec Ideal S128x128 .bf16) (b u : Vec Ideal S128x128 .f32) :
    k0_pay99 (F := Ideal) w va vb b u = firstT w va vb b u := by
  unfold k0_pay99 k0_pay98 firstT pairT
  simp only [Idealize.ShloMosaic.shapeCast_self]

theorem p100 (w : FVec Ideal S128x128 .bf16) (va vb : Vec Ideal S128x128 .bf16) (b u : Vec Ideal S128x128 .f32) :
    k0_pay100 (F := Ideal) w va vb b u = secondT w va vb b u := by
  unfold k0_pay100 k0_pay98 secondT pairT
  simp only [Idealize.ShloMosaic.shapeCast_self]

theorem p101 (w : FVec Ideal S128x128 .bf16) (va vb : Vec Ideal S128x128 .bf16) :
    k0_pay101 (F := Ideal) w va vb = pairT w va vb := by
  unfold k0_pay101 pairT
  rfl

theorem p102 (w : FVec Ideal S128x128 .bf16) (va vb : Vec Ideal S128x128 .bf16) (b u : Vec Ideal S128x128 .f32) :
    k0_pay102 (F := Ideal) w va vb b u = firstT w va vb b u := by
  unfold k0_pay102 k0_pay101 firstT pairT
  simp only [Idealize.ShloMosaic.shapeCast_self]

theorem p103 (w : FVec Ideal S128x128 .bf16) (va vb : Vec Ideal S128x128 .bf16) (b u : Vec Ideal S128x128 .f32) :
    k0_pay103 (F := Ideal) w va vb b u = secondT w va vb b u := by
  unfold k0_pay103 k0_pay101 secondT pairT
  simp only [Idealize.ShloMosaic.shapeCast_self]

theorem p104 (w : FVec Ideal S128x128 .bf16) (va vb : Vec Ideal S128x128 .bf16) :
    k0_pay104 (F := Ideal) w va vb = pairT w va vb := by
  unfold k0_pay104 pairT
  rfl

theorem p106 (w : FVec Ideal S128x128 .bf16) (va vb : Vec Ideal S128x128 .bf16) (b u : Vec Ideal S128x128 .f32) :
    k0_pay106 (F := Ideal) (k0_pay105 (F := Ideal) w va vb b) u = firstT w va vb b u := by
  unfold k0_pay106 k0_pay105 k0_pay104 firstT pairT
  simp only [Idealize.ShloMosaic.shapeCast_self]

theorem p107 (w : FVec Ideal S128x128 .bf16) (va vb : Vec Ideal S128x128 .bf16) (b u : Vec Ideal S128x128 .f32) :
    k0_pay107 (F := Ideal) (pairT w va vb) b u = secondT w va vb b u := by
  unfold k0_pay107 secondT
  simp only [Idealize.ShloMosaic.shapeCast_self]

theorem p108 (w : FVec Ideal S128x128 .bf16) (va vb : Vec Ideal S128x128 .bf16) :
    k0_pay108 (F := Ideal) w va vb = pairT w va vb := by
  unfold k0_pay108 pairT
  rfl

theorem p109 (w : FVec Ideal S128x128 .bf16) (va vb : Vec Ideal S128x128 .bf16) (b u : Vec Ideal S128x128 .f32) :
    k0_pay109 (F := Ideal) w va vb b u = firstT w va vb b u := by
  unfold k0_pay109 k0_pay108 firstT pairT
  simp only [Idealize.ShloMosaic.shapeCast_self]

theorem p111 (w : FVec Ideal S128x128 .bf16) (va vb : Vec Ideal S128x128 .bf16) (b u : Vec Ideal S128x128 .f32) :
    k0_pay111 (F := Ideal) (k0_pay110 (F := Ideal) w va vb b) u = secondT w va vb b u := by
  unfold k0_pay111 k0_pay110 k0_pay108 secondT pairT
  simp only [Idealize.ShloMosaic.shapeCast_self]

theorem p112 (w : FVec Ideal S128x128 .bf16) (va vb : Vec Ideal S128x128 .bf16) :
    k0_pay112 (F := Ideal) w va vb = pairT w va vb := by
  unfold k0_pay112 pairT
  rfl

theorem p113 (w : FVec Ideal S128x128 .bf16) (va vb : Vec Ideal S128x128 .bf16) (b u : Vec Ideal S128x128 .f32) :
    k0_pay113 (F := Ideal) w va vb b u = firstT w va vb b u := by
  unfold k0_pay113 k0_pay112 firstT pairT
  simp only [Idealize.ShloMosaic.shapeCast_self]

theorem p114 (w : FVec Ideal S128x128 .bf16) (va vb : Vec Ideal S128x128 .bf16) (b u : Vec Ideal S128x128 .f32) :
    k0_pay114 (F := Ideal) w va vb b u = secondT w va vb b u := by
  unfold k0_pay114 k0_pay112 secondT pairT
  simp only [Idealize.ShloMosaic.shapeCast_self]

theorem p115 (w : FVec Ideal S128x128 .bf16) (va vb : Vec Ideal S128x128 .bf16) :
    k0_pay115 (F := Ideal) w va vb = pairT w va vb := by
  unfold k0_pay115 pairT
  rfl

theorem p116 (w : FVec Ideal S128x128 .bf16) (va vb : Vec Ideal S128x128 .bf16) (b u : Vec Ideal S128x128 .f32) :
    k0_pay116 (F := Ideal) (pairT w va vb) b u = firstT w va vb b u := by
  unfold k0_pay116 firstT
  simp only [Idealize.ShloMosaic.shapeCast_self]

theorem p117 (w : FVec Ideal S128x128 .bf16) (va vb : Vec Ideal S128x128 .bf16) (b u : Vec Ideal S128x128 .f32) :
    k0_pay117 (F := Ideal) (pairT w va vb) b u = secondT w va vb b u := by
  unfold k0_pay117 secondT
  simp only [Idealize.ShloMosaic.shapeCast_self]

theorem p118 (v : Vec Ideal S1x1024 .f32) :
    k0_pay118 (F := Ideal) v = v := by
  unfold k0_pay118
  simp only [Idealize.ShloMosaic.shapeCast_self]

theorem p120 (x : Vec Ideal S256x1024 .f32) (y : Vec Ideal S256x1024 .bf16) (w : Vec Ideal S1024x1024 .bf16) (g : Vec Ideal S1x1024 .f32) :
    k0_pay120 (F := Ideal) x g (k0_pay119 (F := Ideal) y w) = sumT x y w g := by
  unfold k0_pay120 k0_pay119 sumT rmsT
  simp only [Idealize.ShloMosaic.shapeCast_self]

theorem p121 (v : Vec Ideal S256x1024 .f32) :
    k0_pay121 (F := Ideal) v = v := by
  unfold k0_pay121
  simp only [Idealize.ShloMosaic.shapeCast_self]

theorem p122 (z : Vec Ideal S256x1024 .f32) :
    k0_pay122 (F := Ideal) z = geluT z := by
  unfold k0_pay122 geluT
  simp only [Idealize.ShloMosaic.shapeCast_self]

theorem p125 (z : Vec Ideal S256x1024 .f32) (g : Vec Ideal S1x1024 .f32) :
    k0_pay125 (F := Ideal) (k0_pay123 (F := Ideal) z) (k0_pay124 (F := Ideal) z) g = lnormT (geluT z) g := by
  unfold k0_pay125 k0_pay124 k0_pay123 lnormT geluT
  simp only [Idealize.ShloMosaic.shapeCast_self]
  rfl

theorem p126 (w : FVec Ideal S128x128 .bf16) (va vb : Vec Ideal S128x128 .bf16) :
    k0_pay126 (F := Ideal) w va vb = pairT w va vb := by
  unfold k0_pay126 pairT
  rfl

theorem p127 (w : FVec Ideal S128x128 .bf16) (va vb : Vec Ideal S128x128 .bf16) (b u : Vec Ideal S128x128 .f32) :
    k0_pay127 (F := Ideal) w va vb b u = firstT w va vb b u := by
  unfold k0_pay127 k0_pay126 firstT pairT
  simp only [Idealize.ShloMosaic.shapeCast_self]

theorem p128 (w : FVec Ideal S128x128 .bf16) (va vb : Vec Ideal S128x128 .bf16) (b u : Vec Ideal S128x128 .f32) :
    k0_pay128 (F := Ideal) w va vb b u = secondT w va vb b u := by
  unfold k0_pay128 k0_pay126 secondT pairT
  simp only [Idealize.ShloMosaic.shapeCast_self]

theorem p129 (v : Vec Ideal S128x128 .bf16) :
    k0_pay129 (F := Ideal) v = v := by
  unfold k0_pay129
  simp only [Idealize.ShloMosaic.shapeCast_self]

theorem p130 (w : FVec Ideal S128x128 .bf16) (va vb : Vec Ideal S128x128 .bf16) :
    k0_pay130 (F := Ideal) w va vb = pairT w va vb := by
  unfold k0_pay130 pairT
  rfl

theorem p131 (w : FVec Ideal S128x128 .bf16) (va vb : Vec Ideal S128x128 .bf16) (b u : Vec Ideal S128x128 .f32) :
    k0_pay131 (F := Ideal) w va vb b u = firstT w va vb b u := by
  unfold k0_pay131 k0_pay130 firstT pairT
  simp only [Idealize.ShloMosaic.shapeCast_self]

theorem p132 (w : FVec Ideal S128x128 .bf16) (va vb : Vec Ideal S128x128 .bf16) (b u : Vec Ideal S128x128 .f32) :
    k0_pay132 (F := Ideal) w va vb b u = secondT w va vb b u := by
  unfold k0_pay132 k0_pay130 secondT pairT
  simp only [Idealize.ShloMosaic.shapeCast_self]

theorem p133 (w : FVec Ideal S128x128 .bf16) (va vb : Vec Ideal S128x128 .bf16) :
    k0_pay133 (F := Ideal) w va vb = pairT w va vb := by
  unfold k0_pay133 pairT
  rfl

theorem p135 (w : FVec Ideal S128x128 .bf16) (va vb : Vec Ideal S128x128 .bf16) (b u : Vec Ideal S128x128 .f32) :
    k0_pay135 (F := Ideal) (k0_pay134 (F := Ideal) w va vb b) u = firstT w va vb b u := by
  unfold k0_pay135 k0_pay134 k0_pay133 firstT pairT
  simp only [Idealize.ShloMosaic.shapeCast_self]

theorem p136 (w : FVec Ideal S128x128 .bf16) (va vb : Vec Ideal S128x128 .bf16) (b u : Vec Ideal S128x128 .f32) :
    k0_pay136 (F := Ideal) (pairT w va vb) b u = secondT w va vb b u := by
  unfold k0_pay136 secondT
  simp only [Idealize.ShloMosaic.shapeCast_self]

theorem p137 (w : FVec Ideal S128x128 .bf16) (va vb : Vec Ideal S128x128 .bf16) :
    k0_pay137 (F := Ideal) w va vb = pairT w va vb := by
  unfold k0_pay137 pairT
  rfl

theorem p138 (w : FVec Ideal S128x128 .bf16) (va vb : Vec Ideal S128x128 .bf16) (b u : Vec Ideal S128x128 .f32) :
    k0_pay138 (F := Ideal) w va vb b u = firstT w va vb b u := by
  unfold k0_pay138 k0_pay137 firstT pairT
  simp only [Idealize.ShloMosaic.shapeCast_self]

theorem p140 (w : FVec Ideal S128x128 .bf16) (va vb : Vec Ideal S128x128 .bf16) (b u : Vec Ideal S128x128 .f32) :
    k0_pay140 (F := Ideal) (k0_pay139 (F := Ideal) w va vb b) u = secondT w va vb b u := by
  unfold k0_pay140 k0_pay139 k0_pay137 secondT pairT
  simp only [Idealize.ShloMosaic.shapeCast_self]

theorem p141 (w : FVec Ideal S128x128 .bf16) (va vb : Vec Ideal S128x128 .bf16) :
    k0_pay141 (F := Ideal) w va vb = pairT w va vb := by
  unfold k0_pay141 pairT
  rfl

theorem p142 (w : FVec Ideal S128x128 .bf16) (va vb : Vec Ideal S128x128 .bf16) (b u : Vec Ideal S128x128 .f32) :
    k0_pay142 (F := Ideal) w va vb b u = firstT w va vb b u := by
  unfold k0_pay142 k0_pay141 firstT pairT
  simp only [Idealize.ShloMosaic.shapeCast_self]

theorem p143 (w : FVec Ideal S128x128 .bf16) (va vb : Vec Ideal S128x128 .bf16) (b u : Vec Ideal S128x128 .f32) :
    k0_pay143 (F := Ideal) w va vb b u = secondT w va vb b u := by
  unfold k0_pay143 k0_pay141 secondT pairT
  simp only [Idealize.ShloMosaic.shapeCast_self]

theorem p144 (w : FVec Ideal S128x128 .bf16) (va vb : Vec Ideal S128x128 .bf16) :
    k0_pay144 (F := Ideal) w va vb = pairT w va vb := by
  unfold k0_pay144 pairT
  rfl

theorem p145 (w : FVec Ideal S128x128 .bf16) (va vb : Vec Ideal S128x128 .bf16) (b u : Vec Ideal S128x128 .f32) :
    k0_pay145 (F := Ideal) w va vb b u = firstT w va vb b u := by
  unfold k0_pay145 k0_pay144 firstT pairT
  simp only [Idealize.ShloMosaic.shapeCast_self]

theorem p146 (w : FVec Ideal S128x128 .bf16) (va vb : Vec Ideal S128x128 .bf16) (b u : Vec Ideal S128x128 .f32) :
    k0_pay146 (F := Ideal) w va vb b u = secondT w va vb b u := by
  unfold k0_pay146 k0_pay144 secondT pairT
  simp only [Idealize.ShloMosaic.shapeCast_self]

theorem p147 (w : FVec Ideal S128x128 .bf16) (va vb : Vec Ideal S128x128 .bf16) :
    k0_pay147 (F := Ideal) w va vb = pairT w va vb := by
  unfold k0_pay147 pairT
  rfl

theorem p148 (w : FVec Ideal S128x128 .bf16) (va vb : Vec Ideal S128x128 .bf16) (b u : Vec Ideal S128x128 .f32) :
    k0_pay148 (F := Ideal) w va vb b u = firstT w va vb b u := by
  unfold k0_pay148 k0_pay147 firstT pairT
  simp only [Idealize.ShloMosaic.shapeCast_self]

theorem p149 (v : Vec Ideal S128x128 .bf16) :
    k0_pay149 (F := Ideal) v = v := by
  unfold k0_pay149
  simp only [Idealize.ShloMosaic.shapeCast_self]

theorem p150 (w : FVec Ideal S128x128 .bf16) (va vb : Vec Ideal S128x128 .bf16) (b u : Vec Ideal S128x128 .f32) :
    k0_pay150 (F := Ideal) (pairT w va vb) b u = secondT w va vb b u := by
  unfold k0_pay150 secondT
  simp only [Idealize.ShloMosaic.shapeCast_self]

theorem p151 (w : FVec Ideal S128x128 .bf16) (va vb : Vec Ideal S128x128 .bf16) :
    k0_pay151 (F := Ideal) w va vb = pairT w va vb := by
  unfold k0_pay151 pairT
  rfl

theorem p152 (w : FVec Ideal S128x128 .bf16) (va vb : Vec Ideal S128x128 .bf16) (b u : Vec Ideal S128x128 .f32) :
    k0_pay152 (F := Ideal) w va vb b u = firstT w va vb b u := by
  unfold k0_pay152 k0_pay151 firstT pairT
  simp only [Idealize.ShloMosaic.shapeCast_self]

theorem p153 (w : FVec Ideal S128x128 .bf16) (va vb : Vec Ideal S128x128 .bf16) (b u : Vec Ideal S128x128 .f32) :
    k0_pay153 (F := Ideal) w va vb b u = secondT w va vb b u := by
  unfold k0_pay153 k0_pay151 secondT pairT
  simp only [Idealize.ShloMosaic.shapeCast_self]

theorem p154 (v : Vec Ideal S128x128 .bf16) :
    k0_pay154 (F := Ideal) v = v := by
  unfold k0_pay154
  simp only [Idealize.ShloMosaic.shapeCast_self]

theorem p156 (v : Vec Ideal S1x1024 .f32) :
    k0_pay156 (F := Ideal) v = v := by
  unfold k0_pay156
  simp only [Idealize.ShloMosaic.shapeCast_self]

end GatePay

end
-- ==== Proof.GateLists.lean ====
module

public import proofs.«01_k».proof.Proof.GatePay

/-! The pieces that the gating mixer's body has stored in its scratch arrays when it reads them. -/

@[expose] public section

set_option maxRecDepth 16384
set_option pp.maxSteps 300

noncomputable section

namespace GateLists

open Idealize.ShloMosaic Cert.Kernel3Ideal Cert.Kernel3Ideal.Gen FfnBlock GateBlock

variable (x : S1024x1024.Idx → EReal) (pre lg : S1x1024.Idx → EReal) (w : S1024x2048.Idx → EReal)

/-- The pieces of the projection once rows 0 are stored. -/
abbrev uvL0 : List (View.Piece (Elt Ideal) S1024x2048 .f32) :=
  [⟨Rect.unit (s := S1024x2048) ![0, 0] ![256, 2048] inb_S1024x2048_S256x2048_0_0, wideT (View.ld (Val := Elt Ideal) (e' := .f32) x (Rect.unit (s := S1024x1024) ![0, 0] ![256, 1024] inb_S1024x1024_S256x1024_0_0)) pre w⟩]

theorem uvL0_eq : ∀ p ∈ uvL0 x pre w, ∀ z : p.1.shape.Idx, p.2 z = uvG x pre w (p.1.emb z) :=
  List.forall_mem_cons.2 ⟨fun z => uv_piece x pre w _ _ (by decide) z, List.forall_mem_nil _⟩

/-- The pieces of the projection once rows 256 are stored. -/
abbrev uvL1 : List (View.Piece (Elt Ideal) S1024x2048 .f32) :=
  ⟨Rect.unit (s := S1024x2048) ![256, 0] ![256, 2048] inb_S1024x2048_S256x2048_256_0, wideT (View.ld (Val := Elt Ideal) (e' := .f32) x (Rect.unit (s := S1024x1024) ![256, 0] ![256, 1024] inb_S1024x1024_S256x1024_256_0)) pre w⟩ :: uvL0 x pre w

theorem uvL1_eq : ∀ p ∈ uvL1 x pre w, ∀ z : p.1.shape.Idx, p.2 z = uvG x pre w (p.1.emb z) :=
  List.forall_mem_cons.2 ⟨fun z => uv_piece x pre w _ _ (by decide) z, uvL0_eq x pre w⟩

/-- The pieces of the projection once rows 512 are stored. -/
abbrev uvL2 : List (View.Piece (Elt Ideal) S1024x2048 .f32) :=
  ⟨Rect.unit (s := S1024x2048) ![512, 0] ![256, 2048] inb_S1024x2048_S256x2048_512_0, wideT (View.ld (Val := Elt Ideal) (e' := .f32) x (Rect.unit (s := S1024x1024) ![512, 0] ![256, 1024] inb_S1024x1024_S256x1024_512_0)) pre w⟩ :: uvL1 x pre w

theorem uvL2_eq : ∀ p ∈ uvL2 x pre w, ∀ z : p.1.shape.Idx, p.2 z = uvG x pre w (p.1.emb z) :=
  List.forall_mem_cons.2 ⟨fun z => uv_piece x pre w _ _ (by decide) z, uvL1_eq x pre w⟩

/-- The pieces of the projection once rows 768 are stored. -/
abbrev uvL3 : List (View.Piece (Elt Ideal) S1024x2048 .f32) :=
  ⟨Rect.unit (s := S1024x2048) ![768, 0] ![256, 2048] inb_S1024x2048_S256x2048_768_0, wideT (View.ld (Val := Elt Ideal) (e' := .f32) x (Rect.unit (s := S1024x1024) ![768, 0] ![256, 1024] inb_S1024x1024_S256x1024_768_0)) pre w⟩ :: uvL2 x pre w

theorem uvL3_eq : ∀ p ∈ uvL3 x pre w, ∀ z : p.1.shape.Idx, p.2 z = uvG x pre w (p.1.emb z) :=
  List.forall_mem_cons.2 ⟨fun z => uv_piece x pre w _ _ (by decide) z, uvL2_eq x pre w⟩

/-- The pieces of the gated half once rows 0 are stored. -/
abbrev uL0 : List (View.Piece (Elt Ideal) S1024x1024 .f32) :=
  [⟨Rect.unit (s := S1024x1024) ![0, 0] ![256, 1024] inb_S1024x1024_S256x1024_0_0, geluT ((View.whole cc0_scratch0).readCov (uvL1 x pre w) (Rect.unit (s := S1024x2048) ![0, 0] ![256, 1024] inb_S1024x2048_S256x1024_0_0).toLoadRect)⟩]

theorem uL0_eq : ∀ p ∈ uL0 x pre w, ∀ z : p.1.shape.Idx, p.2 z = uG x pre w (p.1.emb z) :=
  List.forall_mem_cons.2 ⟨fun z => u_piece x pre w _ _ _ (uvL1_eq x pre w) _ (by rfl) (by decide) z, List.forall_mem_nil _⟩

/-- The pieces of the other half once rows 0 are stored. -/
abbrev vL0 : List (View.Piece (Elt Ideal) S1024x1024 .bf16) :=
  [⟨Rect.unit (s := S1024x1024) ![0, 0] ![256, 1024] inb_S1024x1024_S256x1024_0_0, lnormT (geluT ((View.whole cc0_scratch0).readCov (uvL1 x pre w) (Rect.unit (s := S1024x2048) ![0, 1024] ![256, 1024] inb_S1024x2048_S256x1024_0_1024).toLoadRect)) lg⟩]

theorem vL0_eq : ∀ p ∈ vL0 x pre lg w, ∀ z : p.1.shape.Idx, p.2 z = vG x pre lg w (p.1.emb z) :=
  List.forall_mem_cons.2 ⟨fun z => v_piece x pre lg w _ _ _ (uvL1_eq x pre w) _ (by rfl) (by decide) z, List.forall_mem_nil _⟩

/-- The pieces of the gated half once rows 256 are stored. -/
abbrev uL1 : List (View.Piece (Elt Ideal) S1024x1024 .f32) :=
  ⟨Rect.unit (s := S1024x1024) ![256, 0] ![256, 1024] inb_S1024x1024_S256x1024_256_0, geluT ((View.whole cc0_scratch0).readCov (uvL2 x pre w) (Rect.unit (s := S1024x2048) ![256, 0] ![256, 1024] inb_S1024x2048_S256x1024_256_0).toLoadRect)⟩ :: uL0 x pre w

theorem uL1_eq : ∀ p ∈ uL1 x pre w, ∀ z : p.1.shape.Idx, p.2 z = uG x pre w (p.1.emb z) :=
  List.forall_mem_cons.2 ⟨fun z => u_piece x pre w _ _ _ (uvL2_eq x pre w) _ (by rfl) (by decide) z, uL0_eq x pre w⟩

/-- The pieces of the other half once rows 256 are stored. -/
abbrev vL1 : List (View.Piece (Elt Ideal) S1024x1024 .bf16) :=
  ⟨Rect.unit (s := S1024x1024) ![256, 0] ![256, 1024] inb_S1024x1024_S256x1024_256_0, lnormT (geluT ((View.whole cc0_scratch0).readCov (uvL2 x pre w) (Rect.unit (s := S1024x2048) ![256, 1024] ![256, 1024] inb_S1024x2048_S256x1024_256_1024).toLoadRect)) lg⟩ :: vL0 x pre lg w

theorem vL1_eq : ∀ p ∈ vL1 x pre lg w, ∀ z : p.1.shape.Idx, p.2 z = vG x pre lg w (p.1.emb z) :=
  List.forall_mem_cons.2 ⟨fun z => v_piece x pre lg w _ _ _ (uvL2_eq x pre w) _ (by rfl) (by decide) z, vL0_eq x pre lg w⟩

/-- The pieces of the gated half once rows 512 are stored. -/
abbrev uL2 : List (View.Piece (Elt Ideal) S1024x1024 .f32) :=
  ⟨Rect.unit (s := S1024x1024) ![512, 0] ![256, 1024] inb_S1024x1024_S256x1024_512_0, geluT ((View.whole cc0_scratch0).readCov (uvL3 x pre w) (Rect.unit (s := S1024x2048) ![512, 0] ![256, 1024] inb_S1024x2048_S256x1024_512_0).toLoadRect)⟩ :: uL1 x pre w

theorem uL2_eq : ∀ p ∈ uL2 x pre w, ∀ z : p.1.shape.Idx, p.2 z = uG x pre w (p.1.emb z) :=
  List.forall_mem_cons.2 ⟨fun z => u_piece x pre w _ _ _ (uvL3_eq x pre w) _ (by rfl) (by decide) z, uL1_eq x pre w⟩

/-- The pieces of the other half once rows 512 are stored. -/
abbrev vL2 : List (View.Piece (Elt Ideal) S1024x1024 .bf16) :=
  ⟨Rect.unit (s := S1024x1024) ![512, 0] ![256, 1024] inb_S1024x1024_S256x1024_512_0, lnormT (geluT ((View.whole cc0_scratch0).readCov (uvL3 x pre w) (Rect.unit (s := S1024x2048) ![512, 1024] ![256, 1024] inb_S1024x2048_S256x1024_512_1024).toLoadRect)) lg⟩ :: vL1 x pre lg w

theorem vL2_eq : ∀ p ∈ vL2 x pre lg w, ∀ z : p.1.shape.Idx, p.2 z = vG x pre lg w (p.1.emb z) :=
  List.forall_mem_cons.2 ⟨fun z => v_piece x pre lg w _ _ _ (uvL3_eq x pre w) _ (by rfl) (by decide) z, vL1_eq x pre lg w⟩

/-- The pieces of the gated half once rows 768 are stored. -/
abbrev uL3 : List (View.Piece (Elt Ideal) S1024x1024 .f32) :=
  ⟨Rect.unit (s := S1024x1024) ![768, 0] ![256, 1024] inb_S1024x1024_S256x1024_768_0, geluT ((View.whole cc0_scratch0).readCov (uvL3 x pre w) (Rect.unit (s := S1024x2048) ![768, 0] ![256, 1024] inb_S1024x2048_S256x1024_768_0).toLoadRect)⟩ :: uL2 x pre w

theorem uL3_eq : ∀ p ∈ uL3 x pre w, ∀ z : p.1.shape.Idx, p.2 z = uG x pre w (p.1.emb z) :=
  List.forall_mem_cons.2 ⟨fun z => u_piece x pre w _ _ _ (uvL3_eq x pre w) _ (by rfl) (by decide) z, uL2_eq x pre w⟩

/-- The pieces of the other half once rows 768 are stored. -/
abbrev vL3 : List (View.Piece (Elt Ideal) S1024x1024 .bf16) :=
  ⟨Rect.unit (s := S1024x1024) ![768, 0] ![256, 1024] inb_S1024x1024_S256x1024_768_0, lnormT (geluT ((View.whole cc0_scratch0).readCov (uvL3 x pre w) (Rect.unit (s := S1024x2048) ![768, 1024] ![256, 1024] inb_S1024x2048_S256x1024_768_1024).toLoadRect)) lg⟩ :: vL2 x pre lg w

theorem vL3_eq : ∀ p ∈ vL3 x pre lg w, ∀ z : p.1.shape.Idx, p.2 z = vG x pre lg w (p.1.emb z) :=
  List.forall_mem_cons.2 ⟨fun z => v_piece x pre lg w _ _ _ (uvL3_eq x pre w) _ (by rfl) (by decide) z, vL2_eq x pre lg w⟩

end GateLists

end
-- ==== Proof.GateKernel.lean ====
module

public import proofs.«01_k».proof.Proof.GateLists

/-! What a point of the gating mixer's call leaves in its output tile. -/

@[expose] public section

set_option maxRecDepth 16384
set_option maxHeartbeats 4000000

noncomputable section

namespace GateKernel

open Idealize.ShloMosaic Cert.Kernel3Ideal Cert.Kernel3Ideal.Gen FfnBlock GateBlock GateLists

attribute [local irreducible] firstT secondT geluT lnormT wideT lowT sumT View.readCov

variable (m : (ℓ : Loc nD τ sig) → Buf (Elt Ideal) ℓ)

/-- A point's output tile. -/
theorem outs_eq (c : Dev nD) (t : Fin cfg0.N) :
    outsAt0 m c t = oG (iblk m c 0 t) (iblk m c 1 t) (iblk m c 2 t) (iblk m c 4 t) (iblk m c 3 t) (iblk m c 5 t) (iblk m c 6 t) (iblk m c 7 t) := by
  unfold outsAt0 out0_A_8
  rw [View.read_writes_eq_canon _ _ _ (cover0_A_8 c _ _ _ _ _ _ _ _ _ _ _ _ _ _ _ _ _ _ _ _ _ _ _ _ _ _ _ _ _ _ _ _ _ _ _)]
  funext y
  refine View.canon_apply_of_pieces (Val := Elt Ideal) _ _ ?_ y (cover0_A_8 c _ _ _ _ _ _ _ _ _ _ _ _ _ _ _ _ _ _ _ _ _ _ _ _ _ _ _ _ _ _ _ _ _ _ _ y)
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  unfold kernelRun0_A
  dsimp only
  sl_unfold_words
  have hz : ∀ (x : Vec Ideal S1x1024 .f32), View.ld (Val := Elt Ideal) (e' := .f32) x (Rect.unit (s := S1x1024) ![0, 0] ![1, 1024] inb_S1x1024_S1x1024_0_0) = x :=
    fun x => View.ld_unit_zero (by funext a; fin_cases a <;> rfl) _ _
  have hzw : ∀ (x : Vec Ideal S1024x2048 .bf16), View.ld (Val := Elt Ideal) (e' := .bf16) x (Rect.unit (s := S1024x2048) ![0, 0] ![1024, 2048] inb_S1024x2048_S1024x2048_0_0) = x :=
    fun x => View.ld_unit_zero (by funext a; fin_cases a <;> rfl) _ _
  have hzo : ∀ (x : Vec Ideal S1024x1024 .bf16), View.ld (Val := Elt Ideal) (e' := .bf16) x (Rect.unit (s := S1024x1024) ![0, 0] ![1024, 1024] inb_S1024x1024_S1024x1024_0_0) = x :=
    fun x => View.ld_unit_zero (by funext a; fin_cases a <;> rfl) _ _
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, hz, hzw, hzo,
    GatePay.p1, GatePay.p3, GatePay.p4, GatePay.p5, GatePay.p6, GatePay.p7, GatePay.p8, GatePay.p9, GatePay.p10, GatePay.p11,
    GatePay.p12, GatePay.p13, GatePay.p14, GatePay.p15, GatePay.p16, GatePay.p19, GatePay.p20, GatePay.p21, GatePay.p22,
    GatePay.p23, GatePay.p24, GatePay.p25, GatePay.p26, GatePay.p27, GatePay.p28, GatePay.p29, GatePay.p30, GatePay.p31,
    GatePay.p33, GatePay.p34, GatePay.p35, GatePay.p36, GatePay.p38, GatePay.p39, GatePay.p40, GatePay.p41, GatePay.p42,
    GatePay.p43, GatePay.p44, GatePay.p45, GatePay.p47, GatePay.p48, GatePay.p49, GatePay.p50, GatePay.p51, GatePay.p52,
    GatePay.p53, GatePay.p54, GatePay.p56, GatePay.p57, GatePay.p58, GatePay.p59, GatePay.p61, GatePay.p62, GatePay.p63,
    GatePay.p64, GatePay.p65, GatePay.p66, GatePay.p67, GatePay.p68, GatePay.p69, GatePay.p70, GatePay.p71, GatePay.p72,
    GatePay.p73, GatePay.p74, GatePay.p75, GatePay.p76, GatePay.p77, GatePay.p78, GatePay.p79, GatePay.p82, GatePay.p83,
    GatePay.p84, GatePay.p85, GatePay.p86, GatePay.p87, GatePay.p88, GatePay.p89, GatePay.p90, GatePay.p92, GatePay.p93,
    GatePay.p94, GatePay.p95, GatePay.p97, GatePay.p98, GatePay.p99, GatePay.p100, GatePay.p101, GatePay.p102, GatePay.p103,
    GatePay.p104, GatePay.p106, GatePay.p107, GatePay.p108, GatePay.p109, GatePay.p111, GatePay.p112, GatePay.p113, GatePay.p114,
    GatePay.p115, GatePay.p116, GatePay.p117, GatePay.p118, GatePay.p120, GatePay.p121, GatePay.p122, GatePay.p125, GatePay.p126,
    GatePay.p127, GatePay.p128, GatePay.p129, GatePay.p130, GatePay.p131, GatePay.p132, GatePay.p133, GatePay.p135, GatePay.p136,
    GatePay.p137, GatePay.p138, GatePay.p140, GatePay.p141, GatePay.p142, GatePay.p143, GatePay.p144, GatePay.p145, GatePay.p146,
    GatePay.p147, GatePay.p148, GatePay.p149, GatePay.p150, GatePay.p151, GatePay.p152, GatePay.p153, GatePay.p154, GatePay.p156]
  refine List.forall_mem_cons.2 ⟨?_, List.forall_mem_cons.2 ⟨?_, List.forall_mem_cons.2 ⟨?_, List.forall_mem_cons.2 ⟨?_, List.forall_mem_nil _⟩⟩⟩⟩
  · refine fun z => o_piece x0 x1 x2 x4 x3 x5 x6 x7 _ _ _ ?_ (by rfl) (by decide) z
    iterate 8
      refine List.forall_mem_cons.2 ⟨fun z => second_piece x0 x1 x4 x3 x5 x6 _ _ _ _ _ _ _ _ (vL3_eq x0 x1 x4 x3) (uL3_eq x0 x1 x3) (by decide) (by rfl) (by rfl) _ _ _ (by rfl) (by rfl) z, ?_⟩
      refine List.forall_mem_cons.2 ⟨fun z => first_piece x0 x1 x4 x3 x5 x6 _ _ _ _ _ _ _ _ (vL3_eq x0 x1 x4 x3) (uL3_eq x0 x1 x3) (by decide) (by rfl) (by rfl) _ _ _ (by rfl) (by rfl) z, ?_⟩
    iterate 8
      refine List.forall_mem_cons.2 ⟨fun z => second_piece x0 x1 x4 x3 x5 x6 _ _ _ _ _ _ _ _ (vL2_eq x0 x1 x4 x3) (uL2_eq x0 x1 x3) (by decide) (by rfl) (by rfl) _ _ _ (by rfl) (by rfl) z, ?_⟩
      refine List.forall_mem_cons.2 ⟨fun z => first_piece x0 x1 x4 x3 x5 x6 _ _ _ _ _ _ _ _ (vL2_eq x0 x1 x4 x3) (uL2_eq x0 x1 x3) (by decide) (by rfl) (by rfl) _ _ _ (by rfl) (by rfl) z, ?_⟩
    iterate 8
      refine List.forall_mem_cons.2 ⟨fun z => second_piece x0 x1 x4 x3 x5 x6 _ _ _ _ _ _ _ _ (vL1_eq x0 x1 x4 x3) (uL1_eq x0 x1 x3) (by decide) (by rfl) (by rfl) _ _ _ (by rfl) (by rfl) z, ?_⟩
      refine List.forall_mem_cons.2 ⟨fun z => first_piece x0 x1 x4 x3 x5 x6 _ _ _ _ _ _ _ _ (vL1_eq x0 x1 x4 x3) (uL1_eq x0 x1 x3) (by decide) (by rfl) (by rfl) _ _ _ (by rfl) (by rfl) z, ?_⟩
    iterate 8
      refine List.forall_mem_cons.2 ⟨fun z => second_piece x0 x1 x4 x3 x5 x6 _ _ _ _ _ _ _ _ (vL0_eq x0 x1 x4 x3) (uL0_eq x0 x1 x3) (by decide) (by rfl) (by rfl) _ _ _ (by rfl) (by rfl) z, ?_⟩
      refine List.forall_mem_cons.2 ⟨fun z => first_piece x0 x1 x4 x3 x5 x6 _ _ _ _ _ _ _ _ (vL0_eq x0 x1 x4 x3) (uL0_eq x0 x1 x3) (by decide) (by rfl) (by rfl) _ _ _ (by rfl) (by rfl) z, ?_⟩
    exact List.forall_mem_nil _
  · refine fun z => o_piece x0 x1 x2 x4 x3 x5 x6 x7 _ _ _ ?_ (by rfl) (by decide) z
    iterate 8
      refine List.forall_mem_cons.2 ⟨fun z => second_piece x0 x1 x4 x3 x5 x6 _ _ _ _ _ _ _ _ (vL2_eq x0 x1 x4 x3) (uL2_eq x0 x1 x3) (by decide) (by rfl) (by rfl) _ _ _ (by rfl) (by rfl) z, ?_⟩
      refine List.forall_mem_cons.2 ⟨fun z => first_piece x0 x1 x4 x3 x5 x6 _ _ _ _ _ _ _ _ (vL2_eq x0 x1 x4 x3) (uL2_eq x0 x1 x3) (by decide) (by rfl) (by rfl) _ _ _ (by rfl) (by rfl) z, ?_⟩
    iterate 8
      refine List.forall_mem_cons.2 ⟨fun z => second_piece x0 x1 x4 x3 x5 x6 _ _ _ _ _ _ _ _ (vL1_eq x0 x1 x4 x3) (uL1_eq x0 x1 x3) (by decide) (by rfl) (by rfl) _ _ _ (by rfl) (by rfl) z, ?_⟩
      refine List.forall_mem_cons.2 ⟨fun z => first_piece x0 x1 x4 x3 x5 x6 _ _ _ _ _ _ _ _ (vL1_eq x0 x1 x4 x3) (uL1_eq x0 x1 x3) (by decide) (by rfl) (by rfl) _ _ _ (by rfl) (by rfl) z, ?_⟩
    iterate 8
      refine List.forall_mem_cons.2 ⟨fun z => second_piece x0 x1 x4 x3 x5 x6 _ _ _ _ _ _ _ _ (vL0_eq x0 x1 x4 x3) (uL0_eq x0 x1 x3) (by decide) (by rfl) (by rfl) _ _ _ (by rfl) (by rfl) z, ?_⟩
      refine List.forall_mem_cons.2 ⟨fun z => first_piece x0 x1 x4 x3 x5 x6 _ _ _ _ _ _ _ _ (vL0_eq x0 x1 x4 x3) (uL0_eq x0 x1 x3) (by decide) (by rfl) (by rfl) _ _ _ (by rfl) (by rfl) z, ?_⟩
    exact List.forall_mem_nil _
  · refine fun z => o_piece x0 x1 x2 x4 x3 x5 x6 x7 _ _ _ ?_ (by rfl) (by decide) z
    iterate 8
      refine List.forall_mem_cons.2 ⟨fun z => second_piece x0 x1 x4 x3 x5 x6 _ _ _ _ _ _ _ _ (vL1_eq x0 x1 x4 x3) (uL1_eq x0 x1 x3) (by decide) (by rfl) (by rfl) _ _ _ (by rfl) (by rfl) z, ?_⟩
      refine List.forall_mem_cons.2 ⟨fun z => first_piece x0 x1 x4 x3 x5 x6 _ _ _ _ _ _ _ _ (vL1_eq x0 x1 x4 x3) (uL1_eq x0 x1 x3) (by decide) (by rfl) (by rfl) _ _ _ (by rfl) (by rfl) z, ?_⟩
    iterate 8
      refine List.forall_mem_cons.2 ⟨fun z => second_piece x0 x1 x4 x3 x5 x6 _ _ _ _ _ _ _ _ (vL0_eq x0 x1 x4 x3) (uL0_eq x0 x1 x3) (by decide) (by rfl) (by rfl) _ _ _ (by rfl) (by rfl) z, ?_⟩
      refine List.forall_mem_cons.2 ⟨fun z => first_piece x0 x1 x4 x3 x5 x6 _ _ _ _ _ _ _ _ (vL0_eq x0 x1 x4 x3) (uL0_eq x0 x1 x3) (by decide) (by rfl) (by rfl) _ _ _ (by rfl) (by rfl) z, ?_⟩
    exact List.forall_mem_nil _
  · refine fun z => o_piece x0 x1 x2 x4 x3 x5 x6 x7 _ _ _ ?_ (by rfl) (by decide) z
    iterate 8
      refine List.forall_mem_cons.2 ⟨fun z => second_piece x0 x1 x4 x3 x5 x6 _ _ _ _ _ _ _ _ (vL0_eq x0 x1 x4 x3) (uL0_eq x0 x1 x3) (by decide) (by rfl) (by rfl) _ _ _ (by rfl) (by rfl) z, ?_⟩
      refine List.forall_mem_cons.2 ⟨fun z => first_piece x0 x1 x4 x3 x5 x6 _ _ _ _ _ _ _ _ (vL0_eq x0 x1 x4 x3) (uL0_eq x0 x1 x3) (by decide) (by rfl) (by rfl) _ _ _ (by rfl) (by rfl) z, ?_⟩
    exact List.forall_mem_nil _

end GateKernel

end
-- ==== Proof.GateValue.lean ====
module

public import proofs.«01_k».proof.Proof.GateKernel

/-! The array that the gating mixer's call returns. -/

@[expose] public section

set_option maxRecDepth 16384

noncomputable section

namespace GateValue

open Idealize.ShloMosaic Idealize.ShloMosaic.TcCoe Idealize.ShloMosaic.Tactic Cert.Kernel3Ideal Cert.Kernel3Ideal.Gen FfnBlock GateBlock GateKernel
open Idealize.ShloMosaic.Pipeline (Dat)

variable (m : (ℓ : Loc nD τ sig) → Buf (Elt Ideal) ℓ)

/-- The tiles of the stream and of the result sit at the point's rows. -/
theorem idx_moving : ∀ t : Fin cfg0.N,
    win0_0.index t (0 : Fin 2) = t.val ∧ win0_0.index t (1 : Fin 2) = 0 ∧ win0_8.index t (0 : Fin 2) = t.val ∧ win0_8.index t (1 : Fin 2) = 0 :=
  (by decide +kernel : ∀ t : Fin grid0.N, _)

/-- The other windows stay. -/
theorem idx_fixed : ∀ t : Fin cfg0.N, ∀ a : Fin 2,
    win0_1.index t a = 0 ∧ win0_2.index t a = 0 ∧ win0_3.index t a = 0 ∧ win0_4.index t a = 0 ∧ win0_6.index t a = 0 ∧ win0_7.index t a = 0 :=
  (by decide +kernel : ∀ t : Fin grid0.N, ∀ a : Fin 2, _)

theorem idx_mixing : ∀ t : Fin cfg0.N, ∀ a : Fin 3, win0_5.index t a = 0 :=
  (by decide +kernel : ∀ t : Fin grid0.N, ∀ a : Fin 3, _)

theorem V_v3 (c : Dev nD) : V m c main_v3 = shapeCast S65536x1024 (m ((c : Thread nD τ).loc main_arg0)) shapeCasts_S32x2048x1024_S65536x1024 := by
  unfold_abbrev_sides
  after_results
  rfl

theorem V_v2 (c : Dev nD) : V m c main_v2 = shapeCast S128x1024 (broadcastInDim S128x8x128 ![0, 1] bcast_S128x8_S128x8x128_0_1
    (transpose S128x8 [1, 0] (m ((c : Thread nD τ).loc main_arg6) : Vec Ideal S8x128 .f32) transposes_S8x128_S128x8_1_0)) shapeCasts_S128x8x128_S128x1024 := by
  unfold_abbrev_sides
  after_results
  rfl

theorem V_arg5 (c : Dev nD) : V m c main_arg5 = m ((c : Thread nD τ).loc main_arg5) := by
  unfold_abbrev_sides
  after_results

theorem V_v4 (c : Dev nD) : V m c main_v4 = broadcastInDim S1x1024 ![1] bcast_S1024_S1x1024_1 (m ((c : Thread nD τ).loc main_arg1)) := by
  unfold_abbrev_sides
  after_results

theorem V_v5 (c : Dev nD) : V m c main_v5 = broadcastInDim S1x1024 ![1] bcast_S1024_S1x1024_1 (m ((c : Thread nD τ).loc main_arg2)) := by
  unfold_abbrev_sides
  after_results

theorem V_v7 (c : Dev nD) : V m c main_v7 = broadcastInDim S1x1024 ![1] bcast_S1024_S1x1024_1 (m ((c : Thread nD τ).loc main_arg4)) := by
  unfold_abbrev_sides
  after_results

theorem V_v6 (c : Dev nD) : V m c main_v6 = (m ((c : Thread nD τ).loc main_arg3) : S1024x2048.Idx → EReal) := by
  unfold_abbrev_sides
  after_results
  rfl

theorem V_v8 (c : Dev nD) : V m c main_v8 = (m ((c : Thread nD τ).loc main_arg7) : S1024x1024.Idx → EReal) := by
  unfold_abbrev_sides
  after_results
  rfl

theorem blk0 (c : Dev nD) (t : Fin cfg0.N) (p k : Fin 1024) (h : t.val * 1024 + p.val < 65536) :
    (iblk m c 0 t : S1024x1024.Idx → EReal) (ix2 p k) = Rows.row (m ((c : Thread nD τ).loc main_arg0)) ⟨t.val * 1024 + p.val, h⟩ k := by
  have e : (iblk m c 0 t : S1024x1024.Idx → EReal) (ix2 p k) = V m c main_v3 (ix2 ⟨t.val * 1024 + p.val, h⟩ k) := by
    refine congrArg (V m c main_v3) (funext fun a => Fin.ext ?_)
    match a with
    | ⟨0, _⟩ => exact (Pipeline.Window.rect_emb_val win0_0 t (ix2 p k) 0).trans (by rw [(idx_moving t).1]; rfl)
    | ⟨1, _⟩ => exact Pipeline.Window.rect_emb_val_of_index_zero win0_0 t 1 (idx_moving t).2.1 (ix2 p k)
  refine e.trans ((congrFun (V_v3 m c) _).trans ?_)
  exact Rows.reshape_row _ _ _ _

theorem blk1 (c : Dev nD) (t : Fin cfg0.N) (k : Fin 1024) :
    (iblk m c 1 t : S1x1024.Idx → EReal) (ix2 (0 : Fin 1) k) = m ((c : Thread nD τ).loc main_arg1) (ix1 k) := by
  have e : (iblk m c 1 t : S1x1024.Idx → EReal) (ix2 (0 : Fin 1) k) = V m c main_v4 (ix2 (0 : Fin 1) k) :=
    congrArg (V m c main_v4) (funext fun a => Fin.ext
      (Pipeline.Window.rect_emb_val_of_index_zero win0_1 t a (idx_fixed t a).1 (ix2 (0 : Fin 1) k)))
  rw [e, V_v4]
  pointwise
  try rfl

theorem blk2 (c : Dev nD) (t : Fin cfg0.N) (k : Fin 1024) :
    (iblk m c 2 t : S1x1024.Idx → EReal) (ix2 (0 : Fin 1) k) = m ((c : Thread nD τ).loc main_arg2) (ix1 k) := by
  have e : (iblk m c 2 t : S1x1024.Idx → EReal) (ix2 (0 : Fin 1) k) = V m c main_v5 (ix2 (0 : Fin 1) k) :=
    congrArg (V m c main_v5) (funext fun a => Fin.ext
      (Pipeline.Window.rect_emb_val_of_index_zero win0_2 t a (idx_fixed t a).2.1 (ix2 (0 : Fin 1) k)))
  rw [e, V_v5]
  pointwise
  try rfl

theorem blk4 (c : Dev nD) (t : Fin cfg0.N) (k : Fin 1024) :
    (iblk m c 4 t : S1x1024.Idx → EReal) (ix2 (0 : Fin 1) k) = m ((c : Thread nD τ).loc main_arg4) (ix1 k) := by
  have e : (iblk m c 4 t : S1x1024.Idx → EReal) (ix2 (0 : Fin 1) k) = V m c main_v7 (ix2 (0 : Fin 1) k) :=
    congrArg (V m c main_v7) (funext fun a => Fin.ext
      (Pipeline.Window.rect_emb_val_of_index_zero win0_4 t a (idx_fixed t a).2.2.2.1 (ix2 (0 : Fin 1) k)))
  rw [e, V_v7]
  pointwise
  try rfl

theorem blk3 (c : Dev nD) (t : Fin cfg0.N) : (iblk m c 3 t : S1024x2048.Idx → EReal) = m ((c : Thread nD τ).loc main_arg3) :=
  Eq.trans (funext fun y => congrArg (V m c main_v6) (funext fun a => Fin.ext
    (Pipeline.Window.rect_emb_val_of_index_zero win0_3 t a (idx_fixed t a).2.2.1 y))) (V_v6 m c)

theorem blk7 (c : Dev nD) (t : Fin cfg0.N) : (iblk m c 7 t : S1024x1024.Idx → EReal) = m ((c : Thread nD τ).loc main_arg7) :=
  Eq.trans (funext fun y => congrArg (V m c main_v8) (funext fun a => Fin.ext
    (Pipeline.Window.rect_emb_val_of_index_zero win0_7 t a (idx_fixed t a).2.2.2.2.2 y))) (V_v8 m c)

theorem blk5 (c : Dev nD) (t : Fin cfg0.N) : (iblk m c 5 t : S8x128x128.Idx → EReal) = m ((c : Thread nD τ).loc main_arg5) :=
  Eq.trans (funext fun y => congrArg (V m c main_arg5) (funext fun a => Fin.ext
    (Pipeline.Window.rect_emb_val_of_index_zero win0_5 t a (idx_mixing t a) y))) (V_arg5 m c)

/-- The bias, one column of each group of 128 features. -/
theorem blk6 (c : Dev nD) (t : Fin cfg0.N) (p : Fin 128) (j : Fin 1024) :
    (iblk m c 6 t : S128x1024.Idx → EReal) (ix2 p j) = m ((c : Thread nD τ).loc main_arg6) (ix2 (⟨j.val / 128, by omega⟩ : Fin 8) p) := by
  have e : (iblk m c 6 t : S128x1024.Idx → EReal) (ix2 p j) = V m c main_v2 (ix2 p j) :=
    congrArg (V m c main_v2) (funext fun a => Fin.ext
      (Pipeline.Window.rect_emb_val_of_index_zero win0_6 t a (idx_fixed t a).2.2.2.2.1 (ix2 p j)))
  rw [e, V_v2]
  refine (shapeCast_apply _ _ _ (ix3 p (⟨j.val / 128, by omega⟩ : Fin 8) (⟨j.val % 128, by omega⟩ : Fin 128)) ?_).trans ?_
  · rw [Shape.rowMajor_val_three, Shape.rowMajor_val_two]
    show (p.val * 8 + j.val / 128) * 128 + j.val % 128 = p.val * 1024 + j.val
    omega
  · pointwise
    try rfl

/-- The result: the gating mixer on every row of the arguments. -/
def result (c : Dev nD) : S65536x1024.Idx → EReal :=
  Rows.gatingArr (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (m ((c : Thread nD τ).loc main_arg6)) (m ((c : Thread nD τ).loc main_arg7))

theorem flushed_eq (c : Dev nD) (t : Fin cfg0.N) :
    (dats m 0 c).flushed 8 t = ((cfg0.win 8).blk t).view.read (Elt Ideal) (result m c) := by
  rw [Value.flushed8, outs_eq, blk3, blk5, blk7]
  funext y
  have ht : t.val < 64 := lt_of_lt_of_eq t.isLt N_0
  have h0 : (y 0 : Nat) < 1024 := (y 0).isLt
  have hr : t.val * 1024 + (y 0 : Nat) < 65536 := by omega
  have ei : (win0_8.rect t).emb y = (ix2 ⟨t.val * 1024 + (y 0 : Nat), hr⟩ (y 1) : S65536x1024.Idx) := by
    refine funext fun a => Fin.ext ?_
    match a with
    | ⟨0, _⟩ => exact (Pipeline.Window.rect_emb_val win0_8 t y 0).trans (by rw [(idx_moving t).2.2.1]; rfl)
    | ⟨1, _⟩ => exact Pipeline.Window.rect_emb_val_of_index_zero win0_8 t 1 (idx_moving t).2.2.2 y
  show oG _ _ _ _ _ _ _ _ y = result m c ((win0_8.rect t).emb y)
  rw [ei]
  unfold oG result Rows.gatingArr
  have e0 : chunk (iblk m c 0 t : S1024x1024.Idx → EReal) (y 0)
      = fun s : Fin 128 => Rows.row (m ((c : Thread nD τ).loc main_arg0)) ⟨(t.val * 1024 + (y 0 : Nat)) / 128 * 128 + s.val, by omega⟩ := by
    funext s k
    refine (blk0 m c t ⟨(y 0 : Nat) / 128 * 128 + s.val, by omega⟩ k (by show t.val * 1024 + ((y 0 : Nat) / 128 * 128 + s.val) < 65536; omega)).trans ?_
    refine congrArg (fun r => Rows.row (m ((c : Thread nD τ).loc main_arg0)) r k) (Fin.ext ?_)
    show t.val * 1024 + ((y 0 : Nat) / 128 * 128 + s.val) = (t.val * 1024 + (y 0 : Nat)) / 128 * 128 + s.val
    omega
  have e6 : (fun p j => (iblk m c 6 t : S128x1024.Idx → EReal) (ix2 p j))
      = fun (p : Fin 128) (j : Fin 1024) => m ((c : Thread nD τ).loc main_arg6) (ix2 (⟨j.val / 128, by omega⟩ : Fin 8) p) :=
    funext fun p => funext fun j => blk6 m c t p j
  have eq : (⟨(y 0 : Nat) % 128, Nat.mod_lt _ (by decide)⟩ : Fin 128) = ⟨(t.val * 1024 + (y 0 : Nat)) % 128, Nat.mod_lt _ (by decide)⟩ :=
    Fin.ext (by show (y 0 : Nat) % 128 = (t.val * 1024 + (y 0 : Nat)) % 128; omega)
  have e1 := funext (blk1 m c t)
  have e2 := funext (blk2 m c t)
  have e4 := funext (blk4 m c t)
  rw [e0, e1, e2, e4, e6, eq]
  rfl

theorem final (c : Dev nD) : (dats m 0 c).arrAt 8 cfg0.N = result m c :=
  (dats m 0 c).arrAt_eq_of_cover 8 (result m c) (fun t _ => flushed_eq m c t) fun i => by
    have h0 : (i 0 : Nat) < 65536 := (i 0).isLt
    have h1 : (i 1 : Nat) < 1024 := (i 1).isLt
    have ht : (i 0 : Nat) / 1024 < cfg0.N := by rw [show cfg0.N = 64 from N_0]; omega
    refine ⟨⟨(i 0 : Nat) / 1024, ht⟩, flush0_8 _, ?_⟩
    show i ∈ ((View.whole main_v9).slice (win0_8.rect ⟨(i 0 : Nat) / 1024, ht⟩)).set
    rw [View.set_slice_whole, Rect.mem_set_unit]
    intro a
    match a with
    | ⟨0, _⟩ =>
      show win0_8.index _ (0 : Fin 2) * 1024 ≤ (i 0 : Nat) ∧ (i 0 : Nat) < win0_8.index _ (0 : Fin 2) * 1024 + 1024
      rw [(idx_moving _).2.2.1]; dsimp only; omega
    | ⟨1, _⟩ =>
      show win0_8.index _ (1 : Fin 2) * 1024 ≤ (i 1 : Nat) ∧ (i 1 : Nat) < win0_8.index _ (1 : Fin 2) * 1024 + 1024
      rw [(idx_moving _).2.2.2]; omega

end GateValue

end
-- ==== Proof.GateRef.lean ====
module

public import proofs.«01_k».proof.Proof.Rows
public import proofs.«01_k».proof.Proof.Gen.Reference3Ideal.Read

/-! What the reference of the gating mixer computes. -/

@[expose] public section

set_option maxRecDepth 16384

noncomputable section

namespace GateRef

open Idealize.ShloMosaic Cert.Reference3Ideal Cert.Reference3Ideal.Read

variable (x0 : (⟨S32x2048x1024, .f32⟩ : BufTy).Contents (Elt Ideal)) (x1 : (⟨S1024, .f32⟩ : BufTy).Contents (Elt Ideal))
  (x2 : (⟨S1024, .f32⟩ : BufTy).Contents (Elt Ideal)) (x3 : (⟨S1024x2048, .f32⟩ : BufTy).Contents (Elt Ideal))
  (x4 : (⟨S1024, .f32⟩ : BufTy).Contents (Elt Ideal)) (x5 : (⟨S8x128x128, .f32⟩ : BufTy).Contents (Elt Ideal))
  (x6 : (⟨S8x128, .f32⟩ : BufTy).Contents (Elt Ideal)) (x7 : (⟨S1024x1024, .f32⟩ : BufTy).Contents (Elt Ideal))

theorem i8 (b : Fin 32) (s : Fin 2048) (k : Fin 1024) : idx_main_v8 (ix3 b s k) = ix3 b s (0 : Fin 1) := by
  funext a; fin_cases a <;> rfl
theorem i2 (b : Fin 32) (s : Fin 2048) : idx_main_v2 (ix3 b s (0 : Fin 1)) = ix2 b s := by
  funext a; fin_cases a <;> rfl
theorem i1 (b : Fin 32) (s : Fin 2048) (k : Fin 1024) : idx_main_v1 (ix2 b s) k = ix3 b s k := by
  funext a; fin_cases a <;> rfl
theorem i11 (b : Fin 32) (s : Fin 2048) (k : Fin 1024) : idx_main_v11 (ix3 b s k) = ix3 (0 : Fin 1) (0 : Fin 1) k := by
  funext a; fin_cases a <;> rfl
theorem i10 (k : Fin 1024) : idx_main_v10 (ix3 (0 : Fin 1) (0 : Fin 1) k) = ix1 k := by
  funext a; fin_cases a <;> rfl

theorem v12_apply (b : Fin 32) (s : Fin 2048) (k : Fin 1024) :
    val_main_v12 (F := Ideal) x0 x1 (ix3 b s k) = Rows.rms (fun k => x0 (ix3 b s k)) (fun k => x1 (ix1 k)) k := by
  simp only [val_main_v12_apply, val_main_v9_apply, val_main_v8_apply, i8, val_main_v7_apply, val_main_v6_apply, val_main_v4_apply,
    val_main_v2_apply, i2, val_main_v1_apply, i1, val_main_v0_apply, val_main_v3_apply, val_main_v5_apply, val_main_cst_apply,
    val_main_cst_0_apply, val_main_cst_1_apply, val_main_v11_apply, i11, val_main_v10_apply, i10]
  rw [Rows.zero_bits_add]
  rfl

theorem l13 (b : Fin 32) (s : Fin 2048) (c : Fin 2048) (k : Fin 1024) : lidx_main_v13 (ix3 b s c) k = ix3 b s k := by
  funext a; fin_cases a <;> rfl
theorem r13 (b : Fin 32) (s : Fin 2048) (c : Fin 2048) (k : Fin 1024) : ridx_main_v13 (ix3 b s c) k = ix2 k c := by
  funext a; fin_cases a <;> rfl

/-- The projection through the gated unit. -/
theorem v20_apply (b : Fin 32) (s : Fin 2048) (n : Fin 2048) : val_main_v20 (F := Ideal) x0 x1 x3 (ix3 b s n)
    = Rows.gelu (Rows.wide (fun k => x0 (ix3 b s k)) (fun k => x1 (ix1 k)) (fun k n => x3 (ix2 k n)) n) := by
  simp only [val_main_v20_apply, val_main_v15_apply, val_main_v14_apply, val_main_cst_2_apply, val_main_v19_apply, val_main_v18_apply,
    val_main_v16_apply, val_main_v17_apply, val_main_cst_3_apply, val_main_v13_apply, l13, r13, v12_apply]
  exact Rows.gelu_erfc _

theorem i21 (b : Fin 32) (s : Fin 2048) (k : Fin 1024) : idx_main_v21 (ix3 b s k) = ix3 b s (⟨k.val, by omega⟩ : Fin 2048) := by
  funext a; fin_cases a <;> rfl
theorem i22 (b : Fin 32) (s : Fin 2048) (k : Fin 1024) : idx_main_v22 (ix3 b s k) = ix3 b s (⟨1024 + k.val, by omega⟩ : Fin 2048) := by
  funext a; fin_cases a <;> rfl
theorem i23 (b : Fin 32) (s : Fin 2048) (k : Fin 1024) : idx_main_v23 (ix2 b s) k = ix3 b s k := by
  funext a; fin_cases a <;> rfl
theorem i24 (b : Fin 32) (s : Fin 2048) : idx_main_v24 (ix3 b s (0 : Fin 1)) = ix2 b s := by
  funext a; fin_cases a <;> rfl
theorem i27 (b : Fin 32) (s : Fin 2048) (k : Fin 1024) : idx_main_v27 (ix3 b s k) = ix3 b s (0 : Fin 1) := by
  funext a; fin_cases a <;> rfl
theorem i30 (b : Fin 32) (s : Fin 2048) (k : Fin 1024) : idx_main_v30 (ix2 b s) k = ix3 b s k := by
  funext a; fin_cases a <;> rfl
theorem i31 (b : Fin 32) (s : Fin 2048) : idx_main_v31 (ix3 b s (0 : Fin 1)) = ix2 b s := by
  funext a; fin_cases a <;> rfl
theorem i34 (b : Fin 32) (s : Fin 2048) (k : Fin 1024) : idx_main_v34 (ix3 b s k) = ix3 b s (0 : Fin 1) := by
  funext a; fin_cases a <;> rfl
theorem i39 (b : Fin 32) (s : Fin 2048) (k : Fin 1024) : idx_main_v39 (ix3 b s k) = ix3 b s (0 : Fin 1) := by
  funext a; fin_cases a <;> rfl
theorem i42 (b : Fin 32) (s : Fin 2048) (k : Fin 1024) : idx_main_v42 (ix3 b s k) = ix3 (0 : Fin 1) (0 : Fin 1) k := by
  funext a; fin_cases a <;> rfl
theorem i41 (k : Fin 1024) : idx_main_v41 (ix3 (0 : Fin 1) (0 : Fin 1) k) = ix1 k := by
  funext a; fin_cases a <;> rfl

theorem v22_apply (b : Fin 32) (s : Fin 2048) (k : Fin 1024) : val_main_v22 (F := Ideal) x0 x1 x3 (ix3 b s k)
    = Rows.gelu (Rows.wide (fun k => x0 (ix3 b s k)) (fun k => x1 (ix1 k)) (fun k n => x3 (ix2 k n)) ⟨1024 + k.val, by omega⟩) := by
  rw [val_main_v22_apply, i22, v20_apply]

theorem v26_apply (b : Fin 32) (s : Fin 2048) : val_main_v26 (F := Ideal) x0 x1 x3 (ix3 b s (0 : Fin 1))
    = Ideal.div (∑ k : Fin 1024, val_main_v22 (F := Ideal) x0 x1 x3 (ix3 b s k)) Rows.width := by
  simp only [val_main_v26_apply, val_main_v24_apply, i24, val_main_v23_apply, i23, val_main_v25_apply, val_main_cst_4_apply,
    val_main_cst_5_apply]
  rw [Rows.zero_bits_add]
  rfl

/-- The half that the gate is made of. -/
theorem v43_apply (b : Fin 32) (s : Fin 2048) (k : Fin 1024) : val_main_v43 (F := Ideal) x0 x1 x3 x4 (ix3 b s k)
    = Rows.gateV (fun k => x0 (ix3 b s k)) (fun k => x1 (ix1 k)) (fun k => x4 (ix1 k)) (fun k n => x3 (ix2 k n)) k := by
  simp only [val_main_v43_apply, val_main_v42_apply, i42, val_main_v41_apply, i41, val_main_v40_apply, val_main_v39_apply, i39,
    val_main_v38_apply, val_main_v37_apply, val_main_v36_apply, val_main_cst_8_apply, val_main_v33_apply, val_main_v31_apply, i31,
    val_main_v30_apply, i30, val_main_v29_apply, val_main_v28_apply, val_main_v27_apply, i27, val_main_v32_apply, val_main_cst_6_apply,
    val_main_cst_7_apply, val_main_v35_apply, val_main_v34_apply, i34, v26_apply, v22_apply]
  rw [Rows.zero_bits_add]
  rfl

/-- The mask keeps the lower triangle. -/
theorem mask_apply (t s : Fin 128) (a b : EReal) :
    Scalar.select (val_main_v46 (F := Ideal) (ix2 t s)) a b = if s ≤ t then a else b := by
  simp only [val_main_v46_apply, val_main_call0_v4_apply, val_main_call0_v2_apply, val_main_call0_v0_apply, val_main_call0_v1_apply,
    val_main_call0_v3_apply, val_main_v45_apply, val_main_call0_v5_apply, val_main_c_apply,
    val_main_call0_c_apply, val_main_call0_c_0_apply]
  have e : IntOp.cmpi .sge (IntOp.addi (BitVec.ofNat 32 ((ix2 t s : S128x128.Idx) 0).val) 0#32) (BitVec.ofNat 32 ((ix2 t s : S128x128.Idx) 1).val)
      = BitVec.ofBool ((BitVec.ofNat 32 s.val).sle (BitVec.ofNat 32 t.val)) := by
    unfold IntOp.cmpi IntOp.addi
    rw [BitVec.add_zero]
    rfl
  rw [e, Rows.select_lane]
  by_cases h : s ≤ t
  · rw [if_pos h, if_pos h]
    exact if_pos rfl
  · rw [if_neg h, if_neg h]
    exact if_neg (by decide)

theorem i47 (t s : Fin 128) : idx_main_v47 (ix3 (0 : Fin 1) t s) = ix2 t s := by
  funext a; fin_cases a <;> rfl
theorem ic1 (g : Fin 8) (t s : Fin 128) : idx_main_call1_v1 (ix3 g t s) = ix3 (0 : Fin 1) t s := by
  funext a; fin_cases a <;> rfl

theorem v48_apply (g : Fin 8) (t s : Fin 128) : val_main_v48 (F := Ideal) x5 (ix3 g t s) = if s ≤ t then x5 (ix3 g t s) else 0 := by
  simp only [val_main_v48_apply, val_main_call1_v1_apply, ic1, val_main_v47_apply, i47, mask_apply, val_main_call1_v2_apply,
    val_main_call1_v0_apply, val_main_cst_9_apply]
  exact congrArg (fun z => if s ≤ t then x5 (ix3 g t s) else z) Ideal.ofBits_zero_f32

theorem i44 (b : Fin 32) (c : Fin 16) (s : Fin 128) (g : Fin 8) (d : Fin 128) :
    idx_main_v44 (ix5 b c s g d) = ix3 b (⟨c.val * 128 + s.val, by omega⟩ : Fin 2048) (⟨g.val * 128 + d.val, by omega⟩ : Fin 1024) := by
  refine funext fun a => Fin.ext ?_
  match a with
  | ⟨0, _⟩ => show ((((b.val * 16 + c.val) * 128 + s.val) * 8 + g.val) * 128 + d.val) / 2097152 = b.val; omega
  | ⟨1, _⟩ => show ((((b.val * 16 + c.val) * 128 + s.val) * 8 + g.val) * 128 + d.val) / 1024 % 2048 = c.val * 128 + s.val; omega
  | ⟨2, _⟩ => show ((((b.val * 16 + c.val) * 128 + s.val) * 8 + g.val) * 128 + d.val) % 1024 = g.val * 128 + d.val; omega
theorem i55 (b : Fin 32) (s : Fin 2048) (k : Fin 1024) :
    idx_main_v55 (ix3 b s k) = ix5 b (⟨s.val / 128, by omega⟩ : Fin 16) (⟨s.val % 128, by omega⟩ : Fin 128) (⟨k.val / 128, by omega⟩ : Fin 8)
      (⟨k.val % 128, by omega⟩ : Fin 128) := by
  refine funext fun a => Fin.ext ?_
  match a with
  | ⟨0, _⟩ => show ((b.val * 2048 + s.val) * 1024 + k.val) / 2097152 = b.val; omega
  | ⟨1, _⟩ => show ((b.val * 2048 + s.val) * 1024 + k.val) / 131072 % 16 = s.val / 128; omega
  | ⟨2, _⟩ => show ((b.val * 2048 + s.val) * 1024 + k.val) / 1024 % 128 = s.val % 128; omega
  | ⟨3, _⟩ => show ((b.val * 2048 + s.val) * 1024 + k.val) / 128 % 8 = k.val / 128; omega
  | ⟨4, _⟩ => show ((b.val * 2048 + s.val) * 1024 + k.val) % 128 = k.val % 128; omega
theorem i52 (b : Fin 32) (c : Fin 16) (s : Fin 128) (g : Fin 8) (d : Fin 128) : idx_main_v52 (ix5 b c s g d) = ix5 g b c d s := by
  funext a; fin_cases a <;> rfl
theorem l51 (b : Fin 32) (c : Fin 16) (t : Fin 128) (g : Fin 8) (d : Fin 128) (k : Fin 128) :
    lidx_main_v51 (ix5 g b c d t) k = ix5 b c k g d := by
  funext a; fin_cases a <;> rfl
theorem r51 (b : Fin 32) (c : Fin 16) (t : Fin 128) (g : Fin 8) (d : Fin 128) (k : Fin 128) :
    ridx_main_v51 (ix5 g b c d t) k = ix3 g t k := by
  funext a; fin_cases a <;> rfl
theorem i53 (b : Fin 32) (c : Fin 16) (s : Fin 128) (g : Fin 8) (d : Fin 128) :
    idx_main_v49 (idx_main_v50 (idx_main_v53 (ix5 b c s g d))) = ix2 g s := by
  funext a; fin_cases a <;> rfl

/-- The chunk of 128 positions that a position lies in. -/
def chunk (b : Fin 32) (s : Fin 2048) : Fin 128 → Fin 1024 → EReal :=
  fun t k => x0 (ix3 b (⟨s.val / 128 * 128 + t.val, by omega⟩ : Fin 2048) k)

theorem v56_apply (b : Fin 32) (s : Fin 2048) (k : Fin 1024) : val_main_v56 (F := Ideal) x0 x1 x3 x4 x5 x6 (ix3 b s k)
    = Rows.gated (chunk x0 b s) (fun k => x1 (ix1 k)) (fun k => x4 (ix1 k)) (fun k n => x3 (ix2 k n)) (fun a t s => x5 (ix3 a t s))
      (fun t j => x6 (ix2 (⟨j.val / 128, by omega⟩ : Fin 8) t)) ⟨s.val % 128, by omega⟩ k := by
  simp only [val_main_v56_apply, val_main_v21_apply, i21, v20_apply, val_main_v55_apply, i55, val_main_v54_apply, val_main_v53_apply,
    val_main_v50_apply, val_main_v49_apply, i53, val_main_v52_apply, i52, val_main_v51_apply, l51, r51, val_main_v44_apply, i44,
    v43_apply, v48_apply]
  have hs : (⟨s.val / 128 * 128 + (⟨s.val % 128, by omega⟩ : Fin 128).val, by omega⟩ : Fin 2048) = s := Fin.ext (by show s.val / 128 * 128 + s.val % 128 = s.val; omega)
  have hk : (⟨(⟨k.val / 128, by omega⟩ : Fin 8).val * 128 + (⟨k.val % 128, by omega⟩ : Fin 128).val, by omega⟩ : Fin 1024) = k :=
    Fin.ext (by show k.val / 128 * 128 + k.val % 128 = k.val; omega)
  unfold Rows.gated Rows.gateU chunk
  rw [hs]
  refine congrArg (_ * ·) (congrArg (· + _) (Finset.sum_congr rfl fun j _ => ?_))
  rw [mul_comm, hk]

theorem l57 (b : Fin 32) (s : Fin 2048) (c : Fin 1024) (k : Fin 1024) : lidx_main_v57 (ix3 b s c) k = ix3 b s k := by
  funext a; fin_cases a <;> rfl
theorem r57 (b : Fin 32) (s : Fin 2048) (c : Fin 1024) (k : Fin 1024) : ridx_main_v57 (ix3 b s c) k = ix2 k c := by
  funext a; fin_cases a <;> rfl
theorem i59 (b : Fin 32) (s : Fin 2048) (k : Fin 1024) : idx_main_v59 (ix2 b s) k = ix3 b s k := by
  funext a; fin_cases a <;> rfl
theorem i60 (b : Fin 32) (s : Fin 2048) : idx_main_v60 (ix3 b s (0 : Fin 1)) = ix2 b s := by
  funext a; fin_cases a <;> rfl
theorem i66 (b : Fin 32) (s : Fin 2048) (k : Fin 1024) : idx_main_v66 (ix3 b s k) = ix3 b s (0 : Fin 1) := by
  funext a; fin_cases a <;> rfl
theorem i69 (b : Fin 32) (s : Fin 2048) (k : Fin 1024) : idx_main_v69 (ix3 b s k) = ix3 (0 : Fin 1) (0 : Fin 1) k := by
  funext a; fin_cases a <;> rfl
theorem i68 (k : Fin 1024) : idx_main_v68 (ix3 (0 : Fin 1) (0 : Fin 1) k) = ix1 k := by
  funext a; fin_cases a <;> rfl

theorem v71_apply (b : Fin 32) (s : Fin 2048) (k : Fin 1024) : val_main_v71 (F := Ideal) x0 x1 x2 x3 x4 x5 x6 x7 (ix3 b s k)
    = Rows.mix (fun k => x0 (ix3 b s k)) (Rows.gated (chunk x0 b s) (fun k => x1 (ix1 k)) (fun k => x4 (ix1 k)) (fun k n => x3 (ix2 k n))
      (fun a t s => x5 (ix3 a t s)) (fun t j => x6 (ix2 (⟨j.val / 128, by omega⟩ : Fin 8) t)) ⟨s.val % 128, by omega⟩)
      (fun k => x2 (ix1 k)) (fun j n => x7 (ix2 j n)) k := by
  simp only [val_main_v71_apply, val_main_v70_apply, val_main_v69_apply, i69, val_main_v68_apply, i68, val_main_v67_apply,
    val_main_v66_apply, i66, val_main_v65_apply, val_main_v64_apply, val_main_v63_apply, val_main_cst_12_apply, val_main_v62_apply,
    val_main_v61_apply, val_main_cst_11_apply, val_main_v60_apply, i60, val_main_v59_apply, i59, val_main_cst_10_apply,
    val_main_v58_apply, val_main_v57_apply, l57, r57, v56_apply]
  rw [Rows.zero_bits_add]
  rfl

/-- The reference's result: the gating mixer on every row. -/
theorem result_eq : val_main_v72 (F := Ideal) x0 x1 x2 x3 x4 x5 x6 x7 = Rows.gatingArr x0 x1 x2 x4 x3 x5 x6 x7 := by
  funext i
  obtain ⟨r, n, rfl⟩ : ∃ (r : Fin 65536) (n : Fin 1024), i = ix2 r n := ⟨i 0, i 1, ValueIdx.eq_ix2 i⟩
  have e : idx_main_v72 (ix2 r n) = ix3 (⟨r.val / 2048, by omega⟩ : Fin 32) (⟨r.val % 2048, by omega⟩ : Fin 2048) n := by
    refine funext fun a => Fin.ext ?_
    match a with
    | ⟨0, _⟩ => show (r.val * 1024 + n.val) / 2097152 = r.val / 2048; omega
    | ⟨1, _⟩ => show (r.val * 1024 + n.val) / 1024 % 2048 = r.val % 2048; omega
    | ⟨2, _⟩ => show (r.val * 1024 + n.val) % 1024 = n.val; omega
  rw [val_main_v72_apply, e, v71_apply]
  unfold Rows.gatingArr Rows.gating
  have hx : ∀ t : Fin 128, chunk x0 ⟨r.val / 2048, by omega⟩ ⟨r.val % 2048, by omega⟩ t
      = Rows.row x0 ⟨r.val / 128 * 128 + t.val, by omega⟩ := by
    intro t
    funext k
    unfold chunk Rows.row
    refine congrArg x0 (funext fun a => Fin.ext ?_)
    match a with
    | ⟨0, _⟩ => show r.val / 2048 = (r.val / 128 * 128 + t.val) / 2048; omega
    | ⟨1, _⟩ => show r.val % 2048 / 128 * 128 + t.val = (r.val / 128 * 128 + t.val) % 2048; omega
    | ⟨2, _⟩ => rfl
  have ht : (⟨(⟨r.val % 2048, by omega⟩ : Fin 2048).val % 128, by omega⟩ : Fin 128) = ⟨r.val % 128, by omega⟩ :=
    Fin.ext (by show r.val % 2048 % 128 = r.val % 128; omega)
  rw [ht]
  have hr : (fun k => x0 (ix3 (⟨r.val / 2048, by omega⟩ : Fin 32) (⟨r.val % 2048, by omega⟩ : Fin 2048) k))
      = Rows.row x0 ⟨r.val / 128 * 128 + (⟨r.val % 128, by omega⟩ : Fin 128).val, by show r.val / 128 * 128 + r.val % 128 < 65536; omega⟩ := by
    have : (⟨r.val / 128 * 128 + (⟨r.val % 128, by omega⟩ : Fin 128).val, by show r.val / 128 * 128 + r.val % 128 < 65536; omega⟩ : Fin 65536) = r :=
      Fin.ext (by show r.val / 128 * 128 + r.val % 128 = r.val; omega)
    rw [this]
    rfl
  rw [hr, funext hx]
  rfl

end GateRef

end
-- ==== Proof.QkvKernel.lean ====
module

public import proofs.«01_k».proof.Proof.FfnBlock
public import proofs.«01_k».proof.Proof.Gen.Kernel4Ideal.Value

/-! What a point of the projection call leaves in its three output tiles. -/

@[expose] public section

set_option maxRecDepth 16384

noncomputable section

namespace QkvKernel

open Idealize.ShloMosaic Cert.Kernel4Ideal Cert.Kernel4Ideal.Gen FfnBlock

/-- A matrix with a first axis of extent one. -/
theorem lead_apply (f : FVec Ideal S1024x256 .bf16) (n : Fin 1024) (p : Fin 256) :
    shapeCast S1x1024x256 f shapeCasts_S1024x256_S1x1024x256 (ix3 (0 : Fin 1) n p) = f (ix2 n p) := by
  refine shapeCast_apply _ _ _ (ix2 n p) ?_
  rw [Shape.rowMajor_val_three, Shape.rowMajor_val_two]
  show n.val * 256 + p.val = (0 * 1024 + n.val) * 256 + p.val
  omega

/-- 256 normalised rows against a weight, positions last. -/
def colT (xn : FVec Ideal S256x1024 .bf16) (w : FVec Ideal S1024x1024 .bf16) : FVec Ideal S1024x256 .f32 :=
  matmul dot_S1024x1024_S256x1024_S1024x256_1_1_0_0_n_n none w xn (constant S1024x256 .f32 0x00000000#32)

theorem colT_apply (xn : FVec Ideal S256x1024 .bf16) (w : FVec Ideal S1024x1024 .bf16) (n : Fin 1024) (p : Fin 256) :
    colT xn w (ix2 n p) = ∑ k : Fin 1024, xn (ix2 p k) * w (ix2 n k) := by
  have e : colT xn w (ix2 n p) = ∑ k : Fin 1024, w (ix2 n k) * xn (ix2 p k) := by
    unfold colT
    pointwise [dot_S1024x1024_S256x1024_S1024x256_1_1_0_0_n_n]
  rw [e]
  exact Finset.sum_congr rfl fun k _ => mul_comm _ _

/-- The same, positions first. -/
def rowT (xn : FVec Ideal S256x1024 .bf16) (w : FVec Ideal S1024x1024 .bf16) : FVec Ideal S256x1024 .f32 :=
  matmul dot_S256x1024_S1024x1024_S256x1024_1_0_0_1_n_n none xn w (constant S256x1024 .f32 0x00000000#32)

theorem rowT_apply (xn : FVec Ideal S256x1024 .bf16) (w : FVec Ideal S1024x1024 .bf16) (p : Fin 256) (n : Fin 1024) :
    rowT xn w (ix2 p n) = ∑ k : Fin 1024, xn (ix2 p k) * w (ix2 k n) := by
  unfold rowT
  pointwise [dot_S256x1024_S1024x1024_S256x1024_1_0_0_1_n_n]

/-- The stored queries, keys and values of 256 rows. -/
def qT (x : Vec Ideal S256x1024 .f32) (g : Vec Ideal S1x1024 .f32) (w : Vec Ideal S1024x1024 .bf16) : FVec Ideal S1x1024x256 .bf16 :=
  shapeCast S1x1024x256 (truncf .bf16 (mulf (colT (truncf .bf16 (rmsT x g) bitsLt_bf16_f32) w)
    (broadcast S1024x256 (Scalar.ofBits .f32 0x3E000000#32))) bitsLt_bf16_f32 : FVec Ideal S1024x256 .bf16) shapeCasts_S1024x256_S1x1024x256
def kT (x : Vec Ideal S256x1024 .f32) (g : Vec Ideal S1x1024 .f32) (w : Vec Ideal S1024x1024 .bf16) : FVec Ideal S256x1024 .bf16 :=
  truncf .bf16 (rowT (truncf .bf16 (rmsT x g) bitsLt_bf16_f32) w) bitsLt_bf16_f32
def vT (x : Vec Ideal S256x1024 .f32) (g : Vec Ideal S1x1024 .f32) (w : Vec Ideal S1024x1024 .bf16) : FVec Ideal S1x1024x256 .bf16 :=
  shapeCast S1x1024x256 (truncf .bf16 (colT (truncf .bf16 (rmsT x g) bitsLt_bf16_f32) w) bitsLt_bf16_f32 : FVec Ideal S1024x256 .bf16) shapeCasts_S1024x256_S1x1024x256

theorem vT_apply (x : Vec Ideal S256x1024 .f32) (g : Vec Ideal S1x1024 .f32) (w : Vec Ideal S1024x1024 .bf16) (n : Fin 1024) (p : Fin 256) :
    vT x g w (ix3 (0 : Fin 1) n p) = ∑ k, Rows.rms (fun k => x (ix2 p k)) (fun k => g (ix2 (0 : Fin 1) k)) k * w (ix2 n k) := by
  unfold vT
  rw [lead_apply]
  refine (colT_apply _ w n p).trans (Finset.sum_congr rfl fun k _ => congrArg (· * _) (rmsT_apply x g p k))

theorem qT_apply (x : Vec Ideal S256x1024 .f32) (g : Vec Ideal S1x1024 .f32) (w : Vec Ideal S1024x1024 .bf16) (n : Fin 1024) (p : Fin 256) :
    qT x g w (ix3 (0 : Fin 1) n p) = (∑ k, Rows.rms (fun k => x (ix2 p k)) (fun k => g (ix2 (0 : Fin 1) k)) k * w (ix2 n k)) * Rows.eighth := by
  unfold qT
  rw [lead_apply]
  refine congrArg (· * Rows.eighth) ((colT_apply _ w n p).trans (Finset.sum_congr rfl fun k _ => congrArg (· * _) (rmsT_apply x g p k)))

theorem kT_apply (x : Vec Ideal S256x1024 .f32) (g : Vec Ideal S1x1024 .f32) (w : Vec Ideal S1024x1024 .bf16) (p : Fin 256) (n : Fin 1024) :
    kT x g w (ix2 p n) = ∑ k, Rows.rms (fun k => x (ix2 p k)) (fun k => g (ix2 (0 : Fin 1) k)) k * w (ix2 k n) := by
  unfold kT
  refine (rowT_apply _ w p n).trans (Finset.sum_congr rfl fun k _ => congrArg (· * _) (rmsT_apply x g p k))

/-- The output tiles of a tile of rows. -/
def vG (x : S1024x1024.Idx → EReal) (g : S1x1024.Idx → EReal) (w : S1024x1024.Idx → EReal) : S1x1024x1024.Idx → EReal :=
  fun y => ∑ k, Rows.rms (fun k => x (ix2 (y 2) k)) (fun k => g (ix2 (0 : Fin 1) k)) k * w (ix2 (y 1) k)
def qG (x : S1024x1024.Idx → EReal) (g : S1x1024.Idx → EReal) (w : S1024x1024.Idx → EReal) : S1x1024x1024.Idx → EReal :=
  fun y => vG x g w y * Rows.eighth
def kG (x : S1024x1024.Idx → EReal) (g : S1x1024.Idx → EReal) (w : S1024x1024.Idx → EReal) : S1024x1024.Idx → EReal :=
  fun y => ∑ k, Rows.rms (fun k => x (ix2 (y 0) k)) (fun k => g (ix2 (0 : Fin 1) k)) k * w (ix2 k (y 1))

/-- The place of a piece whose positions start at `r`. -/
theorem emb3 (r : ℕ) (h : ∀ a, (![0, 0, r] : Fin 3 → Nat) a + S1x1024x256.size a ≤ S1x1024x1024.size a) (n : Fin 1024) (p : Fin 256) (hp : r + p.val < 1024) :
    (Rect.unit (s := S1x1024x1024) ![0, 0, r] S1x1024x256.size h).emb (ix3 (0 : Fin 1) n p) = ix3 (0 : Fin 1) n ⟨r + p.val, hp⟩ := by
  refine funext fun a => Fin.ext ?_
  match a with
  | ⟨0, _⟩ => rfl
  | ⟨1, _⟩ => exact (Nat.zero_add _).trans (Nat.one_mul _)
  | ⟨2, _⟩ => exact congrArg (r + ·) (Nat.one_mul _)

theorem eq3 (z : S1x1024x256.Idx) : ∃ (n : Fin 1024) (p : Fin 256), z = ix3 (0 : Fin 1) n p := by
  refine ⟨z 1, z 2, funext fun a => ?_⟩
  match a with
  | ⟨0, _⟩ => exact Fin.ext (by have := (z 0).isLt; change (z 0).val < 1 at this; change (z 0).val = 0; omega)
  | ⟨1, _⟩ => rfl
  | ⟨2, _⟩ => rfl

theorem v_piece (x : S1024x1024.Idx → EReal) (g : S1x1024.Idx → EReal) (w : S1024x1024.Idx → EReal) (r : ℕ)
    (hx : ∀ a, (![r, 0] : Fin 2 → Nat) a + S256x1024.size a ≤ S1024x1024.size a)
    (h : ∀ a, (![0, 0, r] : Fin 3 → Nat) a + S1x1024x256.size a ≤ S1x1024x1024.size a) (z : S1x1024x256.Idx) :
    vT (View.ld (Val := Elt Ideal) (e' := .f32) x (Rect.unit (s := S1024x1024) ![r, 0] ![256, 1024] hx)) g w z
      = vG x g w ((Rect.unit (s := S1x1024x1024) ![0, 0, r] S1x1024x256.size h).emb z) := by
  have hr : r + 256 ≤ 1024 := h 2
  obtain ⟨n, p, rfl⟩ := eq3 z
  have hp : r + p.val < 1024 := by omega
  rw [emb3 r h n p hp, vT_apply]
  exact Finset.sum_congr rfl fun k _ => congrArg (fun f => Rows.rms f _ k * _) (funext fun k => ld_rows x r hx p k hp)

theorem q_piece (x : S1024x1024.Idx → EReal) (g : S1x1024.Idx → EReal) (w : S1024x1024.Idx → EReal) (r : ℕ)
    (hx : ∀ a, (![r, 0] : Fin 2 → Nat) a + S256x1024.size a ≤ S1024x1024.size a)
    (h : ∀ a, (![0, 0, r] : Fin 3 → Nat) a + S1x1024x256.size a ≤ S1x1024x1024.size a) (z : S1x1024x256.Idx) :
    qT (View.ld (Val := Elt Ideal) (e' := .f32) x (Rect.unit (s := S1024x1024) ![r, 0] ![256, 1024] hx)) g w z
      = qG x g w ((Rect.unit (s := S1x1024x1024) ![0, 0, r] S1x1024x256.size h).emb z) := by
  have hr : r + 256 ≤ 1024 := h 2
  obtain ⟨n, p, rfl⟩ := eq3 z
  have hp : r + p.val < 1024 := by omega
  rw [emb3 r h n p hp, qT_apply]
  exact congrArg (· * Rows.eighth) (Finset.sum_congr rfl fun k _ => congrArg (fun f => Rows.rms f _ k * _) (funext fun k => ld_rows x r hx p k hp))

theorem k_piece (x : S1024x1024.Idx → EReal) (g : S1x1024.Idx → EReal) (w : S1024x1024.Idx → EReal) (r : ℕ)
    (hx : ∀ a, (![r, 0] : Fin 2 → Nat) a + S256x1024.size a ≤ S1024x1024.size a)
    (h : ∀ a, (![r, 0] : Fin 2 → Nat) a + S256x1024.size a ≤ S1024x1024.size a) (z : S256x1024.Idx) :
    kT (View.ld (Val := Elt Ideal) (e' := .f32) x (Rect.unit (s := S1024x1024) ![r, 0] ![256, 1024] hx)) g w z
      = kG x g w ((Rect.unit (s := S1024x1024) ![r, 0] S256x1024.size h).emb z) := by
  have hr : r + 256 ≤ 1024 := h 0
  obtain ⟨p, q, rfl⟩ : ∃ (p : Fin 256) (q : Fin 1024), z = ix2 p q := ⟨z 0, z 1, ValueIdx.eq_ix2 z⟩
  have hp : r + p.val < 1024 := by omega
  have e : (Rect.unit (s := S1024x1024) ![r, 0] S256x1024.size h).emb (ix2 p q) = ix2 ⟨r + p.val, hp⟩ q := by
    refine funext fun a => Fin.ext ?_
    match a with
    | ⟨0, _⟩ => exact congrArg (r + ·) (Nat.one_mul _)
    | ⟨1, _⟩ => exact (Nat.zero_add _).trans (Nat.one_mul _)
  rw [e, kT_apply]
  exact Finset.sum_congr rfl fun k _ => congrArg (fun f => Rows.rms f _ k * _) (funext fun k => ld_rows x r hx p k hp)

theorem ldg (x : Vec Ideal S1x1024 .f32) : View.ld (Val := Elt Ideal) (e' := .f32) x r0_1 = x :=
  View.ld_unit_zero (by funext a; fin_cases a <;> rfl) _ _
theorem ldw (x : Vec Ideal S1024x1024 .bf16) : View.ld (Val := Elt Ideal) (e' := .bf16) x r0_2 = x :=
  View.ld_unit_zero (by funext a; fin_cases a <;> rfl) _ _

theorem pay3 (x : Vec Ideal S256x1024 .f32) (g : Vec Ideal S1x1024 .f32) : k0_pay3 x g = truncf .bf16 (rmsT x g) bitsLt_bf16_f32 := by
  unfold k0_pay3 rmsT
  simp only [Idealize.ShloMosaic.shapeCast_self]
theorem pay8 (x : Vec Ideal S256x1024 .f32) (g : Vec Ideal S1x1024 .f32) : k0_pay8 x g = truncf .bf16 (rmsT x g) bitsLt_bf16_f32 := by
  unfold k0_pay8 rmsT
  simp only [Idealize.ShloMosaic.shapeCast_self]
theorem pay12 (x : Vec Ideal S256x1024 .f32) (g : Vec Ideal S1x1024 .f32) : k0_pay12 x g = truncf .bf16 (rmsT x g) bitsLt_bf16_f32 := by
  unfold k0_pay12 rmsT
  simp only [Idealize.ShloMosaic.shapeCast_self]
theorem pay17 (x : Vec Ideal S256x1024 .f32) (g : Vec Ideal S1x1024 .f32) : k0_pay17 x g = truncf .bf16 (rmsT x g) bitsLt_bf16_f32 := by
  unfold k0_pay17 rmsT
  simp only [Idealize.ShloMosaic.shapeCast_self]
theorem pay4 (x : Vec Ideal S256x1024 .f32) (g : Vec Ideal S1x1024 .f32) (w : Vec Ideal S1024x1024 .bf16) : k0_pay4 x g w = qT x g w := by
  unfold k0_pay4 qT colT
  simp only [Idealize.ShloMosaic.shapeCast_self, pay3]
theorem pay9 (x : Vec Ideal S256x1024 .f32) (g : Vec Ideal S1x1024 .f32) (w : Vec Ideal S1024x1024 .bf16) : k0_pay9 x g w = qT x g w := by
  unfold k0_pay9 qT colT
  simp only [Idealize.ShloMosaic.shapeCast_self, pay8]
theorem pay13 (x : Vec Ideal S256x1024 .f32) (g : Vec Ideal S1x1024 .f32) (w : Vec Ideal S1024x1024 .bf16) : k0_pay13 x g w = qT x g w := by
  unfold k0_pay13 qT colT
  simp only [Idealize.ShloMosaic.shapeCast_self, pay12]
theorem pay18 (x : Vec Ideal S256x1024 .f32) (g : Vec Ideal S1x1024 .f32) (w : Vec Ideal S1024x1024 .bf16) : k0_pay18 x g w = qT x g w := by
  unfold k0_pay18 qT colT
  simp only [Idealize.ShloMosaic.shapeCast_self, pay17]
theorem pay5 (x : Vec Ideal S256x1024 .f32) (g : Vec Ideal S1x1024 .f32) (w : Vec Ideal S1024x1024 .bf16) : k0_pay5 x g w = kT x g w := by
  unfold k0_pay5 kT rowT
  simp only [Idealize.ShloMosaic.shapeCast_self, pay3]
theorem pay10 (x : Vec Ideal S256x1024 .f32) (g : Vec Ideal S1x1024 .f32) (w : Vec Ideal S1024x1024 .bf16) : k0_pay10 x g w = kT x g w := by
  unfold k0_pay10 kT rowT
  simp only [Idealize.ShloMosaic.shapeCast_self, pay8]
theorem pay1 (x : Vec Ideal S256x1024 .f32) (g : Vec Ideal S1x1024 .f32) (w : Vec Ideal S1024x1024 .bf16) : k0_pay1 (k0_pay17 x g) w = kT x g w := by
  unfold k0_pay1 kT rowT
  simp only [Idealize.ShloMosaic.shapeCast_self, pay17]
theorem pay15 (x : Vec Ideal S256x1024 .f32) (g : Vec Ideal S1x1024 .f32) (w : Vec Ideal S1024x1024 .bf16) :
    k0_pay15 (k0_pay12 x g) (k0_pay14 w) (constant S256x1024 FTy.f32 0#32) = kT x g w := by
  unfold k0_pay15 k0_pay14 kT rowT
  simp only [Idealize.ShloMosaic.shapeCast_self, pay12]
theorem pay2 (x : Vec Ideal S256x1024 .f32) (g : Vec Ideal S1x1024 .f32) (w : Vec Ideal S1024x1024 .bf16) : k0_pay2 (k0_pay17 x g) w = vT x g w := by
  unfold k0_pay2 vT colT
  simp only [Idealize.ShloMosaic.shapeCast_self, pay17]
theorem pay16 (x : Vec Ideal S256x1024 .f32) (g : Vec Ideal S1x1024 .f32) (w : Vec Ideal S1024x1024 .bf16) : k0_pay16 (k0_pay12 x g) w = vT x g w := by
  unfold k0_pay16 vT colT
  simp only [Idealize.ShloMosaic.shapeCast_self, pay12]
theorem pay11 (x : Vec Ideal S256x1024 .f32) (g : Vec Ideal S1x1024 .f32) (w : Vec Ideal S1024x1024 .bf16) : k0_pay11 (k0_pay8 x g) w = vT x g w := by
  unfold k0_pay11 vT colT
  simp only [Idealize.ShloMosaic.shapeCast_self, pay8]
theorem pay7 (x : Vec Ideal S256x1024 .f32) (g : Vec Ideal S1x1024 .f32) (w : Vec Ideal S1024x1024 .bf16) : k0_pay7 (k0_pay6 x g w) = vT x g w := by
  unfold k0_pay7 k0_pay6 vT colT
  simp only [Idealize.ShloMosaic.shapeCast_self, pay3]

theorem outQ (x0 : Vec Ideal S1024x1024 .f32) (x1 : Vec Ideal S1x1024 .f32) (x2 x3 x4 : Vec Ideal S1024x1024 .bf16) :
    out0_5 x0 x1 x2 x3 x4 = qG x0 x1 x2 := by
  funext y
  unfold out0_5
  rw [ldg, ldw]
  refine View.canon_apply_of_pieces (Val := Elt Ideal) _ _ ?_ y (cover0_5 _ _ _ _ y)
  rw [pay18, pay13, pay9, pay4]
  exact List.forall_mem_cons.2 ⟨fun z => q_piece x0 x1 x2 _ (by decide) (by decide) z, List.forall_mem_cons.2 ⟨fun z => q_piece x0 x1 x2 _ (by decide) (by decide) z,
    List.forall_mem_cons.2 ⟨fun z => q_piece x0 x1 x2 _ (by decide) (by decide) z, List.forall_mem_cons.2 ⟨fun z => q_piece x0 x1 x2 _ (by decide) (by decide) z, List.forall_mem_nil _⟩⟩⟩⟩

theorem outK (x0 : Vec Ideal S1024x1024 .f32) (x1 : Vec Ideal S1x1024 .f32) (x2 x3 x4 : Vec Ideal S1024x1024 .bf16) :
    out0_6 x0 x1 x2 x3 x4 = kG x0 x1 x3 := by
  funext y
  unfold_out out0_6
  rw [ldg, ldw]
  refine View.canon_apply_of_pieces (Val := Elt Ideal) _ _ ?_ y (cover0_6 _ _ _ _ y)
  rw [pay1, pay15, pay10, pay5]
  exact List.forall_mem_cons.2 ⟨fun z => k_piece x0 x1 x3 _ (by decide) (by decide) z, List.forall_mem_cons.2 ⟨fun z => k_piece x0 x1 x3 _ (by decide) (by decide) z,
    List.forall_mem_cons.2 ⟨fun z => k_piece x0 x1 x3 _ (by decide) (by decide) z, List.forall_mem_cons.2 ⟨fun z => k_piece x0 x1 x3 _ (by decide) (by decide) z, List.forall_mem_nil _⟩⟩⟩⟩

theorem outV (x0 : Vec Ideal S1024x1024 .f32) (x1 : Vec Ideal S1x1024 .f32) (x2 x3 x4 : Vec Ideal S1024x1024 .bf16) :
    out0_7 x0 x1 x2 x3 x4 = vG x0 x1 x4 := by
  funext y
  unfold_out out0_7
  rw [ldg, ldw]
  refine View.canon_apply_of_pieces (Val := Elt Ideal) _ _ ?_ y (cover0_7 _ _ _ _ y)
  rw [pay2, pay16, pay11, pay7]
  exact List.forall_mem_cons.2 ⟨fun z => v_piece x0 x1 x4 _ (by decide) (by decide) z, List.forall_mem_cons.2 ⟨fun z => v_piece x0 x1 x4 _ (by decide) (by decide) z,
    List.forall_mem_cons.2 ⟨fun z => v_piece x0 x1 x4 _ (by decide) (by decide) z, List.forall_mem_cons.2 ⟨fun z => v_piece x0 x1 x4 _ (by decide) (by decide) z, List.forall_mem_nil _⟩⟩⟩⟩

end QkvKernel

end
-- ==== Proof.QkvValue.lean ====
module

public import proofs.«01_k».proof.Proof.QkvKernel

/-! The arrays the projection call leaves: queries, keys and values of every row of the argument. -/

@[expose] public section

set_option maxRecDepth 16384

noncomputable section

namespace QkvValue

open Idealize.ShloMosaic Idealize.ShloMosaic.TcCoe Idealize.ShloMosaic.Tactic Cert.Kernel4Ideal Cert.Kernel4Ideal.Gen QkvKernel
open Idealize.ShloMosaic.Pipeline (Dat)

variable (m : (ℓ : Loc nD τ sig) → Buf (Elt Ideal) ℓ)

/-- Where each window's block sits. -/
theorem idx0 : ∀ t : Fin cfg0.N, win0_0.index t (0 : Fin 2) = t.val ∧ win0_0.index t (1 : Fin 2) = 0 ∧ win0_1.index t (0 : Fin 2) = 0 ∧ win0_1.index t (1 : Fin 2) = 0 :=
  (by decide +kernel : ∀ t : Fin grid0.N, _)
theorem idxw : ∀ t : Fin cfg0.N, (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)
theorem idx5 : ∀ t : Fin cfg0.N, win0_5.index t (0 : Fin 3) = t.val / 2 ∧ win0_5.index t (1 : Fin 3) = 0 ∧ win0_5.index t (2 : Fin 3) = t.val % 2 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 3) = t.val / 2 ∧ win0_7.index t (1 : Fin 3) = 0 ∧ win0_7.index t (2 : Fin 3) = t.val % 2 :=
  (by decide +kernel : ∀ t : Fin grid0.N, _)

theorem V_v1 (c : Dev nD) : V m c main_v1 = shapeCast S65536x1024 (m ((c : Thread nD τ).loc main_arg0)) shapeCasts_S32x2048x1024_S65536x1024 := by
  unfold_abbrev_sides
  after_results
  rfl

theorem V_v2 (c : Dev nD) : V m c main_v2 = broadcastInDim S1x1024 ![1] bcast_S1024_S1x1024_1 (m ((c : Thread nD τ).loc main_arg1)) := by
  unfold_abbrev_sides
  after_results

/-- The three parts of the weight, each as a matrix; queries and values take theirs transposed. -/
theorem V_v4 (c : Dev nD) : V m c main_v4 = transpose S1024x1024 [1, 0] (extractStridedSlice S1024x1024 ![0, 0]
    (truncf .bf16 (m ((c : Thread nD τ).loc main_arg2) : FVec Ideal S1024x3072 .f32) bitsLt_bf16_f32 : FVec Ideal S1024x3072 .bf16) slices_S1024x3072_S1024x1024_0_0 : FVec Ideal S1024x1024 .bf16) transposes_S1024x1024_S1024x1024_1_0 := by
  unfold_abbrev_sides
  after_results

theorem V_v5 (c : Dev nD) : V m c main_v5 = extractStridedSlice S1024x1024 ![0, 1024]
    (truncf .bf16 (m ((c : Thread nD τ).loc main_arg2) : FVec Ideal S1024x3072 .f32) bitsLt_bf16_f32 : FVec Ideal S1024x3072 .bf16) slices_S1024x3072_S1024x1024_0_1024 := by
  unfold_abbrev_sides
  after_results

theorem V_v7 (c : Dev nD) : V m c main_v7 = transpose S1024x1024 [1, 0] (extractStridedSlice S1024x1024 ![0, 2048]
    (truncf .bf16 (m ((c : Thread nD τ).loc main_arg2) : FVec Ideal S1024x3072 .f32) bitsLt_bf16_f32 : FVec Ideal S1024x3072 .bf16) slices_S1024x3072_S1024x1024_0_2048 : FVec Ideal S1024x1024 .bf16) transposes_S1024x1024_S1024x1024_1_0 := by
  unfold_abbrev_sides
  after_results

theorem wq_apply (c : Dev nD) (n k : Fin 1024) : (V m c main_v4 : S1024x1024.Idx → EReal) (ix2 n k)
    = m ((c : Thread nD τ).loc main_arg2) (ix2 k (⟨n.val, by omega⟩ : Fin 3072)) := by
  rw [V_v4]
  pointwise

theorem wk_apply (c : Dev nD) (k n : Fin 1024) : (V m c main_v5 : S1024x1024.Idx → EReal) (ix2 k n)
    = m ((c : Thread nD τ).loc main_arg2) (ix2 k (⟨1024 + n.val, by omega⟩ : Fin 3072)) := by
  rw [V_v5]
  pointwise

theorem wv_apply (c : Dev nD) (n k : Fin 1024) : (V m c main_v7 : S1024x1024.Idx → EReal) (ix2 n k)
    = m ((c : Thread nD τ).loc main_arg2) (ix2 k (⟨2048 + n.val, by omega⟩ : Fin 3072)) := by
  rw [V_v7]
  pointwise

theorem blk0 (c : Dev nD) (t : Fin cfg0.N) (p k : Fin 1024) (h : t.val * 1024 + p.val < 65536) :
    (iblk m c 0 t : S1024x1024.Idx → EReal) (ix2 p k) = Rows.row (m ((c : Thread nD τ).loc main_arg0)) ⟨t.val * 1024 + p.val, h⟩ k := by
  have e : (iblk m c 0 t : S1024x1024.Idx → EReal) (ix2 p k) = V m c main_v1 (ix2 ⟨t.val * 1024 + p.val, h⟩ k) := by
    refine congrArg (V m c main_v1) (funext fun a => Fin.ext ?_)
    match a with
    | ⟨0, _⟩ => exact (Pipeline.Window.rect_emb_val win0_0 t (ix2 p k) 0).trans (by rw [(idx0 t).1]; rfl)
    | ⟨1, _⟩ => exact (Pipeline.Window.rect_emb_val_of_index_zero win0_0 t 1 (idx0 t).2.1 (ix2 p k))
  rw [e, V_v1]
  exact Rows.reshape_row _ _ _ _

theorem blk1 (c : Dev nD) (t : Fin cfg0.N) (k : Fin 1024) :
    (iblk m c 1 t : S1x1024.Idx → EReal) (ix2 (0 : Fin 1) k) = m ((c : Thread nD τ).loc main_arg1) (ix1 k) := by
  have e : (iblk m c 1 t : S1x1024.Idx → EReal) (ix2 (0 : Fin 1) k) = V m c main_v2 (ix2 (0 : Fin 1) k) := by
    refine congrArg (V m c main_v2) (funext fun a => Fin.ext ?_)
    match a with
    | ⟨0, _⟩ => exact (Pipeline.Window.rect_emb_val_of_index_zero win0_1 t 0 (idx0 t).2.2.1 (ix2 (0 : Fin 1) k))
    | ⟨1, _⟩ => exact (Pipeline.Window.rect_emb_val_of_index_zero win0_1 t 1 (idx0 t).2.2.2 (ix2 (0 : Fin 1) k))
  rw [e, V_v2]
  pointwise

theorem blk2 (c : Dev nD) (t : Fin cfg0.N) : (iblk m c 2 t : S1024x1024.Idx → EReal) = V m c main_v4 := by
  refine funext fun y => congrArg (V m c main_v4) (funext fun a => Fin.ext ?_)
  match a with
  | ⟨0, _⟩ => exact (Pipeline.Window.rect_emb_val_of_index_zero win0_2 t 0 ((idxw t).1.1) y)
  | ⟨1, _⟩ => exact (Pipeline.Window.rect_emb_val_of_index_zero win0_2 t 1 ((idxw t).1.2) y)

theorem blk3 (c : Dev nD) (t : Fin cfg0.N) : (iblk m c 3 t : S1024x1024.Idx → EReal) = V m c main_v5 := by
  refine funext fun y => congrArg (V m c main_v5) (funext fun a => Fin.ext ?_)
  match a with
  | ⟨0, _⟩ => exact (Pipeline.Window.rect_emb_val_of_index_zero win0_3 t 0 ((idxw t).2.1.1) y)
  | ⟨1, _⟩ => exact (Pipeline.Window.rect_emb_val_of_index_zero win0_3 t 1 ((idxw t).2.1.2) y)

theorem blk4 (c : Dev nD) (t : Fin cfg0.N) : (iblk m c 4 t : S1024x1024.Idx → EReal) = V m c main_v7 := by
  refine funext fun y => congrArg (V m c main_v7) (funext fun a => Fin.ext ?_)
  match a with
  | ⟨0, _⟩ => exact (Pipeline.Window.rect_emb_val_of_index_zero win0_4 t 0 ((idxw t).2.2.1) y)
  | ⟨1, _⟩ => exact (Pipeline.Window.rect_emb_val_of_index_zero win0_4 t 1 ((idxw t).2.2.2) y)

/-- The three results. -/
def resultQ (c : Dev nD) : S32x1024x2048.Idx → EReal :=
  Rows.queries (m ((c : Thread nD τ).loc main_arg0)) (m ((c : Thread nD τ).loc main_arg1)) (m ((c : Thread nD τ).loc main_arg2))
def resultK (c : Dev nD) : S65536x1024.Idx → EReal :=
  Rows.keys (m ((c : Thread nD τ).loc main_arg0)) (m ((c : Thread nD τ).loc main_arg1)) (m ((c : Thread nD τ).loc main_arg2))
def resultV (c : Dev nD) : S32x1024x2048.Idx → EReal :=
  Rows.values (m ((c : Thread nD τ).loc main_arg0)) (m ((c : Thread nD τ).loc main_arg1)) (m ((c : Thread nD τ).loc main_arg2))

/-- The rows of a tile as positions of one sequence. -/
theorem blk0' (c : Dev nD) (t : Fin cfg0.N) (p k : Fin 1024) (hb : t.val / 2 < 32) (hs : t.val % 2 * 1024 + p.val < 2048) :
    (iblk m c 0 t : S1024x1024.Idx → EReal) (ix2 p k) = m ((c : Thread nD τ).loc main_arg0) (ix3 (⟨t.val / 2, hb⟩ : Fin 32) (⟨t.val % 2 * 1024 + p.val, hs⟩ : Fin 2048) k) := by
  refine (blk0 m c t p k (by omega)).trans (congrArg (m ((c : Thread nD τ).loc main_arg0)) ?_)
  refine funext fun a => Fin.ext ?_
  match a with
  | ⟨0, _⟩ => show (t.val * 1024 + p.val) / 2048 = t.val / 2; omega
  | ⟨1, _⟩ => show (t.val * 1024 + p.val) % 2048 = t.val % 2 * 1024 + p.val; omega
  | ⟨2, _⟩ => rfl

theorem flushed5 (c : Dev nD) (t : Fin cfg0.N) :
    (dats m 0 c).flushed 5 t = ((cfg0.win 5).blk t).view.read (Elt Ideal) (resultQ m c) := by
  rw [Value.flushed5, outQ, blk2]
  funext y
  have ht : t.val < 64 := lt_of_lt_of_eq t.isLt N_0
  obtain ⟨n, p, rfl⟩ : ∃ (n p : Fin 1024), y = (ix3 (0 : Fin 1) n p : S1x1024x1024.Idx) := by
    refine ⟨y 1, y 2, funext fun a => ?_⟩
    match a with
    | ⟨0, _⟩ => exact Fin.ext (by have := (y 0).isLt; change (y 0).val < 1 at this; change (y 0).val = 0; omega)
    | ⟨1, _⟩ => rfl
    | ⟨2, _⟩ => rfl
  have hb : t.val / 2 < 32 := by omega
  have hs : t.val % 2 * 1024 + p.val < 2048 := by omega
  have ei : (win0_5.rect t).emb (ix3 (0 : Fin 1) n p : S1x1024x1024.Idx) = (ix3 (⟨t.val / 2, hb⟩ : Fin 32) n (⟨t.val % 2 * 1024 + p.val, hs⟩ : Fin 2048) : S32x1024x2048.Idx) := by
    refine funext fun a => Fin.ext ?_
    match a with
    | ⟨0, _⟩ => exact (Pipeline.Window.rect_emb_val win0_5 t (ix3 (0 : Fin 1) n p : S1x1024x1024.Idx) 0).trans (by rw [(idx5 t).1]; exact Nat.mul_one _)
    | ⟨1, _⟩ => exact Pipeline.Window.rect_emb_val_of_index_zero win0_5 t 1 (idx5 t).2.1 (ix3 (0 : Fin 1) n p : S1x1024x1024.Idx)
    | ⟨2, _⟩ => exact (Pipeline.Window.rect_emb_val win0_5 t (ix3 (0 : Fin 1) n p : S1x1024x1024.Idx) 2).trans (by rw [(idx5 t).2.2]; rfl)
  show qG _ _ _ (ix3 (0 : Fin 1) n p) = resultQ m c ((win0_5.rect t).emb (ix3 (0 : Fin 1) n p : S1x1024x1024.Idx))
  rw [ei]
  have e0 := funext fun k => blk0' m c t p k hb hs
  have e1 := funext (blk1 m c t)
  have ew := fun k => wq_apply m c n k
  have e : vG (iblk m c 0 t) (iblk m c 1 t) (V m c main_v4) (ix3 (0 : Fin 1) n p)
      = Rows.proj (fun k => m ((c : Thread nD τ).loc main_arg0) (ix3 (⟨t.val / 2, hb⟩ : Fin 32) (⟨t.val % 2 * 1024 + p.val, hs⟩ : Fin 2048) k))
        (fun k => m ((c : Thread nD τ).loc main_arg1) (ix1 k)) (m ((c : Thread nD τ).loc main_arg2)) ⟨n.val, by omega⟩ :=
    Finset.sum_congr rfl fun k _ => congrArg₂ (· * ·) (congrArg₂ (fun x g => Rows.rms x g k) e0 e1) (ew k)
  exact congrArg (· * Rows.eighth) e

theorem finalQ (c : Dev nD) : (dats m 0 c).arrAt 5 cfg0.N = resultQ m c :=
  (dats m 0 c).arrAt_eq_of_cover 5 (resultQ m c) (fun t _ => flushed5 m c t) fun i => by
    have h0 : (i 0 : Nat) < 32 := (i 0).isLt
    have h1 : (i 1 : Nat) < 1024 := (i 1).isLt
    have h2 : (i 2 : Nat) < 2048 := (i 2).isLt
    have ht : (i 0 : Nat) * 2 + (i 2 : Nat) / 1024 < cfg0.N := by rw [show cfg0.N = 64 from N_0]; omega
    refine ⟨⟨(i 0 : Nat) * 2 + (i 2 : Nat) / 1024, ht⟩, flush0_5 _, ?_⟩
    show i ∈ ((View.whole main_v8_0).slice (win0_5.rect ⟨(i 0 : Nat) * 2 + (i 2 : Nat) / 1024, ht⟩)).set
    rw [View.set_slice_whole, Rect.mem_set_unit]
    intro a
    match a with
    | ⟨0, _⟩ =>
      show win0_5.index _ (0 : Fin 3) * 1 ≤ (i 0 : Nat) ∧ (i 0 : Nat) < win0_5.index _ (0 : Fin 3) * 1 + 1
      rw [(idx5 _).1]; dsimp only; omega
    | ⟨1, _⟩ =>
      show win0_5.index _ (1 : Fin 3) * 1024 ≤ (i 1 : Nat) ∧ (i 1 : Nat) < win0_5.index _ (1 : Fin 3) * 1024 + 1024
      rw [(idx5 _).2.1]; omega
    | ⟨2, _⟩ =>
      show win0_5.index _ (2 : Fin 3) * 1024 ≤ (i 2 : Nat) ∧ (i 2 : Nat) < win0_5.index _ (2 : Fin 3) * 1024 + 1024
      rw [(idx5 _).2.2]; dsimp only; omega

theorem flushed7 (c : Dev nD) (t : Fin cfg0.N) :
    (dats m 0 c).flushed 7 t = ((cfg0.win 7).blk t).view.read (Elt Ideal) (resultV m c) := by
  rw [Value.flushed7, outV, blk4]
  funext y
  have ht : t.val < 64 := lt_of_lt_of_eq t.isLt N_0
  obtain ⟨n, p, rfl⟩ : ∃ (n p : Fin 1024), y = (ix3 (0 : Fin 1) n p : S1x1024x1024.Idx) := by
    refine ⟨y 1, y 2, funext fun a => ?_⟩
    match a with
    | ⟨0, _⟩ => exact Fin.ext (by have := (y 0).isLt; change (y 0).val < 1 at this; change (y 0).val = 0; omega)
    | ⟨1, _⟩ => rfl
    | ⟨2, _⟩ => rfl
  have hb : t.val / 2 < 32 := by omega
  have hs : t.val % 2 * 1024 + p.val < 2048 := by omega
  have ei : (win0_7.rect t).emb (ix3 (0 : Fin 1) n p : S1x1024x1024.Idx) = (ix3 (⟨t.val / 2, hb⟩ : Fin 32) n (⟨t.val % 2 * 1024 + p.val, hs⟩ : Fin 2048) : S32x1024x2048.Idx) := by
    refine funext fun a => Fin.ext ?_
    match a with
    | ⟨0, _⟩ => exact (Pipeline.Window.rect_emb_val win0_7 t (ix3 (0 : Fin 1) n p : S1x1024x1024.Idx) 0).trans (by rw [(idx7 t).1]; exact Nat.mul_one _)
    | ⟨1, _⟩ => exact Pipeline.Window.rect_emb_val_of_index_zero win0_7 t 1 (idx7 t).2.1 (ix3 (0 : Fin 1) n p : S1x1024x1024.Idx)
    | ⟨2, _⟩ => exact (Pipeline.Window.rect_emb_val win0_7 t (ix3 (0 : Fin 1) n p : S1x1024x1024.Idx) 2).trans (by rw [(idx7 t).2.2]; rfl)
  show vG _ _ _ (ix3 (0 : Fin 1) n p) = resultV m c ((win0_7.rect t).emb (ix3 (0 : Fin 1) n p : S1x1024x1024.Idx))
  rw [ei]
  have e0 := funext fun k => blk0' m c t p k hb hs
  have e1 := funext (blk1 m c t)
  have ew := fun k => wv_apply m c n k
  have e : vG (iblk m c 0 t) (iblk m c 1 t) (V m c main_v7) (ix3 (0 : Fin 1) n p)
      = Rows.proj (fun k => m ((c : Thread nD τ).loc main_arg0) (ix3 (⟨t.val / 2, hb⟩ : Fin 32) (⟨t.val % 2 * 1024 + p.val, hs⟩ : Fin 2048) k))
        (fun k => m ((c : Thread nD τ).loc main_arg1) (ix1 k)) (m ((c : Thread nD τ).loc main_arg2)) ⟨2048 + n.val, by omega⟩ :=
    Finset.sum_congr rfl fun k _ => congrArg₂ (· * ·) (congrArg₂ (fun x g => Rows.rms x g k) e0 e1) (ew k)
  exact e

theorem finalV (c : Dev nD) : (dats m 0 c).arrAt 7 cfg0.N = resultV m c :=
  (dats m 0 c).arrAt_eq_of_cover 7 (resultV m c) (fun t _ => flushed7 m c t) fun i => by
    have h0 : (i 0 : Nat) < 32 := (i 0).isLt
    have h1 : (i 1 : Nat) < 1024 := (i 1).isLt
    have h2 : (i 2 : Nat) < 2048 := (i 2).isLt
    have ht : (i 0 : Nat) * 2 + (i 2 : Nat) / 1024 < cfg0.N := by rw [show cfg0.N = 64 from N_0]; omega
    refine ⟨⟨(i 0 : Nat) * 2 + (i 2 : Nat) / 1024, ht⟩, flush0_7 _, ?_⟩
    show i ∈ ((View.whole main_v8_2).slice (win0_7.rect ⟨(i 0 : Nat) * 2 + (i 2 : Nat) / 1024, ht⟩)).set
    rw [View.set_slice_whole, Rect.mem_set_unit]
    intro a
    match a with
    | ⟨0, _⟩ =>
      show win0_7.index _ (0 : Fin 3) * 1 ≤ (i 0 : Nat) ∧ (i 0 : Nat) < win0_7.index _ (0 : Fin 3) * 1 + 1
      rw [(idx7 _).1]; dsimp only; omega
    | ⟨1, _⟩ =>
      show win0_7.index _ (1 : Fin 3) * 1024 ≤ (i 1 : Nat) ∧ (i 1 : Nat) < win0_7.index _ (1 : Fin 3) * 1024 + 1024
      rw [(idx7 _).2.1]; omega
    | ⟨2, _⟩ =>
      show win0_7.index _ (2 : Fin 3) * 1024 ≤ (i 2 : Nat) ∧ (i 2 : Nat) < win0_7.index _ (2 : Fin 3) * 1024 + 1024
      rw [(idx7 _).2.2]; dsimp only; omega

theorem flushed6 (c : Dev nD) (t : Fin cfg0.N) :
    (dats m 0 c).flushed 6 t = ((cfg0.win 6).blk t).view.read (Elt Ideal) (resultK m c) := by
  rw [Value.flushed6, outK, blk3]
  funext y
  have ht : t.val < 64 := lt_of_lt_of_eq t.isLt N_0
  obtain ⟨p, n, rfl⟩ : ∃ (p n : Fin 1024), y = (ix2 p n : S1024x1024.Idx) := ⟨y 0, y 1, ValueIdx.eq_ix2 y⟩
  have hr : t.val * 1024 + p.val < 65536 := by omega
  have ei : (win0_6.rect t).emb (ix2 p n : S1024x1024.Idx) = (ix2 (⟨t.val * 1024 + p.val, hr⟩ : Fin 65536) n : S65536x1024.Idx) := by
    refine funext fun a => Fin.ext ?_
    match a with
    | ⟨0, _⟩ => exact (Pipeline.Window.rect_emb_val win0_6 t (ix2 p n : S1024x1024.Idx) 0).trans (by rw [(idx6 t).1]; rfl)
    | ⟨1, _⟩ => exact Pipeline.Window.rect_emb_val_of_index_zero win0_6 t 1 (idx6 t).2 (ix2 p n : S1024x1024.Idx)
  show kG _ _ _ (ix2 p n) = resultK m c ((win0_6.rect t).emb (ix2 p n : S1024x1024.Idx))
  rw [ei]
  have e0 := funext fun k => blk0 m c t p k hr
  have e1 := funext (blk1 m c t)
  exact Finset.sum_congr rfl fun k _ => congrArg₂ (· * ·) (congrArg₂ (fun x g => Rows.rms x g k) e0 e1) (wk_apply m c k n)

theorem finalK (c : Dev nD) : (dats m 0 c).arrAt 6 cfg0.N = resultK m c :=
  (dats m 0 c).arrAt_eq_of_cover 6 (resultK m c) (fun t _ => flushed6 m c t) fun i => by
    have h0 : (i 0 : Nat) < 65536 := (i 0).isLt
    have h1 : (i 1 : Nat) < 1024 := (i 1).isLt
    have ht : (i 0 : Nat) / 1024 < cfg0.N := by rw [show cfg0.N = 64 from N_0]; omega
    refine ⟨⟨(i 0 : Nat) / 1024, ht⟩, flush0_6 _, ?_⟩
    show i ∈ ((View.whole main_v8_1).slice (win0_6.rect ⟨(i 0 : Nat) / 1024, ht⟩)).set
    rw [View.set_slice_whole, Rect.mem_set_unit]
    intro a
    match a with
    | ⟨0, _⟩ =>
      show win0_6.index _ (0 : Fin 2) * 1024 ≤ (i 0 : Nat) ∧ (i 0 : Nat) < win0_6.index _ (0 : Fin 2) * 1024 + 1024
      rw [(idx6 _).1]; dsimp only; omega
    | ⟨1, _⟩ =>
      show win0_6.index _ (1 : Fin 2) * 1024 ≤ (i 1 : Nat) ∧ (i 1 : Nat) < win0_6.index _ (1 : Fin 2) * 1024 + 1024
      rw [(idx6 _).2]; omega

end QkvValue

end
-- ==== Proof.QkvRef.lean ====
module

public import proofs.«01_k».proof.Proof.Rows
public import proofs.«01_k».proof.Proof.Gen.Reference4Ideal.Read

/-! What the reference of the projection to queries, keys and values computes. -/

@[expose] public section

set_option maxRecDepth 16384

noncomputable section

namespace QkvRef

open Idealize.ShloMosaic Cert.Reference4Ideal Cert.Reference4Ideal.Read

variable (x0 : (⟨S32x2048x1024, .f32⟩ : BufTy).Contents (Elt Ideal)) (x1 : (⟨S1024, .f32⟩ : BufTy).Contents (Elt Ideal))
  (x2 : (⟨S1024x3072, .f32⟩ : BufTy).Contents (Elt Ideal))

theorem i8 (b : Fin 32) (s : Fin 2048) (k : Fin 1024) : idx_main_v8 (ix3 b s k) = ix3 b s (0 : Fin 1) := by
  funext a; fin_cases a <;> rfl
theorem i2 (b : Fin 32) (s : Fin 2048) : idx_main_v2 (ix3 b s (0 : Fin 1)) = ix2 b s := by
  funext a; fin_cases a <;> rfl
theorem i1 (b : Fin 32) (s : Fin 2048) (k : Fin 1024) : idx_main_v1 (ix2 b s) k = ix3 b s k := by
  funext a; fin_cases a <;> rfl
theorem i11 (b : Fin 32) (s : Fin 2048) (k : Fin 1024) : idx_main_v11 (ix3 b s k) = ix3 (0 : Fin 1) (0 : Fin 1) k := by
  funext a; fin_cases a <;> rfl
theorem i10 (k : Fin 1024) : idx_main_v10 (ix3 (0 : Fin 1) (0 : Fin 1) k) = ix1 k := by
  funext a; fin_cases a <;> rfl

theorem v12_apply (b : Fin 32) (s : Fin 2048) (k : Fin 1024) :
    val_main_v12 (F := Ideal) x0 x1 (ix3 b s k) = Rows.rms (fun k => x0 (ix3 b s k)) (fun k => x1 (ix1 k)) k := by
  simp only [val_main_v12_apply, val_main_v9_apply, val_main_v8_apply, i8, val_main_v7_apply, val_main_v6_apply, val_main_v4_apply,
    val_main_v2_apply, i2, val_main_v1_apply, i1, val_main_v0_apply, val_main_v3_apply, val_main_v5_apply, val_main_cst_apply,
    val_main_cst_0_apply, val_main_cst_1_apply, val_main_v11_apply, i11, val_main_v10_apply, i10]
  rw [Rows.zero_bits_add]
  rfl

theorem l13 (b : Fin 32) (s : Fin 2048) (c : Fin 3072) (k : Fin 1024) : lidx_main_v13 (ix3 b s c) k = ix3 b s k := by
  funext a; fin_cases a <;> rfl
theorem r13 (b : Fin 32) (s : Fin 2048) (c : Fin 3072) (k : Fin 1024) : ridx_main_v13 (ix3 b s c) k = ix2 k c := by
  funext a; fin_cases a <;> rfl

/-- The projection laid out as three parts. -/
theorem i14 (b : Fin 32) (s : Fin 2048) (j : Fin 3) (n : Fin 1024) :
    idx_main_v14 (ix4 b s j n) = ix3 b s (⟨j.val * 1024 + n.val, by omega⟩ : Fin 3072) := by
  refine funext fun a => Fin.ext ?_
  match a with
  | ⟨0, _⟩ => show (((b.val * 2048 + s.val) * 3 + j.val) * 1024 + n.val) / 6291456 = b.val; omega
  | ⟨1, _⟩ => show (((b.val * 2048 + s.val) * 3 + j.val) * 1024 + n.val) / 3072 % 2048 = s.val; omega
  | ⟨2, _⟩ => show (((b.val * 2048 + s.val) * 3 + j.val) * 1024 + n.val) % 3072 = j.val * 1024 + n.val; omega

theorem v14_apply (b : Fin 32) (s : Fin 2048) (j : Fin 3) (n : Fin 1024) :
    val_main_v14 (F := Ideal) x0 x1 x2 (ix4 b s j n)
      = Rows.proj (fun k => x0 (ix3 b s k)) (fun k => x1 (ix1 k)) x2 ⟨j.val * 1024 + n.val, by omega⟩ := by
  simp only [val_main_v14_apply, i14, val_main_v13_apply, l13, r13, v12_apply]
  rfl

theorem i16 (b : Fin 32) (s : Fin 2048) (n : Fin 1024) : idx_main_v16 (ix3 b s n) = ix4 b s (0 : Fin 1) n := by
  refine funext fun a => Fin.ext ?_
  match a with
  | ⟨0, _⟩ => show ((b.val * 2048 + s.val) * 1024 + n.val) / 2097152 = b.val; omega
  | ⟨1, _⟩ => show ((b.val * 2048 + s.val) * 1024 + n.val) / 1024 % 2048 = s.val; omega
  | ⟨2, _⟩ => rfl
  | ⟨3, _⟩ => show ((b.val * 2048 + s.val) * 1024 + n.val) % 1024 = n.val; omega
theorem i21 (b : Fin 32) (s : Fin 2048) (n : Fin 1024) : idx_main_v21 (ix3 b s n) = ix4 b s (0 : Fin 1) n := by
  refine funext fun a => Fin.ext ?_
  match a with
  | ⟨0, _⟩ => show ((b.val * 2048 + s.val) * 1024 + n.val) / 2097152 = b.val; omega
  | ⟨1, _⟩ => show ((b.val * 2048 + s.val) * 1024 + n.val) / 1024 % 2048 = s.val; omega
  | ⟨2, _⟩ => rfl
  | ⟨3, _⟩ => show ((b.val * 2048 + s.val) * 1024 + n.val) % 1024 = n.val; omega
theorem i24 (b : Fin 32) (s : Fin 2048) (n : Fin 1024) : idx_main_v24 (ix3 b s n) = ix4 b s (0 : Fin 1) n := by
  refine funext fun a => Fin.ext ?_
  match a with
  | ⟨0, _⟩ => show ((b.val * 2048 + s.val) * 1024 + n.val) / 2097152 = b.val; omega
  | ⟨1, _⟩ => show ((b.val * 2048 + s.val) * 1024 + n.val) / 1024 % 2048 = s.val; omega
  | ⟨2, _⟩ => rfl
  | ⟨3, _⟩ => show ((b.val * 2048 + s.val) * 1024 + n.val) % 1024 = n.val; omega
theorem i15 (b : Fin 32) (s : Fin 2048) (n : Fin 1024) : idx_main_v15 (ix4 b s (0 : Fin 1) n) = ix4 b s (0 : Fin 3) n := by
  funext a; fin_cases a <;> rfl
theorem i20 (b : Fin 32) (s : Fin 2048) (n : Fin 1024) : idx_main_v20 (ix4 b s (0 : Fin 1) n) = ix4 b s (1 : Fin 3) n := by
  funext a; fin_cases a <;> rfl
theorem i23 (b : Fin 32) (s : Fin 2048) (n : Fin 1024) : idx_main_v23 (ix4 b s (0 : Fin 1) n) = ix4 b s (2 : Fin 3) n := by
  funext a; fin_cases a <;> rfl

theorem i19 (b : Fin 32) (n : Fin 1024) (s : Fin 2048) : idx_main_v19 (ix3 b n s) = ix3 b s n := by
  funext a; fin_cases a <;> rfl
theorem i25 (b : Fin 32) (n : Fin 1024) (s : Fin 2048) : idx_main_v25 (ix3 b n s) = ix3 b s n := by
  funext a; fin_cases a <;> rfl
theorem i22 (r : Fin 65536) (n : Fin 1024) : idx_main_v22 (ix2 r n)
    = ix3 (⟨r.val / 2048, by omega⟩ : Fin 32) (⟨r.val % 2048, by omega⟩ : Fin 2048) n := by
  refine funext fun a => Fin.ext ?_
  match a with
  | ⟨0, _⟩ => show (r.val * 1024 + n.val) / 2097152 = r.val / 2048; omega
  | ⟨1, _⟩ => show (r.val * 1024 + n.val) / 1024 % 2048 = r.val % 2048; omega
  | ⟨2, _⟩ => show (r.val * 1024 + n.val) % 1024 = n.val; omega

/-- The reference's three results. -/
theorem q_eq : val_main_v26 (F := Ideal) x0 x1 x2 = Rows.queries x0 x1 x2 := by
  funext i
  obtain ⟨b, n, s, rfl⟩ : ∃ (b : Fin 32) (n : Fin 1024) (s : Fin 2048), i = ix3 b n s := ⟨i 0, i 1, i 2, ValueIdx.eq_ix3 i⟩
  rw [val_main_v26_apply, val_main_v19_apply, i19, val_main_v18_apply, val_main_v17_apply, val_main_cst_2_apply, val_main_v16_apply, i16,
    val_main_v15_apply, i15, v14_apply]
  refine congrArg (fun n => Rows.proj _ _ x2 n * Rows.eighth) (Fin.ext ?_)
  show 0 * 1024 + n.val = n.val
  omega

theorem k_eq : val_main_v27 (F := Ideal) x0 x1 x2 = Rows.keys x0 x1 x2 := by
  funext i
  obtain ⟨r, n, rfl⟩ : ∃ (r : Fin 65536) (n : Fin 1024), i = ix2 r n := ⟨i 0, i 1, ValueIdx.eq_ix2 i⟩
  rw [val_main_v27_apply, val_main_v22_apply, i22, val_main_v21_apply, i21, val_main_v20_apply, i20, v14_apply]
  refine congrArg (fun n => Rows.proj _ _ x2 n) (Fin.ext ?_)
  show 1 * 1024 + n.val = 1024 + n.val
  omega

theorem v_eq : val_main_v28 (F := Ideal) x0 x1 x2 = Rows.values x0 x1 x2 := by
  funext i
  obtain ⟨b, n, s, rfl⟩ : ∃ (b : Fin 32) (n : Fin 1024) (s : Fin 2048), i = ix3 b n s := ⟨i 0, i 1, i 2, ValueIdx.eq_ix3 i⟩
  rw [val_main_v28_apply, val_main_v25_apply, i25, val_main_v24_apply, i24, val_main_v23_apply, i23, v14_apply]
  refine congrArg (fun n => Rows.proj _ _ x2 n) (Fin.ext ?_)
  show 2 * 1024 + n.val = 2048 + n.val
  omega

end QkvRef

end
-- ==== Proof.MixKernel.lean ====
module

public import proofs.«01_k».proof.Proof.FfnBlock
public import proofs.«01_k».proof.Proof.Gen.Kernel5Ideal.Value

/-! What a point of the fused call leaves in its output tile: the attention's output projected,
    normalised and added to the rows, then the feed-forward half layer on the sum. -/

@[expose] public section

set_option maxRecDepth 16384

noncomputable section

namespace MixKernel

open Idealize.ShloMosaic Cert.Kernel5Ideal Cert.Kernel5Ideal.Gen FfnBlock

variable (m : (ℓ : Loc nD τ sig) → Buf (Elt Ideal) ℓ)

/-- 256 rows with the projected attention output added. -/
def mixT (x : FVec Ideal S256x1024 .f32) (o : FVec Ideal S256x1024 .bf16) (w : FVec Ideal S1024x1024 .bf16) (g : Vec Ideal S1x1024 .f32) :
    FVec Ideal S256x1024 .f32 :=
  addf x (rmsT (matmul dot_S256x1024_S1024x1024_S256x1024_1_0_0_1_n_n none o w (constant S256x1024 .f32 0x00000000#32)) g)

theorem mixT_apply (x : FVec Ideal S256x1024 .f32) (o : FVec Ideal S256x1024 .bf16) (w : FVec Ideal S1024x1024 .bf16) (g : Vec Ideal S1x1024 .f32)
    (p : Fin 256) (q : Fin 1024) :
    mixT x o w g (ix2 p q) = Rows.mix (fun k => x (ix2 p k)) (fun k => o (ix2 p k)) (fun k => g (ix2 (0 : Fin 1) k)) (fun j n => w (ix2 j n)) q := by
  unfold mixT Rows.mix
  show _ + rmsT _ _ _ = _
  rw [rmsT_apply]
  pointwise [dot_S256x1024_S1024x1024_S256x1024_1_0_0_1_n_n]

/-- The tile of rows with the attention output added. -/
def mixG (x o : S1024x1024.Idx → EReal) (g : S1x1024.Idx → EReal) (w : S1024x1024.Idx → EReal) : S1024x1024.Idx → EReal :=
  fun y => Rows.mix (fun k => x (ix2 (y 0) k)) (fun k => o (ix2 (y 0) k)) (fun k => g (ix2 (0 : Fin 1) k)) (fun j n => w (ix2 j n)) (y 1)

/-- The rows that a step works on are the tile's. -/
theorem rows_of (x : Vec Ideal S1024x1024 .f32) (o : Vec Ideal S1024x1024 .bf16) (g : Vec Ideal S1x1024 .f32) (w : Vec Ideal S1024x1024 .bf16)
    (g' : Vec Ideal S1x1024 .f32) (w' : Vec Ideal S1024x1024 .bf16) (hg : g' = g) (hw : w' = w) (r : ℕ)
    (h : ∀ a, (![r, 0] : Fin 2 → Nat) a + (![256, 1024] : Fin 2 → Nat) a ≤ S1024x1024.size a)
    (h' : ∀ a, (![r, 0] : Fin 2 → Nat) a + (![256, 1024] : Fin 2 → Nat) a ≤ S1024x1024.size a)
    (p : Fin 256) (k : Fin 1024) (hp : r + p.val < 1024) :
    k0_pay2 (F := Ideal) (View.ld (Val := Elt Ideal) (e' := .f32) x (Rect.unit (s := S1024x1024) ![r, 0] ![256, 1024] h))
      (View.ld (Val := Elt Ideal) (e' := .bf16) o (Rect.unit (s := S1024x1024) ![r, 0] ![256, 1024] h')) w' g' (ix2 p k)
      = mixG x o g w (ix2 ⟨r + p.val, hp⟩ k) := by
  subst hg hw
  have e : k0_pay2 (F := Ideal) (View.ld (Val := Elt Ideal) (e' := .f32) x (Rect.unit (s := S1024x1024) ![r, 0] ![256, 1024] h))
      (View.ld (Val := Elt Ideal) (e' := .bf16) o (Rect.unit (s := S1024x1024) ![r, 0] ![256, 1024] h')) w' g'
    = mixT (View.ld (Val := Elt Ideal) (e' := .f32) x (Rect.unit (s := S1024x1024) ![r, 0] ![256, 1024] h))
      (View.ld (Val := Elt Ideal) (e' := .bf16) o (Rect.unit (s := S1024x1024) ![r, 0] ![256, 1024] h')) w' g' := by
    unfold k0_pay2 mixT rmsT
    simp only [Idealize.ShloMosaic.shapeCast_self]
  rw [e, mixT_apply]
  unfold mixG
  refine Rows.mix_congr (funext fun k => ld_rows x r h p k hp) (funext fun k => ?_) rfl _ k
  exact ld_rows o r h' p k hp

/-- A point's output tile. -/
theorem outs_eq (c : Dev nD) (t : Fin cfg0.N) :
    outsAt0 m c t = outG (mixG (iblk m c 0 t) (iblk m c 1 t) (iblk m c 2 t) (iblk m c 3 t)) (iblk m c 4 t) (iblk m c 5 t)
      (iblk m c 6 t) (iblk m c 7 t) (iblk m c 8 t) := by
  unfold outsAt0 out0_A_9
  rw [View.read_writes_eq_canon _ _ _ (cover0_A_9 c _ _ _ _ _ _ _ _ _ _ _ _ _ _ _ _ _ _ _ _ _ _ _ _ _ _ _ _ _ _ _ _)]
  funext y
  refine View.canon_apply_of_pieces (Val := Elt Ideal) _ _ ?_ y (cover0_A_9 c _ _ _ _ _ _ _ _ _ _ _ _ _ _ _ _ _ _ _ _ _ _ _ _ _ _ _ _ _ _ _ _ y)
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread]
  have hz : ∀ (x : Vec Ideal S1x1024 .f32), View.ld (Val := Elt Ideal) (e' := .f32) x (Rect.unit (s := S1x1024) ![0, 0] ![1, 1024] inb_S1x1024_S1x1024_0_0) = x :=
    fun x => View.ld_unit_zero (by funext a; fin_cases a <;> rfl) _ _
  have hzd : ∀ (x : Vec Ideal S2816x1024 .bf16), View.ld (Val := Elt Ideal) (e' := .bf16) x (Rect.unit (s := S2816x1024) ![0, 0] ![2816, 1024] inb_S2816x1024_S2816x1024_0_0) = x :=
    fun x => View.ld_unit_zero (by funext a; fin_cases a <;> rfl) _ _
  have hzo : ∀ (x : Vec Ideal S1024x1024 .bf16), View.ld (Val := Elt Ideal) (e' := .bf16) x (Rect.unit (s := S1024x1024) ![0, 0] ![1024, 1024] inb_S1024x1024_S1024x1024_0_0) = x :=
    fun x => View.ld_unit_zero (by funext a; fin_cases a <;> rfl) _ _
  refine List.forall_mem_cons.2 ⟨?_, List.forall_mem_cons.2 ⟨?_, List.forall_mem_cons.2 ⟨?_, List.forall_mem_cons.2 ⟨?_, List.forall_mem_nil _⟩⟩⟩⟩
  all_goals
    refine fun z => out_piece _ (mixG x0 x1 x2 x3) x4 x5 x6 x7 x8 _ _ _ _ (rows_of x0 x1 x2 x3 _ _ (hz x2) (hzo x3) _ (by decide) (by decide)) (hz x5) (hzd x8) _ ?_ (by decide) rfl (by decide) z
    repeat' refine List.forall_mem_cons.2 ⟨fun z => act_piece (mixG x0 x1 x2 x3) x4 x6 x7 _ _ _ _ (rows_of x0 x1 x2 x3 _ _ (hz x2) (hzo x3) _ (by decide) (by decide)) (hz x4) (by decide) (by decide) z, ?_⟩
    exact List.forall_mem_nil _

end MixKernel

end
-- ==== Proof.MixValue.lean ====
module

public import proofs.«01_k».proof.Proof.MixKernel

/-! The array that the fused call returns. -/

@[expose] public section

set_option maxRecDepth 16384

noncomputable section

namespace MixValue

open Idealize.ShloMosaic Idealize.ShloMosaic.TcCoe Idealize.ShloMosaic.Tactic Cert.Kernel5Ideal Cert.Kernel5Ideal.Gen FfnBlock MixKernel
open Idealize.ShloMosaic.Pipeline (Dat)

variable (m : (ℓ : Loc nD τ sig) → Buf (Elt Ideal) ℓ)

/-- The windows that move with the point sit at its tile of rows. -/
theorem idx_moving : ∀ t : Fin cfg0.N,
    win0_0.index t (0 : Fin 2) = t.val ∧ win0_0.index t (1 : Fin 2) = 0 ∧ win0_1.index t (0 : Fin 2) = t.val ∧ win0_1.index t (1 : Fin 2) = 0
    ∧ win0_9.index t (0 : Fin 2) = t.val ∧ win0_9.index t (1 : Fin 2) = 0 :=
  (by decide +kernel : ∀ t : Fin grid0.N, _)

/-- The others stay. -/
theorem idx_fixed : ∀ t : Fin cfg0.N, ∀ a : Fin 2,
    win0_2.index t a = 0 ∧ win0_3.index t a = 0 ∧ win0_4.index t a = 0 ∧ win0_5.index t a = 0 ∧ win0_6.index t a = 0
    ∧ win0_7.index t a = 0 ∧ win0_8.index t a = 0 :=
  (by decide +kernel : ∀ t : Fin grid0.N, ∀ a : Fin 2, _)

theorem V_v4 (c : Dev nD) : V m c main_v4 = shapeCast S65536x1024 (m ((c : Thread nD τ).loc main_arg0)) shapeCasts_S32x2048x1024_S65536x1024 := by
  unfold_abbrev_sides
  after_results
  rfl

theorem V_v1 (c : Dev nD) : (V m c main_v1 : S65536x1024.Idx → EReal)
    = shapeCast S65536x1024 (m ((c : Thread nD τ).loc main_arg1) : Vec Ideal S32x2048x1024 .f32) shapeCasts_S32x2048x1024_S65536x1024 := by
  unfold_abbrev_sides
  after_results
  rfl

theorem V_v2 (c : Dev nD) : V m c main_v2 = broadcastInDim S1x1024 ![1] bcast_S1024_S1x1024_1 (m ((c : Thread nD τ).loc main_arg2)) := by
  unfold_abbrev_sides
  after_results

theorem V_v3 (c : Dev nD) : V m c main_v3 = (m ((c : Thread nD τ).loc main_arg3) : S1024x1024.Idx → EReal) := by
  unfold_abbrev_sides
  after_results
  rfl

theorem V_v5 (c : Dev nD) : V m c main_v5 = broadcastInDim S1x1024 ![1] bcast_S1024_S1x1024_1 (m ((c : Thread nD τ).loc main_arg4)) := by
  unfold_abbrev_sides
  after_results

theorem V_v6 (c : Dev nD) : V m c main_v6 = broadcastInDim S1x1024 ![1] bcast_S1024_S1x1024_1 (m ((c : Thread nD τ).loc main_arg5)) := by
  unfold_abbrev_sides
  after_results

theorem V_v7 (c : Dev nD) : V m c main_v7 = (m ((c : Thread nD τ).loc main_arg6) : S1024x2816.Idx → EReal) := by
  unfold_abbrev_sides
  after_results
  rfl

theorem V_v8 (c : Dev nD) : V m c main_v8 = (m ((c : Thread nD τ).loc main_arg7) : S1024x2816.Idx → EReal) := by
  unfold_abbrev_sides
  after_results
  rfl

theorem V_v9 (c : Dev nD) : V m c main_v9 = (m ((c : Thread nD τ).loc main_arg8) : S2816x1024.Idx → EReal) := by
  unfold_abbrev_sides
  after_results
  rfl

theorem blk0 (c : Dev nD) (t : Fin cfg0.N) (p k : Fin 1024) (h : t.val * 1024 + p.val < 65536) :
    (iblk m c 0 t : S1024x1024.Idx → EReal) (ix2 p k) = Rows.row (m ((c : Thread nD τ).loc main_arg0)) ⟨t.val * 1024 + p.val, h⟩ k := by
  have e : (iblk m c 0 t : S1024x1024.Idx → EReal) (ix2 p k) = V m c main_v4 (ix2 ⟨t.val * 1024 + p.val, h⟩ k) := by
    refine congrArg (V m c main_v4) (funext fun a => Fin.ext ?_)
    match a with
    | ⟨0, _⟩ => exact (Pipeline.Window.rect_emb_val win0_0 t (ix2 p k) 0).trans (by rw [(idx_moving t).1]; rfl)
    | ⟨1, _⟩ => exact Pipeline.Window.rect_emb_val_of_index_zero win0_0 t 1 (idx_moving t).2.1 (ix2 p k)
  refine e.trans ((congrFun (V_v4 m c) _).trans ?_)
  exact Rows.reshape_row _ _ _ _

theorem blk1 (c : Dev nD) (t : Fin cfg0.N) (p k : Fin 1024) (h : t.val * 1024 + p.val < 65536) :
    (iblk m c 1 t : S1024x1024.Idx → EReal) (ix2 p k) = Rows.row (m ((c : Thread nD τ).loc main_arg1)) ⟨t.val * 1024 + p.val, h⟩ k := by
  have e : (iblk m c 1 t : S1024x1024.Idx → EReal) (ix2 p k) = V m c main_v1 (ix2 ⟨t.val * 1024 + p.val, h⟩ k) := by
    refine congrArg (V m c main_v1) (funext fun a => Fin.ext ?_)
    match a with
    | ⟨0, _⟩ => exact (Pipeline.Window.rect_emb_val win0_1 t (ix2 p k) 0).trans (by rw [(idx_moving t).2.2.1]; rfl)
    | ⟨1, _⟩ => exact Pipeline.Window.rect_emb_val_of_index_zero win0_1 t 1 (idx_moving t).2.2.2.1 (ix2 p k)
  refine e.trans ((congrFun (V_v1 m c) _).trans ?_)
  exact Rows.reshape_row _ _ _ _

theorem blk2 (c : Dev nD) (t : Fin cfg0.N) (k : Fin 1024) :
    (iblk m c 2 t : S1x1024.Idx → EReal) (ix2 (0 : Fin 1) k) = m ((c : Thread nD τ).loc main_arg2) (ix1 k) := by
  have e : (iblk m c 2 t : S1x1024.Idx → EReal) (ix2 (0 : Fin 1) k) = V m c main_v2 (ix2 (0 : Fin 1) k) :=
    congrArg (V m c main_v2) (funext fun a => Fin.ext
      (Pipeline.Window.rect_emb_val_of_index_zero win0_2 t a (idx_fixed t a).1 (ix2 (0 : Fin 1) k)))
  rw [e, V_v2]
  pointwise
  try rfl

theorem blk3 (c : Dev nD) (t : Fin cfg0.N) : (iblk m c 3 t : S1024x1024.Idx → EReal) = m ((c : Thread nD τ).loc main_arg3) :=
  Eq.trans (funext fun y => congrArg (V m c main_v3) (funext fun a => Fin.ext
    (Pipeline.Window.rect_emb_val_of_index_zero win0_3 t a (idx_fixed t a).2.1 y))) (V_v3 m c)

theorem blk4 (c : Dev nD) (t : Fin cfg0.N) (k : Fin 1024) :
    (iblk m c 4 t : S1x1024.Idx → EReal) (ix2 (0 : Fin 1) k) = m ((c : Thread nD τ).loc main_arg4) (ix1 k) := by
  have e : (iblk m c 4 t : S1x1024.Idx → EReal) (ix2 (0 : Fin 1) k) = V m c main_v5 (ix2 (0 : Fin 1) k) :=
    congrArg (V m c main_v5) (funext fun a => Fin.ext
      (Pipeline.Window.rect_emb_val_of_index_zero win0_4 t a (idx_fixed t a).2.2.1 (ix2 (0 : Fin 1) k)))
  rw [e, V_v5]
  pointwise
  try rfl

theorem blk5 (c : Dev nD) (t : Fin cfg0.N) (k : Fin 1024) :
    (iblk m c 5 t : S1x1024.Idx → EReal) (ix2 (0 : Fin 1) k) = m ((c : Thread nD τ).loc main_arg5) (ix1 k) := by
  have e : (iblk m c 5 t : S1x1024.Idx → EReal) (ix2 (0 : Fin 1) k) = V m c main_v6 (ix2 (0 : Fin 1) k) :=
    congrArg (V m c main_v6) (funext fun a => Fin.ext
      (Pipeline.Window.rect_emb_val_of_index_zero win0_5 t a (idx_fixed t a).2.2.2.1 (ix2 (0 : Fin 1) k)))
  rw [e, V_v6]
  pointwise
  try rfl

theorem blk6 (c : Dev nD) (t : Fin cfg0.N) : (iblk m c 6 t : S1024x2816.Idx → EReal) = m ((c : Thread nD τ).loc main_arg6) :=
  Eq.trans (funext fun y => congrArg (V m c main_v7) (funext fun a => Fin.ext
    (Pipeline.Window.rect_emb_val_of_index_zero win0_6 t a (idx_fixed t a).2.2.2.2.1 y))) (V_v7 m c)

theorem blk7 (c : Dev nD) (t : Fin cfg0.N) : (iblk m c 7 t : S1024x2816.Idx → EReal) = m ((c : Thread nD τ).loc main_arg7) :=
  Eq.trans (funext fun y => congrArg (V m c main_v8) (funext fun a => Fin.ext
    (Pipeline.Window.rect_emb_val_of_index_zero win0_7 t a (idx_fixed t a).2.2.2.2.2.1 y))) (V_v8 m c)

theorem blk8 (c : Dev nD) (t : Fin cfg0.N) : (iblk m c 8 t : S2816x1024.Idx → EReal) = m ((c : Thread nD τ).loc main_arg8) :=
  Eq.trans (funext fun y => congrArg (V m c main_v9) (funext fun a => Fin.ext
    (Pipeline.Window.rect_emb_val_of_index_zero win0_8 t a (idx_fixed t a).2.2.2.2.2.2 y))) (V_v9 m c)

/-- The result: the attention's output added in and the half layer, on every row of the arguments. -/
def result (c : Dev nD) : S65536x1024.Idx → EReal :=
  Rows.mixFfnArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem flushed_eq (c : Dev nD) (t : Fin cfg0.N) :
    (dats m 0 c).flushed 9 t = ((cfg0.win 9).blk t).view.read (Elt Ideal) (result m c) := by
  rw [Value.flushed9, outs_eq, blk3, blk6, blk7, blk8]
  funext y
  have ht : t.val < 64 := lt_of_lt_of_eq t.isLt N_0
  have h0 : (y 0 : Nat) < 1024 := (y 0).isLt
  have hr : t.val * 1024 + (y 0 : Nat) < 65536 := by omega
  have ei : (win0_9.rect t).emb y = (ix2 ⟨t.val * 1024 + (y 0 : Nat), hr⟩ (y 1) : S65536x1024.Idx) := by
    refine funext fun a => Fin.ext ?_
    match a with
    | ⟨0, _⟩ => exact (Pipeline.Window.rect_emb_val win0_9 t y 0).trans (by rw [(idx_moving t).2.2.2.2.1]; rfl)
    | ⟨1, _⟩ => exact Pipeline.Window.rect_emb_val_of_index_zero win0_9 t 1 (idx_moving t).2.2.2.2.2 y
  show outG _ _ _ _ _ _ _ = result m c ((win0_9.rect t).emb y)
  rw [ei]
  unfold outG result Rows.mixFfnArr
  have e0 : (fun k => (iblk m c 0 t : S1024x1024.Idx → EReal) (ix2 (y 0) k)) = Rows.row (m ((c : Thread nD τ).loc main_arg0)) ⟨t.val * 1024 + (y 0 : Nat), hr⟩ :=
    funext fun k => blk0 m c t (y 0) k hr
  have e1 : (fun k => (iblk m c 1 t : S1024x1024.Idx → EReal) (ix2 (y 0) k)) = Rows.row (m ((c : Thread nD τ).loc main_arg1)) ⟨t.val * 1024 + (y 0 : Nat), hr⟩ :=
    funext fun k => blk1 m c t (y 0) k hr
  have e2 := funext (blk2 m c t)
  have e4 := funext (blk4 m c t)
  have e5 := funext (blk5 m c t)
  refine Rows.ffn_congr (funext fun k => ?_) e4 e5 _ _ _ _
  exact Rows.mix_congr e0 e1 e2 _ k

theorem final (c : Dev nD) : (dats m 0 c).arrAt 9 cfg0.N = result m c :=
  (dats m 0 c).arrAt_eq_of_cover 9 (result m c) (fun t _ => flushed_eq m c t) fun i => by
    have h0 : (i 0 : Nat) < 65536 := (i 0).isLt
    have h1 : (i 1 : Nat) < 1024 := (i 1).isLt
    have ht : (i 0 : Nat) / 1024 < cfg0.N := by rw [show cfg0.N = 64 from N_0]; omega
    refine ⟨⟨(i 0 : Nat) / 1024, ht⟩, flush0_9 _, ?_⟩
    show i ∈ ((View.whole main_v10).slice (win0_9.rect ⟨(i 0 : Nat) / 1024, ht⟩)).set
    rw [View.set_slice_whole, Rect.mem_set_unit]
    intro a
    match a with
    | ⟨0, _⟩ =>
      show win0_9.index _ (0 : Fin 2) * 1024 ≤ (i 0 : Nat) ∧ (i 0 : Nat) < win0_9.index _ (0 : Fin 2) * 1024 + 1024
      rw [(idx_moving _).2.2.2.2.1]; dsimp only; omega
    | ⟨1, _⟩ =>
      show win0_9.index _ (1 : Fin 2) * 1024 ≤ (i 1 : Nat) ∧ (i 1 : Nat) < win0_9.index _ (1 : Fin 2) * 1024 + 1024
      rw [(idx_moving _).2.2.2.2.2]; omega

end MixValue

end
-- ==== Proof.MixRef.lean ====
module

public import proofs.«01_k».proof.Proof.Rows
public import proofs.«01_k».proof.Proof.Gen.Reference5Ideal.Read

/-! What the reference of the fused call computes, row by row. -/

@[expose] public section

set_option maxRecDepth 16384

noncomputable section

namespace MixRef

open Idealize.ShloMosaic Cert.Reference5Ideal Cert.Reference5Ideal.Read

variable (x0 x1 : (⟨S32x2048x1024, .f32⟩ : BufTy).Contents (Elt Ideal)) (x2 : (⟨S1024, .f32⟩ : BufTy).Contents (Elt Ideal))
  (x3 : (⟨S1024x1024, .f32⟩ : BufTy).Contents (Elt Ideal)) (x4 x5 : (⟨S1024, .f32⟩ : BufTy).Contents (Elt Ideal))
  (x6 x7 : (⟨S1024x2816, .f32⟩ : BufTy).Contents (Elt Ideal)) (x8 : (⟨S2816x1024, .f32⟩ : BufTy).Contents (Elt Ideal))

theorem i9 (b : Fin 32) (s : Fin 2048) (k : Fin 1024) : idx_main_v9 (ix3 b s k) = ix3 b s (0 : Fin 1) := by
  funext a; fin_cases a <;> rfl
theorem i23 (b : Fin 32) (s : Fin 2048) (k : Fin 1024) : idx_main_v23 (ix3 b s k) = ix3 b s (0 : Fin 1) := by
  funext a; fin_cases a <;> rfl
theorem i41 (b : Fin 32) (s : Fin 2048) (k : Fin 1024) : idx_main_v41 (ix3 b s k) = ix3 b s (0 : Fin 1) := by
  funext a; fin_cases a <;> rfl
theorem i3 (b : Fin 32) (s : Fin 2048) : idx_main_v3 (ix3 b s (0 : Fin 1)) = ix2 b s := by
  funext a; fin_cases a <;> rfl
theorem i17 (b : Fin 32) (s : Fin 2048) : idx_main_v17 (ix3 b s (0 : Fin 1)) = ix2 b s := by
  funext a; fin_cases a <;> rfl
theorem i35 (b : Fin 32) (s : Fin 2048) : idx_main_v35 (ix3 b s (0 : Fin 1)) = ix2 b s := by
  funext a; fin_cases a <;> rfl
theorem i2 (b : Fin 32) (s : Fin 2048) (k : Fin 1024) : idx_main_v2 (ix2 b s) k = ix3 b s k := by
  funext a; fin_cases a <;> rfl
theorem i16 (b : Fin 32) (s : Fin 2048) (k : Fin 1024) : idx_main_v16 (ix2 b s) k = ix3 b s k := by
  funext a; fin_cases a <;> rfl
theorem i34 (b : Fin 32) (s : Fin 2048) (k : Fin 1024) : idx_main_v34 (ix2 b s) k = ix3 b s k := by
  funext a; fin_cases a <;> rfl
theorem i12 (b : Fin 32) (s : Fin 2048) (k : Fin 1024) : idx_main_v12 (ix3 b s k) = ix3 (0 : Fin 1) (0 : Fin 1) k := by
  funext a; fin_cases a <;> rfl
theorem i26 (b : Fin 32) (s : Fin 2048) (k : Fin 1024) : idx_main_v26 (ix3 b s k) = ix3 (0 : Fin 1) (0 : Fin 1) k := by
  funext a; fin_cases a <;> rfl
theorem i44 (b : Fin 32) (s : Fin 2048) (k : Fin 1024) : idx_main_v44 (ix3 b s k) = ix3 (0 : Fin 1) (0 : Fin 1) k := by
  funext a; fin_cases a <;> rfl
theorem i11 (k : Fin 1024) : idx_main_v11 (ix3 (0 : Fin 1) (0 : Fin 1) k) = ix1 k := by
  funext a; fin_cases a <;> rfl
theorem i25 (k : Fin 1024) : idx_main_v25 (ix3 (0 : Fin 1) (0 : Fin 1) k) = ix1 k := by
  funext a; fin_cases a <;> rfl
theorem i43 (k : Fin 1024) : idx_main_v43 (ix3 (0 : Fin 1) (0 : Fin 1) k) = ix1 k := by
  funext a; fin_cases a <;> rfl
theorem l0 (b : Fin 32) (s : Fin 2048) (c : Fin 1024) (k : Fin 1024) : lidx_main_v0 (ix3 b s c) k = ix3 b s k := by
  funext a; fin_cases a <;> rfl
theorem r0 (b : Fin 32) (s : Fin 2048) (c : Fin 1024) (k : Fin 1024) : ridx_main_v0 (ix3 b s c) k = ix2 k c := by
  funext a; fin_cases a <;> rfl
theorem l28 (b : Fin 32) (s : Fin 2048) (c : Fin 2816) (k : Fin 1024) : lidx_main_v28 (ix3 b s c) k = ix3 b s k := by
  funext a; fin_cases a <;> rfl
theorem r28 (b : Fin 32) (s : Fin 2048) (c : Fin 2816) (k : Fin 1024) : ridx_main_v28 (ix3 b s c) k = ix2 k c := by
  funext a; fin_cases a <;> rfl
theorem l30 (b : Fin 32) (s : Fin 2048) (c : Fin 2816) (k : Fin 1024) : lidx_main_v30 (ix3 b s c) k = ix3 b s k := by
  funext a; fin_cases a <;> rfl
theorem r30 (b : Fin 32) (s : Fin 2048) (c : Fin 2816) (k : Fin 1024) : ridx_main_v30 (ix3 b s c) k = ix2 k c := by
  funext a; fin_cases a <;> rfl
theorem l32 (b : Fin 32) (s : Fin 2048) (c : Fin 1024) (k : Fin 2816) : lidx_main_v32 (ix3 b s c) k = ix3 b s k := by
  funext a; fin_cases a <;> rfl
theorem r32 (b : Fin 32) (s : Fin 2048) (c : Fin 1024) (k : Fin 2816) : ridx_main_v32 (ix3 b s c) k = ix2 k c := by
  funext a; fin_cases a <;> rfl

theorem v14_apply (b : Fin 32) (s : Fin 2048) (k : Fin 1024) :
    val_main_v14 (F := Ideal) x0 x1 x2 x3 (ix3 b s k)
      = Rows.mix (fun k => x0 (ix3 b s k)) (fun k => x1 (ix3 b s k)) (fun k => x2 (ix1 k)) (fun j n => x3 (ix2 j n)) k := by
  simp only [val_main_v14_apply, val_main_v13_apply, val_main_v10_apply, val_main_v9_apply, i9, val_main_v8_apply, val_main_v7_apply,
    val_main_v5_apply, val_main_v3_apply, i3, val_main_v2_apply, i2, val_main_v1_apply, val_main_v0_apply, l0, r0, val_main_v4_apply,
    val_main_v6_apply, val_main_cst_apply, val_main_cst_0_apply, val_main_cst_1_apply, val_main_v12_apply, i12, val_main_v11_apply, i11]
  rw [Rows.zero_bits_add]
  rfl

theorem v27_apply (b : Fin 32) (s : Fin 2048) (k : Fin 1024) :
    val_main_v27 (F := Ideal) x0 x1 x2 x3 x4 (ix3 b s k)
      = Rows.rms (Rows.mix (fun k => x0 (ix3 b s k)) (fun k => x1 (ix3 b s k)) (fun k => x2 (ix1 k)) (fun j n => x3 (ix2 j n)))
        (fun k => x4 (ix1 k)) k := by
  simp only [val_main_v27_apply, val_main_v24_apply, val_main_v23_apply, i23, val_main_v22_apply, val_main_v21_apply,
    val_main_v19_apply, val_main_v17_apply, i17, val_main_v16_apply, i16, val_main_v15_apply, v14_apply, val_main_v18_apply,
    val_main_v20_apply, val_main_cst_2_apply, val_main_cst_3_apply, val_main_cst_4_apply, val_main_v26_apply, i26, val_main_v25_apply, i25]
  rw [Rows.zero_bits_add]
  rfl

theorem v31_apply (b : Fin 32) (s : Fin 2048) (c : Fin 2816) :
    val_main_v31 (F := Ideal) x0 x1 x2 x3 x4 x6 x7 (ix3 b s c)
      = Rows.act (Rows.rms (Rows.mix (fun k => x0 (ix3 b s k)) (fun k => x1 (ix3 b s k)) (fun k => x2 (ix1 k)) (fun j n => x3 (ix2 j n)))
        (fun k => x4 (ix1 k))) (fun k => x6 (ix2 k c)) (fun k => x7 (ix2 k c)) := by
  simp only [val_main_v31_apply, val_main_v29_apply, val_main_call0_v5_apply, val_main_call0_v4_apply, val_main_call0_v3_apply,
    val_main_call0_v2_apply, val_main_call0_v1_apply, val_main_call0_v0_apply, val_main_call0_cst_apply, val_main_call0_cst_0_apply,
    val_main_v28_apply, val_main_v30_apply, l28, r28, l30, r30, v27_apply]
  exact congrArg (fun z => _ * z * _) (Rows.logistic_eq _ _ _ Rows.ofBits_one_f32 Rows.ofBits_one_f32)

theorem v48_apply (b : Fin 32) (s : Fin 2048) (n : Fin 1024) :
    val_main_v48 (F := Ideal) x0 x1 x2 x3 x4 x5 x6 x7 x8 (ix3 b s n)
      = Rows.ffn (Rows.mix (fun k => x0 (ix3 b s k)) (fun k => x1 (ix3 b s k)) (fun k => x2 (ix1 k)) (fun j n => x3 (ix2 j n)))
        (fun k => x4 (ix1 k)) (fun k => x5 (ix1 k)) (fun k c => x6 (ix2 k c)) (fun k c => x7 (ix2 k c)) (fun c n => x8 (ix2 c n)) n := by
  simp only [val_main_v48_apply, val_main_v47_apply, val_main_v46_apply, val_main_cst_8_apply, val_main_v45_apply, val_main_v44_apply, i44,
    val_main_v43_apply, i43, val_main_v42_apply, val_main_v41_apply, i41, val_main_v40_apply, val_main_v39_apply, val_main_v38_apply,
    val_main_cst_7_apply, val_main_v37_apply, val_main_v36_apply, val_main_cst_6_apply, val_main_v35_apply, i35, val_main_v34_apply, i34,
    val_main_v33_apply, val_main_cst_5_apply, val_main_v32_apply, l32, r32, v31_apply, v14_apply]
  rw [Rows.zero_bits_add]
  rfl

/-- The reference's result: attention output added, then the half layer, on every row. -/
theorem result_eq : val_main_v49 (F := Ideal) x0 x1 x2 x3 x4 x5 x6 x7 x8 = Rows.mixFfnArr x0 x1 x2 x3 x4 x5 x6 x7 x8 := by
  funext i
  have h0 : (i 0 : Nat) < 65536 := (i 0).isLt
  have h1 : (i 1 : Nat) < 1024 := (i 1).isLt
  have e : idx_main_v49 i = ix3 ⟨(i 0 : Nat) / 2048, by omega⟩ ⟨(i 0 : Nat) % 2048, by omega⟩ (i 1) := by
    refine funext fun a => Fin.ext ?_
    match a with
    | ⟨0, _⟩ => show ((i 0 : Nat) * 1024 + (i 1 : Nat)) / 2097152 = (i 0 : Nat) / 2048; omega
    | ⟨1, _⟩ => show ((i 0 : Nat) * 1024 + (i 1 : Nat)) / 1024 % 2048 = (i 0 : Nat) % 2048; omega
    | ⟨2, _⟩ => show ((i 0 : Nat) * 1024 + (i 1 : Nat)) % 1024 = (i 1 : Nat); omega
  rw [val_main_v49_apply, e]
  exact v48_apply x0 x1 x2 x3 x4 x5 x6 x7 x8 _ _ _

end MixRef

end
-- ==== Proof.lean ====
/-
  The claims: each call of the layer keeps its arguments, and each idealized kernel computes what its
  reference computes. The modules beside this one prove the parts; here they are put together.
-/
module

public import proofs.«01_k».proof.Defs
public import proofs.«01_k».proof.Proof.AttnClaims
public import proofs.«01_k».proof.Proof.Gen.ReferenceIdeal.Run
public import proofs.«01_k».proof.Proof.Gen.Kernel2.Frame
public import proofs.«01_k».proof.Proof.FfnValue
public import proofs.«01_k».proof.Proof.FfnRef
public import proofs.«01_k».proof.Proof.Gen.Reference2Ideal.Run
public import proofs.«01_k».proof.Proof.Gen.Kernel3.Frame
public import proofs.«01_k».proof.Proof.GateValue
public import proofs.«01_k».proof.Proof.GateRef
public import proofs.«01_k».proof.Proof.Gen.Reference3Ideal.Run
public import proofs.«01_k».proof.Proof.Gen.Kernel4.Frame
public import proofs.«01_k».proof.Proof.QkvValue
public import proofs.«01_k».proof.Proof.QkvRef
public import proofs.«01_k».proof.Proof.Gen.Reference4Ideal.Run
public import proofs.«01_k».proof.Proof.Gen.Kernel5.Frame
public import proofs.«01_k».proof.Proof.MixValue
public import proofs.«01_k».proof.Proof.MixRef
public import proofs.«01_k».proof.Proof.Gen.Reference5Ideal.Run
public import Idealize.ShloMosaic.Adequacy
public import Idealize.ShloMosaic.Init

@[expose] public section

noncomputable section

namespace Cert.Proof

open Idealize.ShloMosaic Idealize.SL.Sem

/-- The reference of the stick-breaking attention leaves its arguments alone. -/
theorem frame_attention_ref : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The reference of the feed-forward half layer leaves its arguments alone. -/
theorem frame_ffn_ref : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run m ρ)

/-- Of the feed-forward half layer, kernel and reference end with the same array. -/
theorem ffn_algebraic : Cert.algebraic_Kernel2Ideal_Reference2Ideal := fun m ρ m' ρ' _ hargs => by
  refine ⟨fun c => FfnValue.result m c, ?_, ?_⟩
  · exact (θ_run Cert.Kernel2Ideal.defs _ _).mono
      (fun r h c => ⟨(h c).1.trans (FfnValue.final m c), (h c).2⟩)
      (Cert.Kernel2Ideal.Value.run_blocks m ρ)
  · refine (θ_run Cert.Reference2Ideal.defs _ _).mono (fun r h c => ⟨(h c).1.trans ?_, (h c).2⟩)
      (Cert.Reference2Ideal.Value.run m' ρ')
    obtain ⟨h0, h1, h2, h3, h4, h5⟩ := hargs c
    rw [Cert.Reference2Ideal.Read.val_main_v34_eq, FfnRef.result_eq, h0, h1, h2, h3, h4, h5]
    rfl

/-- The reference of the spatial-gating mixer leaves its arguments alone. -/
theorem frame_gating_ref : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run m ρ)

/-- Of the spatial-gating mixer, kernel and reference end with the same array. -/
theorem gating_algebraic : Cert.algebraic_Kernel3Ideal_Reference3Ideal := fun m ρ m' ρ' _ hargs => by
  refine ⟨fun c => GateValue.result m c, ?_, ?_⟩
  · exact (θ_run Cert.Kernel3Ideal.defs _ _).mono
      (fun r h c => ⟨(h c).1.trans (GateValue.final m c), (h c).2⟩)
      (Cert.Kernel3Ideal.Value.run_blocks m ρ)
  · refine (θ_run Cert.Reference3Ideal.defs _ _).mono (fun r h c => ⟨(h c).1.trans ?_, (h c).2⟩)
      (Cert.Reference3Ideal.Value.run m' ρ')
    obtain ⟨h0, h1, h2, h3, h4, h5, h6, h7⟩ := hargs c
    rw [Cert.Reference3Ideal.Read.val_main_v72_eq, GateRef.result_eq, h0, h1, h2, h3, h4, h5, h6, h7]
    rfl

/-- The reference of the projection to queries, keys and values leaves its arguments alone. -/
theorem frame_qkv_ref : Cert.quiescent_Reference4Ideal := fun m ρ _ =>
  (θ_run Cert.Reference4Ideal.defs _ _).mono
    (fun r h => ⟨fun c => (h c).2.2.2, sem_eq_zero_of_no_sems (by decide) r.2⟩)
    (Cert.Reference4Ideal.Value.run m ρ)

/-- Of the projection to queries, keys and values, kernel and reference end with the same three arrays. -/
theorem qkv_algebraic : Cert.algebraic_Kernel4Ideal_Reference4Ideal := fun m ρ m' ρ' _ hargs => by
  refine ⟨fun c => QkvValue.resultQ m c, fun c => QkvValue.resultK m c, fun c => QkvValue.resultV m c, ?_, ?_⟩
  · exact (θ_run Cert.Kernel4Ideal.defs _ _).mono
      (fun r h c => ⟨(h c).1.trans (QkvValue.finalQ m c), (h c).2.1.trans (QkvValue.finalK m c), (h c).2.2.1.trans (QkvValue.finalV m c), (h c).2.2.2⟩)
      (Cert.Kernel4Ideal.Value.run_blocks m ρ)
  · refine (θ_run Cert.Reference4Ideal.defs _ _).mono (fun r h c => ⟨(h c).1.trans ?_, (h c).2.1.trans ?_, (h c).2.2.1.trans ?_, (h c).2.2.2⟩)
      (Cert.Reference4Ideal.Value.run m' ρ')
    all_goals obtain ⟨h0, h1, h2⟩ := hargs c
    · rw [Cert.Reference4Ideal.Read.val_main_v26_eq, QkvRef.q_eq, h0, h1, h2]
      rfl
    · rw [Cert.Reference4Ideal.Read.val_main_v27_eq, QkvRef.k_eq, h0, h1, h2]
      rfl
    · rw [Cert.Reference4Ideal.Read.val_main_v28_eq, QkvRef.v_eq, h0, h1, h2]
      rfl

/-- The reference of the attention output projection and the feed-forward half layer after it leaves its arguments alone. -/
theorem frame_mix_ref : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

/-- Of the attention output projection and the feed-forward half layer after it, kernel and reference end with the same array. -/
theorem mix_algebraic : Cert.algebraic_Kernel5Ideal_Reference5Ideal := fun m ρ m' ρ' _ hargs => by
  refine ⟨fun c => MixValue.result m c, ?_, ?_⟩
  · exact (θ_run Cert.Kernel5Ideal.defs _ _).mono
      (fun r h c => ⟨(h c).1.trans (MixValue.final m c), (h c).2⟩)
      (Cert.Kernel5Ideal.Value.run_blocks m ρ)
  · refine (θ_run Cert.Reference5Ideal.defs _ _).mono (fun r h c => ⟨(h c).1.trans ?_, (h c).2⟩)
      (Cert.Reference5Ideal.Value.run m' ρ')
    obtain ⟨h0, h1, h2, h3, h4, h5, h6, h7, h8⟩ := hargs c
    rw [Cert.Reference5Ideal.Read.val_main_v49_eq, MixRef.result_eq, h0, h1, h2, h3, h4, h5, h6, h7, h8]
    rfl

/-- All the claims. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    AttnClaims.frame_kernel,
    AttnClaims.frame_ideal,
    frame_attention_ref,
    fun m ρ _ => Cert.Kernel2.Gen.frame m ρ,
    fun m ρ _ => Cert.Kernel2Ideal.Gen.frame m ρ,
    frame_ffn_ref,
    fun m ρ _ => Cert.Kernel3.Gen.frame m ρ,
    fun m ρ _ => Cert.Kernel3Ideal.Gen.frame m ρ,
    frame_gating_ref,
    fun m ρ _ => Cert.Kernel4.Gen.frame m ρ,
    fun m ρ _ => Cert.Kernel4Ideal.Gen.frame m ρ,
    frame_qkv_ref,
    fun m ρ _ => Cert.Kernel5.Gen.frame m ρ,
    fun m ρ _ => Cert.Kernel5Ideal.Gen.frame m ρ,
    frame_mix_ref,
    IdealRules.named_const.statement Cert.KernelIdeal.κ "clamp" .f32 0x42A00000#32 ⊤ rfl,
    AttnClaims.algebraic,
    trivial,
    ffn_algebraic,
    trivial,
    gating_algebraic,
    trivial,
    qkv_algebraic,
    trivial,
    mix_algebraic⟩

end Cert.Proof

end
